-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x32768 : Shape := ⟨2, ![1024, 32768]⟩
abbrev S1x1024x8x128 : Shape := ⟨4, ![1, 1024, 8, 128]⟩
abbrev S32768x1024 : Shape := ⟨2, ![32768, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x32768 : S_.BroadcastsInDim S1024x32768 (![] : Fin 0 → Fin S1024x32768.rank)
  reducesTo_S1024x32768_S_d0_1 : S1024x32768.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x32768 .f32) (main_arg2 : FVec F S1x1024x8x128 .f32) (main_arg3 : FVec F S1x1024x8x128 .f32) (main_arg4 : FVec F S32768x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x32768 .f32 := Host.absf main_arg1
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x32768 : S_.BroadcastsInDim S1024x32768 (![] : Fin 0 → Fin S1024x32768.rank)
  reducesTo_S1024x32768_S_d0_1 : S1024x32768.ReducesTo [0, 1] S_
  bcast_S_S1x1024x256x128 : S_.BroadcastsInDim S1x1024x256x128 (![] : Fin 0 → Fin S1x1024x256x128.rank)
  reducesTo_S1x1024x256x128_S_d0_1_2_3 : S1x1024x256x128.ReducesTo [0, 1, 2, 3] S_

variable [Facts]

def fn {F : FTy → Type} [FloatOps F] (main_arg0 : FVec F S1x1024x1024 .f32) (main_arg1 : FVec F S1024x32768 .f32) (main_arg2 : FVec F S1x1024x256x128 .f32) (main_arg3 : FVec F S1x1024x256x128 .f32) (main_arg4 : FVec F S32768x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x32768 .f32 := Host.absf main_arg1
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  let main_v9 : FVec F S1x1024x256x128 .f32 := Host.absf main_arg2
  let main_cst_2 : FVec F S_ .f32 := constant S_ .f32 0x7F800000#32
  let main_v10 : FVec F S1x1024x256x128 .f32 := broadcastInDim S1x1024x256x128 ![] bcast_S_S1x1024x256x128 main_cst_2
  let main_v11 : IVec S1x1024x256x128 1 := cmpf .olt main_v9 main_v10
  let main_c_3 : IVec S_ 1 := constantI S_ 1 1#1
  let main_v12 : IVec S_ 1 := (fun x v => Host.reduce IntOp.andi x v reducesTo_S1x1024x256x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x32768 : Shape := ⟨2, ![1024, 32768]⟩
abbrev S1x1024x8x128 : Shape := ⟨4, ![1, 1024, 8, 128]⟩
abbrev S32768x1024 : Shape := ⟨2, ![32768, 1024]⟩
abbrev S1024x1024 : Shape := ⟨2, ![1024, 1024]⟩
abbrev S8x1024x128 : Shape := ⟨3, ![8, 1024, 128]⟩
abbrev S256x1024 : Shape := ⟨2, ![256, 1024]⟩
abbrev S32x32x1024 : Shape := ⟨3, ![32, 32, 1024]⟩
abbrev S2 : Shape := ⟨1, ![2]⟩
abbrev S32 : Shape := ⟨1, ![32]⟩
abbrev S_ : Shape := ⟨0, ![]⟩
abbrev S1 : Shape := ⟨1, ![1]⟩
abbrev S1x1024x1x128 : Shape := ⟨4, ![1, 1024, 1, 128]⟩
abbrev S1024x128 : Shape := ⟨2, ![1024, 128]⟩
abbrev S1x1024x128 : Shape := ⟨3, ![1, 1024, 128]⟩
abbrev S256x256 : Shape := ⟨2, ![256, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x32x1024 : Shape := ⟨3, ![1, 32, 1024]⟩
abbrev S32x1024 : Shape := ⟨2, ![32, 1024]⟩
abbrev S256x512 : Shape := ⟨2, ![256, 512]⟩
abbrev S1x512x128 : Shape := ⟨3, ![1, 512, 128]⟩
abbrev S512x128 : Shape := ⟨2, ![512, 128]⟩
abbrev S256x768 : Shape := ⟨2, ![256, 768]⟩
abbrev S1x768x128 : Shape := ⟨3, ![1, 768, 128]⟩
abbrev S768x128 : Shape := ⟨2, ![768, 128]⟩

abbrev nBuf : Space → Nat
  | .hbm => 6
  | .vmem => 17
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x8x128, .f32⟩
  | .hbm, ⟨3, _⟩ => ⟨S1x1024x8x128, .f32⟩
  | .hbm, ⟨4, _⟩ => ⟨S32768x1024, .f32⟩
  | .hbm, ⟨5, _⟩ => ⟨S1024x1024, .bf16⟩
  | .local _ .vmem, ⟨0, _⟩ => ⟨S1x1024x1024, .f32⟩
  | .local _ .vmem, ⟨1, _⟩ => ⟨S1x1024x8x128, .f32⟩
  | .local _ .vmem, ⟨2, _⟩ => ⟨S1x1024x8x128, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S8x1024x128, .bf16⟩
  | .local _ .vmem, ⟨10, _⟩ => ⟨S8x1024x128, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S32x32x1024, .bf16⟩
  | _, _ => ⟨S1x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1024_i32 : BitVec 32 := 1024#32
  let v128 : BitVec 32 := Scalar.muli v2 c1024_i32
  ![0, v128.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1024_i32 : BitVec 32 := 1024#32
  let v128 : BitVec 32 := Scalar.muli v2 c1024_i32
  let c0_i32_128 : BitVec 32 := 0#32
  ![v128.toNat, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_380 : BitVec 32 := 0#32
  let v501 : BitVec 1 := Scalar.cmpi .ne v2 c0_i32_380
  let v502 : BitVec 32 := Scalar.extui v501
  let c0_i32_382 : BitVec 32 := 0#32
  let v503 : BitVec 1 := Scalar.cmpi .ne v502 c0_i32_382
  v503

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev32 : Nat :=
  let c0_i32_2025 : BitVec 32 := 0#32
  let c0_i32_2023 : BitVec 32 := 0#32
  let c1_i32_2024 : BitVec 32 := 1#32
  let v2442 : BitVec 32 := Scalar.muli c0_i32_2023 c1_i32_2024
  let v2443 : BitVec 32 := Scalar.addi c0_i32_2025 v2442
  v2443.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_383 : BitVec 32 := 0#32
  let v504 : BitVec 1 := Scalar.cmpi .eq v2 c0_i32_383
  let v505 : BitVec 32 := Scalar.extui v504
  let c0_i32_384 : BitVec 32 := 0#32
  let v506 : BitVec 1 := Scalar.cmpi .ne v505 c0_i32_384
  v506

def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2025 : Index := 0#32
  let c0_2026 : Index := 0#32
  ![v2444.toNat, 0, 0]
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_385 : BitVec 32 := 1#32
  let v507 : BitVec 1 := Scalar.cmpi .ne v2 c1_i32_385
  let v508 : BitVec 32 := Scalar.extui v507
  let c0_i32_387 : BitVec 32 := 0#32
  let v509 : BitVec 1 := Scalar.cmpi .ne v508 c0_i32_387
  v509

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev33 : Nat :=
  let c0_i32_2025 : BitVec 32 := 0#32
  let c1_i32_2023 : BitVec 32 := 1#32
  let c1_i32_2024 : BitVec 32 := 1#32
  let v2442 : BitVec 32 := Scalar.muli c1_i32_2023 c1_i32_2024
  let v2443 : BitVec 32 := Scalar.addi c0_i32_2025 v2442
  v2443.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_388 : BitVec 32 := 1#32
  let v510 : BitVec 1 := Scalar.cmpi .eq v2 c1_i32_388
  let v511 : BitVec 32 := Scalar.extui v510
  let c0_i32_389 : BitVec 32 := 0#32
  let v512 : BitVec 1 := Scalar.cmpi .ne v511 c0_i32_389
  v512

def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_390 : BitVec 32 := 2#32
  let v513 : BitVec 1 := Scalar.cmpi .ne v2 c2_i32_390
  let v514 : BitVec 32 := Scalar.extui v513
  let c0_i32_392 : BitVec 32 := 0#32
  let v515 : BitVec 1 := Scalar.cmpi .ne v514 c0_i32_392
  v515

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev34 : Nat :=
  let c0_i32_2025 : BitVec 32 := 0#32
  let c2_i32_2023 : BitVec 32 := 2#32
  let c1_i32_2024 : BitVec 32 := 1#32
  let v2442 : BitVec 32 := Scalar.muli c2_i32_2023 c1_i32_2024
  let v2443 : BitVec 32 := Scalar.addi c0_i32_2025 v2442
  v2443.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_393 : BitVec 32 := 2#32
  let v516 : BitVec 1 := Scalar.cmpi .eq v2 c2_i32_393
  let v517 : BitVec 32 := Scalar.extui v516
  let c0_i32_394 : BitVec 32 := 0#32
  let v518 : BitVec 1 := Scalar.cmpi .ne v517 c0_i32_394
  v518

def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_395 : BitVec 32 := 3#32
  let v519 : BitVec 1 := Scalar.cmpi .ne v2 c3_i32_395
  let v520 : BitVec 32 := Scalar.extui v519
  let c0_i32_397 : BitVec 32 := 0#32
  let v521 : BitVec 1 := Scalar.cmpi .ne v520 c0_i32_397
  v521

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev35 : Nat :=
  let c0_i32_2025 : BitVec 32 := 0#32
  let c3_i32_2023 : BitVec 32 := 3#32
  let c1_i32_2024 : BitVec 32 := 1#32
  let v2442 : BitVec 32 := Scalar.muli c3_i32_2023 c1_i32_2024
  let v2443 : BitVec 32 := Scalar.addi c0_i32_2025 v2442
  v2443.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_398 : BitVec 32 := 3#32
  let v522 : BitVec 1 := Scalar.cmpi .eq v2 c3_i32_398
  let v523 : BitVec 32 := Scalar.extui v522
  let c0_i32_399 : BitVec 32 := 0#32
  let v524 : BitVec 1 := Scalar.cmpi .ne v523 c0_i32_399
  v524

def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_400 : BitVec 32 := 4#32
  let v525 : BitVec 1 := Scalar.cmpi .ne v2 c4_i32_400
  let v526 : BitVec 32 := Scalar.extui v525
  let c0_i32_402 : BitVec 32 := 0#32
  let v527 : BitVec 1 := Scalar.cmpi .ne v526 c0_i32_402
  v527

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev36 : Nat :=
  let c0_i32_2025 : BitVec 32 := 0#32
  let c4_i32_2023 : BitVec 32 := 4#32
  let c1_i32_2024 : BitVec 32 := 1#32
  let v2442 : BitVec 32 := Scalar.muli c4_i32_2023 c1_i32_2024
  let v2443 : BitVec 32 := Scalar.addi c0_i32_2025 v2442
  v2443.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_403 : BitVec 32 := 4#32
  let v528 : BitVec 1 := Scalar.cmpi .eq v2 c4_i32_403
  let v529 : BitVec 32 := Scalar.extui v528
  let c0_i32_404 : BitVec 32 := 0#32
  let v530 : BitVec 1 := Scalar.cmpi .ne v529 c0_i32_404
  v530

def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2025 : Index := 0#32
  let c0_2026 : Index := 0#32
  ![v2444.toNat, 0, 0]
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_405 : BitVec 32 := 5#32
  let v531 : BitVec 1 := Scalar.cmpi .ne v2 c5_i32_405
  let v532 : BitVec 32 := Scalar.extui v531
  let c0_i32_407 : BitVec 32 := 0#32
  let v533 : BitVec 1 := Scalar.cmpi .ne v532 c0_i32_407
  v533

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev37 : Nat :=
  let c0_i32_2025 : BitVec 32 := 0#32
  let c5_i32_2023 : BitVec 32 := 5#32
  let c1_i32_2024 : BitVec 32 := 1#32
  let v2442 : BitVec 32 := Scalar.muli c5_i32_2023 c1_i32_2024
  let v2443 : BitVec 32 := Scalar.addi c0_i32_2025 v2442
  v2443.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_408 : BitVec 32 := 5#32
  let v534 : BitVec 1 := Scalar.cmpi .eq v2 c5_i32_408
  let v535 : BitVec 32 := Scalar.extui v534
  let c0_i32_409 : BitVec 32 := 0#32
  let v536 : BitVec 1 := Scalar.cmpi .ne v535 c0_i32_409
  v536

def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_410 : BitVec 32 := 6#32
  let v537 : BitVec 1 := Scalar.cmpi .ne v2 c6_i32_410
  let v538 : BitVec 32 := Scalar.extui v537
  let c0_i32_412 : BitVec 32 := 0#32
  let v539 : BitVec 1 := Scalar.cmpi .ne v538 c0_i32_412
  v539

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev38 : Nat :=
  let c0_i32_2025 : BitVec 32 := 0#32
  let c6_i32_2023 : BitVec 32 := 6#32
  let c1_i32_2024 : BitVec 32 := 1#32
  let v2442 : BitVec 32 := Scalar.muli c6_i32_2023 c1_i32_2024
  let v2443 : BitVec 32 := Scalar.addi c0_i32_2025 v2442
  v2443.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_413 : BitVec 32 := 6#32
  let v540 : BitVec 1 := Scalar.cmpi .eq v2 c6_i32_413
  let v541 : BitVec 32 := Scalar.extui v540
  let c0_i32_414 : BitVec 32 := 0#32
  let v542 : BitVec 1 := Scalar.cmpi .ne v541 c0_i32_414
  v542

def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_415 : BitVec 32 := 7#32
  let v543 : BitVec 1 := Scalar.cmpi .ne v2 c7_i32_415
  let v544 : BitVec 32 := Scalar.extui v543
  let c0_i32_417 : BitVec 32 := 0#32
  let v545 : BitVec 1 := Scalar.cmpi .ne v544 c0_i32_417
  v545

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev39 : Nat :=
  let c0_i32_2025 : BitVec 32 := 0#32
  let c7_i32_2023 : BitVec 32 := 7#32
  let c1_i32_2024 : BitVec 32 := 1#32
  let v2442 : BitVec 32 := Scalar.muli c7_i32_2023 c1_i32_2024
  let v2443 : BitVec 32 := Scalar.addi c0_i32_2025 v2442
  v2443.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_418 : BitVec 32 := 7#32
  let v546 : BitVec 1 := Scalar.cmpi .eq v2 c7_i32_418
  let v547 : BitVec 32 := Scalar.extui v546
  let c0_i32_419 : BitVec 32 := 0#32
  let v548 : BitVec 1 := Scalar.cmpi .ne v547 c0_i32_419
  v548

def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_558 : BitVec 32 := 8#32
  let v797 : BitVec 1 := Scalar.cmpi .ne v2 c8_i32_558
  let v798 : BitVec 32 := Scalar.extui v797
  let c0_i32_560 : BitVec 32 := 0#32
  let v799 : BitVec 1 := Scalar.cmpi .ne v798 c0_i32_560
  v799

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev40 : Nat :=
  let c0_i32_2025 : BitVec 32 := 0#32
  let c8_i32_2023 : BitVec 32 := 8#32
  let c1_i32_2024 : BitVec 32 := 1#32
  let v2442 : BitVec 32 := Scalar.muli c8_i32_2023 c1_i32_2024
  let v2443 : BitVec 32 := Scalar.addi c0_i32_2025 v2442
  v2443.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_561 : BitVec 32 := 8#32
  let v800 : BitVec 1 := Scalar.cmpi .eq v2 c8_i32_561
  let v801 : BitVec 32 := Scalar.extui v800
  let c0_i32_562 : BitVec 32 := 0#32
  let v802 : BitVec 1 := Scalar.cmpi .ne v801 c0_i32_562
  v802

def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2025 : Index := 0#32
  let c0_2026 : Index := 0#32
  ![v2444.toNat, 0, 0]
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_563 : BitVec 32 := 9#32
  let v803 : BitVec 1 := Scalar.cmpi .ne v2 c9_i32_563
  let v804 : BitVec 32 := Scalar.extui v803
  let c0_i32_565 : BitVec 32 := 0#32
  let v805 : BitVec 1 := Scalar.cmpi .ne v804 c0_i32_565
  v805

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev41 : Nat :=
  let c0_i32_2025 : BitVec 32 := 0#32
  let c9_i32_2023 : BitVec 32 := 9#32
  let c1_i32_2024 : BitVec 32 := 1#32
  let v2442 : BitVec 32 := Scalar.muli c9_i32_2023 c1_i32_2024
  let v2443 : BitVec 32 := Scalar.addi c0_i32_2025 v2442
  v2443.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_566 : BitVec 32 := 9#32
  let v806 : BitVec 1 := Scalar.cmpi .eq v2 c9_i32_566
  let v807 : BitVec 32 := Scalar.extui v806
  let c0_i32_567 : BitVec 32 := 0#32
  let v808 : BitVec 1 := Scalar.cmpi .ne v807 c0_i32_567
  v808

def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_568 : BitVec 32 := 10#32
  let v809 : BitVec 1 := Scalar.cmpi .ne v2 c10_i32_568
  let v810 : BitVec 32 := Scalar.extui v809
  let c0_i32_570 : BitVec 32 := 0#32
  let v811 : BitVec 1 := Scalar.cmpi .ne v810 c0_i32_570
  v811

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev42 : Nat :=
  let c0_i32_2025 : BitVec 32 := 0#32
  let c10_i32_2023 : BitVec 32 := 10#32
  let c1_i32_2024 : BitVec 32 := 1#32
  let v2442 : BitVec 32 := Scalar.muli c10_i32_2023 c1_i32_2024
  let v2443 : BitVec 32 := Scalar.addi c0_i32_2025 v2442
  v2443.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_571 : BitVec 32 := 10#32
  let v812 : BitVec 1 := Scalar.cmpi .eq v2 c10_i32_571
  let v813 : BitVec 32 := Scalar.extui v812
  let c0_i32_572 : BitVec 32 := 0#32
  let v814 : BitVec 1 := Scalar.cmpi .ne v813 c0_i32_572
  v814

def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_573 : BitVec 32 := 11#32
  let v815 : BitVec 1 := Scalar.cmpi .ne v2 c11_i32_573
  let v816 : BitVec 32 := Scalar.extui v815
  let c0_i32_575 : BitVec 32 := 0#32
  let v817 : BitVec 1 := Scalar.cmpi .ne v816 c0_i32_575
  v817

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev43 : Nat :=
  let c0_i32_2025 : BitVec 32 := 0#32
  let c11_i32_2023 : BitVec 32 := 11#32
  let c1_i32_2024 : BitVec 32 := 1#32
  let v2442 : BitVec 32 := Scalar.muli c11_i32_2023 c1_i32_2024
  let v2443 : BitVec 32 := Scalar.addi c0_i32_2025 v2442
  v2443.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_576 : BitVec 32 := 11#32
  let v818 : BitVec 1 := Scalar.cmpi .eq v2 c11_i32_576
  let v819 : BitVec 32 := Scalar.extui v818
  let c0_i32_577 : BitVec 32 := 0#32
  let v820 : BitVec 1 := Scalar.cmpi .ne v819 c0_i32_577
  v820

def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_578 : BitVec 32 := 12#32
  let v821 : BitVec 1 := Scalar.cmpi .ne v2 c12_i32_578
  let v822 : BitVec 32 := Scalar.extui v821
  let c0_i32_580 : BitVec 32 := 0#32
  let v823 : BitVec 1 := Scalar.cmpi .ne v822 c0_i32_580
  v823

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev44 : Nat :=
  let c0_i32_2025 : BitVec 32 := 0#32
  let c12_i32_2023 : BitVec 32 := 12#32
  let c1_i32_2024 : BitVec 32 := 1#32
  let v2442 : BitVec 32 := Scalar.muli c12_i32_2023 c1_i32_2024
  let v2443 : BitVec 32 := Scalar.addi c0_i32_2025 v2442
  v2443.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_581 : BitVec 32 := 12#32
  let v824 : BitVec 1 := Scalar.cmpi .eq v2 c12_i32_581
  let v825 : BitVec 32 := Scalar.extui v824
  let c0_i32_582 : BitVec 32 := 0#32
  let v826 : BitVec 1 := Scalar.cmpi .ne v825 c0_i32_582
  v826

def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2025 : Index := 0#32
  let c0_2026 : Index := 0#32
  ![v2444.toNat, 0, 0]
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_583 : BitVec 32 := 13#32
  let v827 : BitVec 1 := Scalar.cmpi .ne v2 c13_i32_583
  let v828 : BitVec 32 := Scalar.extui v827
  let c0_i32_585 : BitVec 32 := 0#32
  let v829 : BitVec 1 := Scalar.cmpi .ne v828 c0_i32_585
  v829

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev45 : Nat :=
  let c0_i32_2025 : BitVec 32 := 0#32
  let c13_i32_2023 : BitVec 32 := 13#32
  let c1_i32_2024 : BitVec 32 := 1#32
  let v2442 : BitVec 32 := Scalar.muli c13_i32_2023 c1_i32_2024
  let v2443 : BitVec 32 := Scalar.addi c0_i32_2025 v2442
  v2443.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_586 : BitVec 32 := 13#32
  let v830 : BitVec 1 := Scalar.cmpi .eq v2 c13_i32_586
  let v831 : BitVec 32 := Scalar.extui v830
  let c0_i32_587 : BitVec 32 := 0#32
  let v832 : BitVec 1 := Scalar.cmpi .ne v831 c0_i32_587
  v832

def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_588 : BitVec 32 := 14#32
  let v833 : BitVec 1 := Scalar.cmpi .ne v2 c14_i32_588
  let v834 : BitVec 32 := Scalar.extui v833
  let c0_i32_590 : BitVec 32 := 0#32
  let v835 : BitVec 1 := Scalar.cmpi .ne v834 c0_i32_590
  v835

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev46 : Nat :=
  let c0_i32_2025 : BitVec 32 := 0#32
  let c14_i32_2023 : BitVec 32 := 14#32
  let c1_i32_2024 : BitVec 32 := 1#32
  let v2442 : BitVec 32 := Scalar.muli c14_i32_2023 c1_i32_2024
  let v2443 : BitVec 32 := Scalar.addi c0_i32_2025 v2442
  v2443.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_591 : BitVec 32 := 14#32
  let v836 : BitVec 1 := Scalar.cmpi .eq v2 c14_i32_591
  let v837 : BitVec 32 := Scalar.extui v836
  let c0_i32_592 : BitVec 32 := 0#32
  let v838 : BitVec 1 := Scalar.cmpi .ne v837 c0_i32_592
  v838

def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_593 : BitVec 32 := 15#32
  let v839 : BitVec 1 := Scalar.cmpi .ne v2 c15_i32_593
  let v840 : BitVec 32 := Scalar.extui v839
  let c0_i32_595 : BitVec 32 := 0#32
  let v841 : BitVec 1 := Scalar.cmpi .ne v840 c0_i32_595
  v841

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev47 : Nat :=
  let c0_i32_2025 : BitVec 32 := 0#32
  let c15_i32_2023 : BitVec 32 := 15#32
  let c1_i32_2024 : BitVec 32 := 1#32
  let v2442 : BitVec 32 := Scalar.muli c15_i32_2023 c1_i32_2024
  let v2443 : BitVec 32 := Scalar.addi c0_i32_2025 v2442
  v2443.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_596 : BitVec 32 := 15#32
  let v842 : BitVec 1 := Scalar.cmpi .eq v2 c15_i32_596
  let v843 : BitVec 32 := Scalar.extui v842
  let c0_i32_597 : BitVec 32 := 0#32
  let v844 : BitVec 1 := Scalar.cmpi .ne v843 c0_i32_597
  v844

def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_736 : BitVec 32 := 16#32
  let v1093 : BitVec 1 := Scalar.cmpi .ne v2 c16_i32_736
  let v1094 : BitVec 32 := Scalar.extui v1093
  let c0_i32_738 : BitVec 32 := 0#32
  let v1095 : BitVec 1 := Scalar.cmpi .ne v1094 c0_i32_738
  v1095

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev48 : Nat :=
  let c0_i32_2025 : BitVec 32 := 0#32
  let c16_i32_2023 : BitVec 32 := 16#32
  let c1_i32_2024 : BitVec 32 := 1#32
  let v2442 : BitVec 32 := Scalar.muli c16_i32_2023 c1_i32_2024
  let v2443 : BitVec 32 := Scalar.addi c0_i32_2025 v2442
  v2443.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_739 : BitVec 32 := 16#32
  let v1096 : BitVec 1 := Scalar.cmpi .eq v2 c16_i32_739
  let v1097 : BitVec 32 := Scalar.extui v1096
  let c0_i32_740 : BitVec 32 := 0#32
  let v1098 : BitVec 1 := Scalar.cmpi .ne v1097 c0_i32_740
  v1098

def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2025 : Index := 0#32
  let c0_2026 : Index := 0#32
  ![v2444.toNat, 0, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_741 : BitVec 32 := 17#32
  let v1099 : BitVec 1 := Scalar.cmpi .ne v2 c17_i32_741
  let v1100 : BitVec 32 := Scalar.extui v1099
  let c0_i32_743 : BitVec 32 := 0#32
  let v1101 : BitVec 1 := Scalar.cmpi .ne v1100 c0_i32_743
  v1101

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev49 : Nat :=
  let c0_i32_2025 : BitVec 32 := 0#32
  let c17_i32_2023 : BitVec 32 := 17#32
  let c1_i32_2024 : BitVec 32 := 1#32
  let v2442 : BitVec 32 := Scalar.muli c17_i32_2023 c1_i32_2024
  let v2443 : BitVec 32 := Scalar.addi c0_i32_2025 v2442
  v2443.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_744 : BitVec 32 := 17#32
  let v1102 : BitVec 1 := Scalar.cmpi .eq v2 c17_i32_744
  let v1103 : BitVec 32 := Scalar.extui v1102
  let c0_i32_745 : BitVec 32 := 0#32
  let v1104 : BitVec 1 := Scalar.cmpi .ne v1103 c0_i32_745
  v1104

def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_746 : BitVec 32 := 18#32
  let v1105 : BitVec 1 := Scalar.cmpi .ne v2 c18_i32_746
  let v1106 : BitVec 32 := Scalar.extui v1105
  let c0_i32_748 : BitVec 32 := 0#32
  let v1107 : BitVec 1 := Scalar.cmpi .ne v1106 c0_i32_748
  v1107

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev50 : Nat :=
  let c0_i32_2025 : BitVec 32 := 0#32
  let c18_i32_2023 : BitVec 32 := 18#32
  let c1_i32_2024 : BitVec 32 := 1#32
  let v2442 : BitVec 32 := Scalar.muli c18_i32_2023 c1_i32_2024
  let v2443 : BitVec 32 := Scalar.addi c0_i32_2025 v2442
  v2443.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_749 : BitVec 32 := 18#32
  let v1108 : BitVec 1 := Scalar.cmpi .eq v2 c18_i32_749
  let v1109 : BitVec 32 := Scalar.extui v1108
  let c0_i32_750 : BitVec 32 := 0#32
  let v1110 : BitVec 1 := Scalar.cmpi .ne v1109 c0_i32_750
  v1110

def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_751 : BitVec 32 := 19#32
  let v1111 : BitVec 1 := Scalar.cmpi .ne v2 c19_i32_751
  let v1112 : BitVec 32 := Scalar.extui v1111
  let c0_i32_753 : BitVec 32 := 0#32
  let v1113 : BitVec 1 := Scalar.cmpi .ne v1112 c0_i32_753
  v1113

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev51 : Nat :=
  let c0_i32_2025 : BitVec 32 := 0#32
  let c19_i32_2023 : BitVec 32 := 19#32
  let c1_i32_2024 : BitVec 32 := 1#32
  let v2442 : BitVec 32 := Scalar.muli c19_i32_2023 c1_i32_2024
  let v2443 : BitVec 32 := Scalar.addi c0_i32_2025 v2442
  v2443.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_754 : BitVec 32 := 19#32
  let v1114 : BitVec 1 := Scalar.cmpi .eq v2 c19_i32_754
  let v1115 : BitVec 32 := Scalar.extui v1114
  let c0_i32_755 : BitVec 32 := 0#32
  let v1116 : BitVec 1 := Scalar.cmpi .ne v1115 c0_i32_755
  v1116

def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_756 : BitVec 32 := 20#32
  let v1117 : BitVec 1 := Scalar.cmpi .ne v2 c20_i32_756
  let v1118 : BitVec 32 := Scalar.extui v1117
  let c0_i32_758 : BitVec 32 := 0#32
  let v1119 : BitVec 1 := Scalar.cmpi .ne v1118 c0_i32_758
  v1119

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev52 : Nat :=
  let c0_i32_2025 : BitVec 32 := 0#32
  let c20_i32_2023 : BitVec 32 := 20#32
  let c1_i32_2024 : BitVec 32 := 1#32
  let v2442 : BitVec 32 := Scalar.muli c20_i32_2023 c1_i32_2024
  let v2443 : BitVec 32 := Scalar.addi c0_i32_2025 v2442
  v2443.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_759 : BitVec 32 := 20#32
  let v1120 : BitVec 1 := Scalar.cmpi .eq v2 c20_i32_759
  let v1121 : BitVec 32 := Scalar.extui v1120
  let c0_i32_760 : BitVec 32 := 0#32
  let v1122 : BitVec 1 := Scalar.cmpi .ne v1121 c0_i32_760
  v1122

def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2025 : Index := 0#32
  let c0_2026 : Index := 0#32
  ![v2444.toNat, 0, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_761 : BitVec 32 := 21#32
  let v1123 : BitVec 1 := Scalar.cmpi .ne v2 c21_i32_761
  let v1124 : BitVec 32 := Scalar.extui v1123
  let c0_i32_763 : BitVec 32 := 0#32
  let v1125 : BitVec 1 := Scalar.cmpi .ne v1124 c0_i32_763
  v1125

def k0_off66 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev53 : Nat :=
  let c0_i32_2025 : BitVec 32 := 0#32
  let c21_i32_2023 : BitVec 32 := 21#32
  let c1_i32_2024 : BitVec 32 := 1#32
  let v2442 : BitVec 32 := Scalar.muli c21_i32_2023 c1_i32_2024
  let v2443 : BitVec 32 := Scalar.addi c0_i32_2025 v2442
  v2443.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_764 : BitVec 32 := 21#32
  let v1126 : BitVec 1 := Scalar.cmpi .eq v2 c21_i32_764
  let v1127 : BitVec 32 := Scalar.extui v1126
  let c0_i32_765 : BitVec 32 := 0#32
  let v1128 : BitVec 1 := Scalar.cmpi .ne v1127 c0_i32_765
  v1128

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_766 : BitVec 32 := 22#32
  let v1129 : BitVec 1 := Scalar.cmpi .ne v2 c22_i32_766
  let v1130 : BitVec 32 := Scalar.extui v1129
  let c0_i32_768 : BitVec 32 := 0#32
  let v1131 : BitVec 1 := Scalar.cmpi .ne v1130 c0_i32_768
  v1131

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev54 : Nat :=
  let c0_i32_2025 : BitVec 32 := 0#32
  let c22_i32_2023 : BitVec 32 := 22#32
  let c1_i32_2024 : BitVec 32 := 1#32
  let v2442 : BitVec 32 := Scalar.muli c22_i32_2023 c1_i32_2024
  let v2443 : BitVec 32 := Scalar.addi c0_i32_2025 v2442
  v2443.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_769 : BitVec 32 := 22#32
  let v1132 : BitVec 1 := Scalar.cmpi .eq v2 c22_i32_769
  let v1133 : BitVec 32 := Scalar.extui v1132
  let c0_i32_770 : BitVec 32 := 0#32
  let v1134 : BitVec 1 := Scalar.cmpi .ne v1133 c0_i32_770
  v1134

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_771 : BitVec 32 := 23#32
  let v1135 : BitVec 1 := Scalar.cmpi .ne v2 c23_i32_771
  let v1136 : BitVec 32 := Scalar.extui v1135
  let c0_i32_773 : BitVec 32 := 0#32
  let v1137 : BitVec 1 := Scalar.cmpi .ne v1136 c0_i32_773
  v1137

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev55 : Nat :=
  let c0_i32_2025 : BitVec 32 := 0#32
  let c23_i32_2023 : BitVec 32 := 23#32
  let c1_i32_2024 : BitVec 32 := 1#32
  let v2442 : BitVec 32 := Scalar.muli c23_i32_2023 c1_i32_2024
  let v2443 : BitVec 32 := Scalar.addi c0_i32_2025 v2442
  v2443.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_774 : BitVec 32 := 23#32
  let v1138 : BitVec 1 := Scalar.cmpi .eq v2 c23_i32_774
  let v1139 : BitVec 32 := Scalar.extui v1138
  let c0_i32_775 : BitVec 32 := 0#32
  let v1140 : BitVec 1 := Scalar.cmpi .ne v1139 c0_i32_775
  v1140

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_914 : BitVec 32 := 24#32
  let v1389 : BitVec 1 := Scalar.cmpi .ne v2 c24_i32_914
  let v1390 : BitVec 32 := Scalar.extui v1389
  let c0_i32_916 : BitVec 32 := 0#32
  let v1391 : BitVec 1 := Scalar.cmpi .ne v1390 c0_i32_916
  v1391

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev56 : Nat :=
  let c0_i32_2025 : BitVec 32 := 0#32
  let c24_i32_2023 : BitVec 32 := 24#32
  let c1_i32_2024 : BitVec 32 := 1#32
  let v2442 : BitVec 32 := Scalar.muli c24_i32_2023 c1_i32_2024
  let v2443 : BitVec 32 := Scalar.addi c0_i32_2025 v2442
  v2443.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_917 : BitVec 32 := 24#32
  let v1392 : BitVec 1 := Scalar.cmpi .eq v2 c24_i32_917
  let v1393 : BitVec 32 := Scalar.extui v1392
  let c0_i32_918 : BitVec 32 := 0#32
  let v1394 : BitVec 1 := Scalar.cmpi .ne v1393 c0_i32_918
  v1394

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2025 : Index := 0#32
  let c0_2026 : Index := 0#32
  ![v2444.toNat, 0, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_919 : BitVec 32 := 25#32
  let v1395 : BitVec 1 := Scalar.cmpi .ne v2 c25_i32_919
  let v1396 : BitVec 32 := Scalar.extui v1395
  let c0_i32_921 : BitVec 32 := 0#32
  let v1397 : BitVec 1 := Scalar.cmpi .ne v1396 c0_i32_921
  v1397

def k0_off78 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev57 : Nat :=
  let c0_i32_2025 : BitVec 32 := 0#32
  let c25_i32_2023 : BitVec 32 := 25#32
  let c1_i32_2024 : BitVec 32 := 1#32
  let v2442 : BitVec 32 := Scalar.muli c25_i32_2023 c1_i32_2024
  let v2443 : BitVec 32 := Scalar.addi c0_i32_2025 v2442
  v2443.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_922 : BitVec 32 := 25#32
  let v1398 : BitVec 1 := Scalar.cmpi .eq v2 c25_i32_922
  let v1399 : BitVec 32 := Scalar.extui v1398
  let c0_i32_923 : BitVec 32 := 0#32
  let v1400 : BitVec 1 := Scalar.cmpi .ne v1399 c0_i32_923
  v1400

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_924 : BitVec 32 := 26#32
  let v1401 : BitVec 1 := Scalar.cmpi .ne v2 c26_i32_924
  let v1402 : BitVec 32 := Scalar.extui v1401
  let c0_i32_926 : BitVec 32 := 0#32
  let v1403 : BitVec 1 := Scalar.cmpi .ne v1402 c0_i32_926
  v1403

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev58 : Nat :=
  let c0_i32_2025 : BitVec 32 := 0#32
  let c26_i32_2023 : BitVec 32 := 26#32
  let c1_i32_2024 : BitVec 32 := 1#32
  let v2442 : BitVec 32 := Scalar.muli c26_i32_2023 c1_i32_2024
  let v2443 : BitVec 32 := Scalar.addi c0_i32_2025 v2442
  v2443.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_927 : BitVec 32 := 26#32
  let v1404 : BitVec 1 := Scalar.cmpi .eq v2 c26_i32_927
  let v1405 : BitVec 32 := Scalar.extui v1404
  let c0_i32_928 : BitVec 32 := 0#32
  let v1406 : BitVec 1 := Scalar.cmpi .ne v1405 c0_i32_928
  v1406

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_929 : BitVec 32 := 27#32
  let v1407 : BitVec 1 := Scalar.cmpi .ne v2 c27_i32_929
  let v1408 : BitVec 32 := Scalar.extui v1407
  let c0_i32_931 : BitVec 32 := 0#32
  let v1409 : BitVec 1 := Scalar.cmpi .ne v1408 c0_i32_931
  v1409

def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev59 : Nat :=
  let c0_i32_2025 : BitVec 32 := 0#32
  let c27_i32_2023 : BitVec 32 := 27#32
  let c1_i32_2024 : BitVec 32 := 1#32
  let v2442 : BitVec 32 := Scalar.muli c27_i32_2023 c1_i32_2024
  let v2443 : BitVec 32 := Scalar.addi c0_i32_2025 v2442
  v2443.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_932 : BitVec 32 := 27#32
  let v1410 : BitVec 1 := Scalar.cmpi .eq v2 c27_i32_932
  let v1411 : BitVec 32 := Scalar.extui v1410
  let c0_i32_933 : BitVec 32 := 0#32
  let v1412 : BitVec 1 := Scalar.cmpi .ne v1411 c0_i32_933
  v1412

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_934 : BitVec 32 := 28#32
  let v1413 : BitVec 1 := Scalar.cmpi .ne v2 c28_i32_934
  let v1414 : BitVec 32 := Scalar.extui v1413
  let c0_i32_936 : BitVec 32 := 0#32
  let v1415 : BitVec 1 := Scalar.cmpi .ne v1414 c0_i32_936
  v1415

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev60 : Nat :=
  let c0_i32_2025 : BitVec 32 := 0#32
  let c28_i32_2023 : BitVec 32 := 28#32
  let c1_i32_2024 : BitVec 32 := 1#32
  let v2442 : BitVec 32 := Scalar.muli c28_i32_2023 c1_i32_2024
  let v2443 : BitVec 32 := Scalar.addi c0_i32_2025 v2442
  v2443.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_937 : BitVec 32 := 28#32
  let v1416 : BitVec 1 := Scalar.cmpi .eq v2 c28_i32_937
  let v1417 : BitVec 32 := Scalar.extui v1416
  let c0_i32_938 : BitVec 32 := 0#32
  let v1418 : BitVec 1 := Scalar.cmpi .ne v1417 c0_i32_938
  v1418

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2025 : Index := 0#32
  let c0_2026 : Index := 0#32
  ![v2444.toNat, 0, 0]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_939 : BitVec 32 := 29#32
  let v1419 : BitVec 1 := Scalar.cmpi .ne v2 c29_i32_939
  let v1420 : BitVec 32 := Scalar.extui v1419
  let c0_i32_941 : BitVec 32 := 0#32
  let v1421 : BitVec 1 := Scalar.cmpi .ne v1420 c0_i32_941
  v1421

def k0_off90 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev61 : Nat :=
  let c0_i32_2025 : BitVec 32 := 0#32
  let c29_i32_2023 : BitVec 32 := 29#32
  let c1_i32_2024 : BitVec 32 := 1#32
  let v2442 : BitVec 32 := Scalar.muli c29_i32_2023 c1_i32_2024
  let v2443 : BitVec 32 := Scalar.addi c0_i32_2025 v2442
  v2443.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_942 : BitVec 32 := 29#32
  let v1422 : BitVec 1 := Scalar.cmpi .eq v2 c29_i32_942
  let v1423 : BitVec 32 := Scalar.extui v1422
  let c0_i32_943 : BitVec 32 := 0#32
  let v1424 : BitVec 1 := Scalar.cmpi .ne v1423 c0_i32_943
  v1424

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_944 : BitVec 32 := 30#32
  let v1425 : BitVec 1 := Scalar.cmpi .ne v2 c30_i32_944
  let v1426 : BitVec 32 := Scalar.extui v1425
  let c0_i32_946 : BitVec 32 := 0#32
  let v1427 : BitVec 1 := Scalar.cmpi .ne v1426 c0_i32_946
  v1427

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev62 : Nat :=
  let c0_i32_2025 : BitVec 32 := 0#32
  let c30_i32_2023 : BitVec 32 := 30#32
  let c1_i32_2024 : BitVec 32 := 1#32
  let v2442 : BitVec 32 := Scalar.muli c30_i32_2023 c1_i32_2024
  let v2443 : BitVec 32 := Scalar.addi c0_i32_2025 v2442
  v2443.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_947 : BitVec 32 := 30#32
  let v1428 : BitVec 1 := Scalar.cmpi .eq v2 c30_i32_947
  let v1429 : BitVec 32 := Scalar.extui v1428
  let c0_i32_948 : BitVec 32 := 0#32
  let v1430 : BitVec 1 := Scalar.cmpi .ne v1429 c0_i32_948
  v1430

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_949 : BitVec 32 := 31#32
  let v1431 : BitVec 1 := Scalar.cmpi .ne v2 c31_i32_949
  let v1432 : BitVec 32 := Scalar.extui v1431
  let c0_i32_951 : BitVec 32 := 0#32
  let v1433 : BitVec 1 := Scalar.cmpi .ne v1432 c0_i32_951
  v1433

def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_dev63 : Nat :=
  let c0_i32_2025 : BitVec 32 := 0#32
  let c31_i32_2023 : BitVec 32 := 31#32
  let c1_i32_2024 : BitVec 32 := 1#32
  let v2442 : BitVec 32 := Scalar.muli c31_i32_2023 c1_i32_2024
  let v2443 : BitVec 32 := Scalar.addi c0_i32_2025 v2442
  v2443.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_952 : BitVec 32 := 31#32
  let v1434 : BitVec 1 := Scalar.cmpi .eq v2 c31_i32_952
  let v1435 : BitVec 32 := Scalar.extui v1434
  let c0_i32_953 : BitVec 32 := 0#32
  let v1436 : BitVec 1 := Scalar.cmpi .ne v1435 c0_i32_953
  v1436

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2444 : Index := Scalar.indexCast v2
  let c0_2024 : Index := 0#32
  let c0_2025 : Index := 0#32
  ![v2444.toNat, 0, 0]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1150 : BitVec 32 := 32#32
  let v1537 : BitVec 32 := Scalar.muli v2 c32_i32_1150
  let v1538 : Index := Scalar.indexCast v1537
  let c0_1151 : Index := 0#32
  ![v1538.toNat, 0]
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1155 : BitVec 32 := 32#32
  let v1543 : BitVec 32 := Scalar.muli v2 c32_i32_1155
  let c0_i32_1160 : BitVec 32 := 0#32
  ![v1543.toNat, 0]
def k0_dev64 (d0 : Dev nD) : Nat :=
  let c0_i32_1159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1152 : BitVec 32 := 1#32
  let v1540 : BitVec 32 := Scalar.addi v2 c1_i32_1152
  let c32_i32_1153 : BitVec 32 := 32#32
  let v1541 : BitVec 32 := Scalar.remsi v1540 c32_i32_1153
  let c1_i32_1158 : BitVec 32 := 1#32
  let v1544 : BitVec 32 := Scalar.muli v1541 c1_i32_1158
  let v1545 : BitVec 32 := Scalar.addi c0_i32_1159 v1544
  v1545.toNat
def k0_dev65 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1162 : BitVec 32 := 2#32
  let v1552 : BitVec 32 := Scalar.addi v2 c2_i32_1162
  let c32_i32_1163 : BitVec 32 := 32#32
  let v1553 : BitVec 32 := Scalar.remsi v1552 c32_i32_1163
  let c1_i32_1168 : BitVec 32 := 1#32
  let v1556 : BitVec 32 := Scalar.muli v1553 c1_i32_1168
  let v1557 : BitVec 32 := Scalar.addi c0_i32_1169 v1556
  v1557.toNat
def k0_dev66 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1172 : BitVec 32 := 3#32
  let v1564 : BitVec 32 := Scalar.addi v2 c3_i32_1172
  let c32_i32_1173 : BitVec 32 := 32#32
  let v1565 : BitVec 32 := Scalar.remsi v1564 c32_i32_1173
  let c1_i32_1178 : BitVec 32 := 1#32
  let v1568 : BitVec 32 := Scalar.muli v1565 c1_i32_1178
  let v1569 : BitVec 32 := Scalar.addi c0_i32_1179 v1568
  v1569.toNat
def k0_dev67 (d0 : Dev nD) : Nat :=
  let c0_i32_1189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1182 : BitVec 32 := 4#32
  let v1576 : BitVec 32 := Scalar.addi v2 c4_i32_1182
  let c32_i32_1183 : BitVec 32 := 32#32
  let v1577 : BitVec 32 := Scalar.remsi v1576 c32_i32_1183
  let c1_i32_1188 : BitVec 32 := 1#32
  let v1580 : BitVec 32 := Scalar.muli v1577 c1_i32_1188
  let v1581 : BitVec 32 := Scalar.addi c0_i32_1189 v1580
  v1581.toNat
def k0_dev68 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1192 : BitVec 32 := 5#32
  let v1588 : BitVec 32 := Scalar.addi v2 c5_i32_1192
  let c32_i32_1193 : BitVec 32 := 32#32
  let v1589 : BitVec 32 := Scalar.remsi v1588 c32_i32_1193
  let c1_i32_1198 : BitVec 32 := 1#32
  let v1592 : BitVec 32 := Scalar.muli v1589 c1_i32_1198
  let v1593 : BitVec 32 := Scalar.addi c0_i32_1199 v1592
  v1593.toNat
def k0_dev69 (d0 : Dev nD) : Nat :=
  let c0_i32_1209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1202 : BitVec 32 := 6#32
  let v1600 : BitVec 32 := Scalar.addi v2 c6_i32_1202
  let c32_i32_1203 : BitVec 32 := 32#32
  let v1601 : BitVec 32 := Scalar.remsi v1600 c32_i32_1203
  let c1_i32_1208 : BitVec 32 := 1#32
  let v1604 : BitVec 32 := Scalar.muli v1601 c1_i32_1208
  let v1605 : BitVec 32 := Scalar.addi c0_i32_1209 v1604
  v1605.toNat
def k0_dev70 (d0 : Dev nD) : Nat :=
  let c0_i32_1219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1212 : BitVec 32 := 7#32
  let v1612 : BitVec 32 := Scalar.addi v2 c7_i32_1212
  let c32_i32_1213 : BitVec 32 := 32#32
  let v1613 : BitVec 32 := Scalar.remsi v1612 c32_i32_1213
  let c1_i32_1218 : BitVec 32 := 1#32
  let v1616 : BitVec 32 := Scalar.muli v1613 c1_i32_1218
  let v1617 : BitVec 32 := Scalar.addi c0_i32_1219 v1616
  v1617.toNat
def k0_dev71 (d0 : Dev nD) : Nat :=
  let c0_i32_1229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1222 : BitVec 32 := 8#32
  let v1624 : BitVec 32 := Scalar.addi v2 c8_i32_1222
  let c32_i32_1223 : BitVec 32 := 32#32
  let v1625 : BitVec 32 := Scalar.remsi v1624 c32_i32_1223
  let c1_i32_1228 : BitVec 32 := 1#32
  let v1628 : BitVec 32 := Scalar.muli v1625 c1_i32_1228
  let v1629 : BitVec 32 := Scalar.addi c0_i32_1229 v1628
  v1629.toNat
def k0_dev72 (d0 : Dev nD) : Nat :=
  let c0_i32_1239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1232 : BitVec 32 := 9#32
  let v1636 : BitVec 32 := Scalar.addi v2 c9_i32_1232
  let c32_i32_1233 : BitVec 32 := 32#32
  let v1637 : BitVec 32 := Scalar.remsi v1636 c32_i32_1233
  let c1_i32_1238 : BitVec 32 := 1#32
  let v1640 : BitVec 32 := Scalar.muli v1637 c1_i32_1238
  let v1641 : BitVec 32 := Scalar.addi c0_i32_1239 v1640
  v1641.toNat
def k0_dev73 (d0 : Dev nD) : Nat :=
  let c0_i32_1249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1242 : BitVec 32 := 10#32
  let v1648 : BitVec 32 := Scalar.addi v2 c10_i32_1242
  let c32_i32_1243 : BitVec 32 := 32#32
  let v1649 : BitVec 32 := Scalar.remsi v1648 c32_i32_1243
  let c1_i32_1248 : BitVec 32 := 1#32
  let v1652 : BitVec 32 := Scalar.muli v1649 c1_i32_1248
  let v1653 : BitVec 32 := Scalar.addi c0_i32_1249 v1652
  v1653.toNat
def k0_dev74 (d0 : Dev nD) : Nat :=
  let c0_i32_1259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1252 : BitVec 32 := 11#32
  let v1660 : BitVec 32 := Scalar.addi v2 c11_i32_1252
  let c32_i32_1253 : BitVec 32 := 32#32
  let v1661 : BitVec 32 := Scalar.remsi v1660 c32_i32_1253
  let c1_i32_1258 : BitVec 32 := 1#32
  let v1664 : BitVec 32 := Scalar.muli v1661 c1_i32_1258
  let v1665 : BitVec 32 := Scalar.addi c0_i32_1259 v1664
  v1665.toNat
def k0_dev75 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1262 : BitVec 32 := 12#32
  let v1672 : BitVec 32 := Scalar.addi v2 c12_i32_1262
  let c32_i32_1263 : BitVec 32 := 32#32
  let v1673 : BitVec 32 := Scalar.remsi v1672 c32_i32_1263
  let c1_i32_1268 : BitVec 32 := 1#32
  let v1676 : BitVec 32 := Scalar.muli v1673 c1_i32_1268
  let v1677 : BitVec 32 := Scalar.addi c0_i32_1269 v1676
  v1677.toNat
def k0_dev76 (d0 : Dev nD) : Nat :=
  let c0_i32_1279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1272 : BitVec 32 := 13#32
  let v1684 : BitVec 32 := Scalar.addi v2 c13_i32_1272
  let c32_i32_1273 : BitVec 32 := 32#32
  let v1685 : BitVec 32 := Scalar.remsi v1684 c32_i32_1273
  let c1_i32_1278 : BitVec 32 := 1#32
  let v1688 : BitVec 32 := Scalar.muli v1685 c1_i32_1278
  let v1689 : BitVec 32 := Scalar.addi c0_i32_1279 v1688
  v1689.toNat
def k0_dev77 (d0 : Dev nD) : Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1282 : BitVec 32 := 14#32
  let v1696 : BitVec 32 := Scalar.addi v2 c14_i32_1282
  let c32_i32_1283 : BitVec 32 := 32#32
  let v1697 : BitVec 32 := Scalar.remsi v1696 c32_i32_1283
  let c1_i32_1288 : BitVec 32 := 1#32
  let v1700 : BitVec 32 := Scalar.muli v1697 c1_i32_1288
  let v1701 : BitVec 32 := Scalar.addi c0_i32_1289 v1700
  v1701.toNat
def k0_dev78 (d0 : Dev nD) : Nat :=
  let c0_i32_1299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1292 : BitVec 32 := 15#32
  let v1708 : BitVec 32 := Scalar.addi v2 c15_i32_1292
  let c32_i32_1293 : BitVec 32 := 32#32
  let v1709 : BitVec 32 := Scalar.remsi v1708 c32_i32_1293
  let c1_i32_1298 : BitVec 32 := 1#32
  let v1712 : BitVec 32 := Scalar.muli v1709 c1_i32_1298
  let v1713 : BitVec 32 := Scalar.addi c0_i32_1299 v1712
  v1713.toNat
def k0_dev79 (d0 : Dev nD) : Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1302 : BitVec 32 := 16#32
  let v1720 : BitVec 32 := Scalar.addi v2 c16_i32_1302
  let c32_i32_1303 : BitVec 32 := 32#32
  let v1721 : BitVec 32 := Scalar.remsi v1720 c32_i32_1303
  let c1_i32_1308 : BitVec 32 := 1#32
  let v1724 : BitVec 32 := Scalar.muli v1721 c1_i32_1308
  let v1725 : BitVec 32 := Scalar.addi c0_i32_1309 v1724
  v1725.toNat
def k0_dev80 (d0 : Dev nD) : Nat :=
  let c0_i32_1319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1312 : BitVec 32 := 17#32
  let v1732 : BitVec 32 := Scalar.addi v2 c17_i32_1312
  let c32_i32_1313 : BitVec 32 := 32#32
  let v1733 : BitVec 32 := Scalar.remsi v1732 c32_i32_1313
  let c1_i32_1318 : BitVec 32 := 1#32
  let v1736 : BitVec 32 := Scalar.muli v1733 c1_i32_1318
  let v1737 : BitVec 32 := Scalar.addi c0_i32_1319 v1736
  v1737.toNat
def k0_dev81 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1322 : BitVec 32 := 18#32
  let v1744 : BitVec 32 := Scalar.addi v2 c18_i32_1322
  let c32_i32_1323 : BitVec 32 := 32#32
  let v1745 : BitVec 32 := Scalar.remsi v1744 c32_i32_1323
  let c1_i32_1328 : BitVec 32 := 1#32
  let v1748 : BitVec 32 := Scalar.muli v1745 c1_i32_1328
  let v1749 : BitVec 32 := Scalar.addi c0_i32_1329 v1748
  v1749.toNat
def k0_dev82 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1332 : BitVec 32 := 19#32
  let v1756 : BitVec 32 := Scalar.addi v2 c19_i32_1332
  let c32_i32_1333 : BitVec 32 := 32#32
  let v1757 : BitVec 32 := Scalar.remsi v1756 c32_i32_1333
  let c1_i32_1338 : BitVec 32 := 1#32
  let v1760 : BitVec 32 := Scalar.muli v1757 c1_i32_1338
  let v1761 : BitVec 32 := Scalar.addi c0_i32_1339 v1760
  v1761.toNat
def k0_dev83 (d0 : Dev nD) : Nat :=
  let c0_i32_1349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1342 : BitVec 32 := 20#32
  let v1768 : BitVec 32 := Scalar.addi v2 c20_i32_1342
  let c32_i32_1343 : BitVec 32 := 32#32
  let v1769 : BitVec 32 := Scalar.remsi v1768 c32_i32_1343
  let c1_i32_1348 : BitVec 32 := 1#32
  let v1772 : BitVec 32 := Scalar.muli v1769 c1_i32_1348
  let v1773 : BitVec 32 := Scalar.addi c0_i32_1349 v1772
  v1773.toNat
def k0_dev84 (d0 : Dev nD) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1352 : BitVec 32 := 21#32
  let v1780 : BitVec 32 := Scalar.addi v2 c21_i32_1352
  let c32_i32_1353 : BitVec 32 := 32#32
  let v1781 : BitVec 32 := Scalar.remsi v1780 c32_i32_1353
  let c1_i32_1358 : BitVec 32 := 1#32
  let v1784 : BitVec 32 := Scalar.muli v1781 c1_i32_1358
  let v1785 : BitVec 32 := Scalar.addi c0_i32_1359 v1784
  v1785.toNat
def k0_dev85 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1362 : BitVec 32 := 22#32
  let v1792 : BitVec 32 := Scalar.addi v2 c22_i32_1362
  let c32_i32_1363 : BitVec 32 := 32#32
  let v1793 : BitVec 32 := Scalar.remsi v1792 c32_i32_1363
  let c1_i32_1368 : BitVec 32 := 1#32
  let v1796 : BitVec 32 := Scalar.muli v1793 c1_i32_1368
  let v1797 : BitVec 32 := Scalar.addi c0_i32_1369 v1796
  v1797.toNat
def k0_dev86 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1372 : BitVec 32 := 23#32
  let v1804 : BitVec 32 := Scalar.addi v2 c23_i32_1372
  let c32_i32_1373 : BitVec 32 := 32#32
  let v1805 : BitVec 32 := Scalar.remsi v1804 c32_i32_1373
  let c1_i32_1378 : BitVec 32 := 1#32
  let v1808 : BitVec 32 := Scalar.muli v1805 c1_i32_1378
  let v1809 : BitVec 32 := Scalar.addi c0_i32_1379 v1808
  v1809.toNat
def k0_dev87 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1382 : BitVec 32 := 24#32
  let v1816 : BitVec 32 := Scalar.addi v2 c24_i32_1382
  let c32_i32_1383 : BitVec 32 := 32#32
  let v1817 : BitVec 32 := Scalar.remsi v1816 c32_i32_1383
  let c1_i32_1388 : BitVec 32 := 1#32
  let v1820 : BitVec 32 := Scalar.muli v1817 c1_i32_1388
  let v1821 : BitVec 32 := Scalar.addi c0_i32_1389 v1820
  v1821.toNat
def k0_dev88 (d0 : Dev nD) : Nat :=
  let c0_i32_1399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1392 : BitVec 32 := 25#32
  let v1828 : BitVec 32 := Scalar.addi v2 c25_i32_1392
  let c32_i32_1393 : BitVec 32 := 32#32
  let v1829 : BitVec 32 := Scalar.remsi v1828 c32_i32_1393
  let c1_i32_1398 : BitVec 32 := 1#32
  let v1832 : BitVec 32 := Scalar.muli v1829 c1_i32_1398
  let v1833 : BitVec 32 := Scalar.addi c0_i32_1399 v1832
  v1833.toNat
def k0_dev89 (d0 : Dev nD) : Nat :=
  let c0_i32_1409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1402 : BitVec 32 := 26#32
  let v1840 : BitVec 32 := Scalar.addi v2 c26_i32_1402
  let c32_i32_1403 : BitVec 32 := 32#32
  let v1841 : BitVec 32 := Scalar.remsi v1840 c32_i32_1403
  let c1_i32_1408 : BitVec 32 := 1#32
  let v1844 : BitVec 32 := Scalar.muli v1841 c1_i32_1408
  let v1845 : BitVec 32 := Scalar.addi c0_i32_1409 v1844
  v1845.toNat
def k0_dev90 (d0 : Dev nD) : Nat :=
  let c0_i32_1419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1412 : BitVec 32 := 27#32
  let v1852 : BitVec 32 := Scalar.addi v2 c27_i32_1412
  let c32_i32_1413 : BitVec 32 := 32#32
  let v1853 : BitVec 32 := Scalar.remsi v1852 c32_i32_1413
  let c1_i32_1418 : BitVec 32 := 1#32
  let v1856 : BitVec 32 := Scalar.muli v1853 c1_i32_1418
  let v1857 : BitVec 32 := Scalar.addi c0_i32_1419 v1856
  v1857.toNat
def k0_dev91 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1422 : BitVec 32 := 28#32
  let v1864 : BitVec 32 := Scalar.addi v2 c28_i32_1422
  let c32_i32_1423 : BitVec 32 := 32#32
  let v1865 : BitVec 32 := Scalar.remsi v1864 c32_i32_1423
  let c1_i32_1428 : BitVec 32 := 1#32
  let v1868 : BitVec 32 := Scalar.muli v1865 c1_i32_1428
  let v1869 : BitVec 32 := Scalar.addi c0_i32_1429 v1868
  v1869.toNat
def k0_dev92 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1432 : BitVec 32 := 29#32
  let v1876 : BitVec 32 := Scalar.addi v2 c29_i32_1432
  let c32_i32_1433 : BitVec 32 := 32#32
  let v1877 : BitVec 32 := Scalar.remsi v1876 c32_i32_1433
  let c1_i32_1438 : BitVec 32 := 1#32
  let v1880 : BitVec 32 := Scalar.muli v1877 c1_i32_1438
  let v1881 : BitVec 32 := Scalar.addi c0_i32_1439 v1880
  v1881.toNat
def k0_dev93 (d0 : Dev nD) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1442 : BitVec 32 := 30#32
  let v1888 : BitVec 32 := Scalar.addi v2 c30_i32_1442
  let c32_i32_1443 : BitVec 32 := 32#32
  let v1889 : BitVec 32 := Scalar.remsi v1888 c32_i32_1443
  let c1_i32_1448 : BitVec 32 := 1#32
  let v1892 : BitVec 32 := Scalar.muli v1889 c1_i32_1448
  let v1893 : BitVec 32 := Scalar.addi c0_i32_1449 v1892
  v1893.toNat
def k0_dev94 (d0 : Dev nD) : Nat :=
  let c0_i32_1459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1452 : BitVec 32 := 31#32
  let v1900 : BitVec 32 := Scalar.addi v2 c31_i32_1452
  let c32_i32_1453 : BitVec 32 := 32#32
  let v1901 : BitVec 32 := Scalar.remsi v1900 c32_i32_1453
  let c1_i32_1458 : BitVec 32 := 1#32
  let v1904 : BitVec 32 := Scalar.muli v1901 c1_i32_1458
  let v1905 : BitVec 32 := Scalar.addi c0_i32_1459 v1904
  v1905.toNat
def k0_off101 (d0 : Dev nD) (c31_i32_1462 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1912 : BitVec 32 := Scalar.addi v2 c31_i32_1462
  let c32_i32_1463 : BitVec 32 := 32#32
  let v1913 : BitVec 32 := Scalar.remsi v1912 c32_i32_1463
  let c32_i32_1465 : BitVec 32 := 32#32
  let v1915 : BitVec 32 := Scalar.muli v1913 c32_i32_1465
  let c0_i32_1470 : BitVec 32 := 0#32
  ![v1915.toNat, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1772 : BitVec 32 := 0#32
  let v2222 : BitVec 1 := Scalar.cmpi .ne v2 c0_i32_1772
  let v2223 : BitVec 32 := Scalar.extui v2222
  let c0_i32_1774 : BitVec 32 := 0#32
  let v2224 : BitVec 1 := Scalar.cmpi .ne v2223 c0_i32_1774
  v2224

def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1775 : BitVec 32 := 1#32
  let v2225 : BitVec 1 := Scalar.cmpi .ne v2 c1_i32_1775
  let v2226 : BitVec 32 := Scalar.extui v2225
  let c0_i32_1777 : BitVec 32 := 0#32
  let v2227 : BitVec 1 := Scalar.cmpi .ne v2226 c0_i32_1777
  v2227

def k0_off103 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1778 : BitVec 32 := 2#32
  let v2228 : BitVec 1 := Scalar.cmpi .ne v2 c2_i32_1778
  let v2229 : BitVec 32 := Scalar.extui v2228
  let c0_i32_1780 : BitVec 32 := 0#32
  let v2230 : BitVec 1 := Scalar.cmpi .ne v2229 c0_i32_1780
  v2230

def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1781 : BitVec 32 := 3#32
  let v2231 : BitVec 1 := Scalar.cmpi .ne v2 c3_i32_1781
  let v2232 : BitVec 32 := Scalar.extui v2231
  let c0_i32_1783 : BitVec 32 := 0#32
  let v2233 : BitVec 1 := Scalar.cmpi .ne v2232 c0_i32_1783
  v2233

def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1784 : BitVec 32 := 4#32
  let v2234 : BitVec 1 := Scalar.cmpi .ne v2 c4_i32_1784
  let v2235 : BitVec 32 := Scalar.extui v2234
  let c0_i32_1786 : BitVec 32 := 0#32
  let v2236 : BitVec 1 := Scalar.cmpi .ne v2235 c0_i32_1786
  v2236

def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1787 : BitVec 32 := 5#32
  let v2237 : BitVec 1 := Scalar.cmpi .ne v2 c5_i32_1787
  let v2238 : BitVec 32 := Scalar.extui v2237
  let c0_i32_1789 : BitVec 32 := 0#32
  let v2239 : BitVec 1 := Scalar.cmpi .ne v2238 c0_i32_1789
  v2239

def k0_off107 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1790 : BitVec 32 := 6#32
  let v2240 : BitVec 1 := Scalar.cmpi .ne v2 c6_i32_1790
  let v2241 : BitVec 32 := Scalar.extui v2240
  let c0_i32_1792 : BitVec 32 := 0#32
  let v2242 : BitVec 1 := Scalar.cmpi .ne v2241 c0_i32_1792
  v2242

def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1793 : BitVec 32 := 7#32
  let v2243 : BitVec 1 := Scalar.cmpi .ne v2 c7_i32_1793
  let v2244 : BitVec 32 := Scalar.extui v2243
  let c0_i32_1795 : BitVec 32 := 0#32
  let v2245 : BitVec 1 := Scalar.cmpi .ne v2244 c0_i32_1795
  v2245

def k0_off109 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1796 : BitVec 32 := 8#32
  let v2246 : BitVec 1 := Scalar.cmpi .ne v2 c8_i32_1796
  let v2247 : BitVec 32 := Scalar.extui v2246
  let c0_i32_1798 : BitVec 32 := 0#32
  let v2248 : BitVec 1 := Scalar.cmpi .ne v2247 c0_i32_1798
  v2248

def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1799 : BitVec 32 := 9#32
  let v2249 : BitVec 1 := Scalar.cmpi .ne v2 c9_i32_1799
  let v2250 : BitVec 32 := Scalar.extui v2249
  let c0_i32_1801 : BitVec 32 := 0#32
  let v2251 : BitVec 1 := Scalar.cmpi .ne v2250 c0_i32_1801
  v2251

def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1802 : BitVec 32 := 10#32
  let v2252 : BitVec 1 := Scalar.cmpi .ne v2 c10_i32_1802
  let v2253 : BitVec 32 := Scalar.extui v2252
  let c0_i32_1804 : BitVec 32 := 0#32
  let v2254 : BitVec 1 := Scalar.cmpi .ne v2253 c0_i32_1804
  v2254

def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1805 : BitVec 32 := 11#32
  let v2255 : BitVec 1 := Scalar.cmpi .ne v2 c11_i32_1805
  let v2256 : BitVec 32 := Scalar.extui v2255
  let c0_i32_1807 : BitVec 32 := 0#32
  let v2257 : BitVec 1 := Scalar.cmpi .ne v2256 c0_i32_1807
  v2257

def k0_off113 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1808 : BitVec 32 := 12#32
  let v2258 : BitVec 1 := Scalar.cmpi .ne v2 c12_i32_1808
  let v2259 : BitVec 32 := Scalar.extui v2258
  let c0_i32_1810 : BitVec 32 := 0#32
  let v2260 : BitVec 1 := Scalar.cmpi .ne v2259 c0_i32_1810
  v2260

def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1811 : BitVec 32 := 13#32
  let v2261 : BitVec 1 := Scalar.cmpi .ne v2 c13_i32_1811
  let v2262 : BitVec 32 := Scalar.extui v2261
  let c0_i32_1813 : BitVec 32 := 0#32
  let v2263 : BitVec 1 := Scalar.cmpi .ne v2262 c0_i32_1813
  v2263

def k0_off115 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1814 : BitVec 32 := 14#32
  let v2264 : BitVec 1 := Scalar.cmpi .ne v2 c14_i32_1814
  let v2265 : BitVec 32 := Scalar.extui v2264
  let c0_i32_1816 : BitVec 32 := 0#32
  let v2266 : BitVec 1 := Scalar.cmpi .ne v2265 c0_i32_1816
  v2266

def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1817 : BitVec 32 := 15#32
  let v2267 : BitVec 1 := Scalar.cmpi .ne v2 c15_i32_1817
  let v2268 : BitVec 32 := Scalar.extui v2267
  let c0_i32_1819 : BitVec 32 := 0#32
  let v2269 : BitVec 1 := Scalar.cmpi .ne v2268 c0_i32_1819
  v2269

def k0_off117 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1820 : BitVec 32 := 16#32
  let v2270 : BitVec 1 := Scalar.cmpi .ne v2 c16_i32_1820
  let v2271 : BitVec 32 := Scalar.extui v2270
  let c0_i32_1822 : BitVec 32 := 0#32
  let v2272 : BitVec 1 := Scalar.cmpi .ne v2271 c0_i32_1822
  v2272

def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1823 : BitVec 32 := 17#32
  let v2273 : BitVec 1 := Scalar.cmpi .ne v2 c17_i32_1823
  let v2274 : BitVec 32 := Scalar.extui v2273
  let c0_i32_1825 : BitVec 32 := 0#32
  let v2275 : BitVec 1 := Scalar.cmpi .ne v2274 c0_i32_1825
  v2275

def k0_off119 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1826 : BitVec 32 := 18#32
  let v2276 : BitVec 1 := Scalar.cmpi .ne v2 c18_i32_1826
  let v2277 : BitVec 32 := Scalar.extui v2276
  let c0_i32_1828 : BitVec 32 := 0#32
  let v2278 : BitVec 1 := Scalar.cmpi .ne v2277 c0_i32_1828
  v2278

def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1829 : BitVec 32 := 19#32
  let v2279 : BitVec 1 := Scalar.cmpi .ne v2 c19_i32_1829
  let v2280 : BitVec 32 := Scalar.extui v2279
  let c0_i32_1831 : BitVec 32 := 0#32
  let v2281 : BitVec 1 := Scalar.cmpi .ne v2280 c0_i32_1831
  v2281

def k0_off121 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1832 : BitVec 32 := 20#32
  let v2282 : BitVec 1 := Scalar.cmpi .ne v2 c20_i32_1832
  let v2283 : BitVec 32 := Scalar.extui v2282
  let c0_i32_1834 : BitVec 32 := 0#32
  let v2284 : BitVec 1 := Scalar.cmpi .ne v2283 c0_i32_1834
  v2284

def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1835 : BitVec 32 := 21#32
  let v2285 : BitVec 1 := Scalar.cmpi .ne v2 c21_i32_1835
  let v2286 : BitVec 32 := Scalar.extui v2285
  let c0_i32_1837 : BitVec 32 := 0#32
  let v2287 : BitVec 1 := Scalar.cmpi .ne v2286 c0_i32_1837
  v2287

def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1838 : BitVec 32 := 22#32
  let v2288 : BitVec 1 := Scalar.cmpi .ne v2 c22_i32_1838
  let v2289 : BitVec 32 := Scalar.extui v2288
  let c0_i32_1840 : BitVec 32 := 0#32
  let v2290 : BitVec 1 := Scalar.cmpi .ne v2289 c0_i32_1840
  v2290

def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1841 : BitVec 32 := 23#32
  let v2291 : BitVec 1 := Scalar.cmpi .ne v2 c23_i32_1841
  let v2292 : BitVec 32 := Scalar.extui v2291
  let c0_i32_1843 : BitVec 32 := 0#32
  let v2293 : BitVec 1 := Scalar.cmpi .ne v2292 c0_i32_1843
  v2293

def k0_off125 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1844 : BitVec 32 := 24#32
  let v2294 : BitVec 1 := Scalar.cmpi .ne v2 c24_i32_1844
  let v2295 : BitVec 32 := Scalar.extui v2294
  let c0_i32_1846 : BitVec 32 := 0#32
  let v2296 : BitVec 1 := Scalar.cmpi .ne v2295 c0_i32_1846
  v2296

def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1847 : BitVec 32 := 25#32
  let v2297 : BitVec 1 := Scalar.cmpi .ne v2 c25_i32_1847
  let v2298 : BitVec 32 := Scalar.extui v2297
  let c0_i32_1849 : BitVec 32 := 0#32
  let v2299 : BitVec 1 := Scalar.cmpi .ne v2298 c0_i32_1849
  v2299

def k0_off127 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1850 : BitVec 32 := 26#32
  let v2300 : BitVec 1 := Scalar.cmpi .ne v2 c26_i32_1850
  let v2301 : BitVec 32 := Scalar.extui v2300
  let c0_i32_1852 : BitVec 32 := 0#32
  let v2302 : BitVec 1 := Scalar.cmpi .ne v2301 c0_i32_1852
  v2302

def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2027 : BitVec 32 := 0#32
  let c0_i32_2028 : BitVec 32 := 0#32
  ![v2.toNat, 0, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1853 : BitVec 32 := 27#32
  let v2303 : BitVec 1 := Scalar.cmpi .ne v2 c27_i32_1853
  let v2304 : BitVec 32 := Scalar.extui v2303
  let c0_i32_1855 : BitVec 32 := 0#32
  let v2305 : BitVec 1 := Scalar.cmpi .ne v2304 c0_i32_1855
  v2305

def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1856 : BitVec 32 := 28#32
  let v2306 : BitVec 1 := Scalar.cmpi .ne v2 c28_i32_1856
  let v2307 : BitVec 32 := Scalar.extui v2306
  let c0_i32_1858 : BitVec 32 := 0#32
  let v2308 : BitVec 1 := Scalar.cmpi .ne v2307 c0_i32_1858
  v2308

def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1859 : BitVec 32 := 29#32
  let v2309 : BitVec 1 := Scalar.cmpi .ne v2 c29_i32_1859
  let v2310 : BitVec 32 := Scalar.extui v2309
  let c0_i32_1861 : BitVec 32 := 0#32
  let v2311 : BitVec 1 := Scalar.cmpi .ne v2310 c0_i32_1861
  v2311

def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1862 : BitVec 32 := 30#32
  let v2312 : BitVec 1 := Scalar.cmpi .ne v2 c30_i32_1862
  let v2313 : BitVec 32 := Scalar.extui v2312
  let c0_i32_1864 : BitVec 32 := 0#32
  let v2314 : BitVec 1 := Scalar.cmpi .ne v2313 c0_i32_1864
  v2314

def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1865 : BitVec 32 := 31#32
  let v2315 : BitVec 1 := Scalar.cmpi .ne v2 c31_i32_1865
  let v2316 : BitVec 32 := Scalar.extui v2315
  let c0_i32_1867 : BitVec 32 := 0#32
  let v2317 : BitVec 1 := Scalar.cmpi .ne v2316 c0_i32_1867
  v2317

def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2026 : BitVec 32 := 0#32
  let c0_i32_2027 : BitVec 32 := 0#32
  ![v2.toNat, 0, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 91
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x256x128, .f32⟩
  | .hbm, ⟨3, _⟩ => ⟨S1x1024x256x128, .f32⟩
  | .hbm, ⟨4, _⟩ => ⟨S32768x1024, .f32⟩
  | .hbm, ⟨5, _⟩ => ⟨S1x1024x32768, .f32⟩
  | .hbm, ⟨6, _⟩ => ⟨S1x1024x256x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S1x256x1024x1024, .f32⟩
  | .hbm, ⟨51, _⟩ => ⟨S_, .f32⟩
  | .hbm, ⟨52, _⟩ => ⟨S1x256x1024x1024, .f32⟩
  | .hbm, ⟨53, _⟩ => ⟨S1x256x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S1x256x1024x1024, .i1⟩
  | .hbm, ⟨58, _⟩ => ⟨S1x256x1024x1024, .f32⟩
  | .hbm, ⟨59, _⟩ => ⟨S1x256x1024x1024, .f32⟩
  | .hbm, ⟨60, _⟩ => ⟨S_, .f32⟩
  | .hbm, ⟨61, _⟩ => ⟨S1x256x1024, .f32⟩
  | .hbm, ⟨62, _⟩ => ⟨S1x256x1024x1, .f32⟩
  | .hbm, ⟨63, _⟩ => ⟨S1x256x1024x1024, .f32⟩
  | .hbm, ⟨64, _⟩ => ⟨S1x256x1024x1024, .f32⟩
  | .hbm, ⟨65, _⟩ => ⟨S1x256x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x256x1024, .f32⟩
  | .hbm, ⟨71, _⟩ => ⟨S1x256x1024x1, .f32⟩
  | .hbm, ⟨72, _⟩ => ⟨S_, .f32⟩
  | .hbm, ⟨73, _⟩ => ⟨S_, .f32⟩
  | .hbm, ⟨74, _⟩ => ⟨S1x256x1024x1, .i1⟩
  | .hbm, ⟨75, _⟩ => ⟨S1x256x1024x1, .f32⟩
  | .hbm, ⟨76, _⟩ => ⟨S1x256x1024x1, .f32⟩
  | .hbm, ⟨77, _⟩ => ⟨S1x256x1024x1024, .f32⟩
  | .hbm, ⟨78, _⟩ => ⟨S1x256x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x256x1024x1024, .i1⟩
  | .hbm, ⟨83, _⟩ => ⟨S1x256x1024x1024, .f32⟩
  | .hbm, ⟨84, _⟩ => ⟨S1x256x1024x1024, .f32⟩
  | .hbm, ⟨85, _⟩ => ⟨S1x256x128x1024, .f32⟩
  | .hbm, ⟨86, _⟩ => ⟨S1x1024x256x128, .f32⟩
  | .hbm, ⟨87, _⟩ => ⟨S1x1024x32768, .f32⟩
  | .hbm, ⟨88, _⟩ => ⟨S1x1024x1024, .f32⟩
  | .hbm, ⟨89, _⟩ => ⟨S1024x1024, .f32⟩
  | .hbm, ⟨90, _⟩ => ⟨S1024x1024, .bf16⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩

abbrev nD : Nat := 1
abbrev τ : Topo := Topo.v7x

variable {F : FTy → Type} [FloatOps F]
-- ==== Proof.KernelIdeal.Setup.lean ====
/-
# The protocol of the fused attention block: cells, contents, schedule, levels

Every device owns one barrier cell and 130 transfer cells: two for its local weight copies, and for each of the two
exchanges (reduce-scatter, all-gather) 32 send and 32 receive cells. All of them run one round. This module names the cells,
the pieces of the buffers that travel, what each piece holds when it arrives, and the schedule of duties over the cells.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Pointwise.Index
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy and the exchange's, whose duties are named by a device number -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Devices and cells -/

set_option backward.proofsInPublic true in
/-- The device of number `j`, taken modulo the 32 devices. -/
def dv (j : ℕ) : Dev nD := ⟨j % 32, Nat.mod_lt _ (by decide)⟩

theorem dv_val (j : ℕ) : (dv j).val = j % 32 := rfl
theorem dv_of_lt {j : ℕ} (h : j < 32) : (dv j).val = j := Nat.mod_eq_of_lt h
theorem dv_self (c : Dev nD) : dv c.val = c := Fin.ext (Nat.mod_eq_of_lt c.isLt)
theorem eq_dv {d : Dev nD} {j : ℕ} (h : d.val = j % 32) : d = dv j := Fin.ext h

set_option backward.proofsInPublic true in
/-- The transfer semaphore of number `n`. -/
def dS (n : ℕ) : DmaSem sig := ⟨n % 134, Nat.mod_lt _ (by decide)⟩
theorem dS_val {n : ℕ} (h : n < 134) : (dS n).val = n := Nat.mod_eq_of_lt h
theorem dS_inj {a b : ℕ} (ha : a < 134) (hb : b < 134) (h : dS a = dS b) : a = b := by
  have := congrArg Fin.val h; rwa [dS_val ha, dS_val hb] at this

/-- The runtime's barrier semaphore of collective id 0. -/
abbrev barS : Sem sig := (SemArray.scalar (sig.barrier 0 rfl) : Sems sig S_).sem

abbrev barCell (c : Dev nD) : GSem nD τ sig := ((c : Thread nD τ), .reg barS)
/-- Device `c`'s transfer cell of number `n`. -/
abbrev cellN (c : Dev nD) (n : ℕ) : GSem nD τ sig := ((c : Thread nD τ), .dma (dS n))

/-- The cells' index: the barrier, the two weight copies, and four families of 32. -/
abbrev Own : Type := Fin 2 ⊕ (Fin 4 × Fin 32)
abbrev Ck : Type := Unit ⊕ Own

/-- The number of an own cell: the weight copies' are 4 and 5, the families' begin at 6, 38, 70 and 102. -/
def ownN : Own → ℕ
  | .inl i => 4 + i.val
  | .inr (a, j) => 6 + 32 * a.val + j.val

theorem ownN_lt (o : Own) : ownN o < 134 := by
  rcases o with i | ⟨a, j⟩ <;> simp only [ownN] <;> omega
theorem ownN_ge (o : Own) : 4 ≤ ownN o := by
  rcases o with i | ⟨a, j⟩ <;> simp only [ownN] <;> omega
theorem ownN_inj {o o' : Own} (h : ownN o = ownN o') : o = o' := by
  rcases o with i | ⟨a, j⟩ <;> rcases o' with i' | ⟨a', j'⟩ <;> simp only [ownN] at h
  · exact congrArg Sum.inl (Fin.ext (by omega))
  · omega
  · omega
  · have h1 : a = a' := Fin.ext (by omega)
    have h2 : j = j' := Fin.ext (by omega)
    rw [h1, h2]

/-- The kernel's own semaphores. -/
abbrev osem : Own → SemLoc sig := fun o => .dma (dS (ownN o))
/-- All the protocol's semaphores. -/
def csem : Ck → SemLoc sig
  | .inl _ => .reg barS
  | .inr o => .dma (dS (ownN o))
abbrev kcell (ck : Dev nD × Ck) : GSem nD τ sig := ((ck.1 : Thread nD τ), csem ck.2)

theorem kcell_injective : Function.Injective (kcell : Dev nD × Ck → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    rcases k with u | o <;> rcases k' with u' | o' <;> simp only [csem] at h2
    · rfl
    · cases h2
    · cases h2
    · exact congrArg Sum.inr (ownN_inj (dS_inj (ownN_lt o) (ownN_lt o') (SemLoc.dma.inj h2)))
  subst this; rfl

/-! ## The memrefs -/

abbrev xM : Memref sig .tc .vmem S1x1024x1024 .f32 := Memref.whole cc0_stg0_0
abbrev kM : Memref sig .tc .vmem S1x1024x8x128 .f32 := Memref.whole cc0_stg1_0
abbrev vM : Memref sig .tc .vmem S1x1024x8x128 .f32 := Memref.whole cc0_stg2_0
abbrev oM : Memref sig .tc .vmem S1024x1024 .bf16 := Memref.whole cc0_stg3_0
abbrev gqM : Memref sig .tc .hbm S1024x32768 .f32 := Memref.whole main_arg1
abbrev goM : Memref sig .tc .hbm S32768x1024 .f32 := Memref.whole main_arg4
abbrev sqM : Memref sig .tc .vmem S1024x1024 .f32 := Memref.whole cc0_scratch0
abbrev soM : Memref sig .tc .vmem S1024x1024 .f32 := Memref.whole cc0_scratch1
abbrev rM : Memref sig .tc .vmem S32x32x1024 .bf16 := Memref.whole cc0_scratch12

/-- The four accumulators, by the group of 256 query rows they hold. -/
def accR : ℕ → Ref sig .tc
  | 0 => cc0_scratch7
  | 1 => cc0_scratch8
  | 2 => cc0_scratch9
  | _ => cc0_scratch10

/-- The credit of one 32-row block landing in the reduce-scatter buffer, in the result, and of one weight slice. -/
abbrev NR : ℕ := sig.dmaCredit .tc (Kind.tc.table .vmem) (rM : Memref sig .tc .vmem S32x32x1024 .bf16).view.buf S32x1024 .bf16
abbrev NO : ℕ := sig.dmaCredit .tc (Kind.tc.table .vmem) (oM : Memref sig .tc .vmem S1024x1024 .bf16).view.buf S32x1024 .bf16
abbrev NQ : ℕ := (sqM : Memref sig .tc .vmem S1024x1024 .f32).view.dmaCredit
abbrev NP : ℕ := (soM : Memref sig .tc .vmem S1024x1024 .f32).view.dmaCredit

/-! ## The pieces that travel -/

theorem inb_acc (j : ℕ) : ∀ a, (![32 * (j % 8), 0] : Fin 2 → ℕ) a + S32x1024.size a ≤ S256x1024.size a := by
  intro a; fin_cases a
  · show 32 * (j % 8) + 32 ≤ 256; omega
  · show 0 + 1024 ≤ 1024; omega
theorem inb_slot (d : Dev nD) : ∀ a, (![d.val, 0, 0] : Fin 3 → ℕ) a + S1x32x1024.size a ≤ S32x32x1024.size a := by
  have := d.isLt
  intro a; fin_cases a
  · show d.val + 1 ≤ 32; exact d.isLt
  · show 0 + 32 ≤ 32; omega
  · show 0 + 1024 ≤ 1024; omega
theorem inb_rows (d : Dev nD) : ∀ a, (![32 * d.val, 0] : Fin 2 → ℕ) a + S32x1024.size a ≤ S1024x1024.size a := by
  have : d.val < 32 := d.isLt
  intro a; fin_cases a
  · show 32 * d.val + 32 ≤ 1024; omega
  · show 0 + 1024 ≤ 1024; omega

/-- Rows `32·(j mod 8)` on of an accumulator: the block that goes to device `j`. -/
abbrev accRect (j : ℕ) : Rect S256x1024 := Rect.unit (s := S256x1024) ![32 * (j % 8), 0] S32x1024.size (inb_acc j)
/-- Slot `d` of the reduce-scatter buffer. -/
abbrev slotRect (d : Dev nD) : Rect S32x32x1024 := Rect.unit (s := S32x32x1024) ![d.val, 0, 0] S1x32x1024.size (inb_slot d)
/-- The 32 rows of the result that device `d` sums. -/
abbrev rowsRect (d : Dev nD) : Rect S1024x1024 := Rect.unit (s := S1024x1024) ![32 * d.val, 0] S32x1024.size (inb_rows d)

abbrev slotM (d : Dev nD) : Memref sig .tc .vmem S32x1024 .bf16 :=
  ((rM : Memref sig .tc .vmem S32x32x1024 .bf16).slice (slotRect d) (fun _ => rfl)).squeeze S32x1024 squeezes_S1x32x1024_S32x1024
abbrev rowsM (d : Dev nD) : Memref sig .tc .vmem S32x1024 .bf16 :=
  (oM : Memref sig .tc .vmem S1024x1024 .bf16).slice (rowsRect d) (fun _ => rfl)

/-- Contents of an accumulator, as contents of the buffer of group `g`. -/
def toAcc : (g : ℕ) → (S256x1024.Idx → Elt F .bf16) → (accR g).ty.Contents (Elt F)
  | 0, f => f
  | 1, f => f
  | 2, f => f
  | _ + 3, f => f

/-- The elements of the accumulator of group `j / 8` that go to device `j`. -/
def accSet : (g : ℕ) → ℕ → Finset (accR g).ty.Idx
  | 0, j => (accRect j).set
  | 1, j => (accRect j).set
  | 2, j => (accRect j).set
  | _ + 3, j => (accRect j).set

/-- The block of `f` that goes to device `j`. -/
def chunk (f : S256x1024.Idx → Elt F .bf16) (j : ℕ) : S32x1024.Idx → Elt F .bf16 := fun i => f ((accRect j).emb i)

/-! ## What arrives

`A c g` is what device `c` computes for the query rows of group `g` (256 of them) with its own eight heads. -/

variable (A : Dev nD → ℕ → S256x1024.Idx → Elt F .bf16)

/-- The reduce-scatter buffer of device `c` when every block has arrived: slot `s` holds what device `s` computed for the rows of `c`. -/
def rsV (c : Dev nD) : S32x32x1024.Idx → Elt F .bf16 :=
  fun i => chunk (A (i 0) (c.val / 8)) c.val (ix2 (i 1) (i 2))

/-- The rows of the result that device `c` sums. -/
def redV (c : Dev nD) : S32x1024.Idx → Elt F .bf16 := k0_pay148 (rsV A c)

/-- The result: rows `32·d` to `32·d + 31` summed by device `d`. -/
def outV : S1024x1024.Idx → Elt F .bf16 :=
  fun i => redV A (dv ((i 0).val / 32)) (ix2 (⟨(i 0).val % 32, Nat.mod_lt _ (by decide)⟩ : Fin 32) (i 1))

/-- Device `c`'s slices of the two weight arrays. -/
abbrev wqSrc (c : Dev nD) : Memref sig .tc .hbm S1024x1024 .f32 :=
  (gqM : Memref sig .tc .hbm S1024x32768 .f32).slice (Rect.unit (s := S1024x32768) (k0_off1 c) S1024x1024.size (k0_off1_inb c)) (fun _ => rfl)
abbrev woSrc (c : Dev nD) : Memref sig .tc .hbm S1024x1024 .f32 :=
  (goM : Memref sig .tc .hbm S32768x1024 .f32).slice (Rect.unit (s := S32768x1024) (k0_off2 c) S1024x1024.size (k0_off2_inb c)) (fun _ => rfl)
def wqL (c : Dev nD) : (cc0_scratch0 : Ref sig .tc).ty.Contents (Elt F) := (wqSrc c).view.read (Elt F) (m ((c : Thread nD τ).loc main_arg1))
def woL (c : Dev nD) : (cc0_scratch1 : Ref sig .tc).ty.Contents (Elt F) := (woSrc c).view.read (Elt F) (m ((c : Thread nD τ).loc main_arg4))

/-! ## The pieces as assertions -/

def accPt (c : Dev nD) (j : ℕ) : sProp 𝕄 :=
  ((c : Thread nD τ).loc (accR (j / 8))) ↦[accSet (j / 8) j]{fullShare} (toAcc (j / 8) (A c (j / 8)))
def slotPt (c d : Dev nD) (f : S32x32x1024.Idx → Elt F .bf16) : sProp 𝕄 :=
  ((c : Thread nD τ).loc cc0_scratch12) ↦[(slotRect d).set]{fullShare} f
def rowsPt (c d : Dev nD) (q : PosShare TreeShare) (f : S1024x1024.Idx → Elt F .bf16) : sProp 𝕄 :=
  ((c : Thread nD τ).loc cc0_stg3_0) ↦[(rowsRect d).set]{q} f
def wqPay (c : Dev nD) : sProp 𝕄 :=
  iprop((((c : Thread nD τ).loc cc0_scratch0) ↦{fullShare} wqL m c)
    ∗ (wqSrc c).view.loc (c : Thread nD τ) ↦[(wqSrc c).view.set]{fullShare} (m ((c : Thread nD τ).loc main_arg1)))
def woPay (c : Dev nD) : sProp 𝕄 :=
  iprop((((c : Thread nD τ).loc cc0_scratch1) ↦{fullShare} woL m c)
    ∗ (woSrc c).view.loc (c : Thread nD τ) ↦[(woSrc c).view.set]{fullShare} (m ((c : Thread nD τ).loc main_arg4)))

/-- What device `d`'s signal hands to device `c`: the slot and the rows of `d` that `c` writes. -/
def barPay (c d : Dev nD) : sProp 𝕄 := iprop((∃ f, slotPt d c f) ∗ (∃ f, rowsPt d c fullShare f))

/-- The share of device `c`'s own rows that its `k`-th broadcast reads. -/
abbrev shareK (k : ℕ) : PosShare TreeShare := Transfers.shareTokN fullShare (k - 1)

/-- What the transfer cell of number `n` of device `c` gets. -/
def dmaPay (c : Dev nD) (n : ℕ) : sProp 𝕄 :=
  if n < 4 then iprop(emp)
  else if n = 4 then wqPay m c
  else if n = 5 then woPay m c
  else if n < 38 then accPt A c (n - 6)
  else if n < 70 then slotPt c (dv (n - 38)) (rsV A c)
  else if n < 102 then rowsPt c c (shareK (n - 70)) (outV A)
  else rowsPt c (dv (c.val + 32 - (n - 102))) fullShare (outV A)

instance dmaPay_storable (c : Dev nD) (n : ℕ) : BI.Storable (upEmb : UEmb _ 𝕄) (dmaPay m A c n) := by
  unfold dmaPay wqPay woPay accPt slotPt rowsPt
  (repeat' split) <;> infer_instance
instance barPay_storable (c d : Dev nD) : BI.Storable (upEmb : UEmb _ 𝕄) (barPay (F := F) c d) := by
  unfold barPay slotPt rowsPt; infer_instance

/-- The credit of the transfer cell of number `n`. -/
def dmaAmt (n : ℕ) : ℕ :=
  if n = 4 then NQ else if n = 5 then NP else if n < 70 then NR else NO

/-- Whether the transfer cell of number `n` of device `c` is used: a device sends itself nothing. -/
def dmaUsed (c : Dev nD) (n : ℕ) : Prop :=
  4 ≤ n ∧ n ≠ 6 + c.val ∧ n ≠ 38 + c.val ∧ n ≠ 70 ∧ n ≠ 102
instance (c : Dev nD) (n : ℕ) : Decidable (dmaUsed c n) := by unfold dmaUsed; infer_instance

theorem NR_pos : 0 < NR := sig.dmaCredit_pos _ _ _ _ _ h_S32x1024
theorem NO_pos : 0 < NO := sig.dmaCredit_pos _ _ _ _ _ h_S32x1024
theorem NQ_pos : 0 < NQ := View.dmaCredit_pos _ h_S1024x1024
theorem NP_pos : 0 < NP := View.dmaCredit_pos _ h_S1024x1024
theorem dmaAmt_pos (n : ℕ) : 0 < dmaAmt n := by
  unfold dmaAmt
  (repeat' split) <;> first | exact NQ_pos | exact NP_pos | exact NR_pos | exact NO_pos

/-! ## The schedule -/

/-- One round: a barrier cell has a duty of one unit for every other device, a used transfer cell the one duty `0`. -/
def duties0 (c : Dev nD) : SemLoc sig → Finset (Fin 32)
  | .reg _ => Finset.univ.erase c
  | .dma s => if dmaUsed c s.val then {0} else ∅

def sched : Rounds.Schedule (GSem nD τ sig) (Fin 32) 𝕄 where
  duties g r := if r = 0 ∧ g.1.2 = .tc then duties0 g.1.1 g.2 else ∅
  unitless _ := False
  amount g _ _ := match g.2 with
    | .reg _ => 1
    | .dma s => dmaAmt s.val
  payload g _ d := match g.2 with
    | .reg _ => barPay g.1.1 d
    | .dma s => dmaPay m A g.1.1 s.val
  amount_pos g _ _ _ := by
    rcases g with ⟨t, s | s⟩
    · exact Nat.one_pos
    · exact dmaAmt_pos _

instance sched_storable (g : GSem nD τ sig) (r : ℕ) (d : Fin 32) :
    BI.Storable (upEmb : UEmb _ 𝕄) ((sched m A).payload g r d) := by
  rcases g with ⟨t, s | s⟩
  · exact barPay_storable t.1 d
  · exact dmaPay_storable m A t.1 s.val

section Sched
variable (c : Dev nD)

theorem duties_tc (sm : SemLoc sig) : (sched m A).duties ((c : Thread nD τ), sm) 0 = duties0 c sm :=
  if_pos (e := ∅) (⟨rfl, rfl⟩ : 0 = 0 ∧ (c : Thread nD τ).2 = Proc.tc)
theorem duties_bar : (sched m A).duties (barCell c) 0 = Finset.univ.erase c := duties_tc m A c _
theorem duties_used {n : ℕ} (hn : n < 134) (h : dmaUsed c n) : (sched m A).duties (cellN c n) 0 = {0} := by
  refine (duties_tc m A c _).trans ?_
  show (if dmaUsed c (dS n).val then ({0} : Finset (Fin 32)) else ∅) = {0}
  rw [dS_val hn, if_pos h]
theorem duties_unused {n : ℕ} (hn : n < 134) (h : ¬ dmaUsed c n) : ∀ r, 0 ≤ r → (sched m A).duties (cellN c n) r = ∅ := by
  intro r _
  show (if r = 0 ∧ _ then (if dmaUsed c (dS n).val then ({0} : Finset (Fin 32)) else ∅) else ∅) = ∅
  rw [dS_val hn, if_neg h, ite_self]
theorem duties_later (g : GSem nD τ sig) : ∀ r, 1 ≤ r → (sched m A).duties g r = ∅ :=
  fun r hr => if_neg fun h => by omega

theorem amount_bar (d : Fin 32) : (sched m A).amount (barCell c) 0 d = 1 := rfl
theorem amount_dma {n : ℕ} (hn : n < 134) (d : Fin 32) : (sched m A).amount (cellN c n) 0 d = dmaAmt n := by
  show dmaAmt (dS n).val = dmaAmt n; rw [dS_val hn]
theorem payload_bar (d : Fin 32) : (sched m A).payload (barCell c) 0 d = barPay c d := rfl
theorem payload_dma {n : ℕ} (hn : n < 134) (d : Fin 32) : (sched m A).payload (cellN c n) 0 d = dmaPay m A c n := by
  show dmaPay m A c (dS n).val = dmaPay m A c n; rw [dS_val hn]

theorem expect_bar : (sched m A).expect (barCell c) 0 = 31 := by
  unfold Schedule.expect Schedule.amountOf
  rw [duties_bar, Finset.sum_congr rfl fun d _ => amount_bar m A c d, Finset.sum_const, smul_eq_mul, mul_one,
    Finset.card_erase_of_mem (Finset.mem_univ _), Finset.card_univ, Fintype.card_fin]
theorem expect_dma {n : ℕ} (hn : n < 134) (h : dmaUsed c n) : (sched m A).expect (cellN c n) 0 = dmaAmt n := by
  unfold Schedule.expect Schedule.amountOf; rw [duties_used m A c hn h, Finset.sum_singleton, amount_dma m A c hn]

theorem rest_bar : bigSep ((sched m A).duties (barCell c) 0 \ ∅) (fun d => (sched m A).payload (barCell c) 0 d)
    = bigSep (Finset.univ.erase c) fun d => barPay c d := by
  rw [Finset.sdiff_empty, duties_bar]; rfl
theorem rest_dma {n : ℕ} (hn : n < 134) (h : dmaUsed c n) :
    bigSep ((sched m A).duties (cellN c n) 0 \ ∅) (fun d => (sched m A).payload (cellN c n) 0 d) = dmaPay m A c n := by
  rw [Finset.sdiff_empty, duties_used m A c hn h, bigSep_singleton, payload_dma m A c hn]

end Sched

/-! ## Levels: staging, weights and sends lowest, then the barrier, the reduce-scatter, the all-gather -/

def L (g : GSem nD τ sig) : Finset Unit := if g.1.2 = .tc then {()} else ∅
def lvN (n : ℕ) : ℕ := if n < 38 then 0 else if n < 70 then 2 else if n < 102 then 0 else 3
def lv (g : GSem nD τ sig) (_ : Unit) : ℕ := match g.2 with
  | .reg _ => 1
  | .dma s => lvN s.val

theorem L_of_ne (g : GSem nD τ sig) (h : g.1.2 ≠ .tc) : L g = ∅ := if_neg h
theorem L_tc (c : Dev nD) (sm : SemLoc sig) : L ((c : Thread nD τ), sm) = {()} := if_pos rfl

/-- Everything `O` owes lies above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem Above.tally {n k : ℕ} {c : Dev nD} {sm : SemLoc sig} (h : n < lv ((c : Thread nD τ), sm) ()) :
    Above n (tallyAt ((c : Thread nD τ), sm) () k) := by
  intro g u hg
  rw [tallyAt_apply] at hg
  by_cases h' : g = ((c : Thread nD τ), sm) ∧ u = ()
  · rw [h'.1]; exact ⟨rfl, h⟩
  · rw [if_neg h'] at hg; exact absurd hg (Nat.lt_irrefl 0)
theorem Above.sum {n : ℕ} {S : Finset ℕ} {f : ℕ → CellTallies nD τ sig Unit} (h : ∀ i ∈ S, Above n (f i)) : Above n (∑ i ∈ S, f i) := by
  classical
  induction S using Finset.induction_on with
  | empty => rw [Finset.sum_empty]; exact Above.zero n
  | insert a S ha ih =>
    rw [Finset.sum_insert ha]
    exact (h a (Finset.mem_insert_self _ _)).add (ih fun i hi => h i (Finset.mem_insert_of_mem hi))
theorem Above.mono {n k : ℕ} {O : CellTallies nD τ sig Unit} (hk : k ≤ n) (h : Above n O) : Above k O :=
  fun g u hg => ⟨(h g u hg).1, lt_of_le_of_lt hk (h g u hg).2⟩

omit [FloatOps F] [Named F] in
/-- A device may wait on a cell of level `n` at most while everything it owes lies above level `n`. -/
theorem mayWait_of {n : ℕ} (c : Dev nD) (sm : SemLoc sig) {O : CellTallies nD τ sig Unit} (hs : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rcases g with ⟨⟨d, p⟩, sm'⟩; have h := (hO _ u hg).1; subst h; exact Finset.mem_singleton_self _)
    (fun p hp => by rw [Finset.mem_singleton.mp hp]; exact hs)
    (fun g u hg => (hO g u hg).2)

end Cert.KernelIdeal.Ring

end
-- ==== Proof.KernelIdeal.Steps.lean ====
/-
# One rule per exchange step

Each rule says how one operation of the body moves the exchange's state; the rest of the device's state is carried along as `R`.
-/
module

public import proofs.«01_k».proof.Proof.KernelIdeal.Setup

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ) (A : Dev nD → ℕ → S256x1024.Idx → Elt F .bf16)
variable (K : Dev nD × Ck → ℕ)

/-! ## What every device may consult -/

def records : sProp 𝕄 :=
  iprop((bigSep Finset.univ fun ck : Dev nD × Ck => cellInv ER (sched m A) (K ck) (kcell ck))
    ∗ bigSep Finset.univ fun ck : Dev nD × Ck => reached ER (kcell ck) 0)
instance records_persistent : BI.Persistent (records m A K) := by unfold records; infer_instance

/-- The records and the levels. -/
def Ctx : sProp 𝕄 := iprop(records m A K ∗ levAts L lv)
instance ctx_persistent : BI.Persistent (Ctx m A K) := by unfold Ctx; infer_instance

theorem ctx_inv (ck : Dev nD × Ck) : Ctx m A K ⊢ cellInv ER (sched m A) (K ck) (kcell ck) := by
  have h : (bigSep Finset.univ fun ck : Dev nD × Ck => (cellInv ER (sched m A) (K ck) (kcell ck) : sProp 𝕄)) ⊢ cellInv ER (sched m A) (K ck) (kcell ck) :=
    bigSep_elim (Finset.mem_univ ck)
  unfold Ctx records; iintro ⟨⟨H, -⟩, -⟩; iapply h; iexact H
theorem ctx_reached (ck : Dev nD × Ck) : Ctx m A K ⊢ reached ER (kcell ck) 0 := by
  have h : (bigSep Finset.univ fun ck : Dev nD × Ck => (reached ER (kcell ck) 0 : sProp 𝕄)) ⊢ reached ER (kcell ck) 0 :=
    bigSep_elim (Finset.mem_univ ck)
  unfold Ctx records; iintro ⟨⟨-, H⟩, -⟩; iapply h; iexact H

set_option backward.proofsInPublic true in
/-- The own cell of number `n`. -/
def toOwn (n : ℕ) : Own :=
  if n < 6 then .inl ⟨(n - 4) % 2, Nat.mod_lt _ (by decide)⟩
  else .inr (⟨((n - 6) / 32) % 4, Nat.mod_lt _ (by decide)⟩, ⟨(n - 6) % 32, Nat.mod_lt _ (by decide)⟩)
theorem ownN_toOwn {n : ℕ} (h4 : 4 ≤ n) (h : n < 134) : ownN (toOwn n) = n := by
  unfold toOwn
  split
  · show 4 + (n - 4) % 2 = n; omega
  · show 6 + 32 * (((n - 6) / 32) % 4) + (n - 6) % 32 = n; omega
theorem kcell_own (c : Dev nD) {n : ℕ} (h4 : 4 ≤ n) (h : n < 134) : kcell (c, .inr (toOwn n)) = cellN c n := by
  show ((c : Thread nD τ), SemLoc.dma (dS (ownN (toOwn n)))) = _
  rw [ownN_toOwn h4 h]
/-- The invariant names of the barrier cell and of the transfer cell of number `n`. -/
abbrev Kb (c : Dev nD) : ℕ := K (c, .inl ())
abbrev Kd (c : Dev nD) (n : ℕ) : ℕ := K (c, .inr (toOwn n))
theorem inv_bar (c : Dev nD) : Ctx m A K ⊢ cellInv ER (sched m A) (Kb K c) (barCell c) := ctx_inv m A K (c, .inl ())
theorem inv_dma (c : Dev nD) {n : ℕ} (h4 : 4 ≤ n) (h : n < 134) : Ctx m A K ⊢ cellInv ER (sched m A) (Kd K c n) (cellN c n) := by
  have := ctx_inv m A K (c, .inr (toOwn n)); rwa [kcell_own c h4 h] at this
theorem reached_bar (c : Dev nD) : Ctx m A K ⊢ reached ER (barCell c) 0 := ctx_reached m A K (c, .inl ())
theorem reached_dma (c : Dev nD) {n : ℕ} (h4 : 4 ≤ n) (h : n < 134) : Ctx m A K ⊢ reached ER (cellN c n) 0 := by
  have := ctx_reached m A K (c, .inr (toOwn n)); rwa [kcell_own c h4 h] at this

/-! ## Programs -/

/-- The weakest precondition of a program of device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_part (c : Dev nD) {α β : Type} {P : sProp 𝕄} {p : Prog (TpuEff nD τ sig (Elt F) Λ₀ .tc) α} {k : α → Prog (TpuEff nD τ sig (Elt F) Λ₀ .tc) β}
    {Q : β → sProp 𝕄} (h : P ⊢ Wp c p (fun a => Wp c (k a) Q)) : P ⊢ Wp c (p >>= k) Q := by
  rw [Wp, wp_bind]; exact h
theorem ret_step (c : Dev nD) {α : Type} {P : sProp 𝕄} {a : α} {Q : α → sProp 𝕄} (h : P ⊢ Q a) :
    P ⊢ Wp c (.ret a) Q := by
  rw [Wp, wp_ret]; iintro H; imodintro; iapply h; iexact H
theorem dite_step (c : Dev nD) {α : Type} {cond : Prop} [Decidable cond] {P : sProp 𝕄} {p : cond → Prog (TpuEff nD τ sig (Elt F) Λ₀ .tc) α}
    {p' : ¬ cond → Prog (TpuEff nD τ sig (Elt F) Λ₀ .tc) α} {Q : α → sProp 𝕄} (h : ∀ hc, P ⊢ Wp c (p hc) Q) (h' : ∀ hc, P ⊢ Wp c (p' hc) Q) :
    P ⊢ Wp c (dite cond p p') Q := by
  by_cases hc : cond
  · rw [dif_pos hc]; exact h hc
  · rw [dif_neg hc]; exact h' hc

/-! ## What is owed -/

variable (c : Dev nD)

def Obar (i : ℕ) : CellTallies nD τ sig Unit := ∑ k ∈ Finset.Ico i 32, tallyAt (barCell (dv (c.val + k))) () 1
def Ors (i : ℕ) : CellTallies nD τ sig Unit :=
  ∑ j ∈ Finset.Ico i 32, if j = c.val then 0 else tallyAt (cellN (dv j) (38 + c.val)) () NR
def Oag (i : ℕ) : CellTallies nD τ sig Unit := ∑ k ∈ Finset.Ico i 32, tallyAt (cellN (dv (c.val + k)) (102 + k)) () NO

theorem lv_reg (d : Dev nD) (s : Sem sig) : lv ((d : Thread nD τ), .reg s) () = 1 := rfl
/-- Device `d` may wait on a cell of level `n` at most while everything it owes lies above level `n`. -/
theorem ctx_wait {n : ℕ} (d : Dev nD) (sm : SemLoc sig) {O : CellTallies nD τ sig Unit} (hs : lv ((d : Thread nD τ), sm) () ≤ n) (hO : Above n O) :
    Ctx m A K ⊢ MayWait (d : Thread nD τ) sm () O := by
  have h : (levAts L lv : sProp 𝕄) ⊢ MayWait (d : Thread nD τ) sm () O := mayWait_of d sm hs hO
  unfold Ctx; iintro ⟨-, H⟩; iapply h; iexact H
theorem ctx_wait_reg (d : Dev nD) (s : Sem sig) {O : CellTallies nD τ sig Unit} (hO : Above 1 O) :
    Ctx m A K ⊢ MayWait (d : Thread nD τ) (.reg s) () O := ctx_wait m A K d (.reg s) (Nat.le_of_eq (lv_reg d s)) hO
theorem lv_cellN (d : Dev nD) {n : ℕ} (h : n < 134) : lv (cellN d n) () = lvN n := by
  show lvN (dS n).val = lvN n; rw [dS_val h]
theorem above_bar (i : ℕ) : Above 0 (Obar c i) := Above.sum fun k _ => Above.tally (show 0 < 1 from Nat.one_pos)
theorem above_rs (i : ℕ) : Above 1 (Ors c i) := Above.sum fun j _ => by
  have hc : c.val < 32 := c.isLt
  split
  · exact Above.zero 1
  · refine Above.tally ?_
    rw [lv_cellN _ (by omega)]; unfold lvN
    rw [if_neg (by omega), if_pos (by omega)]; decide
theorem above_ag (i : ℕ) : Above 2 (Oag c i) := Above.sum fun k hk => by
  have hk : k < 32 := (Finset.mem_Ico.mp hk).2
  refine Above.tally ?_
  rw [lv_cellN _ (by omega)]; unfold lvN
  rw [if_neg (by omega), if_neg (by omega), if_neg (by omega)]; decide

theorem Obar_succ {i : ℕ} (h : i < 32) : Obar c i = Obar c (i + 1) + tallyAt (barCell (dv (c.val + i))) () 1 := by
  unfold Obar; rw [← Finset.sum_Ioo_add_eq_sum_Ico h, Finset.Ico_add_one_left_eq_Ioo]
theorem Ors_succ {i : ℕ} (h : i < 32) (hi : i ≠ c.val) : Ors c i = Ors c (i + 1) + tallyAt (cellN (dv i) (38 + c.val)) () NR := by
  unfold Ors; rw [← Finset.sum_Ioo_add_eq_sum_Ico h, if_neg hi, Finset.Ico_add_one_left_eq_Ioo]
theorem Ors_self {i : ℕ} (h : i < 32) (hi : i = c.val) : Ors c i = Ors c (i + 1) := by
  unfold Ors; rw [← Finset.sum_Ioo_add_eq_sum_Ico h, if_pos hi, add_zero, Finset.Ico_add_one_left_eq_Ioo]
theorem Oag_succ {i : ℕ} (h : i < 32) : Oag c i = Oag c (i + 1) + tallyAt (cellN (dv (c.val + i)) (102 + i)) () NO := by
  unfold Oag; rw [← Finset.sum_Ioo_add_eq_sum_Ico h, Finset.Ico_add_one_left_eq_Ioo]

/-- Device `c` owes `O`. -/
def Ow (O : CellTallies nD τ sig Unit) : sProp 𝕄 := iprop(∃ W, owes (c : Thread nD τ) O W)

/-! ## The entry handshake -/

def barTodo (k : ℕ) : sProp 𝕄 :=
  iprop(dutyTok ER (barCell (dv (c.val + k))) 0 c ∗ barPay (F := F) (dv (c.val + k)) c)
def BarSt (i : ℕ) : sProp 𝕄 :=
  iprop(Ow c (Obar c i + (Ors c 0 + Oag c 1)) ∗ bigSep (Finset.Ico i 32) (barTodo (F := F) c))

variable {m A K c}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

theorem dv_add_ne {k : ℕ} (h1 : 1 ≤ k) (h : k < 32) : c ≠ dv (c.val + k) := by
  intro he
  have := congrArg Fin.val he
  rw [dv_val] at this
  have hc : c.val < 32 := c.isLt
  omega

/-- One signal of the handshake. -/
theorem bar_step (i : ℕ) (h1 : 1 ≤ i) (h : i < 32) {p : Dev nD} (hp : p = dv (c.val + i))
    (hk : iprop(Ctx m A K ∗ BarSt c (i + 1) ∗ R) ⊢ Wp c (k ⟨⟩) Q) :
    iprop(Ctx m A K ∗ BarSt c i ∗ R) ⊢ Wp c (.op (.semSignal (p : Thread nD τ) barS (1#32).toInt) k) Q := by
  subst hp
  unfold BarSt Ow at hk ⊢
  rw [bigSep_Ico_succ_bot h, Obar_succ c h]
  iintro ⟨#HC, ⟨⟨%W, HO⟩, Ht, Hrest⟩, HR⟩
  unfold barTodo
  icases Ht with ⟨Ht, Hpay⟩
  iapply (Rounds.wp_signal 𝒱₀ ER (sched m A) (c : Thread nD τ) none (dst := (dv (c.val + i) : Thread nD τ)) (κ := Kb K (dv (c.val + i)))
      (d := c) (by rw [duties_bar]; exact Finset.mem_erase.mpr ⟨dv_add_ne h1 h, Finset.mem_univ _⟩) ((amount_bar m A (dv (c.val + i)) c).trans (by decide)) ()
      (Obar c (i + 1) + (Ors c 0 + Oag c 1)) (by rw [add_right_comm])) $$ [HO Ht Hpay]
  · isplitr; · iapply (inv_bar m A K (dv (c.val + i))); iexact HC
    isplitl [HO]; · iexact HO
    isplitl [Ht]; · iexact Ht
    isplitl [Hpay]; · rw [payload_bar]; iexact Hpay
    iapply (reached_bar m A K (dv (c.val + i))); iexact HC
  iintro HO
  iapply hk
  isplitr; · iexact HC
  isplitl [HO Hrest]
  · isplitl [HO]; · iexists W; iexact HO
    iexact Hrest
  iexact HR

/-- The wait that ends the handshake: every other device's slot and rows for `c` come with it. -/
theorem bar_wait
    (hk : iprop(Ctx m A K ∗ (Ow c (Ors c 0 + Oag c 1) ∗ semVal (barCell c) 0 ∗ bigSep (Finset.univ.erase c) fun d => barPay c d) ∗ R) ⊢ Wp c (k ⟨⟩) Q) :
    iprop(Ctx m A K ∗ (BarSt c 32 ∗ cred (tallyAt (barCell c) () 31) ∗ atPos ER (barCell c) 0 ∅ 0) ∗ R)
      ⊢ Wp c (.op (.semWait barS (31#32).toInt) k) Q := by
  have hw : Ctx m A K ⊢ MayWait (c : Thread nD τ) (.reg barS) () (Ors c 0 + Oag c 1) := by
    have h1 : Above 1 (Ors c 0 + Oag c 1) := (above_rs c 0).add ((above_ag c 1).mono (Nat.le_succ 1))
    exact ctx_wait_reg m A K c barS h1
  unfold BarSt Ow at *
  iintro ⟨#HC, ⟨⟨⟨%W, HO⟩, -⟩, Hc, Hat⟩, HR⟩
  rw [show Obar c 32 = 0 from by unfold Obar; rw [Finset.Ico_self, Finset.sum_empty], zero_add]
  iapply (Rounds.wp_wait_rest_token 𝒱₀ ER (sched m A) (c : Thread nD τ) none (κ := Kb K c)
      (wpE_semWait_eq 𝒱₀ (c : Thread nD τ) none Set.univ) (Set.mem_univ _) () (O := Ors c 0 + Oag c 1) (W := W) (R := 0) (m := 0) (T := ∅)
      (by rw [expect_bar]; rfl)) $$ [Hc HO Hat]
  · isplitr; · iapply (inv_bar m A K c); iexact HC
    isplitl [Hc]; · iexact Hc
    isplitl [HO]; · iexact HO
    isplitr
    · iapply hw; iexact HC
    iexact Hat
  iintro ⟨HO, Hat, -, Hpay⟩
  ihave Hp := (Entails.of_eq (rest_bar m A c)) $$ Hpay
  imod (Rounds.cell_close ER (sched m A) (Set.mem_univ (Kb K c)) (fun h => h) (R := 0 + 1) (duties_later m A (barCell c))) $$ [Hat] with Hz
  · isplitr; · iapply (inv_bar m A K c); iexact HC
    iexact Hat
  iapply hk
  isplitr; · iexact HC
  isplitr [HR]
  · isplitl [HO]; · iexists _; iexact HO
    isplitl [Hz]; · iexact Hz
    iexact Hp
  iexact HR

end Cert.KernelIdeal.Ring

end
-- ==== Proof.KernelIdeal.Local.lean ====
/-
# Loads and stores of whole buffers

Ownership of a whole buffer behind a front assertion, and how a load or a store passes it.
-/
module

public import proofs.«01_k».proof.Proof.KernelIdeal.Steps

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-! ## Loads and stores of whole buffers -/

/-- Ownership of the whole buffer that a memref views. -/
abbrev Pt (c : Dev nD) {sp : Space} {s : Shape} {e : EltTy} (M : Memref sig .tc sp s e) (f : M.view.ref.ty.Contents (Elt F)) : sProp 𝕄 :=
  (M.view.loc (c : Thread nD τ)) ↦{fullShare} f

/-- Two assertions change places. -/
theorem swap {X Y P : sProp (MT nD τ sig Unit (Elt F) ℕ UU ℕ)} (h : iprop(Ctx m A K ∗ Y ∗ X ∗ R) ⊢ P) : iprop(Ctx m A K ∗ X ∗ Y ∗ R) ⊢ P := by
  iintro ⟨HC, HX, HY, HR⟩
  iapply h
  isplitl [HC]; · iexact HC
  isplitl [HY]; · iexact HY
  isplitl [HX]; · iexact HX
  iexact HR

/-- The front assertion is weakened. -/
theorem weaken {X Y P : sProp (MT nD τ sig Unit (Elt F) ℕ UU ℕ)} (h1 : X ⊢ Y) (h : iprop(Ctx m A K ∗ Y ∗ R) ⊢ P) : iprop(Ctx m A K ∗ X ∗ R) ⊢ P := by
  iintro ⟨HC, HX, HR⟩
  iapply h
  isplitl [HC]; · iexact HC
  isplitl [HX]; · iapply h1; iexact HX
  iexact HR

/-- A load from a buffer that the front assertion owns. -/
theorem load_op {s : Shape} {e : EltTy} {M : Memref sig .tc .vmem s e} {f : M.view.ref.ty.Contents (Elt F)}
    {X Y : sProp (MT nD τ sig Unit (Elt F) ℕ UU ℕ)} (h1 : X ⊢ iprop(Pt c M f ∗ Y)) (h2 : iprop(Pt c M f ∗ Y) ⊢ X)
    {r : LoadRect s} {h} {k : (r.shape.Idx → Elt F e) → Prog (TpuEff nD τ sig (Elt F) Λ₀ .tc) α}
    (hk : iprop(Ctx m A K ∗ X ∗ R) ⊢ Wp c (k (M.view.readAt (Elt F) r f)) Q) :
    iprop(Ctx m A K ∗ X ∗ R) ⊢ Wp c (.op (.load M r h) k) Q := by
  refine weaken h1 ?_
  iintro ⟨HC, ⟨HP, HY⟩, HR⟩
  iapply (wp_load 𝒱₀ (c : Thread nD τ) none Set.univ (m := M) (S := Finset.univ) (Finset.subset_univ _)) $$ HP
  iintro HP
  iapply hk
  isplitl [HC]; · iexact HC
  isplitr [HR]
  · iapply h2
    isplitl [HP]; · iexact HP
    iexact HY
  iexact HR

/-- A load whose value isn't used, from a buffer of unknown contents. -/
theorem load_any {s : Shape} {e : EltTy} {M : Memref sig .tc .vmem s e} {p : M.view.ref.ty.Contents (Elt F) → Prop}
    {X Y : sProp (MT nD τ sig Unit (Elt F) ℕ UU ℕ)} (h1 : X ⊢ iprop(∃ f, Pt c M f ∗ ⌜p f⌝ ∗ Y)) (h2 : ∀ f, p f → iprop(Pt c M f ∗ Y) ⊢ X)
    {r : LoadRect s} {h} {k : (r.shape.Idx → Elt F e) → Prog (TpuEff nD τ sig (Elt F) Λ₀ .tc) α}
    (hk : ∀ v, iprop(Ctx m A K ∗ X ∗ R) ⊢ Wp c (k v) Q) :
    iprop(Ctx m A K ∗ X ∗ R) ⊢ Wp c (.op (.load M r h) k) Q := by
  refine weaken h1 ?_
  iintro ⟨HC, ⟨%f, HP, %hp, HY⟩, HR⟩
  iapply (wp_load 𝒱₀ (c : Thread nD τ) none Set.univ (m := M) (S := Finset.univ) (Finset.subset_univ _)) $$ HP
  iintro HP
  iapply (hk _)
  isplitl [HC]; · iexact HC
  isplitr [HR]
  · iapply (h2 f hp)
    isplitl [HP]; · iexact HP
    iexact HY
  iexact HR

/-- A store into a buffer that the front assertion owns. -/
theorem store_op {s : Shape} {e : EltTy} {M : Memref sig .tc .vmem s e} {p : M.view.ref.ty.Contents (Elt F) → Prop}
    {X X' Y : sProp (MT nD τ sig Unit (Elt F) ℕ UU ℕ)} {r : Rect s} {v : r.shape.Idx → Elt F e}
    (h1 : X ⊢ iprop(∃ f, Pt c M f ∗ ⌜p f⌝ ∗ Y))
    (h2 : ∀ f, p f → iprop(Pt c M ((M.access r).write (Elt F) f v Finset.univ) ∗ Y) ⊢ X') {hx hm}
    (hk : iprop(Ctx m A K ∗ X' ∗ R) ⊢ Wp c (k ⟨⟩) Q) :
    iprop(Ctx m A K ∗ X ∗ R) ⊢ Wp c (.op (.store M r v Finset.univ hx hm) k) Q := by
  refine weaken h1 ?_
  iintro ⟨HC, ⟨%f, HP, %hp, HY⟩, HR⟩
  iapply (wp_store 𝒱₀ (c : Thread nD τ) none Set.univ (m := M) (r := r) (Mk := Finset.univ) (S := Finset.univ) (Finset.subset_univ _)) $$ HP
  iintro HP
  iapply hk
  isplitl [HC]; · iexact HC
  isplitr [HR]
  · iapply (h2 f hp)
    isplitl [HP]; · iexact HP
    iexact HY
  iexact HR

end Cert.KernelIdeal.Ring

end
-- ==== Proof.KernelIdeal.Exchange.lean ====
/-
# The steps of the two exchanges

Where the pieces lie, which conditions and semaphores the body names, and one rule for each kind of send and wait.
-/
module

public import proofs.«01_k».proof.Proof.KernelIdeal.Steps
public import Idealize.ShloMosaic.Lib.Pipeline.Value

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-! ## Words, semaphores, places -/

/-- The device number as the body computes it. -/
abbrev idw (c : Dev nD) : BitVec 32 := Scalar.remsi (Scalar.divsi (Dev.word c) 1#32) 32#32
/-- Whether the device number differs from the word `w`, as the body tests it. -/
abbrev condNe (c : Dev nD) (w : BitVec 32) : BitVec 1 := Scalar.cmpi .ne (Scalar.extui (Scalar.cmpi .ne (idw c) w) : BitVec 32) 0#32
/-- Whether the device number is the word `w`, as the body tests it. -/
abbrev condEq (c : Dev nD) (w : BitVec 32) : BitVec 1 := Scalar.cmpi .ne (Scalar.extui (Scalar.cmpi .eq (idw c) w) : BitVec 32) 0#32

theorem idw_eq : ∀ c : Dev nD, idw c = BitVec.ofNat 32 c.val := by decide +kernel
theorem condNe_iff (c : Dev nD) (j : ℕ) (hj : j < 32) : condNe c (BitVec.ofNat 32 j) = 1#1 ↔ j ≠ c.val := by
  have h : ∀ d j : Fin 32, condNe d (BitVec.ofNat 32 j.val) = 1#1 ↔ j ≠ d := by decide +kernel
  exact (h c ⟨j, hj⟩).trans ⟨fun h e => h (Fin.ext e), fun h e => h (congrArg Fin.val e)⟩
theorem condEq_iff (c : Dev nD) (j : ℕ) (hj : j < 32) : condEq c (BitVec.ofNat 32 j) = 1#1 ↔ j = c.val := by
  have h : ∀ d j : Fin 32, condEq d (BitVec.ofNat 32 j.val) = 1#1 ↔ j = d := by decide +kernel
  exact (h c ⟨j, hj⟩).trans ⟨fun e => congrArg Fin.val e, fun e => Fin.ext e⟩

/-- Entry `j` of an array of 32 consecutive semaphores from `base`. -/
theorem sem_at (base : ℕ) (hb : base + S32.numel ≤ 134) {off : Fin 1 → ℕ} {j : ℕ} (hoff : off = ![j]) (inb : ∀ a, off a + S1.size a ≤ S32.size a)
    (sq : S1.Squeezes S_) :
    (((SemArray.consecutive base S32 hb : DmaSems sig S32).slice (Rect.unit (s := S32) off S1.size inb)).squeeze S_ sq).sem = dS (base + j) := by
  subst hoff
  have h0 : j + 1 ≤ 32 := inb 0
  have hb' : base + 32 ≤ 134 := hb
  refine Fin.ext ?_
  rw [dS_val (by omega)]
  show base + ((⟨1, ![32]⟩ : Shape).rowMajor _).val = base + j
  rw [Shape.rowMajor_val_one]
  refine congrArg (base + ·) ?_
  refine (Rect.emb_apply _ _ _).trans ?_
  have : ((Shape.reshapeEquiv sq.numel_eq (fun i : Fin 0 => i.elim0) : S1.Idx) 0).val < 1 := ((Shape.reshapeEquiv sq.numel_eq (fun i : Fin 0 => i.elim0) : S1.Idx) 0).isLt
  show j + 1 * ((Shape.reshapeEquiv sq.numel_eq (fun i : Fin 0 => i.elim0) : S1.Idx) 0).val = j
  omega
/-- Entry `j` of the pair of consecutive semaphores from `base`. -/
theorem sem_at2 (base : ℕ) (hb : base + S2.numel ≤ 134) {off : Fin 1 → ℕ} {j : ℕ} (hoff : off = ![j]) (inb : ∀ a, off a + S1.size a ≤ S2.size a)
    (sq : S1.Squeezes S_) :
    (((SemArray.consecutive base S2 hb : DmaSems sig S2).slice (Rect.unit (s := S2) off S1.size inb)).squeeze S_ sq).sem = dS (base + j) := by
  subst hoff
  have h0 : j + 1 ≤ 2 := inb 0
  have hb' : base + 2 ≤ 134 := hb
  refine Fin.ext ?_
  rw [dS_val (by omega)]
  show base + ((⟨1, ![2]⟩ : Shape).rowMajor _).val = base + j
  rw [Shape.rowMajor_val_one]
  refine congrArg (base + ·) ?_
  refine (Rect.emb_apply _ _ _).trans ?_
  have : ((Shape.reshapeEquiv sq.numel_eq (fun i : Fin 0 => i.elim0) : S1.Idx) 0).val < 1 := ((Shape.reshapeEquiv sq.numel_eq (fun i : Fin 0 => i.elim0) : S1.Idx) 0).isLt
  show j + 1 * ((Shape.reshapeEquiv sq.numel_eq (fun i : Fin 0 => i.elim0) : S1.Idx) 0).val = j
  omega

/-- A buffer written through a view holds, on the view's elements, any `g` that the view reads as what was written. -/
theorem landed {κ : Kind} {sp : Space} {s : Shape} {e : EltTy} (v : View sig κ sp s e) (fd g : v.ty.Contents (Elt F)) (w : s.Idx → Elt F e)
    (h : v.read (Elt F) g = w) : ∀ i ∈ v.set, v.write (Elt F) fd w Finset.univ i = g i := by
  intro i hi
  obtain ⟨x, -, rfl⟩ := Finset.mem_map.mp hi
  rw [View.write_emb_of_mem fd w (Finset.mem_univ x), ← h, View.read_apply]
  exact cast_cast _ _ _

theorem slot_read (d : Dev nD) (f : S32x32x1024.Idx → Elt F .bf16) :
    (slotM d).view.read (Elt F) f = fun i => f (ix3 d (i 0) (i 1)) := by
  funext i
  refine congrArg f ?_
  funext a
  refine Fin.ext ((Rect.emb_apply _ _ _).trans ?_)
  have hr := Shape.reshapeEquiv_cons_one (d := ![32, 1024]) squeezes_S1x32x1024_S32x1024.numel_eq i
  refine (congrArg (fun x : S1x32x1024.Idx => (slotRect d).off a + (slotRect d).stride a * (x a).val) hr).trans ?_
  fin_cases a
  · show d.val + 1 * 0 = d.val; omega
  · show 0 + 1 * (i 0).val = (i 0).val; omega
  · show 0 + 1 * (i 1).val = (i 1).val; omega

theorem pay44_apply (v : S32x1024.Idx → Elt F .bf16) (i : S1x32x1024.Idx) : k0_pay44 v i = v (ix2 (i 1) (i 2)) := by
  unfold k0_pay44
  rw [shapeCast_self]
  refine congrArg v (Shape.reshapeEquiv_eq_of_rowMajor _ ?_)
  refine (Shape.rowMajor_val_two (d := ![32, 1024]) _).trans (Eq.trans ?_ (Shape.rowMajor_val_three (d := ![1, 32, 1024]) i).symm)
  have h0 : (i 0).val < 1 := (i 0).isLt
  show (i 1).val * 1024 + (i 2).val = ((i 0).val * 32 + (i 1).val) * 1024 + (i 2).val
  omega

theorem slot_set (d : Dev nD) : (slotM d).view.set = (slotRect d).set :=
  (View.set_reshape ((rM : Memref sig .tc .vmem S32x32x1024 .bf16).view.slice (slotRect d)) squeezes_S1x32x1024_S32x1024.numel_eq).trans
    (View.set_slice_whole (b := cc0_scratch12) (r := slotRect d))
theorem rows_set (d : Dev nD) : (rowsM d).view.set = (rowsRect d).set := View.set_slice_whole (b := cc0_stg3_0) (r := rowsRect d)

/-- What device `s` sends to device `c` is what slot `s` of `c` is to hold. -/
theorem slot_read_rsV (s d : Dev nD) : (slotM s).view.read (Elt F) (rsV A d) = chunk (A s (d.val / 8)) d.val := by
  rw [slot_read]
  funext i
  show chunk (A s (d.val / 8)) d.val (ix2 (i 0) (i 1)) = _
  exact congrArg _ (ix2_eta i)

/-- `sm` is the accumulator of group `g`. -/
def IsAcc (A : Dev nD → ℕ → S256x1024.Idx → Elt F .bf16) (c : Dev nD) (g : ℕ) (sm : Memref sig .tc .vmem S256x1024 .bf16) : Prop :=
  ∀ j, j / 8 = g → ∃ f, accPt A c j = (sm.view.loc (c : Thread nD τ) ↦[(sm.view.slice (accRect j)).set]{fullShare} f : sProp 𝕄)
    ∧ (sm.view.slice (accRect j)).read (Elt F) f = chunk (A c g) j

theorem isAcc0 : IsAcc A c 0 (Memref.whole cc0_scratch7) := fun j hj => by
  have hset : (accRect j).set = ((Memref.whole cc0_scratch7 : Memref sig .tc .vmem S256x1024 .bf16).view.slice (accRect j)).set :=
    (View.set_slice_whole (b := cc0_scratch7) (r := accRect j)).symm
  refine ⟨A c 0, ?_, rfl⟩
  unfold accPt
  rw [hj, ← hset]
  rfl
theorem isAcc1 : IsAcc A c 1 (Memref.whole cc0_scratch8) := fun j hj => by
  have hset : (accRect j).set = ((Memref.whole cc0_scratch8 : Memref sig .tc .vmem S256x1024 .bf16).view.slice (accRect j)).set :=
    (View.set_slice_whole (b := cc0_scratch8) (r := accRect j)).symm
  refine ⟨A c 1, ?_, rfl⟩
  unfold accPt
  rw [hj, ← hset]
  rfl
theorem isAcc2 : IsAcc A c 2 (Memref.whole cc0_scratch9) := fun j hj => by
  have hset : (accRect j).set = ((Memref.whole cc0_scratch9 : Memref sig .tc .vmem S256x1024 .bf16).view.slice (accRect j)).set :=
    (View.set_slice_whole (b := cc0_scratch9) (r := accRect j)).symm
  refine ⟨A c 2, ?_, rfl⟩
  unfold accPt
  rw [hj, ← hset]
  rfl
theorem isAcc3 : IsAcc A c 3 (Memref.whole cc0_scratch10) := fun j hj => by
  have hset : (accRect j).set = ((Memref.whole cc0_scratch10 : Memref sig .tc .vmem S256x1024 .bf16).view.slice (accRect j)).set :=
    (View.set_slice_whole (b := cc0_scratch10) (r := accRect j)).symm
  refine ⟨A c 3, ?_, rfl⟩
  unfold accPt
  rw [hj, ← hset]
  rfl

end Cert.KernelIdeal.Ring

end
-- ==== Proof.KernelIdeal.Values.lean ====
/-
# What a device computes by itself

The contents of the local buffers, from the inputs on, and how a buffer is filled block by block.
-/
module

public import proofs.«01_k».proof.Proof.KernelIdeal.Local
public import proofs.«01_k».proof.Proof.KernelIdeal.Exchange

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

abbrev gqbM : Memref sig .tc .vmem S1024x1024 .bf16 := Memref.whole cc0_scratch2
abbrev gobM : Memref sig .tc .vmem S1024x1024 .bf16 := Memref.whole cc0_scratch3
abbrev xbM : Memref sig .tc .vmem S1024x1024 .bf16 := Memref.whole cc0_scratch4
abbrev kbM : Memref sig .tc .vmem S8x1024x128 .bf16 := Memref.whole cc0_scratch5
abbrev vbM : Memref sig .tc .vmem S8x1024x128 .bf16 := Memref.whole cc0_scratch6
abbrev cxM : Memref sig .tc .vmem S256x1024 .bf16 := Memref.whole cc0_scratch11
abbrev acM0 : Memref sig .tc .vmem S256x1024 .bf16 := Memref.whole cc0_scratch7
abbrev acM1 : Memref sig .tc .vmem S256x1024 .bf16 := Memref.whole cc0_scratch8
abbrev acM2 : Memref sig .tc .vmem S256x1024 .bf16 := Memref.whole cc0_scratch9
abbrev acM3 : Memref sig .tc .vmem S256x1024 .bf16 := Memref.whole cc0_scratch10

/-! ## What a device computes by itself -/

theorem inb_stage (h : ℕ) (hh : h < 8) : ∀ a, (![0, 0, h, 0] : Fin 4 → ℕ) a + S1x1024x1x128.size a ≤ S1x1024x8x128.size a := by
  intro a; fin_cases a
  · exact Nat.le_refl _
  · exact Nat.le_refl _
  · exact hh
  · exact Nat.le_refl _
theorem inb_kv (h : ℕ) (hh : h < 8) {n : ℕ} (hn : n ≤ 1024) : ∀ a, (![h, 0, 0] : Fin 3 → ℕ) a + (⟨3, ![1, n, 128]⟩ : Shape).size a ≤ S8x1024x128.size a := by
  intro a; fin_cases a
  · exact hh
  · show 0 + n ≤ 1024; omega
  · exact Nat.le_refl _
theorem inb_x (g : ℕ) (hg : g < 4) : ∀ a, (![256 * g, 0] : Fin 2 → ℕ) a + S256x1024.size a ≤ S1024x1024.size a := by
  intro a; fin_cases a
  · show 256 * g + 256 ≤ 1024; omega
  · exact Nat.le_refl _
theorem inb_ctx (h : ℕ) (hh : h < 8) : ∀ a, (![0, 128 * h] : Fin 2 → ℕ) a + S256x128.size a ≤ S256x1024.size a := by
  intro a; fin_cases a
  · exact Nat.le_refl _
  · show 128 * h + 128 ≤ 1024; omega
theorem slices_q (h : ℕ) (hh : h < 8) : S256x1024.Slices ![0, 128 * h] S256x128 := ⟨rfl, inb_ctx h hh⟩

variable (m) in
/-- The staged blocks of the three sliced inputs. -/
def xIn (c : Dev nD) : S1x1024x1024.Idx → Elt F .f32 := iblk m c 0 t0_0
variable (m) in
def kIn (c : Dev nD) : S1x1024x8x128.Idx → Elt F .f32 := iblk m c 1 t0_0
variable (m) in
def vIn (c : Dev nD) : S1x1024x8x128.Idx → Elt F .f32 := iblk m c 2 t0_0

variable (m) in
def xbV (c : Dev nD) : S1024x1024.Idx → Elt F .bf16 :=
  k0_pay1 (xM.view.readAt (Elt F) (Rect.unit (s := S1x1024x1024) ![0, 0, 0] S1x1024x1024.size inb_S1x1024x1024_S1x1024x1024_0_0_0).toLoadRect (xIn m c))
variable (m) in
/-- Head `h` of the staged keys. -/
def kHead (c : Dev nD) (h : ℕ) (hh : h < 8) : S1x1024x128.Idx → Elt F .bf16 :=
  k0_pay2 (kM.view.readAt (Elt F) (Rect.unit (s := S1x1024x8x128) ![0, 0, h, 0] S1x1024x1x128.size (inb_stage h hh)).toLoadRect (kIn m c))
variable (m) in
/-- Head `h` of the staged values. -/
def vHead (c : Dev nD) (h : ℕ) (hh : h < 8) : S1x1024x128.Idx → Elt F .bf16 :=
  k0_pay3 (vM.view.readAt (Elt F) (Rect.unit (s := S1x1024x8x128) ![0, 0, h, 0] S1x1024x1x128.size (inb_stage h hh)).toLoadRect (vIn m c))
variable (m) in
def kbV (c : Dev nD) : S8x1024x128.Idx → Elt F .bf16 := fun i => kHead m c (i 0).val (i 0).isLt (ix3 (0 : Fin 1) (i 1) (i 2))
variable (m) in
def vbV (c : Dev nD) : S8x1024x128.Idx → Elt F .bf16 := fun i => vHead m c (i 0).val (i 0).isLt (ix3 (0 : Fin 1) (i 1) (i 2))
variable (m) in
def gqbV (c : Dev nD) : S1024x1024.Idx → Elt F .bf16 :=
  k0_pay20 (sqM.view.readAt (Elt F) (Rect.unit (s := S1024x1024) ![0, 0] S1024x1024.size inb_S1024x1024_S1024x1024_0_0).toLoadRect (wqL m c))
variable (m) in
def gobV (c : Dev nD) : S1024x1024.Idx → Elt F .bf16 :=
  k0_pay22 (k0_pay21 (soM.view.readAt (Elt F) (Rect.unit (s := S1024x1024) ![0, 0] S1024x1024.size inb_S1024x1024_S1024x1024_0_0).toLoadRect (woL m c)))
variable (m) in
/-- The queries of group `g`, all eight heads side by side. -/
def qV (c : Dev nD) (g : ℕ) (hg : g < 4) : FVec F S256x1024 .bf16 :=
  k0_pay23 (xbM.view.readAt (Elt F) (Rect.unit (s := S1024x1024) ![256 * g, 0] S256x1024.size (inb_x g hg)).toLoadRect (xbV m c))
    (gqbM.view.readAt (Elt F) (Rect.unit (s := S1024x1024) ![0, 0] S1024x1024.size inb_S1024x1024_S1024x1024_0_0).toLoadRect (gqbV m c))

/-- The columns of head `h`. -/
def qCols (h : ℕ) (hh : h < 8) (q : FVec F S256x1024 .bf16) : FVec F S256x128 .bf16 := extractStridedSlice S256x128 ![0, 128 * h] q (slices_q h hh)

/-- Which key columns each query row of a group sees. -/
def mask0 : IVec S256x256 1 := k0_pay27 k0_pay24 (iota .tc S256x256 32 [1] iota_S256x256_d1_w32) 64#32 k0_pay25 k0_pay26 0#32
def mask1 : IVec S256x512 1 := k0_pay58 k0_pay54 k0_pay55 k0_pay56 k0_pay57
def mask2 : IVec S256x768 1 := k0_pay89 k0_pay86 64#32 k0_pay87 k0_pay88
def mask3 : IVec S256x1024 1 := k0_pay123 k0_pay120 (iota .tc S256x1024 32 [1] iota_S256x1024_d1_w32) 64#32 k0_pay121 k0_pay122 0#32

variable (m) in
/-- What head `h` of device `c` gives for the query rows of group 0. -/
def head0 (c : Dev nD) (h : ℕ) (hh : h < 8) : S256x128.Idx → Elt F .bf16 :=
  k0_pay30 mask0 (qCols h hh (qV m c 0 (by decide)))
    (kbM.view.readAt (Elt F) (Rect.unit (s := S8x1024x128) ![h, 0, 0] S1x256x128.size (inb_kv h hh (by decide))).toLoadRect (kbV m c))
    (vbM.view.readAt (Elt F) (Rect.unit (s := S8x1024x128) ![h, 0, 0] S1x256x128.size (inb_kv h hh (by decide))).toLoadRect (vbV m c))

variable (m) in
/-- What head `h` of device `c` gives for the query rows of group 1. -/
def head1 (c : Dev nD) (h : ℕ) (hh : h < 8) : S256x128.Idx → Elt F .bf16 :=
  k0_pay64 mask1 (qCols h hh (qV m c 1 (by decide)))
    (kbM.view.readAt (Elt F) (Rect.unit (s := S8x1024x128) ![h, 0, 0] S1x512x128.size (inb_kv h hh (by decide))).toLoadRect (kbV m c))
    (vbM.view.readAt (Elt F) (Rect.unit (s := S8x1024x128) ![h, 0, 0] S1x512x128.size (inb_kv h hh (by decide))).toLoadRect (vbV m c))

variable (m) in
/-- What head `h` of device `c` gives for the query rows of group 2. -/
def head2 (c : Dev nD) (h : ℕ) (hh : h < 8) : S256x128.Idx → Elt F .bf16 :=
  k0_pay91 mask2 (qCols h hh (qV m c 2 (by decide)))
    (kbM.view.readAt (Elt F) (Rect.unit (s := S8x1024x128) ![h, 0, 0] S1x768x128.size (inb_kv h hh (by decide))).toLoadRect (kbV m c))
    (vbM.view.readAt (Elt F) (Rect.unit (s := S8x1024x128) ![h, 0, 0] S1x768x128.size (inb_kv h hh (by decide))).toLoadRect (vbV m c))

variable (m) in
/-- What head `h` of device `c` gives for the query rows of group 3. -/
def head3 (c : Dev nD) (h : ℕ) (hh : h < 8) : S256x128.Idx → Elt F .bf16 :=
  k0_pay126 mask3 (qCols h hh (qV m c 3 (by decide)))
    (kbM.view.readAt (Elt F) (Rect.unit (s := S8x1024x128) ![h, 0, 0] S1x1024x128.size (inb_kv h hh (by decide))).toLoadRect (kbV m c))
    (vbM.view.readAt (Elt F) (Rect.unit (s := S8x1024x128) ![h, 0, 0] S1x1024x128.size (inb_kv h hh (by decide))).toLoadRect (vbV m c))

variable (m) in
/-- Head `h` of group `g`. -/
def headV (c : Dev nD) (g : ℕ) (h : ℕ) (hh : h < 8) : S256x128.Idx → Elt F .bf16 :=
  match g with
  | 0 => head0 m c h hh
  | 1 => head1 m c h hh
  | 2 => head2 m c h hh
  | _ + 3 => head3 m c h hh
variable (m) in
/-- The eight heads of group `g` side by side. -/
def ctxV (c : Dev nD) (g : ℕ) : S256x1024.Idx → Elt F .bf16 := fun i =>
  have h1 : (i 1).val < 1024 := (i 1).isLt
  headV m c g ((i 1).val / 128) (by omega) (ix2 (i 0) (⟨(i 1).val % 128, Nat.mod_lt _ (by decide)⟩ : Fin 128))
variable (m) in
/-- What device `c` has for the rows of group `g`: its heads through its rows of the last weight. -/
def accV (c : Dev nD) (g : ℕ) : S256x1024.Idx → Elt F .bf16 :=
  k0_pay43 (cxM.view.readAt (Elt F) (Rect.unit (s := S256x1024) ![0, 0] S256x1024.size inb_S256x1024_S256x1024_0_0).toLoadRect (ctxV m c g))
    (gobM.view.readAt (Elt F) (Rect.unit (s := S1024x1024) ![0, 0] S1024x1024.size inb_S1024x1024_S1024x1024_0_0).toLoadRect (gobV m c))

/-! ## Filling a buffer block by block -/

/-- A block written with what `g` holds there makes the buffer agree with `g` on the block as well. -/
theorem fill {sp : Space} {s : Shape} {e : EltTy} {M : Memref sig .tc sp s e} {r : Rect s} {f g : M.view.ref.ty.Contents (Elt F)} {v : r.shape.Idx → Elt F e}
    (hv : v = (M.access r).read (Elt F) g) {i : M.view.ref.ty.Idx} (h : i ∈ (M.access r).set ∨ f i = g i) :
    (M.access r).write (Elt F) f v Finset.univ i = g i := by
  subst hv
  rw [View.write_read_eq_piecewise]
  by_cases hi : i ∈ (M.access r).setOn Finset.univ
  · rw [Finset.piecewise_eq_of_mem _ _ _ hi]
  · rw [Finset.piecewise_eq_of_notMem _ _ _ hi]
    exact h.resolve_left hi

/-- Reading a block of a whole buffer. -/
theorem read_block {b : Ref sig .tc} (r : Rect b.ty.shape) (g : b.ty.Contents (Elt F)) :
    ((Memref.whole b : Memref sig .tc _ _ _).access r).read (Elt F) g = fun x => g (r.emb x) := rfl
/-- A block written with what `g` holds there. -/
theorem fill_block {b : Ref sig .tc} {r : Rect b.ty.shape} {f g : b.ty.Contents (Elt F)} {v : r.shape.Idx → Elt F b.ty.elt}
    (hv : ∀ x, v x = g (r.emb x)) {i : b.ty.Idx} (h : i ∈ r.set ∨ f i = g i) :
    ((Memref.whole b : Memref sig .tc _ _ _).access r).write (Elt F) f v Finset.univ i = g i :=
  fill (M := Memref.whole b) ((funext hv).trans (read_block r g).symm) (h.imp_left fun h => by
    rw [show ((Memref.whole b : Memref sig .tc _ _ _).access r).set = r.set from View.set_slice_whole b r]; exact h)

/-- A whole buffer written is what was written. -/
theorem fill_whole {b : Ref sig .tc} {off : Fin b.ty.shape.rank → ℕ} (h : off = fun _ => 0) {inb : ∀ a, off a + b.ty.shape.size a ≤ b.ty.shape.size a}
    (f w : b.ty.Contents (Elt F)) : ((Memref.whole b : Memref sig .tc _ _ _).access (Rect.unit off b.ty.shape.size inb)).write (Elt F) f w Finset.univ = w :=
  Memref.write_access_unit_zero_univ (Elt F) b h inb f w

theorem zero2 : (![0, 0] : Fin 2 → ℕ) = fun _ => 0 := by funext a; fin_cases a <;> rfl

variable (c) in
/-- The key slots below `n` are filled. -/
def KbSt (m : (ℓ : Loc nD τ sig) → Buf (Elt F) ℓ) (n : ℕ) : sProp 𝕄 := iprop(∃ f, Pt c kbM f ∗ ⌜∀ i : S8x1024x128.Idx, (i 0).val < n → f i = kbV m c i⌝)
variable (c) in
/-- The value slots below `n` are filled. -/
def VbSt (m : (ℓ : Loc nD τ sig) → Buf (Elt F) ℓ) (n : ℕ) : sProp 𝕄 := iprop(∃ f, Pt c vbM f ∗ ⌜∀ i : S8x1024x128.Idx, (i 0).val < n → f i = vbV m c i⌝)

theorem head_mem (n : ℕ) (i : S8x1024x128.Idx)
    {inb : ∀ a, (![n, 0, 0] : Fin 3 → ℕ) a + S1x1024x128.size a ≤ S8x1024x128.size a} (h : (i 0).val = n) :
    i ∈ (Rect.unit (s := S8x1024x128) ![n, 0, 0] S1x1024x128.size inb).set := by
  rw [Rect.mem_set_unit]
  have h1 : (i 1).val < 1024 := (i 1).isLt
  have h2 : (i 2).val < 128 := (i 2).isLt
  intro a; fin_cases a
  · show n ≤ (i 0).val ∧ (i 0).val < n + 1
    omega
  · show 0 ≤ (i 1).val ∧ (i 1).val < 0 + 1024
    omega
  · show 0 ≤ (i 2).val ∧ (i 2).val < 0 + 128
    omega

end Cert.KernelIdeal.Ring

end
-- ==== Proof.KernelIdeal.Compute.lean ====
/-
# The local computation, step by step

How each load and store of the local computation passes the state of the local buffers.
-/
module

public import proofs.«01_k».proof.Proof.KernelIdeal.Values

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

theorem ix3_ext {a b d : ℕ} {x : Fin a} {y : Fin b} {z : Fin d} {i : (⟨3, ![a, b, d]⟩ : Shape).Idx} (hx : x.val = (i 0).val) (hy : y.val = (i 1).val)
    (hz : z.val = (i 2).val) : ix3 x y z = i := by
  funext t; fin_cases t
  · exact Fin.ext hx
  · exact Fin.ext hy
  · exact Fin.ext hz
theorem ix2_ext {a b : ℕ} {x : Fin a} {y : Fin b} {i : (⟨2, ![a, b]⟩ : Shape).Idx} (hx : x.val = (i 0).val) (hy : y.val = (i 1).val) : ix2 x y = i := by
  funext t; fin_cases t
  · exact Fin.ext hx
  · exact Fin.ext hy

/-! ## Keys and values, head by head -/

/-- Before head `i` of the keys. -/
def KPre (m : (ℓ : Loc nD τ sig) → Buf (Elt F) ℓ) (c : Dev nD) (n : ℕ) : sProp 𝕄 := iprop(Pt c kM (kIn m c) ∗ KbSt c m n)

theorem K_stage {n : ℕ} {r : LoadRect S1x1024x8x128} {h} {k : (r.shape.Idx → Elt F .f32) → Prog (TpuEff nD τ sig (Elt F) Λ₀ .tc) α}
    (hk : iprop(Ctx m A K ∗ KPre m c n ∗ R) ⊢ Wp c (k ((kM : Memref sig .tc .vmem S1x1024x8x128 .f32).view.readAt (Elt F) r (kIn m c))) Q) :
    iprop(Ctx m A K ∗ KPre m c n ∗ R) ⊢ Wp c (.op (.load kM r h) k) Q :=
  load_op (Y := KbSt c m n) Entails.rfl Entails.rfl hk
theorem K_any {n : ℕ} {r : LoadRect S8x1024x128} {h} {k : (r.shape.Idx → Elt F .bf16) → Prog (TpuEff nD τ sig (Elt F) Λ₀ .tc) α}
    (hk : ∀ v, iprop(Ctx m A K ∗ KPre m c n ∗ R) ⊢ Wp c (k v) Q) :
    iprop(Ctx m A K ∗ KPre m c n ∗ R) ⊢ Wp c (.op (.load kbM r h) k) Q := by
  refine load_any (M := kbM) (p := fun f => ∀ i : S8x1024x128.Idx, (i 0).val < n → f i = kbV m c i) (Y := Pt c kM (kIn m c)) ?_ ?_ hk
  · unfold KPre KbSt
    iintro ⟨Hs, ⟨%f, Hf, %hf⟩⟩
    iexists f
    isplitl [Hf]; · iexact Hf
    isplitr; · ipureintro; exact hf
    iexact Hs
  · intro f hf
    unfold KPre KbSt
    iintro ⟨Hf, Hs⟩
    isplitl [Hs]; · iexact Hs
    iexists f
    isplitl [Hf]; · iexact Hf
    ipureintro; exact hf
theorem K_block (n : ℕ) (hn : n < 8) {inb : ∀ a, (![n, 0, 0] : Fin 3 → ℕ) a + S1x1024x128.size a ≤ S8x1024x128.size a} (x : S1x1024x128.Idx) :
    kHead m c n hn x = kbV m c ((Rect.unit (s := S8x1024x128) ![n, 0, 0] S1x1024x128.size inb).emb x) := by
  have h0 : (x 0).val < 1 := (x 0).isLt
  have hx : ∀ (j : Fin 8) (y : S1x1024x128.Idx), j.val = n → y = x → kHead m c n hn x = kHead m c j.val j.isLt y := by
    intro j y e1 e2; subst e1 e2; rfl
  unfold kbV
  refine hx _ _ ?_ (ix3_ext ?_ ?_ ?_)
  · show n + 1 * (x 0).val = n
    omega
  · show 0 = (x 0).val
    omega
  · show 0 + 1 * (x 1).val = (x 1).val
    omega
  · show 0 + 1 * (x 2).val = (x 2).val
    omega
theorem K_store (n : ℕ) (hn : n < 8) {inb : ∀ a, (![n, 0, 0] : Fin 3 → ℕ) a + S1x1024x128.size a ≤ S8x1024x128.size a}
    {v : S1x1024x128.Idx → Elt F .bf16} (hv : v = kHead m c n hn) {hx hm}
    (hk : iprop(Ctx m A K ∗ KPre m c (n + 1) ∗ R) ⊢ Wp c (k ⟨⟩) Q) :
    iprop(Ctx m A K ∗ KPre m c n ∗ R) ⊢ Wp c (.op (.store kbM (Rect.unit (s := S8x1024x128) ![n, 0, 0] S1x1024x128.size inb) v Finset.univ hx hm) k) Q := by
  refine store_op (M := kbM) (p := fun f => ∀ i : S8x1024x128.Idx, (i 0).val < n → f i = kbV m c i) (Y := Pt c kM (kIn m c)) ?_ ?_ hk
  · unfold KPre KbSt
    iintro ⟨Hs, ⟨%f, Hf, %hf⟩⟩
    iexists f
    isplitl [Hf]; · iexact Hf
    isplitr; · ipureintro; exact hf
    iexact Hs
  · intro f hf
    unfold KPre KbSt
    iintro ⟨Hf, Hs⟩
    isplitl [Hs]; · iexact Hs
    iexists _
    isplitl [Hf]; · iexact Hf
    ipureintro
    intro i hi
    subst hv
    refine fill_block (b := kbM.view.ref) (g := kbV m c) (K_block n hn) ?_
    by_cases he : (i 0).val = n
    · exact Or.inl (head_mem n i he)
    · exact Or.inr (hf i (by omega))

/-- Before head `i` of the values. -/
def VPre (m : (ℓ : Loc nD τ sig) → Buf (Elt F) ℓ) (c : Dev nD) (n : ℕ) : sProp 𝕄 := iprop(Pt c vM (vIn m c) ∗ VbSt c m n)

theorem V_stage {n : ℕ} {r : LoadRect S1x1024x8x128} {h} {k : (r.shape.Idx → Elt F .f32) → Prog (TpuEff nD τ sig (Elt F) Λ₀ .tc) α}
    (hk : iprop(Ctx m A K ∗ VPre m c n ∗ R) ⊢ Wp c (k ((vM : Memref sig .tc .vmem S1x1024x8x128 .f32).view.readAt (Elt F) r (vIn m c))) Q) :
    iprop(Ctx m A K ∗ VPre m c n ∗ R) ⊢ Wp c (.op (.load vM r h) k) Q :=
  load_op (Y := VbSt c m n) Entails.rfl Entails.rfl hk
theorem V_any {n : ℕ} {r : LoadRect S8x1024x128} {h} {k : (r.shape.Idx → Elt F .bf16) → Prog (TpuEff nD τ sig (Elt F) Λ₀ .tc) α}
    (hk : ∀ v, iprop(Ctx m A K ∗ VPre m c n ∗ R) ⊢ Wp c (k v) Q) :
    iprop(Ctx m A K ∗ VPre m c n ∗ R) ⊢ Wp c (.op (.load vbM r h) k) Q := by
  refine load_any (M := vbM) (p := fun f => ∀ i : S8x1024x128.Idx, (i 0).val < n → f i = vbV m c i) (Y := Pt c vM (vIn m c)) ?_ ?_ hk
  · unfold VPre VbSt
    iintro ⟨Hs, ⟨%f, Hf, %hf⟩⟩
    iexists f
    isplitl [Hf]; · iexact Hf
    isplitr; · ipureintro; exact hf
    iexact Hs
  · intro f hf
    unfold VPre VbSt
    iintro ⟨Hf, Hs⟩
    isplitl [Hs]; · iexact Hs
    iexists f
    isplitl [Hf]; · iexact Hf
    ipureintro; exact hf
theorem V_block (n : ℕ) (hn : n < 8) {inb : ∀ a, (![n, 0, 0] : Fin 3 → ℕ) a + S1x1024x128.size a ≤ S8x1024x128.size a} (x : S1x1024x128.Idx) :
    vHead m c n hn x = vbV m c ((Rect.unit (s := S8x1024x128) ![n, 0, 0] S1x1024x128.size inb).emb x) := by
  have h0 : (x 0).val < 1 := (x 0).isLt
  have hx : ∀ (j : Fin 8) (y : S1x1024x128.Idx), j.val = n → y = x → vHead m c n hn x = vHead m c j.val j.isLt y := by
    intro j y e1 e2; subst e1 e2; rfl
  unfold vbV
  refine hx _ _ ?_ (ix3_ext ?_ ?_ ?_)
  · show n + 1 * (x 0).val = n
    omega
  · show 0 = (x 0).val
    omega
  · show 0 + 1 * (x 1).val = (x 1).val
    omega
  · show 0 + 1 * (x 2).val = (x 2).val
    omega
theorem V_store (n : ℕ) (hn : n < 8) {inb : ∀ a, (![n, 0, 0] : Fin 3 → ℕ) a + S1x1024x128.size a ≤ S8x1024x128.size a}
    {v : S1x1024x128.Idx → Elt F .bf16} (hv : v = vHead m c n hn) {hx hm}
    (hk : iprop(Ctx m A K ∗ VPre m c (n + 1) ∗ R) ⊢ Wp c (k ⟨⟩) Q) :
    iprop(Ctx m A K ∗ VPre m c n ∗ R) ⊢ Wp c (.op (.store vbM (Rect.unit (s := S8x1024x128) ![n, 0, 0] S1x1024x128.size inb) v Finset.univ hx hm) k) Q := by
  refine store_op (M := vbM) (p := fun f => ∀ i : S8x1024x128.Idx, (i 0).val < n → f i = vbV m c i) (Y := Pt c vM (vIn m c)) ?_ ?_ hk
  · unfold VPre VbSt
    iintro ⟨Hs, ⟨%f, Hf, %hf⟩⟩
    iexists f
    isplitl [Hf]; · iexact Hf
    isplitr; · ipureintro; exact hf
    iexact Hs
  · intro f hf
    unfold VPre VbSt
    iintro ⟨Hf, Hs⟩
    isplitl [Hs]; · iexact Hs
    iexists _
    isplitl [Hf]; · iexact Hf
    ipureintro
    intro i hi
    subst hv
    refine fill_block (b := vbM.view.ref) (g := vbV m c) (V_block n hn) ?_
    by_cases he : (i 0).val = n
    · exact Or.inl (head_mem n i he)
    · exact Or.inr (hf i (by omega))

theorem K_full : KPre m c 8 ⊢ iprop(Pt c kM (kIn m c) ∗ Pt c kbM (kbV m c)) := by
  unfold KPre KbSt
  iintro ⟨Hs, ⟨%f, Hf, %hf⟩⟩
  isplitl [Hs]; · iexact Hs
  obtain rfl : f = kbV m c := funext fun i => hf i (i 0).isLt
  iexact Hf
theorem V_full : VPre m c 8 ⊢ iprop(Pt c vM (vIn m c) ∗ Pt c vbM (vbV m c)) := by
  unfold VPre VbSt
  iintro ⟨Hs, ⟨%f, Hf, %hf⟩⟩
  isplitl [Hs]; · iexact Hs
  obtain rfl : f = vbV m c := funext fun i => hf i (i 0).isLt
  iexact Hf

/-! ## A buffer made from another one -/

theorem pair_load {s : Shape} {e : EltTy} {M : Memref sig .tc .vmem s e} {f : M.view.ref.ty.Contents (Elt F)} {Z : sProp (MT nD τ sig Unit (Elt F) ℕ UU ℕ)}
    {r : LoadRect s} {h} {k : (r.shape.Idx → Elt F e) → Prog (TpuEff nD τ sig (Elt F) Λ₀ .tc) α}
    (hk : iprop(Ctx m A K ∗ (Pt c M f ∗ Z) ∗ R) ⊢ Wp c (k (M.view.readAt (Elt F) r f)) Q) :
    iprop(Ctx m A K ∗ (Pt c M f ∗ Z) ∗ R) ⊢ Wp c (.op (.load M r h) k) Q :=
  load_op (Y := Z) Entails.rfl Entails.rfl hk
theorem pair_any {s : Shape} {e : EltTy} {M : Memref sig .tc .vmem s e} {Z : sProp (MT nD τ sig Unit (Elt F) ℕ UU ℕ)}
    {r : LoadRect s} {h} {k : (r.shape.Idx → Elt F e) → Prog (TpuEff nD τ sig (Elt F) Λ₀ .tc) α}
    (hk : ∀ v, iprop(Ctx m A K ∗ (Z ∗ ∃ f, Pt c M f) ∗ R) ⊢ Wp c (k v) Q) :
    iprop(Ctx m A K ∗ (Z ∗ ∃ f, Pt c M f) ∗ R) ⊢ Wp c (.op (.load M r h) k) Q := by
  refine load_any (p := fun _ => True) (Y := Z) ?_ ?_ hk
  · iintro ⟨Hs, ⟨%f, Hf⟩⟩
    iexists f
    isplitl [Hf]; · iexact Hf
    isplitr; · ipureintro; trivial
    iexact Hs
  · intro f _
    iintro ⟨Hf, Hs⟩
    isplitl [Hs]; · iexact Hs
    iexists f; iexact Hf
theorem pair_store {b : Ref sig .tc} {hb : b.space = .vmem} {Z : sProp (MT nD τ sig Unit (Elt F) ℕ UU ℕ)} {s : Shape} {e : EltTy} {M : Memref sig .tc .vmem s e} {r : Rect s}
    {v : r.shape.Idx → Elt F e} {w : M.view.ref.ty.Contents (Elt F)} (hw : ∀ f, (M.access r).write (Elt F) f v Finset.univ = w) {hx hm}
    (hk : iprop(Ctx m A K ∗ (Z ∗ Pt c M w) ∗ R) ⊢ Wp c (k ⟨⟩) Q) :
    iprop(Ctx m A K ∗ (Z ∗ ∃ f, Pt c M f) ∗ R) ⊢ Wp c (.op (.store M r v Finset.univ hx hm) k) Q := by
  refine store_op (p := fun _ => True) (Y := Z) ?_ ?_ hk
  · iintro ⟨Hs, ⟨%f, Hf⟩⟩
    iexists f
    isplitl [Hf]; · iexact Hf
    isplitr; · ipureintro; trivial
    iexact Hs
  · intro f _
    rw [hw]
    iintro ⟨Hf, Hs⟩
    isplitl [Hs]; · iexact Hs
    iexact Hf

/-! ## One group of query rows -/

variable (c) in
/-- The columns of the first `n` heads are filled. -/
def CxSt (m : (ℓ : Loc nD τ sig) → Buf (Elt F) ℓ) (g n : ℕ) : sProp 𝕄 := iprop(∃ f, Pt c cxM f ∗ ⌜∀ i : S256x1024.Idx, (i 1).val < 128 * n → f i = ctxV m c g i⌝)
variable (c) in
/-- Group `g` before head `n`. -/
def Grp (m : (ℓ : Loc nD τ sig) → Buf (Elt F) ℓ) (g n : ℕ) : sProp 𝕄 :=
  iprop(Pt c xbM (xbV m c) ∗ Pt c gqbM (gqbV m c) ∗ Pt c kbM (kbV m c) ∗ Pt c vbM (vbV m c) ∗ Pt c gobM (gobV m c) ∗ CxSt c m g n)

section
variable {g n : ℕ}

theorem g_x {r : LoadRect S1024x1024} {h} {k : (r.shape.Idx → Elt F .bf16) → Prog (TpuEff nD τ sig (Elt F) Λ₀ .tc) α}
    (hk : iprop(Ctx m A K ∗ Grp c m g n ∗ R) ⊢ Wp c (k ((xbM : Memref sig .tc .vmem S1024x1024 .bf16).view.readAt (Elt F) r (xbV m c))) Q) :
    iprop(Ctx m A K ∗ Grp c m g n ∗ R) ⊢ Wp c (.op (.load xbM r h) k) Q :=
  load_op (Y := iprop(Pt c gqbM (gqbV m c) ∗ Pt c kbM (kbV m c) ∗ Pt c vbM (vbV m c) ∗ Pt c gobM (gobV m c) ∗ CxSt c m g n)) Entails.rfl Entails.rfl hk

theorem g_q {r : LoadRect S1024x1024} {h} {k : (r.shape.Idx → Elt F .bf16) → Prog (TpuEff nD τ sig (Elt F) Λ₀ .tc) α}
    (hk : iprop(Ctx m A K ∗ Grp c m g n ∗ R) ⊢ Wp c (k ((gqbM : Memref sig .tc .vmem S1024x1024 .bf16).view.readAt (Elt F) r (gqbV m c))) Q) :
    iprop(Ctx m A K ∗ Grp c m g n ∗ R) ⊢ Wp c (.op (.load gqbM r h) k) Q := by
  refine load_op (Y := iprop(Pt c xbM (xbV m c) ∗ Pt c kbM (kbV m c) ∗ Pt c vbM (vbV m c) ∗ Pt c gobM (gobV m c) ∗ CxSt c m g n)) ?_ ?_ hk
  · unfold Grp
    iintro ⟨Ha, Hb, Hc, Hd, He, Hf⟩
    isplitl [Hb]; · iexact Hb
    isplitl [Ha]; · iexact Ha
    isplitl [Hc]; · iexact Hc
    isplitl [Hd]; · iexact Hd
    isplitl [He]; · iexact He
    iexact Hf
  · unfold Grp
    iintro ⟨Hb, Ha, Hc, Hd, He, Hf⟩
    isplitl [Ha]; · iexact Ha
    isplitl [Hb]; · iexact Hb
    isplitl [Hc]; · iexact Hc
    isplitl [Hd]; · iexact Hd
    isplitl [He]; · iexact He
    iexact Hf

theorem g_k {r : LoadRect S8x1024x128} {h} {k : (r.shape.Idx → Elt F .bf16) → Prog (TpuEff nD τ sig (Elt F) Λ₀ .tc) α}
    (hk : iprop(Ctx m A K ∗ Grp c m g n ∗ R) ⊢ Wp c (k ((kbM : Memref sig .tc .vmem S8x1024x128 .bf16).view.readAt (Elt F) r (kbV m c))) Q) :
    iprop(Ctx m A K ∗ Grp c m g n ∗ R) ⊢ Wp c (.op (.load kbM r h) k) Q := by
  refine load_op (Y := iprop(Pt c xbM (xbV m c) ∗ Pt c gqbM (gqbV m c) ∗ Pt c vbM (vbV m c) ∗ Pt c gobM (gobV m c) ∗ CxSt c m g n)) ?_ ?_ hk
  · unfold Grp
    iintro ⟨Ha, Hb, Hc, Hd, He, Hf⟩
    isplitl [Hc]; · iexact Hc
    isplitl [Ha]; · iexact Ha
    isplitl [Hb]; · iexact Hb
    isplitl [Hd]; · iexact Hd
    isplitl [He]; · iexact He
    iexact Hf
  · unfold Grp
    iintro ⟨Hc, Ha, Hb, Hd, He, Hf⟩
    isplitl [Ha]; · iexact Ha
    isplitl [Hb]; · iexact Hb
    isplitl [Hc]; · iexact Hc
    isplitl [Hd]; · iexact Hd
    isplitl [He]; · iexact He
    iexact Hf

theorem g_v {r : LoadRect S8x1024x128} {h} {k : (r.shape.Idx → Elt F .bf16) → Prog (TpuEff nD τ sig (Elt F) Λ₀ .tc) α}
    (hk : iprop(Ctx m A K ∗ Grp c m g n ∗ R) ⊢ Wp c (k ((vbM : Memref sig .tc .vmem S8x1024x128 .bf16).view.readAt (Elt F) r (vbV m c))) Q) :
    iprop(Ctx m A K ∗ Grp c m g n ∗ R) ⊢ Wp c (.op (.load vbM r h) k) Q := by
  refine load_op (Y := iprop(Pt c xbM (xbV m c) ∗ Pt c gqbM (gqbV m c) ∗ Pt c kbM (kbV m c) ∗ Pt c gobM (gobV m c) ∗ CxSt c m g n)) ?_ ?_ hk
  · unfold Grp
    iintro ⟨Ha, Hb, Hc, Hd, He, Hf⟩
    isplitl [Hd]; · iexact Hd
    isplitl [Ha]; · iexact Ha
    isplitl [Hb]; · iexact Hb
    isplitl [Hc]; · iexact Hc
    isplitl [He]; · iexact He
    iexact Hf
  · unfold Grp
    iintro ⟨Hd, Ha, Hb, Hc, He, Hf⟩
    isplitl [Ha]; · iexact Ha
    isplitl [Hb]; · iexact Hb
    isplitl [Hc]; · iexact Hc
    isplitl [Hd]; · iexact Hd
    isplitl [He]; · iexact He
    iexact Hf

theorem g_o {r : LoadRect S1024x1024} {h} {k : (r.shape.Idx → Elt F .bf16) → Prog (TpuEff nD τ sig (Elt F) Λ₀ .tc) α}
    (hk : iprop(Ctx m A K ∗ Grp c m g n ∗ R) ⊢ Wp c (k ((gobM : Memref sig .tc .vmem S1024x1024 .bf16).view.readAt (Elt F) r (gobV m c))) Q) :
    iprop(Ctx m A K ∗ Grp c m g n ∗ R) ⊢ Wp c (.op (.load gobM r h) k) Q := by
  refine load_op (Y := iprop(Pt c xbM (xbV m c) ∗ Pt c gqbM (gqbV m c) ∗ Pt c kbM (kbV m c) ∗ Pt c vbM (vbV m c) ∗ CxSt c m g n)) ?_ ?_ hk
  · unfold Grp
    iintro ⟨Ha, Hb, Hc, Hd, He, Hf⟩
    isplitl [He]; · iexact He
    isplitl [Ha]; · iexact Ha
    isplitl [Hb]; · iexact Hb
    isplitl [Hc]; · iexact Hc
    isplitl [Hd]; · iexact Hd
    iexact Hf
  · unfold Grp
    iintro ⟨He, Ha, Hb, Hc, Hd, Hf⟩
    isplitl [Ha]; · iexact Ha
    isplitl [Hb]; · iexact Hb
    isplitl [Hc]; · iexact Hc
    isplitl [Hd]; · iexact Hd
    isplitl [He]; · iexact He
    iexact Hf

theorem g_open : Grp c m g n ⊢ iprop(∃ f, Pt c cxM f ∗ ⌜∀ i : S256x1024.Idx, (i 1).val < 128 * n → f i = ctxV m c g i⌝ ∗ Pt c xbM (xbV m c) ∗ Pt c gqbM (gqbV m c) ∗ Pt c kbM (kbV m c) ∗ Pt c vbM (vbV m c) ∗ Pt c gobM (gobV m c)) := by
  unfold Grp CxSt
  iintro ⟨Ha, Hb, Hc, Hd, He, ⟨%f, Hf, %hf⟩⟩
  iexists f
  isplitl [Hf]; · iexact Hf
  isplitr; · ipureintro; exact hf
  isplitl [Ha]; · iexact Ha
  isplitl [Hb]; · iexact Hb
  isplitl [Hc]; · iexact Hc
  isplitl [Hd]; · iexact Hd
  iexact He
theorem g_close {f : S256x1024.Idx → Elt F .bf16} (hf : ∀ i : S256x1024.Idx, (i 1).val < 128 * n → f i = ctxV m c g i) :
    iprop(Pt c cxM f ∗ Pt c xbM (xbV m c) ∗ Pt c gqbM (gqbV m c) ∗ Pt c kbM (kbV m c) ∗ Pt c vbM (vbV m c) ∗ Pt c gobM (gobV m c)) ⊢ Grp c m g n := by
  unfold Grp CxSt
  iintro ⟨Hf, Ha, Hb, Hc, Hd, He⟩
  isplitl [Ha]; · iexact Ha
  isplitl [Hb]; · iexact Hb
  isplitl [Hc]; · iexact Hc
  isplitl [Hd]; · iexact Hd
  isplitl [He]; · iexact He
  iexists f
  isplitl [Hf]; · iexact Hf
  ipureintro; exact hf

theorem g_any {r : LoadRect S256x1024} {h} {k : (r.shape.Idx → Elt F .bf16) → Prog (TpuEff nD τ sig (Elt F) Λ₀ .tc) α}
    (hk : ∀ v, iprop(Ctx m A K ∗ Grp c m g n ∗ R) ⊢ Wp c (k v) Q) :
    iprop(Ctx m A K ∗ Grp c m g n ∗ R) ⊢ Wp c (.op (.load cxM r h) k) Q :=
  load_any g_open (fun _ hf => g_close hf) hk
theorem g_ctx {r : LoadRect S256x1024} {h} {k : (r.shape.Idx → Elt F .bf16) → Prog (TpuEff nD τ sig (Elt F) Λ₀ .tc) α}
    (hk : iprop(Ctx m A K ∗ Grp c m g 8 ∗ R) ⊢ Wp c (k ((cxM : Memref sig .tc .vmem S256x1024 .bf16).view.readAt (Elt F) r (ctxV m c g))) Q) :
    iprop(Ctx m A K ∗ Grp c m g 8 ∗ R) ⊢ Wp c (.op (.load cxM r h) k) Q := by
  refine load_op (f := ctxV m c g) (g_open.trans ?_) (g_close fun _ _ => rfl) hk
  iintro ⟨%f, Hf, %hf, HY⟩
  obtain rfl : f = ctxV m c g := funext fun i => hf i (i 1).isLt
  isplitl [Hf]; · iexact Hf
  iexact HY
/-- The block of columns of head `n`. -/
theorem ctx_block (g n : ℕ) (hn : n < 8) (x : S256x128.Idx) : headV m c g n hn x
    = ctxV m c g ((Rect.unit (s := S256x1024) ![0, 128 * n] S256x128.size (inb_ctx n hn)).emb x) := by
  have hx1 : (x 1).val < 128 := (x 1).isLt
  have hx : ∀ (j : ℕ) (hj : j < 8) (y : S256x128.Idx), j = n → y = x → headV m c g n hn x = headV m c g j hj y := by
    intro j hj y e1 e2; subst e1 e2; rfl
  unfold ctxV
  refine hx _ _ _ ?_ (ix2_ext ?_ ?_)
  · show (128 * n + 1 * (x 1).val) / 128 = n
    omega
  · show 0 + 1 * (x 0).val = (x 0).val
    omega
  · show (128 * n + 1 * (x 1).val) % 128 = (x 1).val
    omega
theorem ctx_mem (n : ℕ) (hn : n < 8) (i : S256x1024.Idx) (h : 128 * n ≤ (i 1).val) (h' : (i 1).val < 128 * (n + 1)) :
    i ∈ (Rect.unit (s := S256x1024) ![0, 128 * n] S256x128.size (inb_ctx n hn)).set := by
  have h0 : (i 0).val < 256 := (i 0).isLt
  rw [Rect.mem_set_unit]
  intro a; fin_cases a
  · show 0 ≤ (i 0).val ∧ (i 0).val < 0 + 256
    omega
  · show 128 * n ≤ (i 1).val ∧ (i 1).val < 128 * n + 128
    omega
theorem ctx_fill (g n : ℕ) (hn : n < 8) {f : S256x1024.Idx → Elt F .bf16} (hf : ∀ i : S256x1024.Idx, (i 1).val < 128 * n → f i = ctxV m c g i)
    (i : S256x1024.Idx) (hi : (i 1).val < 128 * (n + 1)) :
    (cxM.access (Rect.unit (s := S256x1024) ![0, 128 * n] S256x128.size (inb_ctx n hn))).write (Elt F) f (headV m c g n hn) Finset.univ i = ctxV m c g i := by
  refine fill_block (b := cc0_scratch11) (g := ctxV m c g) (ctx_block g n hn) ?_
  by_cases he : (i 1).val < 128 * n
  · exact Or.inr (hf i he)
  · exact Or.inl (ctx_mem n hn i (by omega) hi)
theorem g_store (n : ℕ) (hn : n < 8) {off : Fin 2 → ℕ} (hoff : off = ![0, 128 * n]) {inb : ∀ a, off a + S256x128.size a ≤ S256x1024.size a}
    {v : S256x128.Idx → Elt F .bf16} (hv : v = headV m c g n hn) {hx hm}
    (hk : iprop(Ctx m A K ∗ Grp c m g (n + 1) ∗ R) ⊢ Wp c (k ⟨⟩) Q) :
    iprop(Ctx m A K ∗ Grp c m g n ∗ R) ⊢ Wp c (.op (.store cxM (Rect.unit (s := S256x1024) off S256x128.size inb) v Finset.univ hx hm) k) Q := by
  subst hoff hv
  refine store_op (M := cxM) (r := Rect.unit (s := S256x1024) ![0, 128 * n] S256x128.size inb) (v := headV m c g n hn) g_open ?_ hk
  intro f hf
  have h2 : iprop(Pt c cxM ((cxM.access (Rect.unit (s := S256x1024) ![0, 128 * n] S256x128.size (inb_ctx n hn))).write (Elt F) f (headV m c g n hn) Finset.univ) ∗ Pt c xbM (xbV m c) ∗ Pt c gqbM (gqbV m c) ∗ Pt c kbM (kbV m c) ∗ Pt c vbM (vbV m c) ∗ Pt c gobM (gobV m c))
      ⊢ Grp c m g (n + 1) := g_close (ctx_fill g n hn hf)
  exact h2
/-- The next group starts over. -/
theorem g_next {g' : ℕ} : Grp c m g n ⊢ Grp c m g' 0 := by
  refine g_open.trans ?_
  iintro ⟨%f, Hf, -, HY⟩
  iapply (g_close (f := f) fun i hi => absurd hi (by omega))
  isplitl [Hf]; · iexact Hf
  iexact HY
end

/-- A part of the body at the buffers and semaphores that the launch hands it. -/
abbrev atArgs {β : Type 1} (f : (a0 : Memref sig .tc .vmem S1x1024x1024 .f32) → a0.IsWhole → (a1 : Memref sig .tc .hbm S1024x32768 .f32) → a1.IsWhole → (a2 : Memref sig .tc .vmem S1x1024x8x128 .f32) → a2.IsWhole → (a3 : Memref sig .tc .vmem S1x1024x8x128 .f32) → a3.IsWhole → (a4 : Memref sig .tc .hbm S32768x1024 .f32) → a4.IsWhole → (a5 : Memref sig .tc .vmem S1024x1024 .bf16) → a5.IsWhole → (a6 : Memref sig .tc .vmem S1024x1024 .f32) → a6.IsWhole → (a7 : Memref sig .tc .vmem S1024x1024 .f32) → a7.IsWhole → (a8 : Memref sig .tc .vmem S1024x1024 .bf16) → a8.IsWhole → (a9 : Memref sig .tc .vmem S1024x1024 .bf16) → a9.IsWhole → (a10 : Memref sig .tc .vmem S1024x1024 .bf16) → a10.IsWhole → (a11 : Memref sig .tc .vmem S8x1024x128 .bf16) → a11.IsWhole → (a12 : Memref sig .tc .vmem S8x1024x128 .bf16) → a12.IsWhole → (a13 : Memref sig .tc .vmem S256x1024 .bf16) → a13.IsWhole → (a14 : Memref sig .tc .vmem S256x1024 .bf16) → a14.IsWhole → (a15 : Memref sig .tc .vmem S256x1024 .bf16) → a15.IsWhole → (a16 : Memref sig .tc .vmem S256x1024 .bf16) → a16.IsWhole → (a17 : Memref sig .tc .vmem S256x1024 .bf16) → a17.IsWhole → (a18 : Memref sig .tc .vmem S32x32x1024 .bf16) → a18.IsWhole → DmaSems sig S2 → DmaSems sig S32 → DmaSems sig S32 → DmaSems sig S32 → DmaSems sig S32 → β) : β :=
  f xM (Memref.isWhole_whole _) gqM (Memref.isWhole_whole _) kM (Memref.isWhole_whole _) vM (Memref.isWhole_whole _) goM (Memref.isWhole_whole _) oM (Memref.isWhole_whole _) sqM (Memref.isWhole_whole _) soM (Memref.isWhole_whole _) gqbM (Memref.isWhole_whole _) gobM (Memref.isWhole_whole _) xbM (Memref.isWhole_whole _) kbM (Memref.isWhole_whole _) vbM (Memref.isWhole_whole _) acM0 (Memref.isWhole_whole _) acM1 (Memref.isWhole_whole _) acM2 (Memref.isWhole_whole _) acM3 (Memref.isWhole_whole _) cxM (Memref.isWhole_whole _) rM (Memref.isWhole_whole _) cc0_scratch13 cc0_scratch14 cc0_scratch15 cc0_scratch16 cc0_scratch17

end Cert.KernelIdeal.Ring

end
-- ==== Proof.KernelIdeal.Sends.lean ====
/-
# Sends and waits

The reduce-scatter's and the all-gather's sends, and one rule for every wait on a transfer cell.
-/
module

public import proofs.«01_k».proof.Proof.KernelIdeal.Exchange

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-! ## The reduce-scatter's sends -/

variable (A c) in
/-- What stage `j` of the reduce-scatter uses up: the right to fill slot `c` of device `j`, or `c`'s own slot. -/
def rsTodo (j : ℕ) : sProp 𝕄 :=
  if j = c.val then iprop(∃ f, slotPt c c f)
  else iprop(dutyTok ER (cellN (dv j) (38 + c.val)) 0 0 ∗ dutyTok ER (cellN c (6 + j)) 0 0 ∗ ∃ f, slotPt (dv j) c f)
variable (A c) in
/-- What stage `j` leaves: a credit of its send cell, or `c`'s own slot filled. -/
def rsDone (j : ℕ) : sProp 𝕄 :=
  if j = c.val then iprop(slotPt c c (rsV A c) ∗ accPt A c j) else cred (tallyAt (cellN c (6 + j)) () NR)
variable (A c) in
/-- The reduce-scatter before stage `i`. -/
def RSt (i : ℕ) : sProp 𝕄 :=
  iprop(Ow c (Ors c i + Oag c 1) ∗ bigSep (Finset.Ico i 32) (rsTodo c) ∗ bigSep (Finset.Ico 0 i) (rsDone A c))
variable (A c) in
/-- Stage `i` between its send and its local copy. -/
def RMid (i : ℕ) : sProp 𝕄 :=
  iprop(Ow c (Ors c (i + 1) + Oag c 1) ∗ (if i = c.val then iprop(rsTodo c i ∗ accPt A c i) else rsDone A c i)
    ∗ bigSep (Finset.Ico (i + 1) 32) (rsTodo c) ∗ bigSep (Finset.Ico 0 i) (rsDone A c))
variable (A c) in
/-- The accumulator's blocks `a` to `b - 1`. -/
def accs (a b : ℕ) : sProp 𝕄 := bigSep (Finset.Ico a b) (accPt A c)

/-- One remote copy of the reduce-scatter. -/
theorem rs_op {g : ℕ} {sm : Memref sig .tc .vmem S256x1024 .bf16} (hsm : IsAcc A c g sm) (j : ℕ) (hj : j < 32) (hg : j / 8 = g) (hne : j ≠ c.val)
    {p : Dev nD} (hp : p = dv j) {s1 s2 : DmaSem sig} (hs1 : s1 = dS (6 + j)) (hs2 : s2 = dS (38 + c.val))
    {off : Fin 3 → ℕ} (hoff : off = ![c.val, 0, 0]) {inb : ∀ a, off a + S1x32x1024.size a ≤ S32x32x1024.size a} {hr} {sq}
    {off2 : Fin 2 → ℕ} (hoff2 : off2 = ![32 * (j % 8), 0]) {inb2 : ∀ a, off2 a + S32x1024.size a ≤ S256x1024.size a} {hr2}
    {hsc : ((((rM : Memref sig (Dev.tc p : Thread nD τ).2.kind .vmem S32x32x1024 .bf16).slice (Rect.unit (s := S32x32x1024) off S1x32x1024.size inb) hr).squeeze S32x1024 sq)).view.ref.isScScratch = false}
    {hsrc : (sm.slice (Rect.unit (s := S256x1024) off2 S32x1024.size inb2) hr2).view.WordExact}
    {hdst : (((rM : Memref sig (Dev.tc p : Thread nD τ).2.kind .vmem S32x32x1024 .bf16).slice (Rect.unit (s := S32x32x1024) off S1x32x1024.size inb) hr).squeeze S32x1024 sq).view.WordExact}
    {hsem}
    (hk : iprop(Ctx m A K ∗ (Ow c (Ors c (j + 1) + Oag c 1) ∗ rsDone A c j) ∗ R) ⊢ Wp c (k ⟨⟩) Q) :
    iprop(Ctx m A K ∗ (Ow c (Ors c j + Oag c 1) ∗ rsTodo c j ∗ accPt A c j) ∗ R)
      ⊢ Wp c (.op (.enqueueDma (sm.slice (Rect.unit (s := S256x1024) off2 S32x1024.size inb2) hr2)
          (.remote (Dev.tc p : Thread nD τ) (((rM : Memref sig (Dev.tc p : Thread nD τ).2.kind .vmem S32x32x1024 .bf16).slice (Rect.unit (s := S32x32x1024) off S1x32x1024.size inb) hr).squeeze S32x1024 sq) (.dma s1) hsc)
          (.dma s2) hsrc hdst hsem) k) Q := by
  subst hp hs1 hs2 hoff hoff2
  have hc : c.val < 32 := c.isLt
  have hd : (dv j).val = j := dv_of_lt hj
  obtain ⟨fs, hfs, hread⟩ := hsm j hg
  have hu1 : dmaUsed c (6 + j) := by refine ⟨?_, ?_, ?_, ?_, ?_⟩ <;> omega
  have hu2 : dmaUsed (dv j) (38 + c.val) := by refine ⟨?_, ?_, ?_, ?_, ?_⟩ <;> omega
  have ha1 : dmaAmt (6 + j) = NR := by unfold dmaAmt; rw [if_neg (by omega), if_neg (by omega), if_pos (by omega)]
  have ha2 : dmaAmt (38 + c.val) = NR := by unfold dmaAmt; rw [if_neg (by omega), if_neg (by omega), if_pos (by omega)]
  have hp1 : dmaPay m A c (6 + j) = accPt A c j := by
    unfold dmaPay; rw [if_neg (by omega), if_neg (by omega), if_neg (by omega), if_pos (by omega), Nat.add_sub_cancel_left]
  have hp2 : dmaPay m A (dv j) (38 + c.val) = slotPt (dv j) c (rsV A (dv j)) := by
    unfold dmaPay
    rw [if_neg (by omega), if_neg (by omega), if_neg (by omega), if_neg (by omega), if_pos (by omega), Nat.add_sub_cancel_left, dv_self]
  have hN : (slotM c).view.amount (.dma (dS (38 + c.val)) : SemLoc sig) = NR := rfl
  rw [hfs]
  unfold rsTodo rsDone Ow at *
  rw [if_neg hne] at hk ⊢
  iintro ⟨#HC, ⟨⟨%W, HO⟩, ⟨Ht2, Ht1, ⟨%fd, Hd⟩⟩, Ha⟩, HR⟩
  iapply (Rounds.wp_send_pointsTo 𝒱₀ ER (sched m A) (c : Thread nD τ) none (κ₁ := Kd K c (6 + j)) (κ₂ := Kd K (dv j) (38 + c.val))
    (c' := (Dev.tc (dv j) : Thread nD τ)) (s := S32x1024) (src := sm.slice (accRect j) hr2) (dst := (slotM c : Memref sig (Dev.tc (dv j) : Thread nD τ).2.kind .vmem S32x1024 .bf16))
    (sS := .dma (dS (6 + j))) (sem := .dma (dS (38 + c.val))) (q := fullShare)
    (r₁ := 0) (r₂ := 0) (d₁ := 0) (d₂ := 0) (fs := fs) (fd := fd)
    (by rw [duties_used m A c (by omega) hu1]; exact Finset.mem_singleton_self _)
    (by rw [duties_used m A (dv j) (by omega) hu2]; exact Finset.mem_singleton_self _)
    () () NR hN ((amount_dma m A c (by omega) 0).trans ha1) ((amount_dma m A (dv j) (by omega) 0).trans ha2)
    (O₀ := Ors c j + Oag c 1) (Ors c (j + 1) + Oag c 1) (by rw [Ors_succ c hj hne, add_right_comm]) (W := W)
    (by rw [payload_dma m A c (by omega), hp1, hfs])
    (by
      rw [payload_dma m A (dv j) (by omega), hp2]
      unfold slotPt
      rw [← slot_set c]
      exact Entails.of_eq (pointsTo_congr (landed (slotM c).view fd (rsV A (dv j)) _ (by rw [slot_read_rsV, hd, hg]; exact hread.symm)))))
    $$ [HO Ht1 Ht2 Hd Ha]
  · isplitr; · iapply (inv_dma m A K c (n := 6 + j) (by omega) (by omega)); iexact HC
    isplitr; · iapply (inv_dma m A K (dv j) (n := 38 + c.val) (by omega) (by omega)); iexact HC
    isplitl [Ha]; · iexact Ha
    isplitl [Hd]; · unfold slotPt; rw [← slot_set c]; iexact Hd
    isplitl [HO]; · iexact HO
    isplitl [Ht1]; · iexact Ht1
    isplitr; · iapply (reached_dma m A K c (n := 6 + j) (by omega) (by omega)); iexact HC
    isplitl [Ht2]; · iexact Ht2
    iapply (reached_dma m A K (dv j) (n := 38 + c.val) (by omega) (by omega)); iexact HC
  iintro ⟨Hc, HO⟩
  iapply hk
  isplitr; · iexact HC
  isplitr [HR]
  · isplitl [HO]; · iexists W; iexact HO
    iexact Hc
  iexact HR

/-- The remote copy of stage `j` under its test, the copy itself carried out by `h`. -/
theorem rs_send (j : ℕ) (hj : j < 32) {e : ℕ} (he : j < e) {cond : Prop} [Decidable cond] (hc : cond ↔ j ≠ c.val)
    {p : cond → Prog (TpuEff nD τ sig (Elt F) Λ₀ .tc) α} {q : Prog (TpuEff nD τ sig (Elt F) Λ₀ .tc) α}
    (h : ∀ h R', j ≠ c.val → (iprop(Ctx m A K ∗ (Ow c (Ors c (j + 1) + Oag c 1) ∗ rsDone A c j) ∗ R') ⊢ Wp c q Q) →
      (iprop(Ctx m A K ∗ (Ow c (Ors c j + Oag c 1) ∗ rsTodo c j ∗ accPt A c j) ∗ R') ⊢ Wp c (p h) Q))
    (hk : iprop(Ctx m A K ∗ (RMid A c j ∗ accs A c (j + 1) e) ∗ R) ⊢ Wp c q Q) :
    iprop(Ctx m A K ∗ (RSt A c j ∗ accs A c j e) ∗ R) ⊢ Wp c (dite cond p fun _ => q) Q := by
  have hs : iprop(Ctx m A K ∗ (RSt A c j ∗ accs A c j e) ∗ R)
      ⊢ iprop(Ctx m A K ∗ (Ow c (Ors c j + Oag c 1) ∗ rsTodo c j ∗ accPt A c j)
        ∗ (bigSep (Finset.Ico (j + 1) 32) (rsTodo c) ∗ bigSep (Finset.Ico 0 j) (rsDone A c)) ∗ accs A c (j + 1) e ∗ R) := by
    unfold RSt accs
    rw [bigSep_Ico_succ_bot hj, bigSep_Ico_succ_bot he]
    iintro ⟨HC, ⟨⟨HO, ⟨Ht, Hr⟩, Hd⟩, Ha, Has⟩, HR⟩
    isplitl [HC]; · iexact HC
    isplitl [HO Ht Ha]
    · isplitl [HO]; · iexact HO
      isplitl [Ht]; · iexact Ht
      iexact Ha
    isplitl [Hr Hd]
    · isplitl [Hr]; · iexact Hr
      iexact Hd
    isplitl [Has]; · iexact Has
    iexact HR
  refine hs.trans ?_
  by_cases hcond : cond
  · rw [dif_pos hcond]
    have hne := hc.mp hcond
    unfold RMid at hk
    rw [if_neg hne] at hk
    refine h hcond _ hne ?_
    iintro ⟨HC, ⟨HO, Hd⟩, ⟨Hr, Hds⟩, Has, HR⟩
    iapply hk
    isplitl [HC]; · iexact HC
    isplitr [HR]
    · isplitr [Has]
      · isplitl [HO]; · iexact HO
        isplitl [Hd]; · iexact Hd
        isplitl [Hr]; · iexact Hr
        iexact Hds
      iexact Has
    iexact HR
  · rw [dif_neg hcond]
    have hje : j = c.val := by by_contra hne; exact hcond (hc.mpr hne)
    unfold RMid at hk
    rw [if_pos hje, ← Ors_self c hj hje] at hk
    iintro ⟨HC, ⟨HO, Ht, Ha⟩, ⟨Hr, Hds⟩, Has, HR⟩
    iapply hk
    isplitl [HC]; · iexact HC
    isplitr [HR]
    · isplitr [Has]
      · isplitl [HO]; · iexact HO
        isplitl [Ht Ha]
        · isplitl [Ht]; · iexact Ht
          iexact Ha
        isplitl [Hr]; · iexact Hr
        iexact Hds
      iexact Has
    iexact HR

theorem slot_landed (d : Dev nD) (fd g : S32x32x1024.Idx → Elt F .bf16) (w : S1x32x1024.Idx → Elt F .bf16)
    (hv : ((rM : Memref sig .tc .vmem S32x32x1024 .bf16).access (slotRect d)).read (Elt F) g = w) :
    ((c : Thread nD τ).loc cc0_scratch12 ↦[(slotRect d).set]{fullShare} (((rM : Memref sig .tc .vmem S32x32x1024 .bf16).access (slotRect d)).write (Elt F) fd w Finset.univ) : sProp 𝕄)
      = slotPt c d g := by
  have hset : ((rM : Memref sig .tc .vmem S32x32x1024 .bf16).access (slotRect d)).set = (slotRect d).set :=
    View.set_slice_whole (b := cc0_scratch12) (r := slotRect d)
  have hl := landed ((rM : Memref sig .tc .vmem S32x32x1024 .bf16).access (slotRect d)) fd g w hv
  rw [hset] at hl
  exact pointsTo_congr hl

/-- The local copy of stage `j`: `c`'s own block into `c`'s own slot. -/
theorem rs_copy {g : ℕ} {sm : Memref sig .tc .vmem S256x1024 .bf16} (hsm : IsAcc A c g sm) (j : ℕ) (hj : j < 32) (hg : j / 8 = g) (hje : j = c.val)
    {off : Fin 2 → ℕ} (hoff : off = ![32 * (j % 8), 0]) {inb : ∀ a, off a + S32x1024.size a ≤ S256x1024.size a}
    {off2 : Fin 3 → ℕ} (hoff2 : off2 = ![c.val, 0, 0]) {inb2 : ∀ a, off2 a + S1x32x1024.size a ≤ S32x32x1024.size a}
    {pay : (S32x1024.Idx → Elt F .bf16) → (S1x32x1024.Idx → Elt F .bf16)} (hpay : pay = k0_pay44)
    {hl hl2 hx} {hm} {q : Prog (TpuEff nD τ sig (Elt F) Λ₀ .tc) α}
    (hk : iprop(Ctx m A K ∗ rsDone A c j ∗ R) ⊢ Wp c q Q) :
    iprop(Ctx m A K ∗ (rsTodo c j ∗ accPt A c j) ∗ R)
      ⊢ Wp c (.op (.load sm (Rect.unit (s := S256x1024) off S32x1024.size inb).toLoadRect hl) fun v =>
          .op (.load rM (Rect.unit (s := S32x32x1024) off2 S1x32x1024.size inb2).toLoadRect hl2) fun _ =>
          .op (.store rM (Rect.unit (s := S32x32x1024) off2 S1x32x1024.size inb2) (pay v) Finset.univ hx hm) fun _ => q) Q := by
  subst hoff hoff2 hpay
  obtain ⟨fs, hfs, hread⟩ := hsm j hg
  rw [hfs]
  unfold rsTodo rsDone at *
  rw [if_pos hje] at hk ⊢
  have hv : ((rM : Memref sig .tc .vmem S32x32x1024 .bf16).access (slotRect c)).read (Elt F) (rsV A c)
      = k0_pay44 (sm.view.readAt (Elt F) (accRect j).toLoadRect fs) := by
    have h1 : sm.view.readAt (Elt F) (accRect j).toLoadRect fs = chunk (A c g) j := (View.readAt_rect ..).trans hread
    rw [h1]
    funext i
    rw [pay44_apply, ← hg, hje]
    have h0 : (i 0).val < 1 := (i 0).isLt
    refine congr (congrArg (fun d => chunk (A d (c.val / 8)) c.val) ?_) (congrArg₂ ix2 ?_ ?_)
    · refine Fin.ext ?_
      show c.val + 1 * (i 0).val = c.val
      omega
    · refine Fin.ext ?_
      show 0 + 1 * (i 1).val = (i 1).val
      omega
    · refine Fin.ext ?_
      show 0 + 1 * (i 2).val = (i 2).val
      omega
  iintro ⟨#HC, ⟨⟨%fd, Hd⟩, Ha⟩, HR⟩
  iapply (wp_load 𝒱₀ (c : Thread nD τ) none Set.univ (m := sm) (by rw [View.set_slice]; exact Finset.Subset.refl _)) $$ Ha
  iintro Ha
  unfold slotPt
  iapply (wp_load 𝒱₀ (c : Thread nD τ) none Set.univ (m := rM) (S := (slotRect c).set) (by
    exact ((View.set_slice (View.whole cc0_scratch12) (slotRect c)).symm.trans (View.set_slice_whole (b := cc0_scratch12) (r := slotRect c))).subset)) $$ Hd
  iintro Hd
  iapply (wp_store 𝒱₀ (c : Thread nD τ) none Set.univ (m := rM) (r := slotRect c) (Mk := Finset.univ) (S := (slotRect c).set) (by
    rw [← View.set_slice_whole (b := cc0_scratch12) (r := slotRect c)]; exact Finset.Subset.refl _)) $$ Hd
  iintro Hd
  iapply hk
  isplitr; · iexact HC
  isplitr [HR]
  · isplitl [Hd]
    · iapply (Entails.of_eq (slot_landed c fd _ _ hv)); iexact Hd
    rw [hfs]
    iexact Ha
  iexact HR

/-- The local copy of stage `j` under its test, the copy itself carried out by `h`. -/
theorem rs_self (j : ℕ) (hj : j < 32) {e : ℕ} {cond : Prop} [Decidable cond] (hc : cond ↔ j = c.val)
    {p : cond → Prog (TpuEff nD τ sig (Elt F) Λ₀ .tc) α} {q : Prog (TpuEff nD τ sig (Elt F) Λ₀ .tc) α}
    (h : ∀ h R', j = c.val → (iprop(Ctx m A K ∗ rsDone A c j ∗ R') ⊢ Wp c q Q) →
      (iprop(Ctx m A K ∗ (rsTodo c j ∗ accPt A c j) ∗ R') ⊢ Wp c (p h) Q))
    (hk : iprop(Ctx m A K ∗ (RSt A c (j + 1) ∗ accs A c (j + 1) e) ∗ R) ⊢ Wp c q Q) :
    iprop(Ctx m A K ∗ (RMid A c j ∗ accs A c (j + 1) e) ∗ R) ⊢ Wp c (dite cond p fun _ => q) Q := by
  unfold RSt at hk
  rw [bigSep_Ico_succ_top (Nat.zero_le j)] at hk
  unfold RMid
  by_cases hcond : cond
  · rw [dif_pos hcond]
    have hje := hc.mp hcond
    rw [if_pos hje]
    have hs : iprop(Ctx m A K ∗ ((Ow c (Ors c (j + 1) + Oag c 1) ∗ (rsTodo c j ∗ accPt A c j)
          ∗ bigSep (Finset.Ico (j + 1) 32) (rsTodo c) ∗ bigSep (Finset.Ico 0 j) (rsDone A c)) ∗ accs A c (j + 1) e) ∗ R)
        ⊢ iprop(Ctx m A K ∗ (rsTodo c j ∗ accPt A c j) ∗ Ow c (Ors c (j + 1) + Oag c 1)
          ∗ (bigSep (Finset.Ico (j + 1) 32) (rsTodo c) ∗ bigSep (Finset.Ico 0 j) (rsDone A c)) ∗ accs A c (j + 1) e ∗ R) := by
      iintro ⟨HC, ⟨⟨HO, Ht, Hr, Hd⟩, Has⟩, HR⟩
      isplitl [HC]; · iexact HC
      isplitl [Ht]; · iexact Ht
      isplitl [HO]; · iexact HO
      isplitl [Hr Hd]
      · isplitl [Hr]; · iexact Hr
        iexact Hd
      isplitl [Has]; · iexact Has
      iexact HR
    refine hs.trans (h hcond _ hje ?_)
    iintro ⟨HC, Hd, HO, ⟨Hr, Hds⟩, Has, HR⟩
    iapply hk
    isplitl [HC]; · iexact HC
    isplitr [HR]
    · isplitr [Has]
      · isplitl [HO]; · iexact HO
        isplitl [Hr]; · iexact Hr
        isplitl [Hd]; · iexact Hd
        iexact Hds
      iexact Has
    iexact HR
  · rw [dif_neg hcond]
    have hne : j ≠ c.val := fun e => hcond (hc.mpr e)
    rw [if_neg hne]
    iintro ⟨HC, ⟨⟨HO, Hd, Hr, Hds⟩, Has⟩, HR⟩
    iapply hk
    isplitl [HC]; · iexact HC
    isplitr [HR]
    · isplitr [Has]
      · isplitl [HO]; · iexact HO
        isplitl [Hr]; · iexact Hr
        isplitl [Hd]; · iexact Hd
        iexact Hds
      iexact Has
    iexact HR

/-! ## Waits on transfer cells -/

/-- A wait on the transfer cell of number `n`: its payload comes, and its counter is at zero for good. -/
theorem dma_wait {n : ℕ} (h4 : 4 ≤ n) (hn : n < 134) (hu : dmaUsed c n) {O : CellTallies nD τ sig Unit} (hO : Above (lvN n) O)
    {sm : DmaSem sig} (hsm : sm = dS n) {sp sp' : Space} {s s' : Shape} {e e' : EltTy}
    {src : Memref sig .tc sp' s' e'} {κ' : Kind} {dst : Memref sig κ' sp s e} {hsrc : src.view.WordExact} {hdst : dst.view.WordExact}
    (hamt : dst.view.dmaCredit = dmaAmt n)
    (hk : iprop(Ctx m A K ∗ (Ow c O ∗ semVal (cellN c n) 0 ∗ dmaPay m A c n) ∗ R) ⊢ Wp c (k ⟨⟩) Q) :
    iprop(Ctx m A K ∗ (Ow c O ∗ cred (tallyAt (cellN c n) () (dmaAmt n)) ∗ atPos ER (cellN c n) 0 ∅ 0) ∗ R)
      ⊢ Wp c (.op (.waitDma2 sm src dst hsrc hdst) k) Q := by
  subst hsm
  have hw : Ctx m A K ⊢ MayWait (c : Thread nD τ) (.dma (dS n)) () O :=
    ctx_wait m A K c (.dma (dS n)) (Nat.le_of_eq (lv_cellN c hn)) hO
  unfold Ow at *
  rw [← hamt]
  iintro ⟨#HC, ⟨⟨%W, HO⟩, Hc, Hat⟩, HR⟩
  iapply (Rounds.wp_wait_rest_token 𝒱₀ ER (sched m A) (c : Thread nD τ) none (κ := Kd K c n)
      (wpE_waitDma2_eq 𝒱₀ (c : Thread nD τ) none Set.univ) (Set.mem_univ _) () (O := O) (W := W) (R := 0) (m := 0) (T := ∅)
      (by rw [Nat.zero_add, expect_dma m A c hn hu, hamt])) $$ [Hc HO Hat]
  · isplitr; · iapply (inv_dma m A K c h4 hn); iexact HC
    isplitl [Hc]; · iexact Hc
    isplitl [HO]; · iexact HO
    isplitr
    · iapply hw; iexact HC
    iexact Hat
  iintro ⟨HO, Hat, -, Hpay⟩
  ihave Hp := (Entails.of_eq (rest_dma m A c hn hu)) $$ Hpay
  imod (Rounds.cell_close ER (sched m A) (Set.mem_univ (Kd K c n)) (fun h => h) (R := 0 + 1) (duties_later m A (cellN c n))) $$ [Hat] with Hz
  · isplitr; · iapply (inv_dma m A K c h4 hn); iexact HC
    iexact Hat
  iapply hk
  isplitr; · iexact HC
  isplitr [HR]
  · isplitl [HO]; · iexists _; iexact HO
    isplitl [Hz]; · iexact Hz
    iexact Hp
  iexact HR

/-- A series of waits, the members `a` to `i - 1` behind it, `i` to `31` ahead. -/
def Waits (c : Dev nD) (O : CellTallies nD τ sig Unit) (todo done : ℕ → sProp (MT nD τ sig Unit (Elt F) ℕ UU ℕ)) (a i : ℕ) : sProp 𝕄 :=
  iprop(Ow c O ∗ bigSep (Finset.Ico i 32) todo ∗ bigSep (Finset.Ico a i) done)

/-- One wait of a series. -/
theorem waits_step {O : CellTallies nD τ sig Unit} {todo done : ℕ → sProp (MT nD τ sig Unit (Elt F) ℕ UU ℕ)} {a : ℕ} (i : ℕ) (ha : a ≤ i) (hi : i < 32)
    {n : ℕ} (h4 : 4 ≤ n) (hn : n < 134) (hu : dmaUsed c n) (hO : Above (lvN n) O)
    (ht : todo i ⊢ iprop(cred (tallyAt (cellN c n) () (dmaAmt n)) ∗ atPos ER (cellN c n) 0 ∅ 0))
    (hd : iprop(semVal (cellN c n) 0 ∗ dmaPay m A c n) ⊢ done i)
    {sm : DmaSem sig} (hsm : sm = dS n) {sp sp' : Space} {s s' : Shape} {e e' : EltTy}
    {src : Memref sig .tc sp' s' e'} {κ' : Kind} {dst : Memref sig κ' sp s e} {hsrc : src.view.WordExact} {hdst : dst.view.WordExact}
    (hamt : dst.view.dmaCredit = dmaAmt n)
    (hk : iprop(Ctx m A K ∗ Waits c O todo done a (i + 1) ∗ R) ⊢ Wp c (k ⟨⟩) Q) :
    iprop(Ctx m A K ∗ Waits c O todo done a i ∗ R) ⊢ Wp c (.op (.waitDma2 sm src dst hsrc hdst) k) Q := by
  unfold Waits at *
  rw [bigSep_Ico_succ_bot hi]
  rw [bigSep_Ico_succ_top ha] at hk
  have hs : iprop(Ctx m A K ∗ (Ow c O ∗ (todo i ∗ bigSep (Finset.Ico (i + 1) 32) todo) ∗ bigSep (Finset.Ico a i) done) ∗ R)
      ⊢ iprop(Ctx m A K ∗ (Ow c O ∗ cred (tallyAt (cellN c n) () (dmaAmt n)) ∗ atPos ER (cellN c n) 0 ∅ 0)
        ∗ bigSep (Finset.Ico (i + 1) 32) todo ∗ bigSep (Finset.Ico a i) done ∗ R) := by
    iintro ⟨HC, ⟨HO, ⟨Ht, Hr⟩, Hd⟩, HR⟩
    isplitl [HC]; · iexact HC
    isplitl [HO Ht]
    · isplitl [HO]; · iexact HO
      iapply ht; iexact Ht
    isplitl [Hr]; · iexact Hr
    isplitl [Hd]; · iexact Hd
    iexact HR
  refine hs.trans (dma_wait h4 hn hu hO hsm hamt ?_)
  iintro ⟨HC, ⟨HO, Hp⟩, Hr, Hd, HR⟩
  iapply hk
  isplitl [HC]; · iexact HC
  isplitr [HR]
  · isplitl [HO]; · iexact HO
    isplitl [Hr]; · iexact Hr
    isplitl [Hp]; · iapply hd; iexact Hp
    iexact Hd
  iexact HR

/-- One wait of a series under its test; where the test fails there is nothing to wait for. -/
theorem waits_if {O : CellTallies nD τ sig Unit} {todo done : ℕ → sProp (MT nD τ sig Unit (Elt F) ℕ UU ℕ)} (i : ℕ) (hi : i < 32)
    {cond : Prop} [Decidable cond] (hc : cond ↔ i ≠ c.val)
    {p : cond → Prog (TpuEff nD τ sig (Elt F) Λ₀ .tc) α} {q : Prog (TpuEff nD τ sig (Elt F) Λ₀ .tc) α}
    (h : ∀ h R', i ≠ c.val → (iprop(Ctx m A K ∗ Waits c O todo done 0 (i + 1) ∗ R') ⊢ Wp c q Q) →
      (iprop(Ctx m A K ∗ Waits c O todo done 0 i ∗ R') ⊢ Wp c (p h) Q))
    (hskip : i = c.val → todo i ⊢ done i)
    (hk : iprop(Ctx m A K ∗ Waits c O todo done 0 (i + 1) ∗ R) ⊢ Wp c q Q) :
    iprop(Ctx m A K ∗ Waits c O todo done 0 i ∗ R) ⊢ Wp c (dite cond p fun _ => q) Q := by
  by_cases hcond : cond
  · rw [dif_pos hcond]
    exact h hcond R (hc.mp hcond) hk
  · rw [dif_neg hcond]
    have hie : i = c.val := by by_contra hne; exact hcond (hc.mpr hne)
    unfold Waits at *
    rw [bigSep_Ico_succ_bot hi]
    rw [bigSep_Ico_succ_top (Nat.zero_le i)] at hk
    iintro ⟨HC, ⟨HO, ⟨Ht, Hr⟩, Hd⟩, HR⟩
    iapply hk
    isplitl [HC]; · iexact HC
    isplitr [HR]
    · isplitl [HO]; · iexact HO
      isplitl [Hr]; · iexact Hr
      isplitl [Ht]; · iapply (hskip hie); iexact Ht
      iexact Hd
    iexact HR

/-! ## The all-gather's sends -/

variable (A c) in
/-- What broadcast `k` uses up: the right to fill `c`'s rows of device `c + k`, and a share of `c`'s own rows. -/
def agTodo (k : ℕ) : sProp 𝕄 :=
  iprop(dutyTok ER (cellN (dv (c.val + k)) (102 + k)) 0 0 ∗ dutyTok ER (cellN c (70 + k)) 0 0
    ∗ (∃ f, rowsPt (dv (c.val + k)) c fullShare f) ∗ rowsPt c c (shareK k) (outV A))
variable (A c) in
/-- The all-gather before broadcast `i`. -/
def AgSt (i : ℕ) : sProp 𝕄 :=
  iprop(Ow c (Oag c i) ∗ bigSep (Finset.Ico i 32) (agTodo A c) ∗ bigSep (Finset.Ico 1 i) fun k => cred (tallyAt (cellN c (70 + k)) () NO))

/-- One remote copy of the all-gather. -/
theorem ag_send (j : ℕ) (h1 : 1 ≤ j) (hj : j < 32)
    {p : Dev nD} (hp : p = dv (c.val + j)) {s1 s2 : DmaSem sig} (hs1 : s1 = dS (70 + j)) (hs2 : s2 = dS (102 + j))
    {off : Fin 2 → ℕ} (hoff : off = ![32 * c.val, 0]) {inb : ∀ a, off a + S32x1024.size a ≤ S1024x1024.size a} {hr hr2}
    {hsc : ((oM : Memref sig (Dev.tc p : Thread nD τ).2.kind .vmem S1024x1024 .bf16).slice (Rect.unit (s := S1024x1024) off S32x1024.size inb) hr).view.ref.isScScratch = false}
    {hsrc : ((oM : Memref sig .tc .vmem S1024x1024 .bf16).slice (Rect.unit (s := S1024x1024) off S32x1024.size inb) hr2).view.WordExact}
    {hdst : ((oM : Memref sig (Dev.tc p : Thread nD τ).2.kind .vmem S1024x1024 .bf16).slice (Rect.unit (s := S1024x1024) off S32x1024.size inb) hr).view.WordExact}
    {hsem}
    (hk : iprop(Ctx m A K ∗ AgSt A c (j + 1) ∗ R) ⊢ Wp c (k ⟨⟩) Q) :
    iprop(Ctx m A K ∗ AgSt A c j ∗ R)
      ⊢ Wp c (.op (.enqueueDma ((oM : Memref sig .tc .vmem S1024x1024 .bf16).slice (Rect.unit (s := S1024x1024) off S32x1024.size inb) hr2)
          (.remote (Dev.tc p : Thread nD τ) ((oM : Memref sig (Dev.tc p : Thread nD τ).2.kind .vmem S1024x1024 .bf16).slice (Rect.unit (s := S1024x1024) off S32x1024.size inb) hr) (.dma s1) hsc)
          (.dma s2) hsrc hdst hsem) k) Q := by
  subst hp hs1 hs2 hoff
  have hc : c.val < 32 := c.isLt
  have hd : (dv (c.val + j)).val = (c.val + j) % 32 := dv_val _
  have hu1 : dmaUsed c (70 + j) := by refine ⟨?_, ?_, ?_, ?_, ?_⟩ <;> omega
  have hu2 : dmaUsed (dv (c.val + j)) (102 + j) := by refine ⟨?_, ?_, ?_, ?_, ?_⟩ <;> omega
  have ha1 : dmaAmt (70 + j) = NO := by unfold dmaAmt; rw [if_neg (by omega), if_neg (by omega), if_neg (by omega)]
  have ha2 : dmaAmt (102 + j) = NO := by unfold dmaAmt; rw [if_neg (by omega), if_neg (by omega), if_neg (by omega)]
  have hp1 : dmaPay m A c (70 + j) = rowsPt c c (shareK j) (outV A) := by
    unfold dmaPay
    rw [if_neg (by omega), if_neg (by omega), if_neg (by omega), if_neg (by omega), if_neg (by omega), if_pos (by omega), Nat.add_sub_cancel_left]
  have hp2 : dmaPay m A (dv (c.val + j)) (102 + j) = rowsPt (dv (c.val + j)) c fullShare (outV A) := by
    unfold dmaPay
    rw [if_neg (by omega), if_neg (by omega), if_neg (by omega), if_neg (by omega), if_neg (by omega), if_neg (by omega), Nat.add_sub_cancel_left,
      ← (eq_dv (d := c) (j := (dv (c.val + j)).val + 32 - j) (by omega))]
  have hN : (rowsM c).view.amount (.dma (dS (102 + j)) : SemLoc sig) = NO := rfl
  unfold AgSt Ow at *
  rw [bigSep_Ico_succ_bot hj]
  rw [bigSep_Ico_succ_top h1] at hk
  iintro ⟨#HC, ⟨⟨%W, HO⟩, ⟨Ht, Hr⟩, Hd⟩, HR⟩
  unfold agTodo
  icases Ht with ⟨Ht2, Ht1, ⟨%fd, Hf⟩, Ha⟩
  iapply (Rounds.wp_send_pointsTo 𝒱₀ ER (sched m A) (c : Thread nD τ) none (κ₁ := Kd K c (70 + j)) (κ₂ := Kd K (dv (c.val + j)) (102 + j))
    (c' := (Dev.tc (dv (c.val + j)) : Thread nD τ)) (s := S32x1024) (src := rowsM c) (dst := (rowsM c : Memref sig (Dev.tc (dv (c.val + j)) : Thread nD τ).2.kind .vmem S32x1024 .bf16))
    (sS := .dma (dS (70 + j))) (sem := .dma (dS (102 + j))) (q := shareK j)
    (r₁ := 0) (r₂ := 0) (d₁ := 0) (d₂ := 0) (fs := outV A) (fd := fd)
    (by rw [duties_used m A c (by omega) hu1]; exact Finset.mem_singleton_self _)
    (by rw [duties_used m A (dv (c.val + j)) (by omega) hu2]; exact Finset.mem_singleton_self _)
    () () NO hN ((amount_dma m A c (by omega) 0).trans ha1) ((amount_dma m A (dv (c.val + j)) (by omega) 0).trans ha2)
    (O₀ := Oag c j) (Oag c (j + 1)) (by rw [Oag_succ c hj]) (W := W)
    (by rw [payload_dma m A c (by omega), hp1]; unfold rowsPt; rw [← rows_set c])
    (by
      rw [payload_dma m A (dv (c.val + j)) (by omega), hp2]
      unfold rowsPt
      rw [← rows_set c]
      exact Entails.of_eq (pointsTo_congr (landed (rowsM c).view fd (outV A) _ rfl))))
    $$ [HO Ht1 Ht2 Hf Ha]
  · isplitr; · iapply (inv_dma m A K c (n := 70 + j) (by omega) (by omega)); iexact HC
    isplitr; · iapply (inv_dma m A K (dv (c.val + j)) (n := 102 + j) (by omega) (by omega)); iexact HC
    isplitl [Ha]; · unfold rowsPt; rw [← rows_set c]; iexact Ha
    isplitl [Hf]; · unfold rowsPt; rw [← rows_set c]; iexact Hf
    isplitl [HO]; · iexact HO
    isplitl [Ht1]; · iexact Ht1
    isplitr; · iapply (reached_dma m A K c (n := 70 + j) (by omega) (by omega)); iexact HC
    isplitl [Ht2]; · iexact Ht2
    iapply (reached_dma m A K (dv (c.val + j)) (n := 102 + j) (by omega) (by omega)); iexact HC
  iintro ⟨Hc, HO⟩
  iapply hk
  isplitr; · iexact HC
  isplitr [HR]
  · isplitl [HO]; · iexists W; iexact HO
    isplitl [Hr]; · iexact Hr
    isplitl [Hc]; · iexact Hc
    iexact Hd
  iexact HR

end Cert.KernelIdeal.Ring

end
-- ==== Proof.KernelIdeal.Phases.lean ====
/-
# The phases of the exchange

What each phase of the exchange starts with and leaves, and how one phase's pieces become the next one's.
-/
module

public import proofs.«01_k».proof.Proof.KernelIdeal.Values
public import proofs.«01_k».proof.Proof.KernelIdeal.Sends

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-! ## Reindexing -/

private theorem emp_sep_eq (P : sProp (MT nD τ sig Unit (Elt F) ℕ UU ℕ)) : iprop(emp ∗ P) = P := equiv_iff.mp BI.emp_sep
private theorem bigSep_empty_intro {I : Type} {Φ : I → sProp (MT nD τ sig Unit (Elt F) ℕ UU ℕ)} : (iprop(emp) : sProp (MT nD τ sig Unit (Elt F) ℕ UU ℕ)) ⊢ bigSep ∅ Φ := by
  rw [bigSep_empty]; exact Entails.refl _

private theorem perm_cab (X Y Z : sProp (MT nD τ sig Unit (Elt F) ℕ UU ℕ)) : iprop(X ∗ Y ∗ Z) ⊢ iprop(Y ∗ Z ∗ X) := by
  iintro ⟨H1, H2, H3⟩
  isplitl [H2]; iexact H2
  isplitl [H3]; iexact H3
  iexact H1
private theorem perm_bac (X Y Z : sProp (MT nD τ sig Unit (Elt F) ℕ UU ℕ)) : iprop(X ∗ Y ∗ Z) ⊢ iprop(Y ∗ X ∗ Z) := by
  iintro ⟨H1, H2, H3⟩
  isplitl [H2]; iexact H2
  isplitl [H1]; iexact H1
  iexact H3
private theorem perm_fst (X Y Z : sProp (MT nD τ sig Unit (Elt F) ℕ UU ℕ)) : iprop(X ∗ Y ∗ Z) ⊢ X := by
  iintro ⟨H1, -, -⟩
  iexact H1
private theorem perm_in (X Y Z : sProp (MT nD τ sig Unit (Elt F) ℕ UU ℕ)) {W Z' : sProp (MT nD τ sig Unit (Elt F) ℕ UU ℕ)} (h1 : X ⊢ W) (h2 : Z ⊢ Z') : iprop(X ∗ Y ∗ Z) ⊢ iprop(W ∗ Z') := by
  iintro ⟨H1, -, H3⟩
  isplitl [H1]
  · iapply h1; iexact H1
  · iapply h2; iexact H3

private theorem reix {I J : Type} [DecidableEq I] [DecidableEq J] {s : Finset I} {t : Finset J} (e : I → J) (hinj : Set.InjOn e s) (hst : s.image e = t)
    {Φ : J → sProp (MT nD τ sig Unit (Elt F) ℕ UU ℕ)} : bigSep t Φ = bigSep s (fun i => Φ (e i)) := by
  subst hst
  unfold bigSep
  exact Finset.fold_image (fun x hx y hy h => hinj hx hy h)

/-- The other devices, as the places after `c`. -/
theorem erase_rot (c : Dev nD) {Φ : Dev nD → sProp (MT nD τ sig Unit (Elt F) ℕ UU ℕ)} :
    bigSep (Finset.univ.erase c) Φ = bigSep (Finset.Ico 1 32) (fun k => Φ (dv (c.val + k))) := by
  refine reix (fun k => dv (c.val + k)) ?_ ?_
  · intro a ha b hb h
    have ha := Finset.mem_Ico.mp (Finset.mem_coe.mp ha)
    have hb := Finset.mem_Ico.mp (Finset.mem_coe.mp hb)
    have := congrArg Fin.val h
    simp only [dv_val] at this
    omega
  · ext d
    have hc : c.val < 32 := c.isLt
    have hd : d.val < 32 := d.isLt
    simp only [Finset.mem_image, Finset.mem_Ico, Finset.mem_erase, Finset.mem_univ, and_true]
    constructor
    · rintro ⟨k, hk, rfl⟩ h
      have := congrArg Fin.val h
      simp only [dv_val] at this
      omega
    · intro h
      have hn : d.val ≠ c.val := fun e => h (Fin.ext e)
      refine ⟨(d.val + 32 - c.val) % 32, by omega, Fin.ext ?_⟩
      rw [dv_val]; omega

/-- All the devices, as the numbers below 32. -/
theorem univ_dv {Φ : Dev nD → sProp (MT nD τ sig Unit (Elt F) ℕ UU ℕ)} :
    bigSep Finset.univ Φ = bigSep (Finset.Ico 0 32) (fun k => Φ (dv k)) := by
  refine reix dv ?_ ?_
  · intro a ha b hb h
    have ha := Finset.mem_Ico.mp (Finset.mem_coe.mp ha)
    have hb := Finset.mem_Ico.mp (Finset.mem_coe.mp hb)
    have := congrArg Fin.val h
    simp only [dv_val] at this
    omega
  · ext d
    simp only [Finset.mem_image, Finset.mem_Ico, Finset.mem_univ, iff_true]
    exact ⟨d.val, ⟨Nat.zero_le _, d.isLt⟩, dv_self d⟩

/-- The other devices, as the numbers below 32 other than `c`'s. -/
theorem erase_if (c : Dev nD) {Φ : Dev nD → sProp (MT nD τ sig Unit (Elt F) ℕ UU ℕ)} :
    bigSep (Finset.univ.erase c) Φ = bigSep (Finset.Ico 0 32) (fun j => if j = c.val then (iprop(emp) : sProp (MT nD τ sig Unit (Elt F) ℕ UU ℕ)) else Φ (dv j)) := by
  have h1 : bigSep Finset.univ (fun d => if d = c then (iprop(emp) : sProp (MT nD τ sig Unit (Elt F) ℕ UU ℕ)) else Φ d) = bigSep (Finset.univ.erase c) Φ := by
    rw [bigSep_erase (Finset.mem_univ c), if_pos rfl]
    rw [show bigSep (Finset.univ.erase c) (fun d => if d = c then (iprop(emp) : sProp (MT nD τ sig Unit (Elt F) ℕ UU ℕ)) else Φ d) = bigSep (Finset.univ.erase c) Φ from
      bigSep_congr fun d hd => if_neg (Finset.ne_of_mem_erase hd)]
    exact emp_sep_eq _
  rw [← h1, univ_dv]
  refine bigSep_congr fun j hj => ?_
  have hj := (Finset.mem_Ico.mp hj).2
  by_cases h : j = c.val
  · rw [if_pos h, if_pos (by rw [h]; exact dv_self c)]
  · rw [if_neg h, if_neg (fun e => h ((dv_of_lt hj).symm.trans (congrArg Fin.val e)))]

/-- All the devices, as the places before `c`. -/
theorem univ_back (c : Dev nD) {Φ : Dev nD → sProp (MT nD τ sig Unit (Elt F) ℕ UU ℕ)} :
    bigSep Finset.univ Φ = iprop(Φ c ∗ bigSep (Finset.Ico 1 32) (fun k => Φ (dv (c.val + 32 - k)))) := by
  rw [bigSep_erase (Finset.mem_univ c)]
  congr 1
  refine reix (fun k => dv (c.val + 32 - k)) ?_ ?_
  · intro a ha b hb h
    have ha := Finset.mem_Ico.mp (Finset.mem_coe.mp ha)
    have hb := Finset.mem_Ico.mp (Finset.mem_coe.mp hb)
    have := congrArg Fin.val h
    simp only [dv_val] at this
    omega
  · ext d
    have hc : c.val < 32 := c.isLt
    have hd : d.val < 32 := d.isLt
    simp only [Finset.mem_image, Finset.mem_Ico, Finset.mem_erase, Finset.mem_univ, and_true]
    constructor
    · rintro ⟨k, hk, rfl⟩ h
      have := congrArg Fin.val h
      simp only [dv_val] at this
      omega
    · intro h
      have hn : d.val ≠ c.val := fun e => h (Fin.ext e)
      refine ⟨(c.val + 32 - d.val) % 32, by omega, Fin.ext ?_⟩
      rw [dv_val]; omega

/-! ## The pieces that each phase starts with -/

section
variable (m A c)

/-- The duties of `c`'s part of the reduce-scatter. -/
def RsTok : sProp 𝕄 := bigSep (Finset.Ico 0 32) fun j => if j = c.val then (iprop(emp) : sProp (MT nD τ sig Unit (Elt F) ℕ UU ℕ))
  else iprop(dutyTok ER (cellN (dv j) (38 + c.val)) 0 0 ∗ dutyTok ER (cellN c (6 + j)) 0 0)
/-- The rows of the others that `c` writes. -/
def AgRows : sProp 𝕄 := bigSep (Finset.Ico 1 32) fun k => iprop(∃ f, rowsPt (F := F) (dv (c.val + k)) c fullShare f)
/-- What `c` waits for in the reduce-scatter's receive cells. -/
def RecvTok : sProp 𝕄 := bigSep (Finset.Ico 0 32) fun s => if s = c.val then (iprop(emp) : sProp (MT nD τ sig Unit (Elt F) ℕ UU ℕ))
  else iprop(cred (tallyAt (cellN c (38 + s)) () NR) ∗ atPos ER (cellN c (38 + s)) 0 ∅ 0)
/-- The positions of the reduce-scatter's send cells. -/
def SendPos : sProp 𝕄 := bigSep (Finset.Ico 0 32) fun j => if j = c.val then (iprop(emp) : sProp (MT nD τ sig Unit (Elt F) ℕ UU ℕ)) else atPos ER (cellN c (6 + j)) 0 ∅ 0
/-- The duties of `c`'s broadcasts. -/
def AgTok : sProp 𝕄 := bigSep (Finset.Ico 1 32) fun k =>
  iprop(dutyTok ER (cellN (dv (c.val + k)) (102 + k)) 0 0 ∗ dutyTok ER (cellN c (70 + k)) 0 0)
/-- The positions of the broadcasts' send cells. -/
def AgsPos : sProp 𝕄 := bigSep (Finset.Ico 1 32) fun k => atPos ER (cellN c (70 + k)) 0 ∅ 0
/-- What `c` waits for in the broadcasts' receive cells. -/
def AgrTok : sProp 𝕄 := bigSep (Finset.Ico 1 32) fun k =>
  iprop(cred (tallyAt (cellN c (102 + k)) () NO) ∗ atPos ER (cellN c (102 + k)) 0 ∅ 0)

def rvTodo (s : ℕ) : sProp 𝕄 := if s = c.val then slotPt c c (rsV A c)
  else iprop(cred (tallyAt (cellN c (38 + s)) () NR) ∗ atPos ER (cellN c (38 + s)) 0 ∅ 0)
def rvDone (s : ℕ) : sProp 𝕄 := iprop(slotPt c (dv s) (rsV A c) ∗ if s = c.val then (iprop(emp) : sProp (MT nD τ sig Unit (Elt F) ℕ UU ℕ)) else semVal (cellN c (38 + s)) 0)
def sdTodo (j : ℕ) : sProp 𝕄 := if j = c.val then accPt A c j
  else iprop(cred (tallyAt (cellN c (6 + j)) () NR) ∗ atPos ER (cellN c (6 + j)) 0 ∅ 0)
def sdDone (j : ℕ) : sProp 𝕄 := iprop(accPt A c j ∗ if j = c.val then (iprop(emp) : sProp (MT nD τ sig Unit (Elt F) ℕ UU ℕ)) else semVal (cellN c (6 + j)) 0)
def arTodo (k : ℕ) : sProp 𝕄 := iprop(cred (tallyAt (cellN c (102 + k)) () NO) ∗ atPos ER (cellN c (102 + k)) 0 ∅ 0)
def arDone (k : ℕ) : sProp 𝕄 := iprop(semVal (cellN c (102 + k)) 0 ∗ rowsPt c (dv (c.val + 32 - k)) fullShare (outV A))
def asTodo (k : ℕ) : sProp 𝕄 := iprop(cred (tallyAt (cellN c (70 + k)) () NO) ∗ atPos ER (cellN c (70 + k)) 0 ∅ 0)
def asDone (k : ℕ) : sProp 𝕄 := iprop(semVal (cellN c (70 + k)) 0 ∗ rowsPt c c (shareK k) (outV A))

end

/-! ## From one phase to the next -/

theorem Ors_end : Ors c 32 = 0 := by unfold Ors; rw [Finset.Ico_self]; rfl
theorem Oag_end : Oag c 32 = 0 := by unfold Oag; rw [Finset.Ico_self]; rfl

/-- After the handshake each device has the others' slots and rows, and the reduce-scatter starts. -/
theorem rs_begin : iprop(Ow c (Ors c 0 + Oag c 1) ∗ bigSep (Finset.univ.erase c) (fun d => barPay c d) ∗ (∃ f, slotPt c c f) ∗ RsTok c)
    ⊢ (iprop(RSt A c 0 ∗ AgRows c) : sProp 𝕄) := by
  have h1 : bigSep (Finset.univ.erase c) (fun d => barPay (F := F) c d)
      = iprop(bigSep (Finset.Ico 0 32) (fun j => if j = c.val then (iprop(emp) : sProp (MT nD τ sig Unit (Elt F) ℕ UU ℕ)) else iprop(∃ f, slotPt (F := F) (dv j) c f)) ∗ AgRows c) := by
    unfold barPay AgRows
    rw [bigSep_sep', erase_if c (Φ := fun d => iprop(∃ f, slotPt (F := F) d c f)), erase_rot c (Φ := fun d => iprop(∃ f, rowsPt (F := F) d c fullShare f))]
  have h2 : iprop((∃ f, slotPt (F := F) c c f) ∗ bigSep (Finset.Ico 0 32) (fun j => if j = c.val then (iprop(emp) : sProp (MT nD τ sig Unit (Elt F) ℕ UU ℕ)) else iprop(∃ f, slotPt (F := F) (dv j) c f)) ∗ RsTok c)
      ⊢ bigSep (Finset.Ico 0 32) (rsTodo c) := by
    have hm : c.val ∈ Finset.Ico 0 32 := Finset.mem_Ico.mpr ⟨Nat.zero_le _, c.isLt⟩
    unfold RsTok
    rw [← bigSep_sep', bigSep_erase hm, bigSep_erase hm (Φ := rsTodo c)]
    have hr : bigSep ((Finset.Ico 0 32).erase c.val) (fun j => iprop((if j = c.val then (iprop(emp) : sProp (MT nD τ sig Unit (Elt F) ℕ UU ℕ)) else iprop(∃ f, slotPt (F := F) (dv j) c f))
        ∗ (if j = c.val then (iprop(emp) : sProp (MT nD τ sig Unit (Elt F) ℕ UU ℕ)) else iprop(dutyTok ER (cellN (dv j) (38 + c.val)) 0 0 ∗ dutyTok ER (cellN c (6 + j)) 0 0))))
        ⊢ bigSep ((Finset.Ico 0 32).erase c.val) (rsTodo (F := F) c) := by
      refine bigSep_mono fun j hj => ?_
      unfold rsTodo
      rw [if_neg (Finset.ne_of_mem_erase hj), if_neg (Finset.ne_of_mem_erase hj), if_neg (Finset.ne_of_mem_erase hj)]
      exact perm_cab _ _ _
    refine perm_in _ _ _ ?_ hr
    unfold rsTodo; rw [if_pos rfl]
  rw [h1]
  unfold RSt
  rw [Finset.Ico_self]
  iintro ⟨HO, ⟨Hs, Hr⟩, Hc, Ht⟩
  isplitr [Hr]
  · isplitl [HO]; iexact HO
    isplitl
    · iapply h2
      isplitl [Hc]; iexact Hc
      isplitl [Hs]; iexact Hs
      iexact Ht
    · iapply bigSep_empty_intro; iempintro
  · iexact Hr

/-- After its last send `c` waits for what the others send. -/
theorem recv_begin : iprop(RSt A c 32 ∗ RecvTok c ∗ SendPos c)
    ⊢ (iprop(Waits c (Oag c 1) (rvTodo A c) (rvDone A c) 0 0 ∗ bigSep (Finset.Ico 0 32) (sdTodo A c)) : sProp 𝕄) := by
  have h : iprop(bigSep (Finset.Ico 0 32) (rsDone A c) ∗ RecvTok c ∗ SendPos c)
      ⊢ iprop(bigSep (Finset.Ico 0 32) (rvTodo A c) ∗ bigSep (Finset.Ico 0 32) (sdTodo A c)) := by
    unfold RecvTok SendPos
    rw [← bigSep_sep', ← bigSep_sep', ← bigSep_sep']
    refine bigSep_mono fun j _ => ?_
    unfold rsDone rvTodo sdTodo
    by_cases hj : j = c.val
    · simp only [if_pos hj]
      exact perm_fst _ _ _
    · simp only [if_neg hj]
      exact perm_bac _ _ _
  unfold RSt Waits
  rw [Finset.Ico_self, Ors_end, zero_add]
  iintro ⟨⟨HO, -, Hd⟩, Hr, Hs⟩
  ihave ⟨H1, H2⟩ := h $$ [Hd Hr Hs]
  · isplitl [Hd]; iexact Hd
    isplitl [Hr]; iexact Hr
    iexact Hs
  isplitr [H2]
  · isplitl [HO]; iexact HO
    isplitl [H1]; iexact H1
    iapply bigSep_empty_intro; iempintro
  · iexact H2

/-- The waits' results, once all is waited for. -/
theorem waits_end {O : CellTallies nD τ sig Unit} {todo done : ℕ → sProp (MT nD τ sig Unit (Elt F) ℕ UU ℕ)} {a : ℕ} :
    Waits c O todo done a 32 ⊢ iprop(Ow c O ∗ bigSep (Finset.Ico a 32) done) := by
  unfold Waits
  iintro ⟨HO, -, Hd⟩
  isplitl [HO]; iexact HO
  iexact Hd
theorem waits_begin {O : CellTallies nD τ sig Unit} {todo done : ℕ → sProp (MT nD τ sig Unit (Elt F) ℕ UU ℕ)} {a : ℕ} :
    iprop(Ow c O ∗ bigSep (Finset.Ico a 32) todo) ⊢ Waits c O todo done a a := by
  unfold Waits
  rw [Finset.Ico_self]
  iintro ⟨HO, Hd⟩
  isplitl [HO]; iexact HO
  isplitl [Hd]; iexact Hd
  iapply bigSep_empty_intro; iempintro

/-- The semaphores of the receive cells after the waits. -/
def RvSems (c : Dev nD) : sProp 𝕄 := bigSep (Finset.Ico 0 32) fun s => if s = c.val then (iprop(emp) : sProp (MT nD τ sig Unit (Elt F) ℕ UU ℕ)) else semVal (cellN c (38 + s)) 0
def SdSems (c : Dev nD) : sProp 𝕄 := bigSep (Finset.Ico 0 32) fun s => if s = c.val then (iprop(emp) : sProp (MT nD τ sig Unit (Elt F) ℕ UU ℕ)) else semVal (cellN c (6 + s)) 0

theorem slots_join (f : S32x32x1024.Idx → Elt F .bf16) :
    bigSep (Finset.Ico 0 32) (fun s => slotPt c (dv s) f) = Pt c (Memref.whole cc0_scratch12 : Memref sig .tc _ _ _) f := by
  rw [← univ_dv (Φ := fun d => slotPt c d f)]
  unfold slotPt
  have hd : ∀ a ∈ (Finset.univ : Finset (Dev nD)), ∀ b ∈ (Finset.univ : Finset (Dev nD)), a ≠ b → Disjoint (slotRect a).set (slotRect b).set := by
    intro a _ b _ hab
    rw [Finset.disjoint_left]
    intro y h1 h2
    refine hab (Fin.ext ?_)
    have h1 := Rect.mem_set_unit.mp h1 0
    have h2 := Rect.mem_set_unit.mp h2 0
    simp at h1 h2
    omega
  have hu : Finset.univ.biUnion (fun d : Dev nD => (slotRect d).set) = Finset.univ := by
    refine Finset.eq_univ_of_forall fun y => Finset.mem_biUnion.mpr ⟨dv (y 0).val, Finset.mem_univ _, Rect.mem_set_unit.mpr ?_⟩
    have h0 : (y 0).val < 32 := (y 0).isLt
    have h1 : (y 1).val < 32 := (y 1).isLt
    have h2 : (y 2).val < 1024 := (y 2).isLt
    intro a
    fin_cases a
    · simp [dv_of_lt h0]
    · simpa using h1
    · simpa using h2
  rw [← pointsTo_biUnion _ _ hd, hu]

/-- The slots together after the last receive. -/
theorem recv_end {O : CellTallies nD τ sig Unit} : Waits c O (rvTodo A c) (rvDone A c) 0 32
    ⊢ (iprop(Ow c O ∗ Pt c (Memref.whole cc0_scratch12 : Memref sig .tc _ _ _) (rsV A c) ∗ RvSems c) : sProp 𝕄) := by
  have h : bigSep (Finset.Ico 0 32) (rvDone A c) = iprop(Pt c (Memref.whole cc0_scratch12 : Memref sig .tc _ _ _) (rsV A c) ∗ RvSems c) := by
    unfold rvDone RvSems
    rw [bigSep_sep', slots_join]
  rw [← h]
  exact waits_end

/-- Device `c`'s own rows, shared out to its broadcasts. -/
theorem rows_shares : rowsPt c c fullShare (outV A) ⊢ (iprop(rowsPt c c (Transfers.shareDrop fullShare 31) (outV A)
    ∗ bigSep (Finset.Ico 1 32) fun k => rowsPt c c (shareK k) (outV A)) : sProp 𝕄) := by
  have hx : bigSep (Finset.Ico 1 32) (fun k => rowsPt (F := F) c c (shareK k) (outV A))
      = bigSep (Finset.range 31) (fun i => rowsPt c c (Transfers.shareTokN fullShare i) (outV A)) := by
    refine (reix (Φ := fun k => rowsPt (F := F) c c (shareK k) (outV A)) (s := Finset.range 31) (t := Finset.Ico 1 32) (fun i => i + 1)
      (fun a _ b _ h => Nat.succ_injective h) ?_).trans (bigSep_congr fun i _ => by show rowsPt c c (Transfers.shareTokN fullShare (i + 1 - 1)) (outV A) = _; rw [Nat.add_sub_cancel])
    ext d
    simp only [Finset.mem_image, Finset.mem_Ico, Finset.mem_range]
    exact ⟨fun ⟨k, h, e⟩ => by omega, fun h => ⟨d - 1, by omega, by omega⟩⟩
  rw [hx]
  exact (Transfers.pointsTo_toks_range (ℓ := (c : Thread nD τ).loc cc0_stg3_0) (S := (rowsRect c).set) (f := outV A) fullShare 31).1
theorem shares_rows : iprop(rowsPt c c (Transfers.shareDrop fullShare 31) (outV A)
    ∗ bigSep (Finset.Ico 1 32) fun k => rowsPt c c (shareK k) (outV A)) ⊢ (rowsPt c c fullShare (outV A) : sProp 𝕄) := by
  have hx : bigSep (Finset.Ico 1 32) (fun k => rowsPt (F := F) c c (shareK k) (outV A))
      = bigSep (Finset.range 31) (fun i => rowsPt c c (Transfers.shareTokN fullShare i) (outV A)) := by
    refine (reix (Φ := fun k => rowsPt (F := F) c c (shareK k) (outV A)) (s := Finset.range 31) (t := Finset.Ico 1 32) (fun i => i + 1)
      (fun a _ b _ h => Nat.succ_injective h) ?_).trans (bigSep_congr fun i _ => by show rowsPt c c (Transfers.shareTokN fullShare (i + 1 - 1)) (outV A) = _; rw [Nat.add_sub_cancel])
    ext d
    simp only [Finset.mem_image, Finset.mem_Ico, Finset.mem_range]
    exact ⟨fun ⟨k, h, e⟩ => by omega, fun h => ⟨d - 1, by omega, by omega⟩⟩
  rw [hx]
  exact (Transfers.pointsTo_toks_range (ℓ := (c : Thread nD τ).loc cc0_stg3_0) (S := (rowsRect c).set) (f := outV A) fullShare 31).2

/-- The broadcasts start. -/
theorem ag_begin : iprop(Ow c (Oag c 1) ∗ rowsPt c c fullShare (outV A) ∗ AgRows c ∗ AgTok c)
    ⊢ (iprop(AgSt A c 1 ∗ rowsPt c c (Transfers.shareDrop fullShare 31) (outV A)) : sProp 𝕄) := by
  have h : iprop((bigSep (Finset.Ico 1 32) fun k => rowsPt c c (shareK k) (outV A)) ∗ AgRows c ∗ AgTok c)
      ⊢ bigSep (Finset.Ico 1 32) (agTodo A c) := by
    unfold AgRows AgTok
    rw [← bigSep_sep', ← bigSep_sep']
    refine bigSep_mono fun k _ => ?_
    unfold agTodo
    have hx (X Y Z W : sProp (MT nD τ sig Unit (Elt F) ℕ UU ℕ)) : iprop(X ∗ Y ∗ Z ∗ W) ⊢ iprop(Z ∗ W ∗ Y ∗ X) := by
      iintro ⟨H1, H2, H3, H4⟩
      isplitl [H3]; iexact H3
      isplitl [H4]; iexact H4
      isplitl [H2]; iexact H2
      iexact H1
    exact hx _ _ _ _
  unfold AgSt
  rw [Finset.Ico_self]
  iintro ⟨HO, Hr, Ha, Ht⟩
  ihave ⟨Hd, Hs⟩ := rows_shares $$ Hr
  isplitr [Hd]
  · isplitl [HO]; iexact HO
    isplitl
    · iapply h
      isplitl [Hs]; iexact Hs
      isplitl [Ha]; iexact Ha
      iexact Ht
    · iapply bigSep_empty_intro; iempintro
  · iexact Hd

/-- After its last broadcast `c` waits for the others' rows. -/
theorem ar_begin : iprop(AgSt A c 32 ∗ AgrTok c ∗ AgsPos c)
    ⊢ (iprop(Waits c 0 (arTodo c) (arDone A c) 1 1 ∗ bigSep (Finset.Ico 1 32) (asTodo c)) : sProp 𝕄) := by
  have h : iprop((bigSep (Finset.Ico 1 32) fun k => cred (tallyAt (cellN c (70 + k)) () NO)) ∗ AgsPos c)
      ⊢ bigSep (Finset.Ico 1 32) (asTodo (F := F) c) := by
    unfold AgsPos
    rw [← bigSep_sep']
    exact bigSep_mono fun k _ => by unfold asTodo; exact Entails.refl _
  unfold AgSt
  rw [Oag_end]
  iintro ⟨⟨HO, -, Hc⟩, Hr, Hp⟩
  isplitr [Hc Hp]
  · iapply waits_begin
    isplitl [HO]; iexact HO
    unfold AgrTok
    iexact Hr
  · iapply h
    isplitl [Hc]; iexact Hc
    iexact Hp

def ArSems (c : Dev nD) : sProp 𝕄 := bigSep (Finset.Ico 1 32) fun k => semVal (cellN c (102 + k)) 0
def AsSems (c : Dev nD) : sProp 𝕄 := bigSep (Finset.Ico 1 32) fun k => semVal (cellN c (70 + k)) 0

theorem rows_join (f : S1024x1024.Idx → Elt F .bf16) :
    bigSep Finset.univ (fun d => rowsPt c d fullShare f) = Pt c oM f := by
  unfold rowsPt
  have hd : ∀ a ∈ (Finset.univ : Finset (Dev nD)), ∀ b ∈ (Finset.univ : Finset (Dev nD)), a ≠ b → Disjoint (rowsRect a).set (rowsRect b).set := by
    intro a _ b _ hab
    rw [Finset.disjoint_left]
    intro y h1 h2
    refine hab (Fin.ext ?_)
    have h1 := Rect.mem_set_unit.mp h1 0
    have h2 := Rect.mem_set_unit.mp h2 0
    simp at h1 h2
    omega
  have hu : Finset.univ.biUnion (fun d : Dev nD => (rowsRect d).set) = Finset.univ := by
    refine Finset.eq_univ_of_forall fun y => Finset.mem_biUnion.mpr ⟨dv ((y 0).val / 32), Finset.mem_univ _, Rect.mem_set_unit.mpr ?_⟩
    have h0 : (y 0).val < 1024 := (y 0).isLt
    have h1 : (y 1).val < 1024 := (y 1).isLt
    intro a
    fin_cases a
    · have : (dv ((y 0).val / 32)).val = (y 0).val / 32 := dv_of_lt (by omega)
      simp [this]; omega
    · simpa using h1
  rw [← pointsTo_biUnion _ _ hd, hu]

/-- The whole result, once the others' rows and the own rows' shares are back. -/
theorem out_end : iprop(bigSep (Finset.Ico 1 32) (arDone A c) ∗ bigSep (Finset.Ico 1 32) (asDone A c) ∗ rowsPt c c (Transfers.shareDrop fullShare 31) (outV A))
    ⊢ (iprop(Pt c oM (outV A) ∗ ArSems c ∗ AsSems c) : sProp 𝕄) := by
  unfold arDone asDone ArSems AsSems
  rw [bigSep_sep', bigSep_sep', ← rows_join, univ_back c]
  iintro ⟨⟨H1, H2⟩, ⟨H3, H4⟩, H5⟩
  isplitl [H2 H4 H5]
  · isplitl [H4 H5]
    · iapply shares_rows
      isplitl [H5]; iexact H5
      iexact H4
    · iexact H2
  · isplitl [H1]; iexact H1
    iexact H3

/-! ## The accumulators as blocks -/

theorem acc_disjoint {a b : ℕ} (h : a % 8 ≠ b % 8) : Disjoint (accRect a).set (accRect b).set := by
  rw [Finset.disjoint_left]
  intro y h1 h2
  have h1 := Rect.mem_set_unit.mp h1 0
  have h2 := Rect.mem_set_unit.mp h2 0
  simp at h1 h2
  omega
theorem acc_cover (g : ℕ) : (Finset.Ico (8 * g) (8 * g + 8)).biUnion (fun j => (accRect j).set) = Finset.univ := by
  refine Finset.eq_univ_of_forall fun y => ?_
  have h0 : (y 0).val < 256 := (y 0).isLt
  have h1 : (y 1).val < 1024 := (y 1).isLt
  refine Finset.mem_biUnion.mpr ⟨8 * g + (y 0).val / 32, Finset.mem_Ico.mpr ⟨by omega, by omega⟩, Rect.mem_set_unit.mpr fun a => ?_⟩
  fin_cases a
  · simp; omega
  · simpa using h1

theorem acc_blocks0 : accs A c 0 8 = Pt c acM0 (toAcc 0 (A c 0)) := by
  unfold accs accPt
  have hc : bigSep (Finset.Ico 0 8) (fun j => (((c : Thread nD τ).loc (accR (j / 8))) ↦[accSet (j / 8) j]{fullShare} (toAcc (j / 8) (A c (j / 8))) : sProp 𝕄))
      = bigSep (Finset.Ico 0 8) (fun j => (((c : Thread nD τ).loc (accR 0)) ↦[accSet 0 j]{fullShare} (toAcc 0 (A c 0)) : sProp 𝕄)) := by
    refine bigSep_congr fun j hj => ?_
    have hj := Finset.mem_Ico.mp hj
    rw [show j / 8 = 0 by omega]
  rw [hc, ← pointsTo_biUnion _ _ (by
    intro a ha b hb hab
    have ha := Finset.mem_Ico.mp ha
    have hb := Finset.mem_Ico.mp hb
    exact acc_disjoint (by omega)), show (Finset.Ico 0 8).biUnion (accSet 0) = Finset.univ from acc_cover 0]
  rfl

theorem acc_blocks1 : accs A c 8 16 = Pt c acM1 (toAcc 1 (A c 1)) := by
  unfold accs accPt
  have hc : bigSep (Finset.Ico 8 16) (fun j => (((c : Thread nD τ).loc (accR (j / 8))) ↦[accSet (j / 8) j]{fullShare} (toAcc (j / 8) (A c (j / 8))) : sProp 𝕄))
      = bigSep (Finset.Ico 8 16) (fun j => (((c : Thread nD τ).loc (accR 1)) ↦[accSet 1 j]{fullShare} (toAcc 1 (A c 1)) : sProp 𝕄)) := by
    refine bigSep_congr fun j hj => ?_
    have hj := Finset.mem_Ico.mp hj
    rw [show j / 8 = 1 by omega]
  rw [hc, ← pointsTo_biUnion _ _ (by
    intro a ha b hb hab
    have ha := Finset.mem_Ico.mp ha
    have hb := Finset.mem_Ico.mp hb
    exact acc_disjoint (by omega)), show (Finset.Ico 8 16).biUnion (accSet 1) = Finset.univ from acc_cover 1]
  rfl

theorem acc_blocks2 : accs A c 16 24 = Pt c acM2 (toAcc 2 (A c 2)) := by
  unfold accs accPt
  have hc : bigSep (Finset.Ico 16 24) (fun j => (((c : Thread nD τ).loc (accR (j / 8))) ↦[accSet (j / 8) j]{fullShare} (toAcc (j / 8) (A c (j / 8))) : sProp 𝕄))
      = bigSep (Finset.Ico 16 24) (fun j => (((c : Thread nD τ).loc (accR 2)) ↦[accSet 2 j]{fullShare} (toAcc 2 (A c 2)) : sProp 𝕄)) := by
    refine bigSep_congr fun j hj => ?_
    have hj := Finset.mem_Ico.mp hj
    rw [show j / 8 = 2 by omega]
  rw [hc, ← pointsTo_biUnion _ _ (by
    intro a ha b hb hab
    have ha := Finset.mem_Ico.mp ha
    have hb := Finset.mem_Ico.mp hb
    exact acc_disjoint (by omega)), show (Finset.Ico 16 24).biUnion (accSet 2) = Finset.univ from acc_cover 2]
  rfl

theorem acc_blocks3 : accs A c 24 32 = Pt c acM3 (toAcc 3 (A c 3)) := by
  unfold accs accPt
  have hc : bigSep (Finset.Ico 24 32) (fun j => (((c : Thread nD τ).loc (accR (j / 8))) ↦[accSet (j / 8) j]{fullShare} (toAcc (j / 8) (A c (j / 8))) : sProp 𝕄))
      = bigSep (Finset.Ico 24 32) (fun j => (((c : Thread nD τ).loc (accR 3)) ↦[accSet 3 j]{fullShare} (toAcc 3 (A c 3)) : sProp 𝕄)) := by
    refine bigSep_congr fun j hj => ?_
    have hj := Finset.mem_Ico.mp hj
    rw [show j / 8 = 3 by omega]
  rw [hc, ← pointsTo_biUnion _ _ (by
    intro a ha b hb hab
    have ha := Finset.mem_Ico.mp ha
    have hb := Finset.mem_Ico.mp hb
    exact acc_disjoint (by omega)), show (Finset.Ico 24 32).biUnion (accSet 3) = Finset.univ from acc_cover 3]
  rfl

/-- All the blocks of the accumulators, back from the sends. -/
theorem sd_end : bigSep (Finset.Ico 0 32) (sdDone A c) = iprop(accs A c 0 32 ∗ SdSems c) := by
  unfold sdDone accs SdSems
  rw [bigSep_sep']
theorem accs_split (a b e : ℕ) (h1 : a ≤ b) (h2 : b ≤ e) : accs A c a e = (iprop(accs A c a b ∗ accs A c b e) : sProp 𝕄) := by
  unfold accs
  rw [← Finset.Ico_union_Ico_eq_Ico h1 h2, bigSep_union (Finset.Ico_disjoint_Ico_consecutive a b e)]
  rfl
theorem accs_end : accs A c 0 32 = (iprop(Pt c acM0 (toAcc 0 (A c 0)) ∗ Pt c acM1 (toAcc 1 (A c 1)) ∗ Pt c acM2 (toAcc 2 (A c 2)) ∗ Pt c acM3 (toAcc 3 (A c 3))) : sProp 𝕄) := by
  rw [accs_split 0 8 32 (by decide) (by decide), accs_split 8 16 32 (by decide) (by decide), accs_split 16 24 32 (by decide) (by decide),
    acc_blocks0, acc_blocks1, acc_blocks2, acc_blocks3]

end Cert.KernelIdeal.Ring

end
-- ==== Proof.KernelIdeal.Weights.lean ====
/-
# The weights' copies

An operation on an assertion further back in the chain, and the copies of the two weights' blocks.
-/
module

public import proofs.«01_k».proof.Proof.KernelIdeal.Compute
public import proofs.«01_k».proof.Proof.KernelIdeal.Phases

@[expose] public section

set_option maxRecDepth 8000
set_option cleanup.letToHave false

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-! ## An operation on an assertion further back -/

theorem at2 {ι : Type} {X : sProp (MT nD τ sig Unit (Elt F) ℕ UU ℕ)} {X' : ι → sProp (MT nD τ sig Unit (Elt F) ℕ UU ℕ)} {P : sProp (MT nD τ sig Unit (Elt F) ℕ UU ℕ)} {P' : ι → sProp (MT nD τ sig Unit (Elt F) ℕ UU ℕ)} {Y1 : sProp (MT nD τ sig Unit (Elt F) ℕ UU ℕ)}
    (op : ∀ R', (∀ v, iprop(Ctx m A K ∗ X' v ∗ R') ⊢ P' v) → (iprop(Ctx m A K ∗ X ∗ R') ⊢ P))
    (hk : ∀ v, iprop(Ctx m A K ∗ Y1 ∗ X' v ∗ R) ⊢ P' v) : iprop(Ctx m A K ∗ Y1 ∗ X ∗ R) ⊢ P := by
  have h := op (iprop(Y1 ∗ R)) fun v => by
    iintro ⟨HC, HX, H1, HR⟩
    iapply (hk v)
    isplitl [HC]; · iexact HC
    isplitl [H1]; · iexact H1
    isplitl [HX]; · iexact HX
    iexact HR
  iintro ⟨HC, H1, HX, HR⟩
  iapply h
  isplitl [HC]; · iexact HC
  isplitl [HX]; · iexact HX
  isplitl [H1]; · iexact H1
  iexact HR
theorem to2 {X : sProp (MT nD τ sig Unit (Elt F) ℕ UU ℕ)} {X' : sProp (MT nD τ sig Unit (Elt F) ℕ UU ℕ)} {P : sProp (MT nD τ sig Unit (Elt F) ℕ UU ℕ)} {P' : sProp (MT nD τ sig Unit (Elt F) ℕ UU ℕ)} {Y1 : sProp (MT nD τ sig Unit (Elt F) ℕ UU ℕ)}
    (op : ∀ R', (iprop(Ctx m A K ∗ X' ∗ R') ⊢ P') → (iprop(Ctx m A K ∗ X ∗ R') ⊢ P))
    (hk : iprop(Ctx m A K ∗ Y1 ∗ X' ∗ R) ⊢ P') : iprop(Ctx m A K ∗ Y1 ∗ X ∗ R) ⊢ P :=
  at2 (ι := Unit) (X' := fun _ => X') (P' := fun _ => P') (fun R' h => op R' (h ())) (fun _ => hk)

theorem at3 {ι : Type} {X : sProp (MT nD τ sig Unit (Elt F) ℕ UU ℕ)} {X' : ι → sProp (MT nD τ sig Unit (Elt F) ℕ UU ℕ)} {P : sProp (MT nD τ sig Unit (Elt F) ℕ UU ℕ)} {P' : ι → sProp (MT nD τ sig Unit (Elt F) ℕ UU ℕ)} {Y1 Y2 : sProp (MT nD τ sig Unit (Elt F) ℕ UU ℕ)}
    (op : ∀ R', (∀ v, iprop(Ctx m A K ∗ X' v ∗ R') ⊢ P' v) → (iprop(Ctx m A K ∗ X ∗ R') ⊢ P))
    (hk : ∀ v, iprop(Ctx m A K ∗ Y1 ∗ Y2 ∗ X' v ∗ R) ⊢ P' v) : iprop(Ctx m A K ∗ Y1 ∗ Y2 ∗ X ∗ R) ⊢ P := by
  have h := op (iprop(Y1 ∗ Y2 ∗ R)) fun v => by
    iintro ⟨HC, HX, H1, H2, HR⟩
    iapply (hk v)
    isplitl [HC]; · iexact HC
    isplitl [H1]; · iexact H1
    isplitl [H2]; · iexact H2
    isplitl [HX]; · iexact HX
    iexact HR
  iintro ⟨HC, H1, H2, HX, HR⟩
  iapply h
  isplitl [HC]; · iexact HC
  isplitl [HX]; · iexact HX
  isplitl [H1]; · iexact H1
  isplitl [H2]; · iexact H2
  iexact HR
theorem to3 {X : sProp (MT nD τ sig Unit (Elt F) ℕ UU ℕ)} {X' : sProp (MT nD τ sig Unit (Elt F) ℕ UU ℕ)} {P : sProp (MT nD τ sig Unit (Elt F) ℕ UU ℕ)} {P' : sProp (MT nD τ sig Unit (Elt F) ℕ UU ℕ)} {Y1 Y2 : sProp (MT nD τ sig Unit (Elt F) ℕ UU ℕ)}
    (op : ∀ R', (iprop(Ctx m A K ∗ X' ∗ R') ⊢ P') → (iprop(Ctx m A K ∗ X ∗ R') ⊢ P))
    (hk : iprop(Ctx m A K ∗ Y1 ∗ Y2 ∗ X' ∗ R) ⊢ P') : iprop(Ctx m A K ∗ Y1 ∗ Y2 ∗ X ∗ R) ⊢ P :=
  at3 (ι := Unit) (X' := fun _ => X') (P' := fun _ => P') (fun R' h => op R' (h ())) (fun _ => hk)

theorem at4 {ι : Type} {X : sProp (MT nD τ sig Unit (Elt F) ℕ UU ℕ)} {X' : ι → sProp (MT nD τ sig Unit (Elt F) ℕ UU ℕ)} {P : sProp (MT nD τ sig Unit (Elt F) ℕ UU ℕ)} {P' : ι → sProp (MT nD τ sig Unit (Elt F) ℕ UU ℕ)} {Y1 Y2 Y3 : sProp (MT nD τ sig Unit (Elt F) ℕ UU ℕ)}
    (op : ∀ R', (∀ v, iprop(Ctx m A K ∗ X' v ∗ R') ⊢ P' v) → (iprop(Ctx m A K ∗ X ∗ R') ⊢ P))
    (hk : ∀ v, iprop(Ctx m A K ∗ Y1 ∗ Y2 ∗ Y3 ∗ X' v ∗ R) ⊢ P' v) : iprop(Ctx m A K ∗ Y1 ∗ Y2 ∗ Y3 ∗ X ∗ R) ⊢ P := by
  have h := op (iprop(Y1 ∗ Y2 ∗ Y3 ∗ R)) fun v => by
    iintro ⟨HC, HX, H1, H2, H3, HR⟩
    iapply (hk v)
    isplitl [HC]; · iexact HC
    isplitl [H1]; · iexact H1
    isplitl [H2]; · iexact H2
    isplitl [H3]; · iexact H3
    isplitl [HX]; · iexact HX
    iexact HR
  iintro ⟨HC, H1, H2, H3, HX, HR⟩
  iapply h
  isplitl [HC]; · iexact HC
  isplitl [HX]; · iexact HX
  isplitl [H1]; · iexact H1
  isplitl [H2]; · iexact H2
  isplitl [H3]; · iexact H3
  iexact HR
theorem to4 {X : sProp (MT nD τ sig Unit (Elt F) ℕ UU ℕ)} {X' : sProp (MT nD τ sig Unit (Elt F) ℕ UU ℕ)} {P : sProp (MT nD τ sig Unit (Elt F) ℕ UU ℕ)} {P' : sProp (MT nD τ sig Unit (Elt F) ℕ UU ℕ)} {Y1 Y2 Y3 : sProp (MT nD τ sig Unit (Elt F) ℕ UU ℕ)}
    (op : ∀ R', (iprop(Ctx m A K ∗ X' ∗ R') ⊢ P') → (iprop(Ctx m A K ∗ X ∗ R') ⊢ P))
    (hk : iprop(Ctx m A K ∗ Y1 ∗ Y2 ∗ Y3 ∗ X' ∗ R) ⊢ P') : iprop(Ctx m A K ∗ Y1 ∗ Y2 ∗ Y3 ∗ X ∗ R) ⊢ P :=
  at4 (ι := Unit) (X' := fun _ => X') (P' := fun _ => P') (fun R' h => op R' (h ())) (fun _ => hk)

theorem at5 {ι : Type} {X : sProp (MT nD τ sig Unit (Elt F) ℕ UU ℕ)} {X' : ι → sProp (MT nD τ sig Unit (Elt F) ℕ UU ℕ)} {P : sProp (MT nD τ sig Unit (Elt F) ℕ UU ℕ)} {P' : ι → sProp (MT nD τ sig Unit (Elt F) ℕ UU ℕ)} {Y1 Y2 Y3 Y4 : sProp (MT nD τ sig Unit (Elt F) ℕ UU ℕ)}
    (op : ∀ R', (∀ v, iprop(Ctx m A K ∗ X' v ∗ R') ⊢ P' v) → (iprop(Ctx m A K ∗ X ∗ R') ⊢ P))
    (hk : ∀ v, iprop(Ctx m A K ∗ Y1 ∗ Y2 ∗ Y3 ∗ Y4 ∗ X' v ∗ R) ⊢ P' v) : iprop(Ctx m A K ∗ Y1 ∗ Y2 ∗ Y3 ∗ Y4 ∗ X ∗ R) ⊢ P := by
  have h := op (iprop(Y1 ∗ Y2 ∗ Y3 ∗ Y4 ∗ R)) fun v => by
    iintro ⟨HC, HX, H1, H2, H3, H4, HR⟩
    iapply (hk v)
    isplitl [HC]; · iexact HC
    isplitl [H1]; · iexact H1
    isplitl [H2]; · iexact H2
    isplitl [H3]; · iexact H3
    isplitl [H4]; · iexact H4
    isplitl [HX]; · iexact HX
    iexact HR
  iintro ⟨HC, H1, H2, H3, H4, HX, HR⟩
  iapply h
  isplitl [HC]; · iexact HC
  isplitl [HX]; · iexact HX
  isplitl [H1]; · iexact H1
  isplitl [H2]; · iexact H2
  isplitl [H3]; · iexact H3
  isplitl [H4]; · iexact H4
  iexact HR
theorem to5 {X : sProp (MT nD τ sig Unit (Elt F) ℕ UU ℕ)} {X' : sProp (MT nD τ sig Unit (Elt F) ℕ UU ℕ)} {P : sProp (MT nD τ sig Unit (Elt F) ℕ UU ℕ)} {P' : sProp (MT nD τ sig Unit (Elt F) ℕ UU ℕ)} {Y1 Y2 Y3 Y4 : sProp (MT nD τ sig Unit (Elt F) ℕ UU ℕ)}
    (op : ∀ R', (iprop(Ctx m A K ∗ X' ∗ R') ⊢ P') → (iprop(Ctx m A K ∗ X ∗ R') ⊢ P))
    (hk : iprop(Ctx m A K ∗ Y1 ∗ Y2 ∗ Y3 ∗ Y4 ∗ X' ∗ R) ⊢ P') : iprop(Ctx m A K ∗ Y1 ∗ Y2 ∗ Y3 ∗ Y4 ∗ X ∗ R) ⊢ P :=
  at5 (ι := Unit) (X' := fun _ => X') (P' := fun _ => P') (fun R' h => op R' (h ())) (fun _ => hk)

theorem at6 {ι : Type} {X : sProp (MT nD τ sig Unit (Elt F) ℕ UU ℕ)} {X' : ι → sProp (MT nD τ sig Unit (Elt F) ℕ UU ℕ)} {P : sProp (MT nD τ sig Unit (Elt F) ℕ UU ℕ)} {P' : ι → sProp (MT nD τ sig Unit (Elt F) ℕ UU ℕ)} {Y1 Y2 Y3 Y4 Y5 : sProp (MT nD τ sig Unit (Elt F) ℕ UU ℕ)}
    (op : ∀ R', (∀ v, iprop(Ctx m A K ∗ X' v ∗ R') ⊢ P' v) → (iprop(Ctx m A K ∗ X ∗ R') ⊢ P))
    (hk : ∀ v, iprop(Ctx m A K ∗ Y1 ∗ Y2 ∗ Y3 ∗ Y4 ∗ Y5 ∗ X' v ∗ R) ⊢ P' v) : iprop(Ctx m A K ∗ Y1 ∗ Y2 ∗ Y3 ∗ Y4 ∗ Y5 ∗ X ∗ R) ⊢ P := by
  have h := op (iprop(Y1 ∗ Y2 ∗ Y3 ∗ Y4 ∗ Y5 ∗ R)) fun v => by
    iintro ⟨HC, HX, H1, H2, H3, H4, H5, HR⟩
    iapply (hk v)
    isplitl [HC]; · iexact HC
    isplitl [H1]; · iexact H1
    isplitl [H2]; · iexact H2
    isplitl [H3]; · iexact H3
    isplitl [H4]; · iexact H4
    isplitl [H5]; · iexact H5
    isplitl [HX]; · iexact HX
    iexact HR
  iintro ⟨HC, H1, H2, H3, H4, H5, HX, HR⟩
  iapply h
  isplitl [HC]; · iexact HC
  isplitl [HX]; · iexact HX
  isplitl [H1]; · iexact H1
  isplitl [H2]; · iexact H2
  isplitl [H3]; · iexact H3
  isplitl [H4]; · iexact H4
  isplitl [H5]; · iexact H5
  iexact HR
theorem to6 {X : sProp (MT nD τ sig Unit (Elt F) ℕ UU ℕ)} {X' : sProp (MT nD τ sig Unit (Elt F) ℕ UU ℕ)} {P : sProp (MT nD τ sig Unit (Elt F) ℕ UU ℕ)} {P' : sProp (MT nD τ sig Unit (Elt F) ℕ UU ℕ)} {Y1 Y2 Y3 Y4 Y5 : sProp (MT nD τ sig Unit (Elt F) ℕ UU ℕ)}
    (op : ∀ R', (iprop(Ctx m A K ∗ X' ∗ R') ⊢ P') → (iprop(Ctx m A K ∗ X ∗ R') ⊢ P))
    (hk : iprop(Ctx m A K ∗ Y1 ∗ Y2 ∗ Y3 ∗ Y4 ∗ Y5 ∗ X' ∗ R) ⊢ P') : iprop(Ctx m A K ∗ Y1 ∗ Y2 ∗ Y3 ∗ Y4 ∗ Y5 ∗ X ∗ R) ⊢ P :=
  at6 (ι := Unit) (X' := fun _ => X') (P' := fun _ => P') (fun R' h => op R' (h ())) (fun _ => hk)

theorem at7 {ι : Type} {X : sProp (MT nD τ sig Unit (Elt F) ℕ UU ℕ)} {X' : ι → sProp (MT nD τ sig Unit (Elt F) ℕ UU ℕ)} {P : sProp (MT nD τ sig Unit (Elt F) ℕ UU ℕ)} {P' : ι → sProp (MT nD τ sig Unit (Elt F) ℕ UU ℕ)} {Y1 Y2 Y3 Y4 Y5 Y6 : sProp (MT nD τ sig Unit (Elt F) ℕ UU ℕ)}
    (op : ∀ R', (∀ v, iprop(Ctx m A K ∗ X' v ∗ R') ⊢ P' v) → (iprop(Ctx m A K ∗ X ∗ R') ⊢ P))
    (hk : ∀ v, iprop(Ctx m A K ∗ Y1 ∗ Y2 ∗ Y3 ∗ Y4 ∗ Y5 ∗ Y6 ∗ X' v ∗ R) ⊢ P' v) : iprop(Ctx m A K ∗ Y1 ∗ Y2 ∗ Y3 ∗ Y4 ∗ Y5 ∗ Y6 ∗ X ∗ R) ⊢ P := by
  have h := op (iprop(Y1 ∗ Y2 ∗ Y3 ∗ Y4 ∗ Y5 ∗ Y6 ∗ R)) fun v => by
    iintro ⟨HC, HX, H1, H2, H3, H4, H5, H6, HR⟩
    iapply (hk v)
    isplitl [HC]; · iexact HC
    isplitl [H1]; · iexact H1
    isplitl [H2]; · iexact H2
    isplitl [H3]; · iexact H3
    isplitl [H4]; · iexact H4
    isplitl [H5]; · iexact H5
    isplitl [H6]; · iexact H6
    isplitl [HX]; · iexact HX
    iexact HR
  iintro ⟨HC, H1, H2, H3, H4, H5, H6, HX, HR⟩
  iapply h
  isplitl [HC]; · iexact HC
  isplitl [HX]; · iexact HX
  isplitl [H1]; · iexact H1
  isplitl [H2]; · iexact H2
  isplitl [H3]; · iexact H3
  isplitl [H4]; · iexact H4
  isplitl [H5]; · iexact H5
  isplitl [H6]; · iexact H6
  iexact HR
theorem to7 {X : sProp (MT nD τ sig Unit (Elt F) ℕ UU ℕ)} {X' : sProp (MT nD τ sig Unit (Elt F) ℕ UU ℕ)} {P : sProp (MT nD τ sig Unit (Elt F) ℕ UU ℕ)} {P' : sProp (MT nD τ sig Unit (Elt F) ℕ UU ℕ)} {Y1 Y2 Y3 Y4 Y5 Y6 : sProp (MT nD τ sig Unit (Elt F) ℕ UU ℕ)}
    (op : ∀ R', (iprop(Ctx m A K ∗ X' ∗ R') ⊢ P') → (iprop(Ctx m A K ∗ X ∗ R') ⊢ P))
    (hk : iprop(Ctx m A K ∗ Y1 ∗ Y2 ∗ Y3 ∗ Y4 ∗ Y5 ∗ Y6 ∗ X' ∗ R) ⊢ P') : iprop(Ctx m A K ∗ Y1 ∗ Y2 ∗ Y3 ∗ Y4 ∗ Y5 ∗ Y6 ∗ X ∗ R) ⊢ P :=
  at7 (ι := Unit) (X' := fun _ => X') (P' := fun _ => P') (fun R' h => op R' (h ())) (fun _ => hk)

theorem at8 {ι : Type} {X : sProp (MT nD τ sig Unit (Elt F) ℕ UU ℕ)} {X' : ι → sProp (MT nD τ sig Unit (Elt F) ℕ UU ℕ)} {P : sProp (MT nD τ sig Unit (Elt F) ℕ UU ℕ)} {P' : ι → sProp (MT nD τ sig Unit (Elt F) ℕ UU ℕ)} {Y1 Y2 Y3 Y4 Y5 Y6 Y7 : sProp (MT nD τ sig Unit (Elt F) ℕ UU ℕ)}
    (op : ∀ R', (∀ v, iprop(Ctx m A K ∗ X' v ∗ R') ⊢ P' v) → (iprop(Ctx m A K ∗ X ∗ R') ⊢ P))
    (hk : ∀ v, iprop(Ctx m A K ∗ Y1 ∗ Y2 ∗ Y3 ∗ Y4 ∗ Y5 ∗ Y6 ∗ Y7 ∗ X' v ∗ R) ⊢ P' v) : iprop(Ctx m A K ∗ Y1 ∗ Y2 ∗ Y3 ∗ Y4 ∗ Y5 ∗ Y6 ∗ Y7 ∗ X ∗ R) ⊢ P := by
  have h := op (iprop(Y1 ∗ Y2 ∗ Y3 ∗ Y4 ∗ Y5 ∗ Y6 ∗ Y7 ∗ R)) fun v => by
    iintro ⟨HC, HX, H1, H2, H3, H4, H5, H6, H7, HR⟩
    iapply (hk v)
    isplitl [HC]; · iexact HC
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HX]; · iexact HX
    iexact HR
  iintro ⟨HC, H1, H2, H3, H4, H5, H6, H7, HX, HR⟩
  iapply h
  isplitl [HC]; · iexact HC
  isplitl [HX]; · iexact HX
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HR
theorem to8 {X : sProp (MT nD τ sig Unit (Elt F) ℕ UU ℕ)} {X' : sProp (MT nD τ sig Unit (Elt F) ℕ UU ℕ)} {P : sProp (MT nD τ sig Unit (Elt F) ℕ UU ℕ)} {P' : sProp (MT nD τ sig Unit (Elt F) ℕ UU ℕ)} {Y1 Y2 Y3 Y4 Y5 Y6 Y7 : sProp (MT nD τ sig Unit (Elt F) ℕ UU ℕ)}
    (op : ∀ R', (iprop(Ctx m A K ∗ X' ∗ R') ⊢ P') → (iprop(Ctx m A K ∗ X ∗ R') ⊢ P))
    (hk : iprop(Ctx m A K ∗ Y1 ∗ Y2 ∗ Y3 ∗ Y4 ∗ Y5 ∗ Y6 ∗ Y7 ∗ X' ∗ R) ⊢ P') : iprop(Ctx m A K ∗ Y1 ∗ Y2 ∗ Y3 ∗ Y4 ∗ Y5 ∗ Y6 ∗ Y7 ∗ X ∗ R) ⊢ P :=
  at8 (ι := Unit) (X' := fun _ => X') (P' := fun _ => P') (fun R' h => op R' (h ())) (fun _ => hk)

/-- Two assertions in front are taken as one. -/
theorem fuse {X Y P : sProp (MT nD τ sig Unit (Elt F) ℕ UU ℕ)} (h : iprop(Ctx m A K ∗ (X ∗ Y) ∗ R) ⊢ P) : iprop(Ctx m A K ∗ X ∗ Y ∗ R) ⊢ P := by
  iintro ⟨HC, HX, HY, HR⟩
  iapply h
  isplitl [HC]; · iexact HC
  isplitr [HR]
  · isplitl [HX]; · iexact HX
    iexact HY
  iexact HR
/-- A pair in front is taken apart. -/
theorem split {X Y P : sProp (MT nD τ sig Unit (Elt F) ℕ UU ℕ)} (h : iprop(Ctx m A K ∗ X ∗ Y ∗ R) ⊢ P) : iprop(Ctx m A K ∗ (X ∗ Y) ∗ R) ⊢ P := by
  iintro ⟨HC, ⟨HX, HY⟩, HR⟩
  iapply h
  isplitl [HC]; · iexact HC
  isplitl [HX]; · iexact HX
  isplitl [HY]; · iexact HY
  iexact HR

/-! ## The weights' copies -/

variable (m c) in
/-- Before the copy of the first weight's block. -/
def WQ0 : sProp 𝕄 := iprop((∃ f, Pt c sqM f) ∗ (((wqSrc c).view.loc (c : Thread nD τ)) ↦[(wqSrc c).view.set]{fullShare} (m ((c : Thread nD τ).loc main_arg1)))
  ∗ dutyTok ER (cellN c 4) 0 0 ∗ atPos ER (cellN c 4) 0 ∅ 0)
variable (c) in
/-- While the copy is under way. -/
def WQ1 : sProp 𝕄 := iprop(cred (tallyAt (cellN c 4) () (dmaAmt 4)) ∗ atPos ER (cellN c 4) 0 ∅ 0)
variable (m c) in
/-- Once the copy is done. -/
def WQ2 : sProp 𝕄 := iprop(Pt c sqM (wqL m c) ∗ semVal (cellN c 4) 0
  ∗ (((wqSrc c).view.loc (c : Thread nD τ)) ↦[(wqSrc c).view.set]{fullShare} (m ((c : Thread nD τ).loc main_arg1))))

theorem wq_used : dmaUsed c 4 := by refine ⟨?_, ?_, ?_, ?_, ?_⟩ <;> omega
theorem wq_pay : dmaPay m A c 4 = wqPay m c := rfl

theorem wq_copy {sm : DmaSem sig} (hsm : sm = dS 4) {hsrc} {hdst} {hsem}
    (hk : iprop(Ctx m A K ∗ WQ1 c ∗ R) ⊢ Wp c (k ⟨⟩) Q) :
    iprop(Ctx m A K ∗ WQ0 m c ∗ R) ⊢ Wp c (.op (.enqueueDma (wqSrc c) (.here sqM) (.dma sm) hsrc hdst hsem) k) Q := by
  subst hsm
  have hset : (sqM : Memref sig .tc .vmem S1024x1024 .f32).view.set = Finset.univ := View.set_whole _
  unfold WQ0 WQ1 at *
  iintro ⟨#HC, ⟨⟨%fd, Hd⟩, Hs, Ht, Hp⟩, HR⟩
  iapply (Rounds.wp_copy_pointsTo 𝒱₀ ER (sched m A) (c : Thread nD τ) none (κ := Kd K c 4) (src := wqSrc c) (dst := sqM) (sem := .dma (dS 4))
    (q := fullShare) (fs := m ((c : Thread nD τ).loc main_arg1)) (fd := fd) (r := 0) (d := 0)
    (by rw [duties_used m A c (by omega) wq_used]; exact Finset.mem_singleton_self _)
    () NQ rfl ((amount_dma m A c (by omega) 0).trans rfl)
    (by
      rw [payload_dma m A c (by omega), wq_pay]
      unfold wqPay
      rw [hset]
      have hw : (sqM : Memref sig .tc .vmem S1024x1024 .f32).view.write (Elt F) fd ((wqSrc c).view.read (Elt F) (m ((c : Thread nD τ).loc main_arg1))) Finset.univ = wqL m c :=
        View.write_whole_univ _ _ _
      rw [hw]))
    $$ [Hd Hs Ht]
  · isplitr; · iapply (inv_dma m A K c (n := 4) (by omega) (by omega)); iexact HC
    isplitl [Hs]; · iexact Hs
    isplitl [Hd]; · rw [hset]; iexact Hd
    isplitl [Ht]; · iexact Ht
    iapply (reached_dma m A K c (n := 4) (by omega) (by omega)); iexact HC
  iintro Hc
  iapply hk
  isplitr; · iexact HC
  isplitr [HR]
  · isplitl [Hc]; · iexact Hc
    iexact Hp
  iexact HR

theorem wq_wait {O : CellTallies nD τ sig Unit} (hO : Above 0 O) {sm : DmaSem sig} (hsm : sm = dS 4) {sp' : Space} {s' : Shape} {e' : EltTy}
    {src : Memref sig .tc sp' s' e'} {hsrc : src.view.WordExact} {hdst}
    (hk : iprop(Ctx m A K ∗ (Ow c O ∗ WQ2 m c) ∗ R) ⊢ Wp c (k ⟨⟩) Q) :
    iprop(Ctx m A K ∗ (Ow c O ∗ WQ1 c) ∗ R) ⊢ Wp c (.op (.waitDma2 sm src sqM hsrc hdst) k) Q := by
  unfold WQ1
  refine dma_wait (n := 4) (by decide) (by decide) wq_used hO hsm rfl ?_
  refine weaken ?_ hk
  rw [wq_pay]
  unfold wqPay WQ2
  iintro ⟨HO, Hv, Hs, Hd⟩
  isplitl [HO]; · iexact HO
  isplitl [Hs]; · iexact Hs
  isplitl [Hv]; · iexact Hv
  iexact Hd

theorem wq_load {r : LoadRect S1024x1024} {h} {k : (r.shape.Idx → Elt F .f32) → Prog (TpuEff nD τ sig (Elt F) Λ₀ .tc) α}
    (hk : iprop(Ctx m A K ∗ WQ2 m c ∗ R) ⊢ Wp c (k ((sqM : Memref sig .tc .vmem S1024x1024 .f32).view.readAt (Elt F) r (wqL m c))) Q) :
    iprop(Ctx m A K ∗ WQ2 m c ∗ R) ⊢ Wp c (.op (.load sqM r h) k) Q :=
  load_op Entails.rfl Entails.rfl hk

variable (m c) in
/-- Before the copy of the last weight's block. -/
def WO0 : sProp 𝕄 := iprop((∃ f, Pt c soM f) ∗ (((woSrc c).view.loc (c : Thread nD τ)) ↦[(woSrc c).view.set]{fullShare} (m ((c : Thread nD τ).loc main_arg4)))
  ∗ dutyTok ER (cellN c 5) 0 0 ∗ atPos ER (cellN c 5) 0 ∅ 0)
variable (c) in
/-- While the copy is under way. -/
def WO1 : sProp 𝕄 := iprop(cred (tallyAt (cellN c 5) () (dmaAmt 5)) ∗ atPos ER (cellN c 5) 0 ∅ 0)
variable (m c) in
/-- Once the copy is done. -/
def WO2 : sProp 𝕄 := iprop(Pt c soM (woL m c) ∗ semVal (cellN c 5) 0
  ∗ (((woSrc c).view.loc (c : Thread nD τ)) ↦[(woSrc c).view.set]{fullShare} (m ((c : Thread nD τ).loc main_arg4))))

theorem wo_used : dmaUsed c 5 := by refine ⟨?_, ?_, ?_, ?_, ?_⟩ <;> omega
theorem wo_pay : dmaPay m A c 5 = woPay m c := rfl

theorem wo_copy {sm : DmaSem sig} (hsm : sm = dS 5) {hsrc} {hdst} {hsem}
    (hk : iprop(Ctx m A K ∗ WO1 c ∗ R) ⊢ Wp c (k ⟨⟩) Q) :
    iprop(Ctx m A K ∗ WO0 m c ∗ R) ⊢ Wp c (.op (.enqueueDma (woSrc c) (.here soM) (.dma sm) hsrc hdst hsem) k) Q := by
  subst hsm
  have hset : (soM : Memref sig .tc .vmem S1024x1024 .f32).view.set = Finset.univ := View.set_whole _
  unfold WO0 WO1 at *
  iintro ⟨#HC, ⟨⟨%fd, Hd⟩, Hs, Ht, Hp⟩, HR⟩
  iapply (Rounds.wp_copy_pointsTo 𝒱₀ ER (sched m A) (c : Thread nD τ) none (κ := Kd K c 5) (src := woSrc c) (dst := soM) (sem := .dma (dS 5))
    (q := fullShare) (fs := m ((c : Thread nD τ).loc main_arg4)) (fd := fd) (r := 0) (d := 0)
    (by rw [duties_used m A c (by omega) wo_used]; exact Finset.mem_singleton_self _)
    () NP rfl ((amount_dma m A c (by omega) 0).trans rfl)
    (by
      rw [payload_dma m A c (by omega), wo_pay]
      unfold woPay
      rw [hset]
      have hw : (soM : Memref sig .tc .vmem S1024x1024 .f32).view.write (Elt F) fd ((woSrc c).view.read (Elt F) (m ((c : Thread nD τ).loc main_arg4))) Finset.univ = woL m c :=
        View.write_whole_univ _ _ _
      rw [hw]))
    $$ [Hd Hs Ht]
  · isplitr; · iapply (inv_dma m A K c (n := 5) (by omega) (by omega)); iexact HC
    isplitl [Hs]; · iexact Hs
    isplitl [Hd]; · rw [hset]; iexact Hd
    isplitl [Ht]; · iexact Ht
    iapply (reached_dma m A K c (n := 5) (by omega) (by omega)); iexact HC
  iintro Hc
  iapply hk
  isplitr; · iexact HC
  isplitr [HR]
  · isplitl [Hc]; · iexact Hc
    iexact Hp
  iexact HR

theorem wo_wait {O : CellTallies nD τ sig Unit} (hO : Above 0 O) {sm : DmaSem sig} (hsm : sm = dS 5) {sp' : Space} {s' : Shape} {e' : EltTy}
    {src : Memref sig .tc sp' s' e'} {hsrc : src.view.WordExact} {hdst}
    (hk : iprop(Ctx m A K ∗ (Ow c O ∗ WO2 m c) ∗ R) ⊢ Wp c (k ⟨⟩) Q) :
    iprop(Ctx m A K ∗ (Ow c O ∗ WO1 c) ∗ R) ⊢ Wp c (.op (.waitDma2 sm src soM hsrc hdst) k) Q := by
  unfold WO1
  refine dma_wait (n := 5) (by decide) (by decide) wo_used hO hsm rfl ?_
  refine weaken ?_ hk
  rw [wo_pay]
  unfold woPay WO2
  iintro ⟨HO, Hv, Hs, Hd⟩
  isplitl [HO]; · iexact HO
  isplitl [Hs]; · iexact Hs
  isplitl [Hv]; · iexact Hv
  iexact Hd

theorem wo_load {r : LoadRect S1024x1024} {h} {k : (r.shape.Idx → Elt F .f32) → Prog (TpuEff nD τ sig (Elt F) Λ₀ .tc) α}
    (hk : iprop(Ctx m A K ∗ WO2 m c ∗ R) ⊢ Wp c (k ((soM : Memref sig .tc .vmem S1024x1024 .f32).view.readAt (Elt F) r (woL m c))) Q) :
    iprop(Ctx m A K ∗ WO2 m c ∗ R) ⊢ Wp c (.op (.load soM r h) k) Q :=
  load_op Entails.rfl Entails.rfl hk

/-! ## Buffers of unknown contents -/

variable (c) in
/-- Buffer `M` with contents that don't matter. -/
def Any {s : Shape} {e : EltTy} (M : Memref sig .tc .vmem s e) : sProp 𝕄 := iprop(∃ f, Pt c M f)

/-- A load from a buffer of unknown contents. -/
theorem any_load {s : Shape} {e : EltTy} {M : Memref sig .tc .vmem s e}
    {r : LoadRect s} {h} {k : (r.shape.Idx → Elt F e) → Prog (TpuEff nD τ sig (Elt F) Λ₀ .tc) α}
    (hk : ∀ v, iprop(Ctx m A K ∗ Any c M ∗ R) ⊢ Wp c (k v) Q) :
    iprop(Ctx m A K ∗ Any c M ∗ R) ⊢ Wp c (.op (.load M r h) k) Q := by
  refine load_any (M := M) (p := fun _ => True) (Y := iprop(emp)) ?_ ?_ hk
  · unfold Any
    iintro ⟨%f, Hf⟩
    iexists f
    isplitl [Hf]; · iexact Hf
    isplitr; · ipureintro; trivial
    iempintro
  · intro f _
    iintro ⟨Hf, -⟩
    unfold Any
    iexists f
    iexact Hf

/-- A store that fills a buffer of unknown contents. -/
theorem any_store {s : Shape} {e : EltTy} {M : Memref sig .tc .vmem s e} {w : M.view.ref.ty.Contents (Elt F)} {r : Rect s} {v : r.shape.Idx → Elt F e}
    (hw : ∀ f, (M.access r).write (Elt F) f v Finset.univ = w) {hx hm}
    (hk : iprop(Ctx m A K ∗ Pt c M w ∗ R) ⊢ Wp c (k ⟨⟩) Q) :
    iprop(Ctx m A K ∗ Any c M ∗ R) ⊢ Wp c (.op (.store M r v Finset.univ hx hm) k) Q := by
  refine store_op (M := M) (p := fun _ => True) (Y := iprop(emp)) (X' := Pt c M w) ?_ ?_ hk
  · unfold Any
    iintro ⟨%f, Hf⟩
    iexists f
    isplitl [Hf]; · iexact Hf
    isplitr; · ipureintro; trivial
    iempintro
  · intro f _
    rw [hw f]
    iintro ⟨Hf, -⟩
    iexact Hf

/-- A load from a buffer of known contents. -/
theorem pt_load {s : Shape} {e : EltTy} {M : Memref sig .tc .vmem s e} {f : M.view.ref.ty.Contents (Elt F)}
    {r : LoadRect s} {h} {k : (r.shape.Idx → Elt F e) → Prog (TpuEff nD τ sig (Elt F) Λ₀ .tc) α}
    (hk : iprop(Ctx m A K ∗ Pt c M f ∗ R) ⊢ Wp c (k (M.view.readAt (Elt F) r f)) Q) :
    iprop(Ctx m A K ∗ Pt c M f ∗ R) ⊢ Wp c (.op (.load M r h) k) Q := by
  refine load_op (Y := iprop(emp)) ?_ ?_ hk
  · iintro H
    isplitl [H]; · iexact H
    iempintro
  · iintro ⟨H, -⟩
    iexact H

/-! ## A group's rows -/

/-- The rows of a group are computed and take their buffer, which becomes the blocks that stages send. -/
theorem acc_step {M : Memref sig .tc .vmem S256x1024 .bf16} {w : M.view.ref.ty.Contents (Elt F)} {j a b g : ℕ} {r : LoadRect S256x1024} {r' : Rect S256x1024}
    {v : r'.shape.Idx → Elt F .bf16} {h} {hx hm} (hw : ∀ f, (M.access r').write (Elt F) f v Finset.univ = w) (hb : accs A c a b = Pt c M w)
    (hk : iprop(Ctx m A K ∗ (RSt A c j ∗ accs A c a b) ∗ Grp c m g 8 ∗ R) ⊢ Wp c (k ⟨⟩) Q) :
    iprop(Ctx m A K ∗ Grp c m g 8 ∗ RSt A c j ∗ Any c M ∗ R) ⊢ Wp c (.op (.load M r h) fun _ => .op (.store M r' v Finset.univ hx hm) k) Q := by
  have h0 : iprop(Ctx m A K ∗ Grp c m g 8 ∗ RSt A c j ∗ Any c M ∗ R) ⊢ iprop(Ctx m A K ∗ Any c M ∗ Grp c m g 8 ∗ RSt A c j ∗ R) := by
    iintro ⟨HC, HG, HR, HA, H⟩
    isplitl [HC]; · iexact HC
    isplitl [HA]; · iexact HA
    isplitl [HG]; · iexact HG
    isplitl [HR]; · iexact HR
    iexact H
  refine h0.trans (any_load (M := M) fun _ => any_store (M := M) (w := w) hw ?_)
  rw [← hb]
  refine (?_ : _ ⊢ _).trans hk
  iintro ⟨HC, HA, HG, HR, H⟩
  isplitl [HC]; · iexact HC
  isplitl [HR HA]
  · isplitl [HR]; · iexact HR
    iexact HA
  isplitl [HG]; · iexact HG
  iexact H

/-- No block is left of a group whose stages are done. -/
theorem acc_none {j a : ℕ} {α : Type} {p : Prog (TpuEff nD τ sig (Elt F) Λ₀ .tc) α} {Q : α → sProp (MT nD τ sig Unit (Elt F) ℕ UU ℕ)} {g n : ℕ}
    (hk : iprop(Ctx m A K ∗ Grp c m g n ∗ RSt A c j ∗ R) ⊢ Wp c p Q) :
    iprop(Ctx m A K ∗ (RSt A c j ∗ accs A c a a) ∗ Grp c m g n ∗ R) ⊢ Wp c p Q := by
  refine (?_ : _ ⊢ _).trans hk
  iintro ⟨HC, ⟨HR, -⟩, HG, H⟩
  isplitl [HC]; · iexact HC
  isplitl [HG]; · iexact HG
  isplitl [HR]; · iexact HR
  iexact H

end Cert.KernelIdeal.Ring

end
-- ==== Proof.KernelIdeal.Waits.lean ====
/-
# The waits

One wait of each kind, and the steps from one phase of the exchange to the next.
-/
module

public import proofs.«01_k».proof.Proof.KernelIdeal.Weights

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-! ## Assertions further back -/

theorem pull3 {X Y Z P : sProp (MT nD τ sig Unit (Elt F) ℕ UU ℕ)} (h : iprop(Ctx m A K ∗ Z ∗ X ∗ Y ∗ R) ⊢ P) : iprop(Ctx m A K ∗ X ∗ Y ∗ Z ∗ R) ⊢ P := by
  iintro ⟨HC, HX, HY, HZ, HR⟩
  iapply h
  isplitl [HC]; · iexact HC
  isplitl [HZ]; · iexact HZ
  isplitl [HX]; · iexact HX
  isplitl [HY]; · iexact HY
  iexact HR
theorem pull4 {X Y Z W P : sProp (MT nD τ sig Unit (Elt F) ℕ UU ℕ)} (h : iprop(Ctx m A K ∗ W ∗ X ∗ Y ∗ Z ∗ R) ⊢ P) : iprop(Ctx m A K ∗ X ∗ Y ∗ Z ∗ W ∗ R) ⊢ P := by
  iintro ⟨HC, HX, HY, HZ, HW, HR⟩
  iapply h
  isplitl [HC]; · iexact HC
  isplitl [HW]; · iexact HW
  isplitl [HX]; · iexact HX
  isplitl [HY]; · iexact HY
  isplitl [HZ]; · iexact HZ
  iexact HR
theorem pull5 {X Y Z W V P : sProp (MT nD τ sig Unit (Elt F) ℕ UU ℕ)} (h : iprop(Ctx m A K ∗ V ∗ X ∗ Y ∗ Z ∗ W ∗ R) ⊢ P) : iprop(Ctx m A K ∗ X ∗ Y ∗ Z ∗ W ∗ V ∗ R) ⊢ P := by
  iintro ⟨HC, HX, HY, HZ, HW, HV, HR⟩
  iapply h
  isplitl [HC]; · iexact HC
  isplitl [HV]; · iexact HV
  isplitl [HX]; · iexact HX
  isplitl [HY]; · iexact HY
  isplitl [HZ]; · iexact HZ
  isplitl [HW]; · iexact HW
  iexact HR
theorem pull6 {X Y Z W V U P : sProp (MT nD τ sig Unit (Elt F) ℕ UU ℕ)} (h : iprop(Ctx m A K ∗ U ∗ X ∗ Y ∗ Z ∗ W ∗ V ∗ R) ⊢ P) : iprop(Ctx m A K ∗ X ∗ Y ∗ Z ∗ W ∗ V ∗ U ∗ R) ⊢ P := by
  iintro ⟨HC, HX, HY, HZ, HW, HV, HU, HR⟩
  iapply h
  isplitl [HC]; · iexact HC
  isplitl [HU]; · iexact HU
  isplitl [HX]; · iexact HX
  isplitl [HY]; · iexact HY
  isplitl [HZ]; · iexact HZ
  isplitl [HW]; · iexact HW
  isplitl [HV]; · iexact HV
  iexact HR

theorem pull7 {X1 X2 X3 X4 X5 X6 X7 P : sProp (MT nD τ sig Unit (Elt F) ℕ UU ℕ)} (h : iprop(Ctx m A K ∗ X7 ∗ X1 ∗ X2 ∗ X3 ∗ X4 ∗ X5 ∗ X6 ∗ R) ⊢ P) : iprop(Ctx m A K ∗ X1 ∗ X2 ∗ X3 ∗ X4 ∗ X5 ∗ X6 ∗ X7 ∗ R) ⊢ P := by
  iintro ⟨HC, HX1, HX2, HX3, HX4, HX5, HX6, HX7, HR⟩
  iapply h
  isplitl [HC]; · iexact HC
  isplitl [HX7]; · iexact HX7
  isplitl [HX1]; · iexact HX1
  isplitl [HX2]; · iexact HX2
  isplitl [HX3]; · iexact HX3
  isplitl [HX4]; · iexact HX4
  isplitl [HX5]; · iexact HX5
  isplitl [HX6]; · iexact HX6
  iexact HR
theorem pull8 {X1 X2 X3 X4 X5 X6 X7 X8 P : sProp (MT nD τ sig Unit (Elt F) ℕ UU ℕ)} (h : iprop(Ctx m A K ∗ X8 ∗ X1 ∗ X2 ∗ X3 ∗ X4 ∗ X5 ∗ X6 ∗ X7 ∗ R) ⊢ P) : iprop(Ctx m A K ∗ X1 ∗ X2 ∗ X3 ∗ X4 ∗ X5 ∗ X6 ∗ X7 ∗ X8 ∗ R) ⊢ P := by
  iintro ⟨HC, HX1, HX2, HX3, HX4, HX5, HX6, HX7, HX8, HR⟩
  iapply h
  isplitl [HC]; · iexact HC
  isplitl [HX8]; · iexact HX8
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  iexact HR
theorem pull9 {X1 X2 X3 X4 X5 X6 X7 X8 X9 P : sProp (MT nD τ sig Unit (Elt F) ℕ UU ℕ)} (h : iprop(Ctx m A K ∗ X9 ∗ X1 ∗ X2 ∗ X3 ∗ X4 ∗ X5 ∗ X6 ∗ X7 ∗ X8 ∗ R) ⊢ P) : iprop(Ctx m A K ∗ X1 ∗ X2 ∗ X3 ∗ X4 ∗ X5 ∗ X6 ∗ X7 ∗ X8 ∗ X9 ∗ R) ⊢ P := by
  iintro ⟨HC, HX1, HX2, HX3, HX4, HX5, HX6, HX7, HX8, HX9, HR⟩
  iapply h
  isplitl [HC]; · iexact HC
  isplitl [HX9]; · iexact HX9
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [HX8]; · iexact HX8
  iexact HR
theorem pull10 {X1 X2 X3 X4 X5 X6 X7 X8 X9 X10 P : sProp (MT nD τ sig Unit (Elt F) ℕ UU ℕ)} (h : iprop(Ctx m A K ∗ X10 ∗ X1 ∗ X2 ∗ X3 ∗ X4 ∗ X5 ∗ X6 ∗ X7 ∗ X8 ∗ X9 ∗ R) ⊢ P) : iprop(Ctx m A K ∗ X1 ∗ X2 ∗ X3 ∗ X4 ∗ X5 ∗ X6 ∗ X7 ∗ X8 ∗ X9 ∗ X10 ∗ R) ⊢ P := by
  iintro ⟨HC, HX1, HX2, HX3, HX4, HX5, HX6, HX7, HX8, HX9, HX10, HR⟩
  iapply h
  isplitl [HC]; · iexact HC
  isplitl [HX10]; · iexact HX10
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [HX8]; · iexact HX8
  isplitl [HX9]; · iexact HX9
  iexact HR
theorem pull11 {X1 X2 X3 X4 X5 X6 X7 X8 X9 X10 X11 P : sProp (MT nD τ sig Unit (Elt F) ℕ UU ℕ)} (h : iprop(Ctx m A K ∗ X11 ∗ X1 ∗ X2 ∗ X3 ∗ X4 ∗ X5 ∗ X6 ∗ X7 ∗ X8 ∗ X9 ∗ X10 ∗ R) ⊢ P) : iprop(Ctx m A K ∗ X1 ∗ X2 ∗ X3 ∗ X4 ∗ X5 ∗ X6 ∗ X7 ∗ X8 ∗ X9 ∗ X10 ∗ X11 ∗ R) ⊢ P := by
  iintro ⟨HC, HX1, HX2, HX3, HX4, HX5, HX6, HX7, HX8, HX9, HX10, HX11, HR⟩
  iapply h
  isplitl [HC]; · iexact HC
  isplitl [HX11]; · iexact HX11
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [HX8]; · iexact HX8
  isplitl [HX9]; · iexact HX9
  isplitl [HX10]; · iexact HX10
  iexact HR
theorem pull12 {X1 X2 X3 X4 X5 X6 X7 X8 X9 X10 X11 X12 P : sProp (MT nD τ sig Unit (Elt F) ℕ UU ℕ)} (h : iprop(Ctx m A K ∗ X12 ∗ X1 ∗ X2 ∗ X3 ∗ X4 ∗ X5 ∗ X6 ∗ X7 ∗ X8 ∗ X9 ∗ X10 ∗ X11 ∗ R) ⊢ P) : iprop(Ctx m A K ∗ X1 ∗ X2 ∗ X3 ∗ X4 ∗ X5 ∗ X6 ∗ X7 ∗ X8 ∗ X9 ∗ X10 ∗ X11 ∗ X12 ∗ R) ⊢ P := by
  iintro ⟨HC, HX1, HX2, HX3, HX4, HX5, HX6, HX7, HX8, HX9, HX10, HX11, HX12, HR⟩
  iapply h
  isplitl [HC]; · iexact HC
  isplitl [HX12]; · iexact HX12
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [HX8]; · iexact HX8
  isplitl [HX9]; · iexact HX9
  isplitl [HX10]; · iexact HX10
  isplitl [HX11]; · iexact HX11
  iexact HR
/-! ## The input's buffer -/

variable (m c) in
/-- The input and the buffer for its cast. -/
def XP0 : sProp 𝕄 := iprop(Pt c xM (xIn m c) ∗ ∃ f, Pt c xbM f)
variable (m c) in
/-- The input and its cast. -/
def XP1 : sProp 𝕄 := iprop(Pt c xM (xIn m c) ∗ Pt c xbM (xbV m c))
theorem x_load {r : LoadRect S1x1024x1024} {h} {k : (r.shape.Idx → Elt F .f32) → Prog (TpuEff nD τ sig (Elt F) Λ₀ .tc) α}
    (hk : iprop(Ctx m A K ∗ XP0 m c ∗ R) ⊢ Wp c (k ((xM : Memref sig .tc .vmem S1x1024x1024 .f32).view.readAt (Elt F) r (xIn m c))) Q) :
    iprop(Ctx m A K ∗ XP0 m c ∗ R) ⊢ Wp c (.op (.load xM r h) k) Q := pair_load hk
theorem x_any {r : LoadRect S1024x1024} {h} {k : (r.shape.Idx → Elt F .bf16) → Prog (TpuEff nD τ sig (Elt F) Λ₀ .tc) α}
    (hk : ∀ v, iprop(Ctx m A K ∗ XP0 m c ∗ R) ⊢ Wp c (k v) Q) :
    iprop(Ctx m A K ∗ XP0 m c ∗ R) ⊢ Wp c (.op (.load xbM r h) k) Q := pair_any (M := xbM) hk
theorem x_store {r : Rect S1024x1024} {v : r.shape.Idx → Elt F .bf16} (hw : ∀ f, (xbM.access r).write (Elt F) f v Finset.univ = xbV m c) {hx hm}
    (hk : iprop(Ctx m A K ∗ XP1 m c ∗ R) ⊢ Wp c (k ⟨⟩) Q) :
    iprop(Ctx m A K ∗ XP0 m c ∗ R) ⊢ Wp c (.op (.store xbM r v Finset.univ hx hm) k) Q :=
  pair_store (b := cc0_scratch4) (hb := rfl) (M := xbM) hw hk

/-! ## The barrier -/

variable (c) in
/-- What the barrier's wait takes: its credit and its position. -/
def BarW : sProp 𝕄 := iprop(cred (tallyAt (barCell c) () 31) ∗ atPos ER (barCell c) 0 ∅ 0)
variable (c) in
/-- What the barrier leaves. -/
def BarD : sProp 𝕄 := iprop(semVal (barCell c) 0 ∗ bigSep (Finset.univ.erase c) fun d => barPay (F := F) c d)
/-- The wait at the barrier. -/
theorem bar_done {k : Unit → Prog (TpuEff nD τ sig (Elt F) Λ₀ .tc) α}
    (hk : iprop(Ctx m A K ∗ Ow c (Ors c 0 + Oag c 1) ∗ BarD c ∗ R) ⊢ Wp c (k ⟨⟩) Q) :
    iprop(Ctx m A K ∗ BarSt c 32 ∗ BarW c ∗ R) ⊢ Wp c (.op (.semWait barS (31#32).toInt) k) Q := fuse (bar_wait (split hk))

/-! ## The waits -/

/-- A wait for a block of the reduce-scatter. -/
theorem rv_wait (s : ℕ) (hs : s < 32) (hne : s ≠ c.val) {sm : DmaSem sig} (hsm : sm = dS (38 + s)) {sp sp' : Space} {s' s'' : Shape} {e e' : EltTy}
    {src : Memref sig .tc sp' s'' e'} {κ' : Kind} {dst : Memref sig κ' sp s' e} {hsrc : src.view.WordExact} {hdst : dst.view.WordExact}
    (hamt : dst.view.dmaCredit = NR)
    (hk : iprop(Ctx m A K ∗ Waits c (Oag c 1) (rvTodo A c) (rvDone A c) 0 (s + 1) ∗ R) ⊢ Wp c (k ⟨⟩) Q) :
    iprop(Ctx m A K ∗ Waits c (Oag c 1) (rvTodo A c) (rvDone A c) 0 s ∗ R) ⊢ Wp c (.op (.waitDma2 sm src dst hsrc hdst) k) Q := by
  have hc : c.val < 32 := c.isLt
  refine waits_step s (Nat.zero_le s) hs (n := 38 + s) (by omega) (by omega) (by refine ⟨?_, ?_, ?_, ?_, ?_⟩ <;> omega)
    (by rw [show lvN (38 + s) = 2 by unfold lvN; rw [if_neg (by omega), if_pos (by omega)]]; exact above_ag c 1) ?_ ?_ hsm (hamt.trans ?_) hk
  · unfold rvTodo
    rw [if_neg hne, show dmaAmt (38 + s) = NR by unfold dmaAmt; rw [if_neg (by omega), if_neg (by omega), if_pos (by omega)]]
  · unfold rvDone dmaPay
    rw [if_neg (by omega), if_neg (by omega), if_neg (by omega), if_neg (by omega), if_pos (by omega), show 38 + s - 38 = s by omega, if_neg hne]
    iintro ⟨H1, H2⟩
    isplitl [H2]; · iexact H2
    iexact H1
  · unfold dmaAmt
    rw [if_neg (by omega), if_neg (by omega), if_pos (by omega)]
/-- The same, where the body first tests whether the block is its own. -/
theorem rv_if (s : ℕ) (hs : s < 32) {cond : Prop} [Decidable cond] (hc : cond ↔ s ≠ c.val)
    {p : cond → Prog (TpuEff nD τ sig (Elt F) Λ₀ .tc) α} {q : Prog (TpuEff nD τ sig (Elt F) Λ₀ .tc) α}
    (h : ∀ h R', s ≠ c.val → (iprop(Ctx m A K ∗ Waits c (Oag c 1) (rvTodo A c) (rvDone A c) 0 (s + 1) ∗ R') ⊢ Wp c q Q) →
      (iprop(Ctx m A K ∗ Waits c (Oag c 1) (rvTodo A c) (rvDone A c) 0 s ∗ R') ⊢ Wp c (p h) Q))
    (hk : iprop(Ctx m A K ∗ Waits c (Oag c 1) (rvTodo A c) (rvDone A c) 0 (s + 1) ∗ R) ⊢ Wp c q Q) :
    iprop(Ctx m A K ∗ Waits c (Oag c 1) (rvTodo A c) (rvDone A c) 0 s ∗ R) ⊢ Wp c (dite cond p fun _ => q) Q := by
  refine waits_if s hs hc h (fun he => ?_) hk
  unfold rvTodo rvDone
  rw [if_pos he, if_pos he, he, dv_self]
  iintro H
  isplitl [H]; · iexact H
  iempintro

/-- A wait for a block of the reduce-scatter to have left. -/
theorem sd_wait (s : ℕ) (hs : s < 32) (hne : s ≠ c.val) {sm : DmaSem sig} (hsm : sm = dS (6 + s)) {sp sp' : Space} {s' s'' : Shape} {e e' : EltTy}
    {src : Memref sig .tc sp' s'' e'} {κ' : Kind} {dst : Memref sig κ' sp s' e} {hsrc : src.view.WordExact} {hdst : dst.view.WordExact}
    (hamt : dst.view.dmaCredit = NR)
    (hk : iprop(Ctx m A K ∗ Waits c 0 (sdTodo A c) (sdDone A c) 0 (s + 1) ∗ R) ⊢ Wp c (k ⟨⟩) Q) :
    iprop(Ctx m A K ∗ Waits c 0 (sdTodo A c) (sdDone A c) 0 s ∗ R) ⊢ Wp c (.op (.waitDma2 sm src dst hsrc hdst) k) Q := by
  have hc : c.val < 32 := c.isLt
  refine waits_step s (Nat.zero_le s) hs (n := 6 + s) (by omega) (by omega) (by refine ⟨?_, ?_, ?_, ?_, ?_⟩ <;> omega)
    (Above.zero _) ?_ ?_ hsm (hamt.trans ?_) hk
  · unfold sdTodo
    rw [if_neg hne, show dmaAmt (6 + s) = NR by unfold dmaAmt; rw [if_neg (by omega), if_neg (by omega), if_pos (by omega)]]
  · unfold sdDone dmaPay
    rw [if_neg (by omega), if_neg (by omega), if_neg (by omega), if_pos (by omega), show 6 + s - 6 = s by omega, if_neg hne]
    iintro ⟨H1, H2⟩
    isplitl [H2]; · iexact H2
    iexact H1
  · unfold dmaAmt
    rw [if_neg (by omega), if_neg (by omega), if_pos (by omega)]
/-- The same, where the body first tests whether the block is its own. -/
theorem sd_if (s : ℕ) (hs : s < 32) {cond : Prop} [Decidable cond] (hc : cond ↔ s ≠ c.val)
    {p : cond → Prog (TpuEff nD τ sig (Elt F) Λ₀ .tc) α} {q : Prog (TpuEff nD τ sig (Elt F) Λ₀ .tc) α}
    (h : ∀ h R', s ≠ c.val → (iprop(Ctx m A K ∗ Waits c 0 (sdTodo A c) (sdDone A c) 0 (s + 1) ∗ R') ⊢ Wp c q Q) →
      (iprop(Ctx m A K ∗ Waits c 0 (sdTodo A c) (sdDone A c) 0 s ∗ R') ⊢ Wp c (p h) Q))
    (hk : iprop(Ctx m A K ∗ Waits c 0 (sdTodo A c) (sdDone A c) 0 (s + 1) ∗ R) ⊢ Wp c q Q) :
    iprop(Ctx m A K ∗ Waits c 0 (sdTodo A c) (sdDone A c) 0 s ∗ R) ⊢ Wp c (dite cond p fun _ => q) Q := by
  refine waits_if s hs hc h (fun he => ?_) hk
  unfold sdTodo sdDone
  rw [if_pos he, if_pos he]
  iintro H
  isplitl [H]; · iexact H
  iempintro

/-- A wait for another device's rows of the result. -/
theorem ar_wait (s : ℕ) (h1 : 1 ≤ s) (hs : s < 32) {sm : DmaSem sig} (hsm : sm = dS (102 + s)) {sp sp' : Space} {s' s'' : Shape} {e e' : EltTy}
    {src : Memref sig .tc sp' s'' e'} {κ' : Kind} {dst : Memref sig κ' sp s' e} {hsrc : src.view.WordExact} {hdst : dst.view.WordExact}
    (hamt : dst.view.dmaCredit = NO)
    (hk : iprop(Ctx m A K ∗ Waits c 0 (arTodo c) (arDone A c) 1 (s + 1) ∗ R) ⊢ Wp c (k ⟨⟩) Q) :
    iprop(Ctx m A K ∗ Waits c 0 (arTodo c) (arDone A c) 1 s ∗ R) ⊢ Wp c (.op (.waitDma2 sm src dst hsrc hdst) k) Q := by
  have hc : c.val < 32 := c.isLt
  refine waits_step s h1 hs (n := 102 + s) (by omega) (by omega) (by refine ⟨?_, ?_, ?_, ?_, ?_⟩ <;> omega)
    (Above.zero _) ?_ ?_ hsm (hamt.trans ?_) hk
  · unfold arTodo
    rw [show dmaAmt (102 + s) = NO by unfold dmaAmt; rw [if_neg (by omega), if_neg (by omega), if_neg (by omega)]]
  · unfold arDone dmaPay
    rw [if_neg (by omega), if_neg (by omega), if_neg (by omega), if_neg (by omega), if_neg (by omega), if_neg (by omega), show 102 + s - 102 = s by omega]
  · unfold dmaAmt
    rw [if_neg (by omega), if_neg (by omega), if_neg (by omega)]
/-- A wait for a broadcast to have left. -/
theorem as_wait (s : ℕ) (h1 : 1 ≤ s) (hs : s < 32) {sm : DmaSem sig} (hsm : sm = dS (70 + s)) {sp sp' : Space} {s' s'' : Shape} {e e' : EltTy}
    {src : Memref sig .tc sp' s'' e'} {κ' : Kind} {dst : Memref sig κ' sp s' e} {hsrc : src.view.WordExact} {hdst : dst.view.WordExact}
    (hamt : dst.view.dmaCredit = NO)
    (hk : iprop(Ctx m A K ∗ Waits c 0 (asTodo c) (asDone A c) 1 (s + 1) ∗ R) ⊢ Wp c (k ⟨⟩) Q) :
    iprop(Ctx m A K ∗ Waits c 0 (asTodo c) (asDone A c) 1 s ∗ R) ⊢ Wp c (.op (.waitDma2 sm src dst hsrc hdst) k) Q := by
  have hc : c.val < 32 := c.isLt
  refine waits_step s h1 hs (n := 70 + s) (by omega) (by omega) (by refine ⟨?_, ?_, ?_, ?_, ?_⟩ <;> omega)
    (Above.zero _) ?_ ?_ hsm (hamt.trans ?_) hk
  · unfold asTodo
    rw [show dmaAmt (70 + s) = NO by unfold dmaAmt; rw [if_neg (by omega), if_neg (by omega), if_neg (by omega)]]
  · unfold asDone dmaPay
    rw [if_neg (by omega), if_neg (by omega), if_neg (by omega), if_neg (by omega), if_neg (by omega), if_pos (by omega), show 70 + s - 70 = s by omega]
  · unfold dmaAmt
    rw [if_neg (by omega), if_neg (by omega), if_neg (by omega)]

/-! ## From one phase to the next -/

section
variable {P : sProp (MT nD τ sig Unit (Elt F) ℕ UU ℕ)}

/-- From the reduce-scatter's copies to its waits. -/
theorem to_recv {X : sProp (MT nD τ sig Unit (Elt F) ℕ UU ℕ)}
    (hk : iprop(Ctx m A K ∗ Waits c (Oag c 1) (rvTodo A c) (rvDone A c) 0 0 ∗ (bigSep (Finset.Ico 0 32) (sdTodo A c) ∗ X) ∗ R) ⊢ P) :
    iprop(Ctx m A K ∗ X ∗ RSt A c 32 ∗ (RecvTok c ∗ SendPos c) ∗ R) ⊢ P := by
  have h : iprop(RSt A c 32 ∗ RecvTok c ∗ SendPos c) ⊢ (iprop(Waits c (Oag c 1) (rvTodo A c) (rvDone A c) 0 0 ∗ bigSep (Finset.Ico 0 32) (sdTodo A c)) : sProp 𝕄) := recv_begin
  iintro ⟨HC, HX, HR, HT, H⟩
  ihave Hn := h $$ [HR HT]
  · isplitl [HR]; · iexact HR
    iexact HT
  icases Hn with ⟨HW, HS⟩
  iapply hk
  isplitl [HC]; · iexact HC
  isplitl [HW]; · iexact HW
  isplitl [HS HX]
  · isplitl [HS]; · iexact HS
    iexact HX
  iexact H

variable (c) in
/-- The device's own rows of the result, before they are summed. -/
def MyRows : sProp 𝕄 := iprop(∃ f, rowsPt (F := F) c c fullShare f)

/-- The sum of the received blocks goes to the device's own rows of the result. -/
theorem sum_step {off : Fin 2 → ℕ} (hoff : off = ![32 * c.val, 0]) {inb : ∀ a, off a + S32x1024.size a ≤ S1024x1024.size a}
    {inb0 : ∀ a, (![0, 0, 0] : Fin 3 → ℕ) a + S32x32x1024.size a ≤ S32x32x1024.size a} {h h' hx hm} {q : Prog (TpuEff nD τ sig (Elt F) Λ₀ .tc) α}
    (hk : iprop(Ctx m A K ∗ Ow c (Oag c 1) ∗ rowsPt c c fullShare (outV A) ∗ (Pt c (Memref.whole cc0_scratch12 : Memref sig .tc _ _ _) (rsV A c) ∗ RvSems c) ∗ R) ⊢ Wp c q Q) :
    iprop(Ctx m A K ∗ Waits c (Oag c 1) (rvTodo A c) (rvDone A c) 0 32 ∗ MyRows c ∗ R)
      ⊢ Wp c (.op (.load rM (Rect.unit (s := S32x32x1024) ![0, 0, 0] S32x32x1024.size inb0).toLoadRect h) fun v =>
          .op (.load oM (Rect.unit (s := S1024x1024) off S32x1024.size inb).toLoadRect h') fun _ =>
          .op (.store oM (Rect.unit (s := S1024x1024) off S32x1024.size inb) (k0_pay148 v) Finset.univ hx hm) fun _ => q) Q := by
  subst hoff
  have h1 : Waits c (Oag c 1) (rvTodo A c) (rvDone A c) 0 32
    ⊢ (iprop(Ow c (Oag c 1) ∗ Pt c (Memref.whole cc0_scratch12 : Memref sig .tc _ _ _) (rsV A c) ∗ RvSems c) : sProp 𝕄) := recv_end
  have hrd : (rM : Memref sig .tc .vmem S32x32x1024 .bf16).view.readAt (Elt F) (Rect.unit (s := S32x32x1024) ![0, 0, 0] S32x32x1024.size inb0).toLoadRect (rsV A c) = rsV A c := by
    refine Memref.readAt_unit_zero (Elt F) cc0_scratch12 (by funext a; fin_cases a <;> rfl) inb0 _
  have hv : ((oM : Memref sig .tc .vmem S1024x1024 .bf16).access (rowsRect c)).read (Elt F) (outV A) = k0_pay148 (rsV A c) := by
    funext i
    have h0 : (i 0).val < 32 := (i 0).isLt
    have hx : ∀ (d : Dev nD) (j : S32x1024.Idx), d = c → j = i → redV A d j = k0_pay148 (rsV A c) i := by
      rintro _ _ rfl rfl; rfl
    refine hx _ _ ?_ (ix2_ext ?_ ?_)
    · refine Fin.ext ?_
      rw [dv_val]
      show (32 * c.val + 1 * (i 0).val) / 32 % 32 = c.val
      have hc : c.val < 32 := c.isLt
      omega
    · show (32 * c.val + 1 * (i 0).val) % 32 = (i 0).val
      omega
    · show 0 + 1 * (i 1).val = (i 1).val
      omega
  have hset : ((oM : Memref sig .tc .vmem S1024x1024 .bf16).access (rowsRect c)).set = (rowsRect c).set :=
    View.set_slice_whole (b := cc0_stg3_0) (r := rowsRect c)
  have hl : ∀ fd, rowsPt (F := F) c c fullShare (((oM : Memref sig .tc .vmem S1024x1024 .bf16).access (rowsRect c)).write (Elt F) fd (k0_pay148 (rsV A c)) Finset.univ)
      = rowsPt c c fullShare (outV A) := by
    intro fd
    have hl := landed ((oM : Memref sig .tc .vmem S1024x1024 .bf16).access (rowsRect c)) fd (outV A) _ hv
    rw [hset] at hl
    exact pointsTo_congr hl
  unfold MyRows
  iintro ⟨#HC, HW, ⟨%fd, Ho⟩, HR⟩
  ihave Hn := h1 $$ HW
  icases Hn with ⟨HO, Hr, Hs⟩
  iapply (wp_load 𝒱₀ (c : Thread nD τ) none Set.univ (m := rM) (S := Finset.univ) (Finset.subset_univ _)) $$ Hr
  iintro Hr
  rw [hrd]
  unfold rowsPt
  iapply (wp_load 𝒱₀ (c : Thread nD τ) none Set.univ (m := oM) (S := (rowsRect c).set) (by
    exact ((View.set_slice (View.whole cc0_stg3_0) (rowsRect c)).symm.trans (View.set_slice_whole (b := cc0_stg3_0) (r := rowsRect c))).subset)) $$ Ho
  iintro Ho
  iapply (wp_store 𝒱₀ (c : Thread nD τ) none Set.univ (m := oM) (r := rowsRect c) (Mk := Finset.univ) (S := (rowsRect c).set) (by
    rw [← View.set_slice_whole (b := cc0_stg3_0) (r := rowsRect c)]; exact Finset.Subset.refl _)) $$ Ho
  iintro Ho
  iapply hk
  isplitr; · iexact HC
  isplitl [HO]; · iexact HO
  isplitl [Ho]; · iapply (Entails.of_eq (hl fd)); unfold rowsPt; iexact Ho
  isplitl [Hr Hs]
  · isplitl [Hr]; · iexact Hr
    iexact Hs
  iexact HR

variable (m c) in
/-- The three inputs in their stages. -/
def InPt : sProp 𝕄 := iprop(Pt c xM (xIn m c) ∗ Pt c kM (kIn m c) ∗ Pt c vM (vIn m c))
/-- The casts are complete: the first group begins. -/
theorem to_grp (hk : iprop(Ctx m A K ∗ Grp c m 0 0 ∗ InPt m c ∗ R) ⊢ P) :
    iprop(Ctx m A K ∗ Pt c gobM (gobV m c) ∗ KPre m c 8 ∗ VPre m c 8 ∗ XP1 m c ∗ Pt c gqbM (gqbV m c) ∗ Any c cxM ∗ R) ⊢ P := by
  have h1 : KPre m c 8 ⊢ (iprop(Pt c kM (kIn m c) ∗ Pt c kbM (kbV m c)) : sProp 𝕄) := K_full
  have h2 : VPre m c 8 ⊢ (iprop(Pt c vM (vIn m c) ∗ Pt c vbM (vbV m c)) : sProp 𝕄) := V_full
  iintro ⟨HC, Ho, HK, HV, HX, Hq, Hc, H⟩
  ihave Hn := h1 $$ HK
  icases Hn with ⟨HK, HKb⟩
  ihave Hn := h2 $$ HV
  icases Hn with ⟨HV, HVb⟩
  unfold XP1 Any
  icases HX with ⟨HX, HXb⟩
  icases Hc with ⟨%f, Hc⟩
  iapply hk
  isplitl [HC]; · iexact HC
  isplitl [Ho HKb HVb HXb Hq Hc]
  · unfold Grp CxSt
    isplitl [HXb]; · iexact HXb
    isplitl [Hq]; · iexact Hq
    isplitl [HKb]; · iexact HKb
    isplitl [HVb]; · iexact HVb
    isplitl [Ho]; · iexact Ho
    iexists f
    isplitl [Hc]; · iexact Hc
    ipureintro
    intro i hi
    exact absurd hi (by omega)
  isplitl [HX HK HV]
  · unfold InPt
    isplitl [HX]; · iexact HX
    isplitl [HK]; · iexact HK
    iexact HV
  iexact H

variable (c) in
/-- What the reduce-scatter starts from besides the barrier's pieces. -/
def RsIn : sProp 𝕄 := iprop((∃ f, slotPt (F := F) c c f) ∗ RsTok c)
/-- To the reduce-scatter. -/
theorem to_rs (hk : iprop(Ctx m A K ∗ RSt A c 0 ∗ AgRows c ∗ semVal (barCell c) 0 ∗ R) ⊢ P) :
    iprop(Ctx m A K ∗ Ow c (Ors c 0 + Oag c 1) ∗ BarD c ∗ RsIn c ∗ R) ⊢ P := by
  have h : iprop(Ow c (Ors c 0 + Oag c 1) ∗ bigSep (Finset.univ.erase c) (barPay c) ∗ (∃ f, slotPt c c f) ∗ RsTok c)
    ⊢ (iprop(RSt A c 0 ∗ AgRows c) : sProp 𝕄) := rs_begin
  unfold BarD RsIn
  iintro ⟨HC, HO, ⟨HX, H1⟩, H2, H⟩
  ihave Hn := h $$ [HO H1 H2]
  · isplitl [HO]; · iexact HO
    isplitl [H1]; · iexact H1
    iexact H2
  icases Hn with ⟨HW, HS⟩
  iapply hk
  isplitl [HC]; · iexact HC
  isplitl [HW]; · iexact HW
  isplitl [HS]; · iexact HS
  isplitl [HX]; · iexact HX
  iexact H

/-- To the broadcasts. -/
theorem to_ag (hk : iprop(Ctx m A K ∗ AgSt A c 1 ∗ rowsPt c c (Transfers.shareDrop fullShare 31) (outV A) ∗ R) ⊢ P) :
    iprop(Ctx m A K ∗ Ow c (Oag c 1) ∗ rowsPt c c fullShare (outV A) ∗ AgRows c ∗ AgTok c ∗ R) ⊢ P := by
  have h : iprop(Ow c (Oag c 1) ∗ rowsPt c c fullShare (outV A) ∗ AgRows c ∗ AgTok c)
    ⊢ (iprop(AgSt A c 1 ∗ rowsPt c c (Transfers.shareDrop fullShare 31) (outV A)) : sProp 𝕄) := ag_begin
  iintro ⟨HC, HO, HX, H1, H2, H⟩
  ihave Hn := h $$ [HO HX H1 H2]
  · isplitl [HO]; · iexact HO
    isplitl [HX]; · iexact HX
    isplitl [H1]; · iexact H1
    iexact H2
  icases Hn with ⟨HW, HS⟩
  iapply hk
  isplitl [HC]; · iexact HC
  isplitl [HW]; · iexact HW
  isplitl [HS]; · iexact HS
  iexact H

/-- To the waits for the others' rows. -/
theorem to_ar (hk : iprop(Ctx m A K ∗ Waits c 0 (arTodo c) (arDone A c) 1 1 ∗ bigSep (Finset.Ico 1 32) (asTodo c) ∗ R) ⊢ P) :
    iprop(Ctx m A K ∗ AgSt A c 32 ∗ AgrTok c ∗ AgsPos c ∗ R) ⊢ P := by
  have h : iprop(AgSt A c 32 ∗ AgrTok c ∗ AgsPos c)
    ⊢ (iprop(Waits c 0 (arTodo c) (arDone A c) 1 1 ∗ bigSep (Finset.Ico 1 32) (asTodo c)) : sProp 𝕄) := ar_begin
  iintro ⟨HC, HO, HX, H1, H⟩
  ihave Hn := h $$ [HO HX H1]
  · isplitl [HO]; · iexact HO
    isplitl [HX]; · iexact HX
    iexact H1
  icases Hn with ⟨HW, HS⟩
  iapply hk
  isplitl [HC]; · iexact HC
  isplitl [HW]; · iexact HW
  isplitl [HS]; · iexact HS
  iexact H

/-- From one row of waits to another. -/
theorem to_waits {O : CellTallies nD τ sig Unit} {todo done todo' done' : ℕ → sProp (MT nD τ sig Unit (Elt F) ℕ UU ℕ)} {a b : ℕ}
    (hk : iprop(Ctx m A K ∗ Waits c O todo' done' b b ∗ bigSep (Finset.Ico a 32) done ∗ R) ⊢ P) :
    iprop(Ctx m A K ∗ Waits c O todo done a 32 ∗ bigSep (Finset.Ico b 32) todo' ∗ R) ⊢ P := by
  have h1 : Waits c O todo done a 32 ⊢ iprop(Ow c O ∗ bigSep (Finset.Ico a 32) done) := waits_end
  have h2 : iprop(Ow c O ∗ bigSep (Finset.Ico b 32) todo') ⊢ Waits c O todo' done' b b := waits_begin
  iintro ⟨HC, HW, HT, H⟩
  ihave Hn := h1 $$ HW
  icases Hn with ⟨HO, HD⟩
  iapply hk
  isplitl [HC]; · iexact HC
  isplitl [HO HT]
  · iapply h2
    isplitl [HO]; · iexact HO
    iexact HT
  isplitl [HD]; · iexact HD
  iexact H

end

end Cert.KernelIdeal.Ring

end
-- ==== Proof.KernelIdeal.Deal.lean ====
/-
# What the launch deals

The semaphores of every device become the cells of the protocol; each device gets the positions of its
own cells and the tokens of the duties that it pays.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-! ## The families by number -/

theorem fam_nat (X : ℕ → sProp (MT nD τ sig Unit (Elt F) ℕ UU ℕ)) : bigSep Finset.univ (fun j : Fin 32 => X j.val) = bigSep (Finset.Ico 0 32) X := by
  have h := univ_dv (F := F) (Φ := fun d : Dev nD => X d.val)
  refine h.trans (bigSep_congr fun j hj => ?_)
  rw [dv_of_lt (Finset.mem_Ico.mp hj).2]

/-- A family taken without the member of number `n`. -/
theorem ico_if (n : ℕ) (hn : n < 32) (X : ℕ → sProp (MT nD τ sig Unit (Elt F) ℕ UU ℕ)) :
    bigSep (Finset.Ico 0 32) X = iprop(X n ∗ bigSep (Finset.Ico 0 32) fun j => if j = n then (iprop(emp) : sProp (MT nD τ sig Unit (Elt F) ℕ UU ℕ)) else X j) := by
  rw [← fam_nat, bigSep_erase (Finset.mem_univ (⟨n, hn⟩ : Fin 32))]
  have h := erase_if (F := F) (⟨n, hn⟩ : Dev nD) (Φ := fun d : Dev nD => X d.val)
  refine congrArg (fun Y => iprop(X n ∗ Y)) (h.trans (bigSep_congr fun j hj => ?_))
  rw [dv_of_lt (Finset.mem_Ico.mp hj).2]

theorem ico_zero (X : ℕ → sProp (MT nD τ sig Unit (Elt F) ℕ UU ℕ)) : bigSep (Finset.Ico 0 32) X = iprop(X 0 ∗ bigSep (Finset.Ico 1 32) X) :=
  bigSep_Ico_succ_bot (show 0 < 32 by decide) X

theorem own_split (Φ : Own → sProp (MT nD τ sig Unit (Elt F) ℕ UU ℕ)) (X : ℕ → sProp (MT nD τ sig Unit (Elt F) ℕ UU ℕ)) (h : ∀ o, Φ o = X (ownN o)) :
    bigSep Finset.univ Φ = iprop((X 4 ∗ X 5) ∗ (bigSep (Finset.Ico 0 32) fun j => X (6 + j)) ∗ (bigSep (Finset.Ico 0 32) fun j => X (38 + j))
      ∗ (bigSep (Finset.Ico 0 32) fun j => X (70 + j)) ∗ (bigSep (Finset.Ico 0 32) fun j => X (102 + j))) := by
  rw [bigSep_congr (fun o _ => h o), bigSep_univ_sum, bigSep_univ_prod,
    bigSep_univ_eq_bigSepL (I := Fin 2) [0, 1] (by decide) (by decide), bigSep_univ_eq_bigSepL (I := Fin 4) [0, 1, 2, 3] (by decide) (by decide)]
  rw [← fam_nat (fun j => X (6 + j)), ← fam_nat (fun j => X (38 + j)), ← fam_nat (fun j => X (70 + j)), ← fam_nat (fun j => X (102 + j))]
  rfl

theorem ck_split (Φ : Ck → sProp (MT nD τ sig Unit (Elt F) ℕ UU ℕ)) : bigSep Finset.univ Φ = iprop(Φ (.inl ()) ∗ bigSep Finset.univ fun o => Φ (.inr o)) := by
  rw [bigSep_univ_sum, bigSep_univ_eq_bigSepL (I := Unit) [()] (by decide) (by decide)]
  rfl

/-! ## The launch element -/

def ringCells : Finset (GSem nD τ sig) := Finset.univ.map ⟨kcell, kcell_injective⟩

/-- Every duty of every cell's one round, as minted. -/
abbrev tokOf (x : (Dev nD × Ck) × Fin 32) : GSem nD τ sig × ℕ × Fin 32 := (kcell x.1, 0, x.2)
theorem tokOf_injective : Function.Injective (tokOf : (Dev nD × Ck) × Fin 32 → GSem nD τ sig × ℕ × Fin 32) := by
  rintro ⟨a, i⟩ ⟨b, j⟩ h
  have h1 := kcell_injective (congrArg Prod.fst h)
  have h2 : i = j := congrArg (fun x => x.2.2) h
  have h1 : a = b := h1
  rw [h1, h2]
def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun k : Ck => bigSep Finset.univ fun i : Fin 32 => dutyTok ER (kcell (c, k)) 0 i

variable (m A) in
/-- What the launch element deals device `c`. -/
def G (c : Dev nD) : sProp 𝕄 :=
  iprop((bigSep Finset.univ fun k : Ck => roundState ER (sched m A) (kcell (c, k)) 0)
    ∗ (bigSep Finset.univ fun k : Ck => iprop(atPos ER (kcell (c, k)) 0 ∅ 0 ∗ reached ER (kcell (c, k)) 0)) ∗ toks c)

theorem fund_ring : BI.own (ER (initOf ringCells ringToks)) ⊢ (|==> bigSep Finset.univ (G m A) : sProp 𝕄) := by
  have hX (Φ : GSem nD τ sig → sProp (MT nD τ sig Unit (Elt F) ℕ UU ℕ)) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (sched m A) ringCells ringToks) $$ HX with ⟨Hst, Hr, Hat, Htok⟩
  imodintro
  ihave Hst' := (Entails.of_eq (hX fun g => roundState ER (sched m A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's counter is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [unscopedSems0_eq, ck_split]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m A c)
      ⊢ |={Set.univ}=> iprop((bigSep Finset.univ fun k => iprop(∃ κ : ℕ, cellInv ER (sched m A) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ck => semVal (kcell (c, k)) 0) ∗ bigSep Finset.univ fun k : Ck => roundState ER (sched m A) (kcell (c, k)) 0)
      ⊢ (|={Set.univ}=> bigSep Finset.univ fun k => iprop(∃ κ : ℕ, cellInv ER (sched m A) κ (kcell (c, k))) : sProp 𝕄) from by
        rw [← bigSep_sep']
        exact (bigSep_mono fun k _ => (Rounds.body_intro ER (sched m A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, dealt to those that pay -/

/-- `k` devices on, around the mesh. -/
def rot (k : ℕ) : Dev nD ≃ Dev nD where
  toFun c := dv (c.val + k)
  invFun d := dv (d.val + (32 - k % 32))
  left_inv c := Fin.ext (by rw [dv_val, dv_val]; have : c.val < 32 := c.isLt; omega)
  right_inv c := Fin.ext (by rw [dv_val, dv_val]; have : c.val < 32 := c.isLt; omega)

/-- The tokens of `n`'s family: the duties of the cells `n + j` of device `d`. -/
def famTok (n : ℕ) (d : Dev nD) : sProp 𝕄 := bigSep (Finset.Ico 0 32) fun j => dutyTok ER (cellN d (n + j)) 0 0
def barTok (d : Dev nD) : sProp 𝕄 := bigSep Finset.univ fun i : Dev nD => dutyTok ER (barCell d) 0 i

theorem toks_split (d : Dev nD) : (toks d : sProp 𝕄) ⊢ iprop(barTok d ∗ (dutyTok ER (cellN d 4) 0 0 ∗ dutyTok ER (cellN d 5) 0 0)
    ∗ famTok 6 d ∗ famTok 38 d ∗ famTok 70 d ∗ famTok 102 d) := by
  unfold toks
  rw [ck_split]
  refine sep_mono_right ?_
  have h : (bigSep Finset.univ fun o : Own => bigSep Finset.univ fun i : Fin 32 => (dutyTok ER (kcell (d, .inr o)) 0 i : sProp 𝕄))
      ⊢ bigSep Finset.univ fun o : Own => (dutyTok ER (cellN d (ownN o)) 0 0 : sProp 𝕄) :=
    bigSep_mono fun o _ => bigSep_elim (Finset.mem_univ (0 : Fin 32))
  refine h.trans (Entails.of_eq ?_)
  exact own_split _ (fun n => dutyTok ER (cellN d n) 0 0) (fun _ => rfl)

/-- The barrier tokens that device `c` pays. -/
def BarTok (c : Dev nD) : sProp 𝕄 := bigSep (Finset.Ico 1 32) fun k => dutyTok ER (barCell (dv (c.val + k))) 0 c

theorem bar_deal : (bigSep Finset.univ fun d : Dev nD => (barTok d : sProp 𝕄)) ⊢ bigSep Finset.univ fun c : Dev nD => BarTok c := by
  unfold barTok BarTok
  rw [bigSep_univ_comm]
  refine bigSep_mono fun c _ => ?_
  rw [← erase_rot c (Φ := fun d => dutyTok ER (barCell d) 0 c)]
  exact bigSep_subset (Finset.erase_subset _ _)

theorem drop_all {X : sProp (MT nD τ sig Unit (Elt F) ℕ UU ℕ)} : X ⊢ (iprop(emp) : sProp (MT nD τ sig Unit (Elt F) ℕ UU ℕ)) := by
  iintro H; iempintro

theorem keep_all {X : sProp (MT nD τ sig Unit (Elt F) ℕ UU ℕ)} : X ⊢ X := by
  iintro H; iexact H

theorem rs_deal : iprop((bigSep Finset.univ fun d : Dev nD => (famTok 38 d : sProp 𝕄)) ∗ bigSep Finset.univ fun d : Dev nD => (famTok 6 d : sProp 𝕄))
    ⊢ bigSep Finset.univ fun c : Dev nD => RsTok c := by
  have h : (bigSep Finset.univ fun d : Dev nD => (famTok 38 d : sProp 𝕄)) = bigSep Finset.univ fun c : Dev nD => bigSep (Finset.Ico 0 32) fun j => dutyTok ER (cellN (dv j) (38 + c.val)) 0 0 := by
    unfold famTok
    rw [show (fun d : Dev nD => bigSep (Finset.Ico 0 32) fun j => (dutyTok ER (cellN d (38 + j)) 0 0 : sProp 𝕄))
      = fun d : Dev nD => bigSep Finset.univ fun c : Dev nD => (dutyTok ER (cellN d (38 + c.val)) 0 0 : sProp 𝕄) from
      funext fun d => (fam_nat (fun j => dutyTok ER (cellN d (38 + j)) 0 0)).symm, bigSep_univ_comm]
    exact bigSep_congr fun c _ => univ_dv
  rw [h, ← bigSep_sep']
  refine bigSep_mono fun c _ => ?_
  unfold famTok RsTok
  rw [← bigSep_sep']
  refine bigSep_mono fun j _ => ?_
  by_cases hj : j = c.val
  · rw [if_pos hj]; exact drop_all
  · rw [if_neg hj]; exact keep_all

theorem ag_deal : iprop((bigSep Finset.univ fun d : Dev nD => (famTok 102 d : sProp 𝕄)) ∗ bigSep Finset.univ fun d : Dev nD => (famTok 70 d : sProp 𝕄))
    ⊢ bigSep Finset.univ fun c : Dev nD => AgTok c := by
  have h : (bigSep Finset.univ fun d : Dev nD => (famTok 102 d : sProp 𝕄)) = bigSep Finset.univ fun c : Dev nD => bigSep (Finset.Ico 0 32) fun k => dutyTok ER (cellN (dv (c.val + k)) (102 + k)) 0 0 := by
    unfold famTok
    rw [show (fun d : Dev nD => bigSep (Finset.Ico 0 32) fun j => (dutyTok ER (cellN d (102 + j)) 0 0 : sProp 𝕄))
      = fun d : Dev nD => bigSep Finset.univ fun k : Fin 32 => (dutyTok ER (cellN d (102 + k.val)) 0 0 : sProp 𝕄) from
      funext fun d => (fam_nat (fun j => dutyTok ER (cellN d (102 + j)) 0 0)).symm, bigSep_univ_comm]
    rw [show (fun c : Dev nD => bigSep (Finset.Ico 0 32) fun k => (dutyTok ER (cellN (dv (c.val + k)) (102 + k)) 0 0 : sProp 𝕄))
      = fun c : Dev nD => bigSep Finset.univ fun k : Fin 32 => (dutyTok ER (cellN (dv (c.val + k.val)) (102 + k.val)) 0 0 : sProp 𝕄) from
      funext fun c => (fam_nat (fun k => dutyTok ER (cellN (dv (c.val + k)) (102 + k)) 0 0)).symm,
      bigSep_univ_comm (fun (c : Dev nD) (k : Fin 32) => (dutyTok ER (cellN (dv (c.val + k.val)) (102 + k.val)) 0 0 : sProp 𝕄))]
    refine bigSep_congr fun k _ => ?_
    exact bigSep_univ_equiv (rot k.val) (fun d : Dev nD => (dutyTok ER (cellN d (102 + k.val)) 0 0 : sProp 𝕄))
  rw [h, ← bigSep_sep']
  refine bigSep_mono fun c _ => ?_
  unfold famTok AgTok
  rw [← bigSep_sep']
  exact bigSep_subset (Finset.Ico_subset_Ico (by decide) le_rfl)

/-- The tokens of the duties that device `c` pays. -/
def payToks (c : Dev nD) : sProp 𝕄 :=
  iprop(BarTok c ∗ (dutyTok ER (cellN c 4) 0 0 ∗ dutyTok ER (cellN c 5) 0 0) ∗ RsTok c ∗ AgTok c)

theorem deal_all {B B' W S6 S38 S70 S102 X Y : sProp (MT nD τ sig Unit (Elt F) ℕ UU ℕ)} (h1 : B ⊢ B') (h2 : iprop(S38 ∗ S6) ⊢ X) (h3 : iprop(S102 ∗ S70) ⊢ Y) :
    iprop(B ∗ W ∗ S6 ∗ S38 ∗ S70 ∗ S102) ⊢ iprop(B' ∗ W ∗ X ∗ Y) := by
  iintro ⟨HB, Hw, H6, H38, H70, H102⟩
  isplitl [HB]; · iapply h1; iexact HB
  isplitl [Hw]; · iexact Hw
  isplitl [H6 H38]
  · iapply h2; isplitl [H38] <;> iassumption
  · iapply h3; isplitl [H102] <;> iassumption

theorem toks_around : (bigSep Finset.univ fun c : Dev nD => (toks c : sProp 𝕄)) ⊢ bigSep Finset.univ fun c : Dev nD => payToks c := by
  refine (bigSep_mono fun d _ => toks_split d).trans ?_
  unfold payToks
  simp only [bigSep_sep']
  have h1 := bar_deal (F := F)
  have h2 := rs_deal (F := F)
  have h3 := ag_deal (F := F)
  exact deal_all h1 h2 h3

/-! ## The positions -/

/-- The positions of `c`'s cells that no copy uses. -/
def UnPos (c : Dev nD) : sProp 𝕄 := iprop(atPos ER (cellN c (6 + c.val)) 0 ∅ 0 ∗ atPos ER (cellN c (38 + c.val)) 0 ∅ 0
  ∗ atPos ER (cellN c (70 + 0)) 0 ∅ 0 ∗ atPos ER (cellN c (102 + 0)) 0 ∅ 0)
def RecvPos (c : Dev nD) : sProp 𝕄 := bigSep (Finset.Ico 0 32) fun s => if s = c.val then (iprop(emp) : sProp (MT nD τ sig Unit (Elt F) ℕ UU ℕ)) else atPos ER (cellN c (38 + s)) 0 ∅ 0
def AgrPos (c : Dev nD) : sProp 𝕄 := bigSep (Finset.Ico 1 32) fun k => atPos ER (cellN c (102 + k)) 0 ∅ 0
/-- The positions of all of `c`'s cells. -/
def AllPos (c : Dev nD) : sProp 𝕄 := iprop(atPos ER (barCell c) 0 ∅ 0 ∗ (atPos ER (cellN c 4) 0 ∅ 0 ∗ atPos ER (cellN c 5) 0 ∅ 0)
  ∗ UnPos c ∗ SendPos c ∗ RecvPos c ∗ AgsPos c ∗ AgrPos c)

theorem pos_split (c : Dev nD) : (bigSep Finset.univ fun k : Ck => (atPos ER (kcell (c, k)) 0 ∅ 0 : sProp 𝕄)) ⊢ AllPos c := by
  rw [ck_split]
  have h := own_split (F := F) (fun o : Own => atPos ER (kcell (c, .inr o)) 0 ∅ 0) (fun n => atPos ER (cellN c n) 0 ∅ 0) (fun _ => rfl)
  have hc : c.val < 32 := c.isLt
  rw [h, ico_if c.val hc (fun j => atPos ER (cellN c (6 + j)) 0 ∅ 0), ico_if c.val hc (fun j => atPos ER (cellN c (38 + j)) 0 ∅ 0),
    ico_zero (fun j => atPos ER (cellN c (70 + j)) 0 ∅ 0), ico_zero (fun j => atPos ER (cellN c (102 + j)) 0 ∅ 0)]
  unfold AllPos UnPos SendPos RecvPos AgsPos AgrPos
  iintro ⟨HB, Hw, ⟨H6, H6s⟩, ⟨H38, H38s⟩, ⟨H70, H70s⟩, H102, H102s⟩
  isplitl [HB]; · iexact HB
  isplitl [Hw]; · iexact Hw
  isplitl [H6 H38 H70 H102]
  · isplitl [H6]; · iexact H6
    isplitl [H38]; · iexact H38
    isplitl [H70]; · iexact H70
    iexact H102
  isplitl [H6s]; · iexact H6s
  isplitl [H38s]; · iexact H38s
  isplitl [H70s]; · iexact H70s
  iexact H102s

/-- What the launch leaves with device `c`: the records of all cells, its positions and its tokens. -/
def linear (c : Dev nD) : sProp 𝕄 := iprop(AllPos c ∗ payToks c)
variable (m A) in
def G' (c : Dev nD) : sProp 𝕄 := iprop(∃ K, records m A K ∗ linear c)

theorem ghost_intro (K : Dev nD × Ck → ℕ) (c : Dev nD) : iprop(records m A K ∗ linear c) ⊢ G' m A c := by
  unfold G'; iintro H; iexists K; iexact H

theorem with_persistent {I : Type} [DecidableEq I] {S : Finset I} {X : sProp (MT nD τ sig Unit (Elt F) ℕ UU ℕ)} [BI.Persistent X] {Φ Ψ : I → sProp (MT nD τ sig Unit (Elt F) ℕ UU ℕ)}
    (h : ∀ i ∈ S, iprop(X ∗ Φ i) ⊢ Ψ i) : iprop(X ∗ bigSep S Φ) ⊢ bigSep S Ψ :=
  (sep_mono_left (BI.bigSep_of_persistent S X)).trans (by rw [← bigSep_sep']; exact bigSep_mono h)

theorem regroup :
    (bigSep Finset.univ fun c : Dev nD => iprop((bigSep Finset.univ fun k => iprop(∃ κ : ℕ, cellInv ER (sched m A) κ (kcell (c, k))))
          ∗ (bigSep Finset.univ fun k => iprop(atPos ER (kcell (c, k)) 0 ∅ 0 ∗ reached ER (kcell (c, k)) 0)) ∗ toks c) : sProp 𝕄)
      ⊢ bigSep Finset.univ (G' m A) := by
  rw [bigSep_sep', bigSep_sep', ← bigSep_univ_prod (fun ck : Dev nD × Ck => iprop(∃ κ : ℕ, cellInv ER (sched m A) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (sched m A) κ (kcell ck) : sProp 𝕄))) $$ HI
  icases HK with ⟨%K, #HI⟩
  ihave Htk := (toks_around (F := F)) $$ Htok
  iapply (with_persistent (X := records m A K) fun c _ => ghost_intro K c)
  isplitr
  · unfold records; isplitl; · iexact HI
    iexact HR
  · unfold linear
    iapply (Entails.of_eq (bigSep_sep' Finset.univ (fun c : Dev nD => (AllPos c : sProp 𝕄)) payToks).symm)
    have hp : (bigSep Finset.univ fun c : Dev nD => bigSep Finset.univ fun k : Ck => (atPos ER (kcell (c, k)) 0 ∅ 0 : sProp 𝕄)) ⊢ bigSep Finset.univ fun c : Dev nD => AllPos c :=
      bigSep_mono fun c _ => pos_split c
    isplitl [Hat]; · iapply hp; iexact Hat
    iexact Htk

/-- Every device's semaphores at once become the protocol's cells. -/
theorem glob : (bigSep Finset.univ fun c => iprop(Pipeline.ownSems0 (Ix := Unit) (Name := ℕ) (U := UU) (Lvl := ℕ) (Val := Elt F) (τ := τ) osem c ∗ unscopedSems0 c ∗ G m A c) : sProp 𝕄)
    ⊢ |={Set.univ}=> bigSep Finset.univ (G' m A) :=
  ((bigSep_mono fun c _ => core_alloc c).trans (bigSep_fupd _ _)).trans (BI.fupd_mono regroup)

end Cert.KernelIdeal.Ring

end
-- ==== Proof.KernelIdeal.Credits.lean ====
/-
# The launch's credits

What all devices together owe a cell at the start is what the device of the cell waits for there.
-/
module

public import proofs.«01_k».proof.Proof.KernelIdeal.Deal

@[expose] public section

set_option maxRecDepth 8000
set_option maxHeartbeats 400000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- What device `c` owes at the start: a signal to every other device, its blocks of the reduce-scatter and its broadcasts. -/
def O₀ (c : Dev nD) : CellTallies nD τ sig Unit := Obar c 1 + (Ors c 0 + Oag c 1)

theorem bar_eq {a b : Dev nD} (h : barCell a = barCell b) : a = b := congrArg (fun g : GSem nD τ sig => g.1.1) h
theorem cell_eq {a b : Dev nD} {n n' : ℕ} (hn : n < 134) (hn' : n' < 134) (h : cellN a n = cellN b n') : a = b ∧ n = n' :=
  ⟨congrArg (fun g : GSem nD τ sig => g.1.1) h, dS_inj hn hn' (SemLoc.dma.inj (congrArg Prod.snd h))⟩
theorem bar_ne {a b : Dev nD} {n : ℕ} : ¬ (barCell a = cellN b n) := fun h => by
  have h2 := congrArg Prod.snd h
  cases h2

theorem at_sum (S : Finset ℕ) (f : ℕ → CellTallies nD τ sig Unit) (g : GSem nD τ sig) : (∑ k ∈ S, f k) g () = ∑ k ∈ S, f k g () := by
  rw [Finset.sum_apply, Finsupp.finset_sum_apply]
theorem at_add (f f' : CellTallies nD τ sig Unit) (g : GSem nD τ sig) : (f + f') g () = f g () + f' g () := by
  rw [Pi.add_apply, Finsupp.add_apply]
theorem at_ne {g g' : GSem nD τ sig} {n : ℕ} (h : ¬ g' = g) : tallyAt g () n g' () = 0 := by
  rw [tallyAt_apply, if_neg fun hh => h hh.1]
theorem at_eq {g : GSem nD τ sig} {n : ℕ} : tallyAt g () n g () = n := by
  rw [tallyAt_apply, if_pos ⟨rfl, rfl⟩]

theorem zero_bar_rs (d c : Dev nD) : Ors d 0 (barCell c) () = 0 := by
  unfold Ors; rw [at_sum]
  refine Finset.sum_eq_zero fun j _ => ?_
  split
  · rfl
  · exact at_ne bar_ne
theorem zero_bar_ag (d c : Dev nD) : Oag d 1 (barCell c) () = 0 := by
  unfold Oag; rw [at_sum]
  exact Finset.sum_eq_zero fun j _ => at_ne bar_ne
theorem zero_cell_bar (d c : Dev nD) (n : ℕ) : Obar d 1 (cellN c n) () = 0 := by
  unfold Obar; rw [at_sum]
  exact Finset.sum_eq_zero fun j _ => at_ne fun h => bar_ne h.symm

theorem sum_bar (c : Dev nD) : ∑ d : Dev nD, O₀ d (barCell c) () = 31 := by
  have h1 : ∀ d : Dev nD, O₀ d (barCell c) () = ∑ k ∈ Finset.Ico 1 32, if d = dv (c.val + (32 - k)) then 1 else 0 := by
    intro d
    unfold O₀
    rw [at_add, at_add, zero_bar_rs, zero_bar_ag]
    simp only [Nat.add_zero]
    unfold Obar
    rw [at_sum]
    refine Finset.sum_congr rfl fun k hk => ?_
    have hk := Finset.mem_Ico.mp hk
    have hd : d.val < 32 := d.isLt
    have hc : c.val < 32 := c.isLt
    by_cases h : d = dv (c.val + (32 - k))
    · have hcd : c = dv (d.val + k) := by
        refine Fin.ext ?_; have := congrArg Fin.val h; rw [dv_val] at this ⊢; omega
      rw [if_pos h, ← hcd]; exact at_eq
    · rw [if_neg h]
      refine at_ne fun hh => h ?_
      have := congrArg Fin.val (bar_eq hh); rw [dv_val] at this
      refine Fin.ext ?_; rw [dv_val]; omega
  rw [Finset.sum_congr rfl fun d _ => h1 d, Finset.sum_comm]
  rw [Finset.sum_congr rfl fun k _ => (Finset.sum_ite_eq' Finset.univ (dv (c.val + (32 - k))) fun _ => 1).trans (if_pos (Finset.mem_univ _))]
  rw [Finset.sum_const, Nat.card_Ico, smul_eq_mul]

theorem sum_rs (c : Dev nD) {s : ℕ} (hs : s < 32) (hsc : s ≠ c.val) : ∑ d : Dev nD, O₀ d (cellN c (38 + s)) () = NR := by
  have h1 : ∀ d : Dev nD, O₀ d (cellN c (38 + s)) () = if d = dv s then NR else 0 := by
    intro d
    have hd : d.val < 32 := d.isLt
    have hc : c.val < 32 := c.isLt
    unfold O₀
    rw [at_add, at_add, zero_cell_bar, Nat.zero_add]
    have h2 : Oag d 1 (cellN c (38 + s)) () = 0 := by
      unfold Oag; rw [at_sum]
      refine Finset.sum_eq_zero fun k hk => at_ne fun h => ?_
      have hk := Finset.mem_Ico.mp hk
      have := (cell_eq (by omega) (by omega) h).2
      omega
    rw [h2, Nat.add_zero]
    unfold Ors; rw [at_sum]
    by_cases h : d = dv s
    · subst h
      have e : (dv s).val = s := dv_of_lt hs
      rw [if_pos rfl, Finset.sum_eq_single_of_mem c.val (Finset.mem_Ico.mpr ⟨Nat.zero_le _, hc⟩)]
      · rw [if_neg (by rw [e]; exact fun hh => hsc hh.symm), dv_self, e]; exact at_eq
      · intro j hj hne
        split
        · rfl
        · refine at_ne fun hh => hne ?_
          have hj := Finset.mem_Ico.mp hj
          have := (cell_eq (by omega) (by rw [e]; omega) hh).1
          rw [this, dv_of_lt hj.2]
    · rw [if_neg h]
      refine Finset.sum_eq_zero fun j hj => ?_
      split
      · rfl
      · refine at_ne fun hh => h ?_
        have := (cell_eq (by omega) (by omega) hh).2
        refine Fin.ext ?_; rw [dv_of_lt hs]; omega
  rw [Finset.sum_congr rfl fun d _ => h1 d, Finset.sum_ite_eq' Finset.univ (dv s) fun _ => NR, if_pos (Finset.mem_univ _)]

theorem sum_ag (c : Dev nD) {k : ℕ} (hk1 : 1 ≤ k) (hk : k < 32) : ∑ d : Dev nD, O₀ d (cellN c (102 + k)) () = NO := by
  have h1 : ∀ d : Dev nD, O₀ d (cellN c (102 + k)) () = if d = dv (c.val + (32 - k)) then NO else 0 := by
    intro d
    have hd : d.val < 32 := d.isLt
    have hc : c.val < 32 := c.isLt
    unfold O₀
    rw [at_add, at_add, zero_cell_bar, Nat.zero_add]
    have h2 : Ors d 0 (cellN c (102 + k)) () = 0 := by
      unfold Ors; rw [at_sum]
      refine Finset.sum_eq_zero fun j hj => ?_
      split
      · rfl
      · refine at_ne fun h => ?_
        have := (cell_eq (by omega) (by omega) h).2
        omega
    rw [h2, Nat.zero_add]
    unfold Oag; rw [at_sum]
    by_cases h : d = dv (c.val + (32 - k))
    · have hcd : c = dv (d.val + k) := by
        refine Fin.ext ?_; have := congrArg Fin.val h; rw [dv_val] at this ⊢; omega
      rw [if_pos h, Finset.sum_eq_single_of_mem k (Finset.mem_Ico.mpr ⟨hk1, hk⟩)]
      · rw [← hcd]; exact at_eq
      · intro j hj hne
        have hj := Finset.mem_Ico.mp hj
        refine at_ne fun hh => hne ?_
        have := (cell_eq (by omega) (by omega) hh).2
        omega
    · rw [if_neg h]
      refine Finset.sum_eq_zero fun j hj => at_ne fun hh => h ?_
      have hj := Finset.mem_Ico.mp hj
      have h3 := cell_eq (by omega) (by omega) hh
      have h4 : k = j := by omega
      subst h4
      have := congrArg Fin.val h3.1; rw [dv_val] at this
      refine Fin.ext ?_; rw [dv_val]; omega
  rw [Finset.sum_congr rfl fun d _ => h1 d, Finset.sum_ite_eq' Finset.univ (dv (c.val + (32 - k))) fun _ => NO, if_pos (Finset.mem_univ _)]

theorem launch_at {g : GSem nD τ sig} {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

def RecvCred (c : Dev nD) : sProp 𝕄 := bigSep (Finset.Ico 0 32) fun s => if s = c.val then (iprop(emp) : sProp (MT nD τ sig Unit (Elt F) ℕ UU ℕ)) else cred (tallyAt (cellN c (38 + s)) () NR)
def AgrCred (c : Dev nD) : sProp 𝕄 := bigSep (Finset.Ico 1 32) fun k => cred (tallyAt (cellN c (102 + k)) () NO)

theorem csem_injective : Function.Injective (csem : Ck → SemLoc sig) := fun k k' h =>
  congrArg Prod.snd (kcell_injective (a₁ := ((dv 0 : Dev nD), k)) (a₂ := ((dv 0 : Dev nD), k')) (congrArg (fun s => (((dv 0 : Dev nD) : Thread nD τ), s)) h))

theorem cred_pick {B B' W S6 S38 S38' X70 Z S102 X Y : sProp (MT nD τ sig Unit (Elt F) ℕ UU ℕ)} (h1 : B ⊢ B') (h2 : S38' ⊢ X) (h3 : S102 ⊢ Y) :
    iprop(B ∗ W ∗ S6 ∗ (S38 ∗ S38') ∗ X70 ∗ Z ∗ S102) ⊢ iprop(B' ∗ X ∗ Y) := by
  iintro ⟨HB, -, -, ⟨-, H38⟩, -, -, H102⟩
  isplitl [HB]; · iapply h1; iexact HB
  isplitl [H38]; · iapply h2; iexact H38
  iapply h3; iexact H102

/-- The launch's credit of device `c`: of its barrier, and of the cells that receive. -/
theorem creds (c : Dev nD) :
    (Pipeline.launchCred O₀ c : sProp 𝕄) ⊢ iprop(cred (tallyAt (barCell c) () 31) ∗ RecvCred c ∗ AgrCred c) := by
  have hc : c.val < 32 := c.isLt
  unfold Pipeline.launchCred
  have h1 : (bigSep Finset.univ fun sm : SemLoc sig => (cred (tallyOn ((c : Thread nD τ), sm) (launchCredit (Pipeline.owing O₀) 0 ((c : Thread nD τ), sm))) : sProp 𝕄))
      ⊢ bigSep Finset.univ fun k : Ck => (cred (tallyOn ((c : Thread nD τ), csem k) (launchCredit (Pipeline.owing O₀) 0 ((c : Thread nD τ), csem k))) : sProp 𝕄) := by
    have hm := bigSep_map (s := (Finset.univ : Finset Ck)) (⟨csem, csem_injective⟩ : Ck ↪ SemLoc sig)
      (Φ := fun sm : SemLoc sig => (cred (tallyOn ((c : Thread nD τ), sm) (launchCredit (Pipeline.owing O₀) 0 ((c : Thread nD τ), sm))) : sProp 𝕄))
    refine (bigSep_subset (Finset.subset_univ _)).trans (Entails.of_eq hm)
  refine h1.trans ?_
  rw [ck_split, own_split (fun o : Own => (cred (tallyOn ((c : Thread nD τ), csem (.inr o)) (launchCredit (Pipeline.owing O₀) 0 ((c : Thread nD τ), csem (.inr o)))) : sProp 𝕄)) (fun n => (cred (tallyOn (cellN c n) (launchCredit (Pipeline.owing O₀) 0 (cellN c n))) : sProp 𝕄)) (fun _ => rfl),
    ico_if c.val hc (fun j => (cred (tallyOn (cellN c (38 + j)) (launchCredit (Pipeline.owing O₀) 0 (cellN c (38 + j)))) : sProp 𝕄)),
    ico_zero (fun j => (cred (tallyOn (cellN c (102 + j)) (launchCredit (Pipeline.owing O₀) 0 (cellN c (102 + j)))) : sProp 𝕄))]
  have hb : (cred (tallyOn ((c : Thread nD τ), csem (.inl ())) (launchCredit (Pipeline.owing O₀) 0 ((c : Thread nD τ), csem (.inl ())))) : sProp 𝕄)
      ⊢ cred (tallyAt (barCell c) () 31) := Entails.of_eq (congrArg cred (launch_at (sum_bar c)))
  have hr : (bigSep (Finset.Ico 0 32) fun j => if j = c.val then (iprop(emp) : sProp (MT nD τ sig Unit (Elt F) ℕ UU ℕ)) else (cred (tallyOn (cellN c (38 + j)) (launchCredit (Pipeline.owing O₀) 0 (cellN c (38 + j)))) : sProp 𝕄))
      ⊢ RecvCred c := by
    refine bigSep_mono fun j hj => ?_
    have hj := Finset.mem_Ico.mp hj
    by_cases h : j = c.val
    · rw [if_pos h, if_pos h]; exact keep_all
    · rw [if_neg h, if_neg h, launch_at (sum_rs c hj.2 h)]; exact keep_all
  have ha : (bigSep (Finset.Ico 1 32) fun j => (cred (tallyOn (cellN c (102 + j)) (launchCredit (Pipeline.owing O₀) 0 (cellN c (102 + j)))) : sProp 𝕄))
      ⊢ AgrCred c := by
    refine bigSep_mono fun j hj => ?_
    have hj := Finset.mem_Ico.mp hj
    rw [launch_at (sum_ag c hj.1 hj.2)]; exact keep_all
  exact cred_pick hb hr ha

end Cert.KernelIdeal.Ring

end
-- ==== Proof.KernelIdeal.Start.lean ====
/-
# The entry and the casts

The first ten parts of the body: the handshake, the weights' copies and the casts of the keys and values.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Part 1 of the body. -/
theorem part1 {Q : (Σ' (d0 : Dev nD) (v2 : BitVec 32) (v3 : Sems sig S_) (v24 : BitVec 32), BitVec 32) → sProp (MT nD τ sig Unit (Elt F) ℕ UU ℕ)}
    (hk : ∀ (v24 : BitVec 32) (c32_i32_20 : BitVec 32), iprop(Ctx m (accV m) K ∗ BarSt c 6 ∗ R) ⊢ Q ⟨c, (idw c), (SemArray.scalar (sig.barrier 0 rfl)), v24, c32_i32_20⟩) :
    iprop(Ctx m (accV m) K ∗ BarSt c 1 ∗ R) ⊢ Wp c (atArgs k0_part1) Q := by
  rw [k0_part1_eq_skeleton]; unfold k0_part1_skel
  simp only [semSignalWord, semWaitWord, Prog.lift, Prog.bind_op, Prog.bind_ret, Prog.pure_eq_ret, wp_deviceId]
  refine bar_step 1 (by decide) (by decide) (eq_dv (k0_dev1_eq c)) ?_
  refine bar_step 2 (by decide) (by decide) (eq_dv (k0_dev2_eq c)) ?_
  refine bar_step 3 (by decide) (by decide) (eq_dv (k0_dev3_eq c)) ?_
  refine bar_step 4 (by decide) (by decide) (eq_dv (k0_dev4_eq c)) ?_
  refine bar_step 5 (by decide) (by decide) (eq_dv (k0_dev5_eq c)) ?_
  exact ret_step c (hk _ _)

/-- Part 2 of the body. -/
theorem part2 {v24 : BitVec 32} {c32_i32_20 : BitVec 32} {Q : (Σ' (v48 : BitVec 32), BitVec 32) → sProp (MT nD τ sig Unit (Elt F) ℕ UU ℕ)}
    (hk : ∀ (v48 : BitVec 32) (c32_i32_44 : BitVec 32), iprop(Ctx m (accV m) K ∗ BarSt c 12 ∗ R) ⊢ Q ⟨v48, c32_i32_44⟩) :
    iprop(Ctx m (accV m) K ∗ BarSt c 6 ∗ R) ⊢ Wp c (atArgs k0_part2 c (idw c) (SemArray.scalar (sig.barrier 0 rfl)) v24 c32_i32_20) Q := by
  rw [k0_part2_eq_skeleton]; unfold k0_part2_skel
  simp only [semSignalWord, semWaitWord, Prog.lift, Prog.bind_op, Prog.bind_ret, Prog.pure_eq_ret]
  refine bar_step 6 (by decide) (by decide) (eq_dv (k0_dev6_eq c)) ?_
  refine bar_step 7 (by decide) (by decide) (eq_dv (k0_dev7_eq c)) ?_
  refine bar_step 8 (by decide) (by decide) (eq_dv (k0_dev8_eq c)) ?_
  refine bar_step 9 (by decide) (by decide) (eq_dv (k0_dev9_eq c)) ?_
  refine bar_step 10 (by decide) (by decide) (eq_dv (k0_dev10_eq c)) ?_
  refine bar_step 11 (by decide) (by decide) (eq_dv (k0_dev11_eq c)) ?_
  exact ret_step c (hk _ _)

/-- Part 3 of the body. -/
theorem part3 {v48 : BitVec 32} {c32_i32_44 : BitVec 32} {Q : (Σ' (v72 : BitVec 32), BitVec 32) → sProp (MT nD τ sig Unit (Elt F) ℕ UU ℕ)}
    (hk : ∀ (v72 : BitVec 32) (c32_i32_68 : BitVec 32), iprop(Ctx m (accV m) K ∗ BarSt c 18 ∗ R) ⊢ Q ⟨v72, c32_i32_68⟩) :
    iprop(Ctx m (accV m) K ∗ BarSt c 12 ∗ R) ⊢ Wp c (atArgs k0_part3 c (idw c) (SemArray.scalar (sig.barrier 0 rfl)) v48 c32_i32_44) Q := by
  rw [k0_part3_eq_skeleton]; unfold k0_part3_skel
  simp only [semSignalWord, semWaitWord, Prog.lift, Prog.bind_op, Prog.bind_ret, Prog.pure_eq_ret]
  refine bar_step 12 (by decide) (by decide) (eq_dv (k0_dev12_eq c)) ?_
  refine bar_step 13 (by decide) (by decide) (eq_dv (k0_dev13_eq c)) ?_
  refine bar_step 14 (by decide) (by decide) (eq_dv (k0_dev14_eq c)) ?_
  refine bar_step 15 (by decide) (by decide) (eq_dv (k0_dev15_eq c)) ?_
  refine bar_step 16 (by decide) (by decide) (eq_dv (k0_dev16_eq c)) ?_
  refine bar_step 17 (by decide) (by decide) (eq_dv (k0_dev17_eq c)) ?_
  exact ret_step c (hk _ _)

/-- Part 4 of the body. -/
theorem part4 {v72 : BitVec 32} {c32_i32_68 : BitVec 32} {Q : (Σ' (v96 : BitVec 32), BitVec 32) → sProp (MT nD τ sig Unit (Elt F) ℕ UU ℕ)}
    (hk : ∀ (v96 : BitVec 32) (c32_i32_92 : BitVec 32), iprop(Ctx m (accV m) K ∗ BarSt c 24 ∗ R) ⊢ Q ⟨v96, c32_i32_92⟩) :
    iprop(Ctx m (accV m) K ∗ BarSt c 18 ∗ R) ⊢ Wp c (atArgs k0_part4 c (idw c) (SemArray.scalar (sig.barrier 0 rfl)) v72 c32_i32_68) Q := by
  rw [k0_part4_eq_skeleton]; unfold k0_part4_skel
  simp only [semSignalWord, semWaitWord, Prog.lift, Prog.bind_op, Prog.bind_ret, Prog.pure_eq_ret]
  refine bar_step 18 (by decide) (by decide) (eq_dv (k0_dev18_eq c)) ?_
  refine bar_step 19 (by decide) (by decide) (eq_dv (k0_dev19_eq c)) ?_
  refine bar_step 20 (by decide) (by decide) (eq_dv (k0_dev20_eq c)) ?_
  refine bar_step 21 (by decide) (by decide) (eq_dv (k0_dev21_eq c)) ?_
  refine bar_step 22 (by decide) (by decide) (eq_dv (k0_dev22_eq c)) ?_
  refine bar_step 23 (by decide) (by decide) (eq_dv (k0_dev23_eq c)) ?_
  exact ret_step c (hk _ _)

/-- Part 5 of the body. -/
theorem part5 {v96 : BitVec 32} {c32_i32_92 : BitVec 32} {Q : (Σ' (v120 : BitVec 32), BitVec 32) → sProp (MT nD τ sig Unit (Elt F) ℕ UU ℕ)}
    (hk : ∀ (v120 : BitVec 32) (c32_i32_116 : BitVec 32), iprop(Ctx m (accV m) K ∗ BarSt c 30 ∗ R) ⊢ Q ⟨v120, c32_i32_116⟩) :
    iprop(Ctx m (accV m) K ∗ BarSt c 24 ∗ R) ⊢ Wp c (atArgs k0_part5 c (idw c) (SemArray.scalar (sig.barrier 0 rfl)) v96 c32_i32_92) Q := by
  rw [k0_part5_eq_skeleton]; unfold k0_part5_skel
  simp only [semSignalWord, semWaitWord, Prog.lift, Prog.bind_op, Prog.bind_ret, Prog.pure_eq_ret]
  refine bar_step 24 (by decide) (by decide) (eq_dv (k0_dev24_eq c)) ?_
  refine bar_step 25 (by decide) (by decide) (eq_dv (k0_dev25_eq c)) ?_
  refine bar_step 26 (by decide) (by decide) (eq_dv (k0_dev26_eq c)) ?_
  refine bar_step 27 (by decide) (by decide) (eq_dv (k0_dev27_eq c)) ?_
  refine bar_step 28 (by decide) (by decide) (eq_dv (k0_dev28_eq c)) ?_
  refine bar_step 29 (by decide) (by decide) (eq_dv (k0_dev29_eq c)) ?_
  exact ret_step c (hk _ _)

/-- Part 6 of the body. -/
theorem part6 {v120 : BitVec 32} {c32_i32_116 : BitVec 32} {Q : PUnit → sProp (MT nD τ sig Unit (Elt F) ℕ UU ℕ)}
    (hk : iprop(Ctx m (accV m) K ∗ KPre m c 1 ∗ XP1 m c ∗ WO1 c ∗ WQ1 c ∗ Ow c (Ors c 0 + Oag c 1) ∗ BarD c ∗ R) ⊢ Q ⟨⟩) :
    iprop(Ctx m (accV m) K ∗ BarSt c 30 ∗ BarW c ∗ WQ0 m c ∗ WO0 m c ∗ XP0 m c ∗ KPre m c 0 ∗ R) ⊢ Wp c (atArgs k0_part6 c (idw c) (SemArray.scalar (sig.barrier 0 rfl)) v120 c32_i32_116) Q := by
  rw [k0_part6_eq_skeleton]; unfold k0_part6_skel
  simp only [semSignalWord, semWaitWord, Prog.lift, Prog.bind_op, Prog.bind_ret, Prog.pure_eq_ret]
  refine bar_step 30 (by decide) (by decide) (eq_dv (k0_dev30_eq c)) ?_
  refine bar_step 31 (by decide) (by decide) (eq_dv (k0_dev31_eq c)) ?_
  refine bar_done ?_
  refine pull3 ?_
  refine wq_copy (sem_at2 4 _ rfl _ _) ?_
  refine pull4 ?_
  refine wo_copy (sem_at2 4 _ rfl _ _) ?_
  refine pull5 ?_
  refine x_load ?_
  refine x_any fun _ => ?_
  refine x_store (fun f => fill_whole (b := cc0_scratch4) zero2 f _) ?_
  refine pull6 ?_
  refine K_stage ?_
  refine K_any fun _ => ?_
  refine K_store 0 (by decide) rfl ?_
  exact ret_step c (hk)

/-- Part 7 of the body. -/
theorem part7 {Q : PUnit → sProp (MT nD τ sig Unit (Elt F) ℕ UU ℕ)}
    (hk : iprop(Ctx m (accV m) K ∗ KPre m c 3 ∗ VPre m c 2 ∗ R) ⊢ Q ⟨⟩) :
    iprop(Ctx m (accV m) K ∗ VPre m c 0 ∗ KPre m c 1 ∗ R) ⊢ Wp c (atArgs k0_part7) Q := by
  rw [k0_part7_eq_skeleton]; unfold k0_part7_skel
  simp only [Prog.lift, Prog.bind_op, Prog.bind_ret, Prog.pure_eq_ret]
  refine V_stage ?_
  refine V_any fun _ => ?_
  refine V_store 0 (by decide) rfl ?_
  refine swap ?_
  refine K_stage ?_
  refine K_any fun _ => ?_
  refine K_store 1 (by decide) rfl ?_
  refine swap ?_
  refine V_stage ?_
  refine V_any fun _ => ?_
  refine V_store 1 (by decide) rfl ?_
  refine swap ?_
  refine K_stage ?_
  refine K_any fun _ => ?_
  refine K_store 2 (by decide) rfl ?_
  exact ret_step c (hk)

/-- Part 8 of the body. -/
theorem part8 {Q : (FVec F S1024x128 .bf16) → sProp (MT nD τ sig Unit (Elt F) ℕ UU ℕ)}
    (hk : iprop(Ctx m (accV m) K ∗ VPre m c 4 ∗ KPre m c 5 ∗ R) ⊢ Q ((k0_pay11 (vM.view.readAt (Elt F) (Rect.unit (s := S1x1024x8x128) ![0, 0, 4, 0] S1x1024x1x128.size inb_S1x1024x8x128_S1x1024x1x128_0_0_4_0).toLoadRect (vIn m c))))) :
    iprop(Ctx m (accV m) K ∗ KPre m c 3 ∗ VPre m c 2 ∗ R) ⊢ Wp c (atArgs k0_part8) Q := by
  rw [k0_part8_eq_skeleton]; unfold k0_part8_skel
  simp only [Prog.lift, Prog.bind_op, Prog.bind_ret, Prog.pure_eq_ret]
  refine swap ?_
  refine V_stage ?_
  refine V_any fun _ => ?_
  refine V_store 2 (by decide) rfl ?_
  refine swap ?_
  refine K_stage ?_
  refine K_any fun _ => ?_
  refine K_store 3 (by decide) rfl ?_
  refine swap ?_
  refine V_stage ?_
  refine V_any fun _ => ?_
  refine V_store 3 (by decide) rfl ?_
  refine swap ?_
  refine K_stage ?_
  refine K_any fun _ => ?_
  refine K_store 4 (by decide) rfl ?_
  refine swap ?_
  refine V_stage ?_
  exact ret_step c (hk)

/-- Part 9 of the body. -/
theorem part9 {Q : (FVec F S1024x128 .bf16) → sProp (MT nD τ sig Unit (Elt F) ℕ UU ℕ)}
    (hk : iprop(Ctx m (accV m) K ∗ VPre m c 6 ∗ KPre m c 7 ∗ R) ⊢ Q ((k0_pay16 (vM.view.readAt (Elt F) (Rect.unit (s := S1x1024x8x128) ![0, 0, 6, 0] S1x1024x1x128.size inb_S1x1024x8x128_S1x1024x1x128_0_0_6_0).toLoadRect (vIn m c))))) :
    iprop(Ctx m (accV m) K ∗ VPre m c 4 ∗ KPre m c 5 ∗ R) ⊢ Wp c (atArgs k0_part9 ((k0_pay11 (vM.view.readAt (Elt F) (Rect.unit (s := S1x1024x8x128) ![0, 0, 4, 0] S1x1024x1x128.size inb_S1x1024x8x128_S1x1024x1x128_0_0_4_0).toLoadRect (vIn m c))))) Q := by
  rw [k0_part9_eq_skeleton]; unfold k0_part9_skel
  simp only [Prog.lift, Prog.bind_op, Prog.bind_ret, Prog.pure_eq_ret]
  refine V_any fun _ => ?_
  refine V_store 4 (by decide) rfl ?_
  refine swap ?_
  refine K_stage ?_
  refine K_any fun _ => ?_
  refine K_store 5 (by decide) rfl ?_
  refine swap ?_
  refine V_stage ?_
  refine V_any fun _ => ?_
  refine V_store 5 (by decide) rfl ?_
  refine swap ?_
  refine K_stage ?_
  refine K_any fun _ => ?_
  refine K_store 6 (by decide) rfl ?_
  refine swap ?_
  refine V_stage ?_
  refine V_any fun _ => ?_
  exact ret_step c (hk)

/-- Part 10 of the body. -/
theorem part10 {Q : (FVec F S1024x1024 .bf16) → sProp (MT nD τ sig Unit (Elt F) ℕ UU ℕ)}
    (hk : iprop(Ctx m (accV m) K ∗ Any c gobM ∗ WO2 m c ∗ Ow c (Ors c 0 + Oag c 1) ∗ Pt c gqbM (gqbV m c) ∗ WQ2 m c ∗ VPre m c 8 ∗ KPre m c 8 ∗ XP1 m c ∗ BarD c ∗ R) ⊢ Q ((k0_pay21 (soM.view.readAt (Elt F) (Rect.unit (s := S1024x1024) ![0, 0] S1024x1024.size inb_S1024x1024_S1024x1024_0_0).toLoadRect (woL m c))))) :
    iprop(Ctx m (accV m) K ∗ VPre m c 6 ∗ KPre m c 7 ∗ Ow c (Ors c 0 + Oag c 1) ∗ WQ1 c ∗ WO1 c ∗ Any c gqbM ∗ Any c gobM ∗ XP1 m c ∗ BarD c ∗ R) ⊢ Wp c (atArgs k0_part10 c ((k0_pay16 (vM.view.readAt (Elt F) (Rect.unit (s := S1x1024x8x128) ![0, 0, 6, 0] S1x1024x1x128.size inb_S1x1024x8x128_S1x1024x1x128_0_0_6_0).toLoadRect (vIn m c))))) Q := by
  rw [k0_part10_eq_skeleton]; unfold k0_part10_skel
  simp only [Prog.lift, Prog.bind_op, Prog.bind_ret, Prog.pure_eq_ret]
  refine V_store 6 (by decide) rfl ?_
  refine swap ?_
  refine K_stage ?_
  refine K_any fun _ => ?_
  refine K_store 7 (by decide) rfl ?_
  refine swap ?_
  refine V_stage ?_
  refine V_any fun _ => ?_
  refine V_store 7 (by decide) rfl ?_
  refine pull3 ?_
  refine pull4 ?_
  refine swap ?_
  refine fuse (wq_wait (((above_rs c 0).mono (by decide)).add ((above_ag c 1).mono (by decide))) (sem_at2 4 _ rfl _ _) (split ?_))
  refine swap ?_
  refine wq_load ?_
  refine pull6 ?_
  refine any_load (M := gqbM) fun _ => ?_
  refine any_store (M := gqbM) (w := gqbV m c) (fun f => fill_whole (b := cc0_scratch2) zero2 f _) ?_
  refine pull3 ?_
  refine pull6 ?_
  refine swap ?_
  refine fuse (wo_wait (((above_rs c 0).mono (by decide)).add ((above_ag c 1).mono (by decide))) (sem_at2 4 _ rfl _ _) (split ?_))
  refine swap ?_
  refine wo_load ?_
  refine pull7 ?_
  refine any_load (M := gobM) fun _ => ?_
  exact ret_step c (hk)

end Cert.KernelIdeal.Ring

end
-- ==== Proof.KernelIdeal.Group0.lean ====
/-
# The first group of rows

Heads of the first 256 rows.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Part 11 of the body. -/
theorem part11 {Q : (Σ' (v256 : FVec F S256x1024 .bf16) (v283 : IVec S256x256 32) (v284 : IVec S256x256 32) (c64_i32_261 : BitVec 32) (v286 : IVec S256x256 32) (v293 : IVec S256x256 32), BitVec 32) → sProp (MT nD τ sig Unit (Elt F) ℕ UU ℕ)}
    (hk : iprop(Ctx m (accV m) K ∗ Grp c m 0 0 ∗ InPt m c ∗ R) ⊢ Q ⟨(qV m c 0 (by decide)), k0_pay24, ((iota .tc S256x256 32 [1] iota_S256x256_d1_w32)), 64#32, k0_pay25, k0_pay26, 0#32⟩) :
    iprop(Ctx m (accV m) K ∗ Any c gobM ∗ KPre m c 8 ∗ VPre m c 8 ∗ XP1 m c ∗ Pt c gqbM (gqbV m c) ∗ Any c cxM ∗ R) ⊢ Wp c (atArgs k0_part11 ((k0_pay21 (soM.view.readAt (Elt F) (Rect.unit (s := S1024x1024) ![0, 0] S1024x1024.size inb_S1024x1024_S1024x1024_0_0).toLoadRect (woL m c))))) Q := by
  rw [k0_part11_eq_skeleton]; unfold k0_part11_skel
  simp -zeta only [atArgs, Prog.lift, Prog.bind_op, Prog.bind_ret, Prog.pure_eq_ret]
  refine any_store (M := gobM) (w := gobV m c) (fun f => fill_whole (b := cc0_scratch3) zero2 f _) ?_
  refine to_grp ?_
  refine g_x ?_
  refine g_q ?_
  exact ret_step c (hk)

/-- Head 0 of group 0, as its pieces compute it. -/
theorem head_0_0 (q : FVec F S256x1024 .bf16) (a b : Vec F S1x256x128 .bf16) (h : 0 < 8) :
    k0_pay28 q k0_pay24 ((iota .tc S256x256 32 [1] iota_S256x256_d1_w32)) 64#32 k0_pay25 k0_pay26 0#32 a b = k0_pay30 mask0 (qCols 0 h q) a b := rfl
/-- Part 12 of the body. -/
theorem part12 {Q : (Σ' (v309 : IVec S256x256 1), FVec F S256x128 .bf16) → sProp (MT nD τ sig Unit (Elt F) ℕ UU ℕ)}
    (hk : iprop(Ctx m (accV m) K ∗ Grp c m 0 1 ∗ R) ⊢ Q ⟨mask0, (k0_pay29 (qV m c 0 (by decide)))⟩) :
    iprop(Ctx m (accV m) K ∗ Grp c m 0 0 ∗ R) ⊢ Wp c (atArgs k0_part12 (qV m c 0 (by decide)) k0_pay24 ((iota .tc S256x256 32 [1] iota_S256x256_d1_w32)) (64#32) k0_pay25 k0_pay26 (0#32)) Q := by
  rw [k0_part12_eq_skeleton]; unfold k0_part12_skel
  simp -zeta only [atArgs, Prog.lift, Prog.bind_op, Prog.bind_ret, Prog.pure_eq_ret]
  refine g_k ?_
  refine g_v ?_
  refine g_any fun _ => ?_
  refine g_store 0 (by decide) rfl (head_0_0 _ _ _ (by decide)) ?_
  exact ret_step c (hk)

/-- Head 1 of group 0, as its pieces compute it. -/
theorem head_0_1 (q : FVec F S256x1024 .bf16) (a b : Vec F S1x256x128 .bf16) (h : 1 < 8) :
    k0_pay30 mask0 (k0_pay29 q) a b = k0_pay30 mask0 (qCols 1 h q) a b := rfl
/-- Part 13 of the body. -/
theorem part13 {Q : (Σ' (v368 : FVec F S256x1 .f32), FVec F S256x256 .bf16) → sProp (MT nD τ sig Unit (Elt F) ℕ UU ℕ)}
    (hk : iprop(Ctx m (accV m) K ∗ Grp c m 0 2 ∗ R) ⊢ Q ⟨(k0_pay32 (qV m c 0 (by decide)) mask0 (kbM.view.readAt (Elt F) (Rect.unit (s := S8x1024x128) ![2, 0, 0] S1x256x128.size inb_S8x1024x128_S1x256x128_2_0_0).toLoadRect (kbV m c))), (k0_pay33 (qV m c 0 (by decide)) mask0 (kbM.view.readAt (Elt F) (Rect.unit (s := S8x1024x128) ![2, 0, 0] S1x256x128.size inb_S8x1024x128_S1x256x128_2_0_0).toLoadRect (kbV m c)))⟩) :
    iprop(Ctx m (accV m) K ∗ Grp c m 0 1 ∗ R) ⊢ Wp c (atArgs k0_part13 (qV m c 0 (by decide)) mask0 (k0_pay29 (qV m c 0 (by decide)))) Q := by
  rw [k0_part13_eq_skeleton]; unfold k0_part13_skel
  simp -zeta only [atArgs, Prog.lift, Prog.bind_op, Prog.bind_ret, Prog.pure_eq_ret]
  refine g_k ?_
  refine g_v ?_
  refine g_any fun _ => ?_
  refine g_store 1 (by decide) rfl (head_0_1 _ _ _ (by decide)) ?_
  refine g_k ?_
  exact ret_step c (hk)

/-- Head 2 of group 0, as its pieces compute it. -/
theorem head_0_2 (q : FVec F S256x1024 .bf16) (a b : Vec F S1x256x128 .bf16) (h : 2 < 8) :
    k0_pay34 (k0_pay32 q mask0 a) (k0_pay33 q mask0 a) b = k0_pay30 mask0 (qCols 2 h q) a b := rfl
/-- Head 3 of group 0, as its pieces compute it. -/
theorem head_0_3 (q : FVec F S256x1024 .bf16) (a b : Vec F S1x256x128 .bf16) (h : 3 < 8) :
    k0_pay35 q mask0 a b = k0_pay30 mask0 (qCols 3 h q) a b := rfl
/-- Part 14 of the body. -/
theorem part14 {Q : (Σ' (v405 : FVec F S256x256 .f32), F .f32) → sProp (MT nD τ sig Unit (Elt F) ℕ UU ℕ)}
    (hk : iprop(Ctx m (accV m) K ∗ Grp c m 0 4 ∗ R) ⊢ Q ⟨(k0_pay36 (qV m c 0 (by decide)) (kbM.view.readAt (Elt F) (Rect.unit (s := S8x1024x128) ![4, 0, 0] S1x256x128.size inb_S8x1024x128_S1x256x128_4_0_0).toLoadRect (kbV m c))), ((Scalar.ofBits .f32 0x3DB504F3#32))⟩) :
    iprop(Ctx m (accV m) K ∗ Grp c m 0 2 ∗ R) ⊢ Wp c (atArgs k0_part14 (qV m c 0 (by decide)) mask0 (k0_pay32 (qV m c 0 (by decide)) mask0 (kbM.view.readAt (Elt F) (Rect.unit (s := S8x1024x128) ![2, 0, 0] S1x256x128.size inb_S8x1024x128_S1x256x128_2_0_0).toLoadRect (kbV m c))) (k0_pay33 (qV m c 0 (by decide)) mask0 (kbM.view.readAt (Elt F) (Rect.unit (s := S8x1024x128) ![2, 0, 0] S1x256x128.size inb_S8x1024x128_S1x256x128_2_0_0).toLoadRect (kbV m c)))) Q := by
  rw [k0_part14_eq_skeleton]; unfold k0_part14_skel
  simp -zeta only [atArgs, Prog.lift, Prog.bind_op, Prog.bind_ret, Prog.pure_eq_ret]
  refine g_v ?_
  refine g_any fun _ => ?_
  refine g_store 2 (by decide) rfl (head_0_2 _ _ _ (by decide)) ?_
  refine g_k ?_
  refine g_v ?_
  refine g_any fun _ => ?_
  refine g_store 3 (by decide) rfl (head_0_3 _ _ _ (by decide)) ?_
  refine g_k ?_
  exact ret_step c (hk)

/-- Head 4 of group 0, as its pieces compute it. -/
theorem head_0_4 (q : FVec F S256x1024 .bf16) (a b : Vec F S1x256x128 .bf16) (h : 4 < 8) :
    k0_pay37 mask0 (k0_pay36 q a) ((Scalar.ofBits .f32 0x3DB504F3#32)) b = k0_pay30 mask0 (qCols 4 h q) a b := rfl
/-- Part 15 of the body. -/
theorem part15 {Q : (FVec F S256x128 .f32) → sProp (MT nD τ sig Unit (Elt F) ℕ UU ℕ)}
    (hk : iprop(Ctx m (accV m) K ∗ Grp c m 0 5 ∗ R) ⊢ Q ((k0_pay38 (qV m c 0 (by decide)) mask0 (kbM.view.readAt (Elt F) (Rect.unit (s := S8x1024x128) ![5, 0, 0] S1x256x128.size inb_S8x1024x128_S1x256x128_5_0_0).toLoadRect (kbV m c)) (vbM.view.readAt (Elt F) (Rect.unit (s := S8x1024x128) ![5, 0, 0] S1x256x128.size inb_S8x1024x128_S1x256x128_5_0_0).toLoadRect (vbV m c))))) :
    iprop(Ctx m (accV m) K ∗ Grp c m 0 4 ∗ R) ⊢ Wp c (atArgs k0_part15 (qV m c 0 (by decide)) mask0 (k0_pay36 (qV m c 0 (by decide)) (kbM.view.readAt (Elt F) (Rect.unit (s := S8x1024x128) ![4, 0, 0] S1x256x128.size inb_S8x1024x128_S1x256x128_4_0_0).toLoadRect (kbV m c))) ((Scalar.ofBits .f32 0x3DB504F3#32))) Q := by
  rw [k0_part15_eq_skeleton]; unfold k0_part15_skel
  simp -zeta only [atArgs, Prog.lift, Prog.bind_op, Prog.bind_ret, Prog.pure_eq_ret]
  refine g_v ?_
  refine g_any fun _ => ?_
  refine g_store 4 (by decide) rfl (head_0_4 _ _ _ (by decide)) ?_
  refine g_k ?_
  refine g_v ?_
  exact ret_step c (hk)

/-- Head 5 of group 0, as its pieces compute it. -/
theorem head_0_5 (q : FVec F S256x1024 .bf16) (a b : Vec F S1x256x128 .bf16) (h : 5 < 8) :
    k0_pay39 ((k0_pay38 q mask0 a b)) = k0_pay30 mask0 (qCols 5 h q) a b := rfl
/-- Head 6 of group 0, as its pieces compute it. -/
theorem head_0_6 (q : FVec F S256x1024 .bf16) (a b : Vec F S1x256x128 .bf16) (h : 6 < 8) :
    k0_pay40 q mask0 a b = k0_pay30 mask0 (qCols 6 h q) a b := rfl
/-- Part 16 of the body. -/
theorem part16 {Q : (FVec F S256x256 .f32) → sProp (MT nD τ sig Unit (Elt F) ℕ UU ℕ)}
    (hk : iprop(Ctx m (accV m) K ∗ Grp c m 0 7 ∗ R) ⊢ Q ((k0_pay41 (qV m c 0 (by decide)) mask0 (kbM.view.readAt (Elt F) (Rect.unit (s := S8x1024x128) ![7, 0, 0] S1x256x128.size inb_S8x1024x128_S1x256x128_7_0_0).toLoadRect (kbV m c))))) :
    iprop(Ctx m (accV m) K ∗ Grp c m 0 5 ∗ R) ⊢ Wp c (atArgs k0_part16 (qV m c 0 (by decide)) mask0 ((k0_pay38 (qV m c 0 (by decide)) mask0 (kbM.view.readAt (Elt F) (Rect.unit (s := S8x1024x128) ![5, 0, 0] S1x256x128.size inb_S8x1024x128_S1x256x128_5_0_0).toLoadRect (kbV m c)) (vbM.view.readAt (Elt F) (Rect.unit (s := S8x1024x128) ![5, 0, 0] S1x256x128.size inb_S8x1024x128_S1x256x128_5_0_0).toLoadRect (vbV m c))))) Q := by
  rw [k0_part16_eq_skeleton]; unfold k0_part16_skel
  simp -zeta only [atArgs, Prog.lift, Prog.bind_op, Prog.bind_ret, Prog.pure_eq_ret]
  refine g_any fun _ => ?_
  refine g_store 5 (by decide) rfl (head_0_5 _ _ _ (by decide)) ?_
  refine g_k ?_
  refine g_v ?_
  refine g_any fun _ => ?_
  refine g_store 6 (by decide) rfl (head_0_6 _ _ _ (by decide)) ?_
  refine g_k ?_
  exact ret_step c (hk)

end Cert.KernelIdeal.Ring

end
-- ==== Proof.KernelIdeal.Send0.lean ====
/-
# The first group is sent

The projection of the first group and its reduce-scatter copies.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Head 7 of group 0, as its pieces compute it. -/
theorem head_0_7 (q : FVec F S256x1024 .bf16) (a b : Vec F S1x256x128 .bf16) (h : 7 < 8) :
    k0_pay42 ((k0_pay41 q mask0 a)) b = k0_pay30 mask0 (qCols 7 h q) a b := rfl
/-- Part 17 of the body. -/
theorem part17 {Q : (BitVec 1) → sProp (MT nD τ sig Unit (Elt F) ℕ UU ℕ)}
    (hk : ∀ (v510 : BitVec 1), iprop(Ctx m (accV m) K ∗ (RMid (accV m) c 1 ∗ accs (accV m) c 2 8) ∗ Grp c m 0 8 ∗ R) ⊢ Q v510) :
    iprop(Ctx m (accV m) K ∗ Grp c m 0 7 ∗ RSt (accV m) c 0 ∗ Any c acM0 ∗ R) ⊢ Wp c (atArgs k0_part17 c (idw c) ((k0_pay41 (qV m c 0 (by decide)) mask0 (kbM.view.readAt (Elt F) (Rect.unit (s := S8x1024x128) ![7, 0, 0] S1x256x128.size inb_S8x1024x128_S1x256x128_7_0_0).toLoadRect (kbV m c))))) Q := by
  rw [k0_part17_eq_skeleton]; unfold k0_part17_skel
  simp -zeta only [atArgs, Prog.lift, Prog.bind_op, Prog.bind_ret, Prog.pure_eq_ret]
  refine g_v ?_
  refine g_any fun _ => ?_
  refine g_store 7 (by decide) rfl (head_0_7 _ _ _ (by decide)) ?_
  refine g_ctx ?_
  refine g_o ?_
  have hb : accs (accV m) c 0 8 = Pt c acM0 (accV m c 0) := acc_blocks0
  refine acc_step (M := acM0) (w := accV m c 0) (fun f => ?_) hb ?_
  · exact fill_whole (b := cc0_scratch7) zero2 f _
  extract_lets
  refine rs_send 0 (by decide) (by decide) (by unfold k0_cond1; exact condNe_iff c 0 (by decide)) (fun h R' hn hk => ?_) ?_
  · refine rs_op isAcc0 0 (by decide) rfl hn (eq_dv k0_dev32_eq) (sem_at 6 _ rfl _ _) (sem_at 38 _ (k0_off3_eq c) _ _) (k0_off4_eq c) rfl hk
  refine rs_self 0 (by decide) (by unfold k0_cond2; exact condEq_iff c 0 (by decide)) (fun h R' he hk => ?_) ?_
  · refine rs_copy isAcc0 0 (by decide) rfl he rfl (k0_off5_eq c) rfl hk
  refine rs_send 1 (by decide) (by decide) (by unfold k0_cond3; exact condNe_iff c 1 (by decide)) (fun h R' hn hk => ?_) ?_
  · refine rs_op isAcc0 1 (by decide) rfl hn (eq_dv k0_dev33_eq) (sem_at 6 _ rfl _ _) (sem_at 38 _ (k0_off6_eq c) _ _) (k0_off7_eq c) rfl hk
  exact ret_step c (hk _)

/-- Part 18 of the body. -/
theorem part18 {v510 : BitVec 1} {Q : (BitVec 32) → sProp (MT nD τ sig Unit (Elt F) ℕ UU ℕ)}
    (hk : ∀ (v538 : BitVec 32), iprop(Ctx m (accV m) K ∗ (RSt (accV m) c 6 ∗ accs (accV m) c 6 8) ∗ R) ⊢ Q v538) :
    iprop(Ctx m (accV m) K ∗ (RMid (accV m) c 1 ∗ accs (accV m) c 2 8) ∗ R) ⊢ Wp c (atArgs k0_part18 c (idw c) v510) Q := by
  rw [k0_part18_eq_skeleton]; unfold k0_part18_skel
  simp -zeta only [atArgs, Prog.lift, Prog.bind_op, Prog.bind_ret, Prog.pure_eq_ret]
  extract_lets
  refine rs_self 1 (by decide) (by unfold k0_cond4; exact condEq_iff c 1 (by decide)) (fun h R' he hk => ?_) ?_
  · refine rs_copy isAcc0 1 (by decide) rfl he rfl (k0_off8_eq c) rfl hk
  refine rs_send 2 (by decide) (by decide) (by unfold k0_cond5; exact condNe_iff c 2 (by decide)) (fun h R' hn hk => ?_) ?_
  · refine rs_op isAcc0 2 (by decide) rfl hn (eq_dv k0_dev34_eq) (sem_at 6 _ rfl _ _) (sem_at 38 _ (k0_off9_eq c) _ _) (k0_off10_eq c) rfl hk
  refine rs_self 2 (by decide) (by unfold k0_cond6; exact condEq_iff c 2 (by decide)) (fun h R' he hk => ?_) ?_
  · refine rs_copy isAcc0 2 (by decide) rfl he rfl (k0_off11_eq c) rfl hk
  refine rs_send 3 (by decide) (by decide) (by unfold k0_cond7; exact condNe_iff c 3 (by decide)) (fun h R' hn hk => ?_) ?_
  · refine rs_op isAcc0 3 (by decide) rfl hn (eq_dv k0_dev35_eq) (sem_at 6 _ rfl _ _) (sem_at 38 _ (k0_off12_eq c) _ _) (k0_off13_eq c) rfl hk
  refine rs_self 3 (by decide) (by unfold k0_cond8; exact condEq_iff c 3 (by decide)) (fun h R' he hk => ?_) ?_
  · refine rs_copy isAcc0 3 (by decide) rfl he rfl (k0_off14_eq c) rfl hk
  refine rs_send 4 (by decide) (by decide) (by unfold k0_cond9; exact condNe_iff c 4 (by decide)) (fun h R' hn hk => ?_) ?_
  · refine rs_op isAcc0 4 (by decide) rfl hn (eq_dv k0_dev36_eq) (sem_at 6 _ rfl _ _) (sem_at 38 _ (k0_off15_eq c) _ _) (k0_off16_eq c) rfl hk
  refine rs_self 4 (by decide) (by unfold k0_cond10; exact condEq_iff c 4 (by decide)) (fun h R' he hk => ?_) ?_
  · refine rs_copy isAcc0 4 (by decide) rfl he rfl (k0_off17_eq c) rfl hk
  refine rs_send 5 (by decide) (by decide) (by unfold k0_cond11; exact condNe_iff c 5 (by decide)) (fun h R' hn hk => ?_) ?_
  · refine rs_op isAcc0 5 (by decide) rfl hn (eq_dv k0_dev37_eq) (sem_at 6 _ rfl _ _) (sem_at 38 _ (k0_off18_eq c) _ _) (k0_off19_eq c) rfl hk
  refine rs_self 5 (by decide) (by unfold k0_cond12; exact condEq_iff c 5 (by decide)) (fun h R' he hk => ?_) ?_
  · refine rs_copy isAcc0 5 (by decide) rfl he rfl (k0_off20_eq c) rfl hk
  exact ret_step c (hk _)

end Cert.KernelIdeal.Ring

end
-- ==== Proof.KernelIdeal.Group1.lean ====
/-
# The second group of rows

Heads of the second 256 rows.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Part 19 of the body. -/
theorem part19 {v538 : BitVec 32} {Q : (Σ' (v552 : FVec F S256x1024 .bf16) (v557 : IVec S256x512 32) (v571 : IVec S256x512 1) (v573 : IVec S256x512 32), IVec S256x512 32) → sProp (MT nD τ sig Unit (Elt F) ℕ UU ℕ)}
    (hk : iprop(Ctx m (accV m) K ∗ Grp c m 1 0 ∗ RSt (accV m) c 8 ∗ R) ⊢ Q ⟨(qV m c 1 (by decide)), k0_pay54, k0_pay55, k0_pay56, k0_pay57⟩) :
    iprop(Ctx m (accV m) K ∗ (RSt (accV m) c 6 ∗ accs (accV m) c 6 8) ∗ Grp c m 0 8 ∗ R) ⊢ Wp c (atArgs k0_part19 c (idw c) v538) Q := by
  rw [k0_part19_eq_skeleton]; unfold k0_part19_skel
  simp -zeta only [atArgs, Prog.lift, Prog.bind_op, Prog.bind_ret, Prog.pure_eq_ret]
  extract_lets
  refine rs_send 6 (by decide) (by decide) (by unfold k0_cond13; exact condNe_iff c 6 (by decide)) (fun h R' hn hk => ?_) ?_
  · refine rs_op isAcc0 6 (by decide) rfl hn (eq_dv k0_dev38_eq) (sem_at 6 _ rfl _ _) (sem_at 38 _ (k0_off21_eq c) _ _) (k0_off22_eq c) rfl hk
  refine rs_self 6 (by decide) (by unfold k0_cond14; exact condEq_iff c 6 (by decide)) (fun h R' he hk => ?_) ?_
  · refine rs_copy isAcc0 6 (by decide) rfl he rfl (k0_off23_eq c) rfl hk
  refine rs_send 7 (by decide) (by decide) (by unfold k0_cond15; exact condNe_iff c 7 (by decide)) (fun h R' hn hk => ?_) ?_
  · refine rs_op isAcc0 7 (by decide) rfl hn (eq_dv k0_dev39_eq) (sem_at 6 _ rfl _ _) (sem_at 38 _ (k0_off24_eq c) _ _) (k0_off25_eq c) rfl hk
  refine rs_self 7 (by decide) (by unfold k0_cond16; exact condEq_iff c 7 (by decide)) (fun h R' he hk => ?_) ?_
  · refine rs_copy isAcc0 7 (by decide) rfl he rfl (k0_off26_eq c) rfl hk
  refine acc_none ?_
  refine weaken (g_next (g' := 1)) ?_
  refine g_x ?_
  refine g_q ?_
  exact ret_step c (hk)

/-- Part 20 of the body. -/
theorem part20 {Q : (Σ' (v605 : IVec S256x512 1) (v614 : FVec F S256x512 .f32), FVec F S256x1 .f32) → sProp (MT nD τ sig Unit (Elt F) ℕ UU ℕ)}
    (hk : iprop(Ctx m (accV m) K ∗ Grp c m 1 0 ∗ R) ⊢ Q ⟨mask1, (k0_pay59 (qV m c 1 (by decide)) k0_pay54 k0_pay55 k0_pay56 k0_pay57 (kbM.view.readAt (Elt F) (Rect.unit (s := S8x1024x128) ![0, 0, 0] S1x512x128.size inb_S8x1024x128_S1x512x128_0_0_0).toLoadRect (kbV m c))), (k0_pay60 (qV m c 1 (by decide)) k0_pay54 k0_pay55 k0_pay56 k0_pay57 (kbM.view.readAt (Elt F) (Rect.unit (s := S8x1024x128) ![0, 0, 0] S1x512x128.size inb_S8x1024x128_S1x512x128_0_0_0).toLoadRect (kbV m c)))⟩) :
    iprop(Ctx m (accV m) K ∗ Grp c m 1 0 ∗ R) ⊢ Wp c (atArgs k0_part20 (qV m c 1 (by decide)) k0_pay54 k0_pay55 k0_pay56 k0_pay57) Q := by
  rw [k0_part20_eq_skeleton]; unfold k0_part20_skel
  simp -zeta only [atArgs, Prog.lift, Prog.bind_op, Prog.bind_ret, Prog.pure_eq_ret]
  refine g_k ?_
  exact ret_step c (hk)

/-- Head 0 of group 1, as its pieces compute it. -/
theorem head_1_0 (q : FVec F S256x1024 .bf16) (a b : Vec F S1x512x128 .bf16) (h : 0 < 8) :
    k0_pay61 (k0_pay59 q k0_pay54 k0_pay55 k0_pay56 k0_pay57 a) (k0_pay60 q k0_pay54 k0_pay55 k0_pay56 k0_pay57 a) b = k0_pay64 mask1 (qCols 0 h q) a b := rfl
/-- Head 1 of group 1, as its pieces compute it. -/
theorem head_1_1 (q : FVec F S256x1024 .bf16) (a b : Vec F S1x512x128 .bf16) (h : 1 < 8) :
    k0_pay62 q mask1 a b = k0_pay64 mask1 (qCols 1 h q) a b := rfl
/-- Part 21 of the body. -/
theorem part21 {Q : (Σ' (v652 : FVec F S256x128 .bf16), Vec F S1x512x128 .bf16) → sProp (MT nD τ sig Unit (Elt F) ℕ UU ℕ)}
    (hk : iprop(Ctx m (accV m) K ∗ Grp c m 1 2 ∗ R) ⊢ Q ⟨(k0_pay63 (qV m c 1 (by decide))), ((kbM.view.readAt (Elt F) (Rect.unit (s := S8x1024x128) ![2, 0, 0] S1x512x128.size inb_S8x1024x128_S1x512x128_2_0_0).toLoadRect (kbV m c)))⟩) :
    iprop(Ctx m (accV m) K ∗ Grp c m 1 0 ∗ R) ⊢ Wp c (atArgs k0_part21 (qV m c 1 (by decide)) mask1 (k0_pay59 (qV m c 1 (by decide)) k0_pay54 k0_pay55 k0_pay56 k0_pay57 (kbM.view.readAt (Elt F) (Rect.unit (s := S8x1024x128) ![0, 0, 0] S1x512x128.size inb_S8x1024x128_S1x512x128_0_0_0).toLoadRect (kbV m c))) (k0_pay60 (qV m c 1 (by decide)) k0_pay54 k0_pay55 k0_pay56 k0_pay57 (kbM.view.readAt (Elt F) (Rect.unit (s := S8x1024x128) ![0, 0, 0] S1x512x128.size inb_S8x1024x128_S1x512x128_0_0_0).toLoadRect (kbV m c)))) Q := by
  rw [k0_part21_eq_skeleton]; unfold k0_part21_skel
  simp -zeta only [atArgs, Prog.lift, Prog.bind_op, Prog.bind_ret, Prog.pure_eq_ret]
  refine g_v ?_
  refine g_any fun _ => ?_
  refine g_store 0 (by decide) rfl (head_1_0 _ _ _ (by decide)) ?_
  refine g_k ?_
  refine g_v ?_
  refine g_any fun _ => ?_
  refine g_store 1 (by decide) rfl (head_1_1 _ _ _ (by decide)) ?_
  refine g_k ?_
  exact ret_step c (hk)

/-- Head 2 of group 1, as its pieces compute it. -/
theorem head_1_2 (q : FVec F S256x1024 .bf16) (a b : Vec F S1x512x128 .bf16) (h : 2 < 8) :
    k0_pay64 mask1 (k0_pay63 q) (a) b = k0_pay64 mask1 (qCols 2 h q) a b := rfl
/-- Part 22 of the body. -/
theorem part22 {Q : (Σ' (v687 : FVec F S256x1 .f32) (v688 : FVec F S256x512 .bf16), FVec F S512x128 .bf16) → sProp (MT nD τ sig Unit (Elt F) ℕ UU ℕ)}
    (hk : iprop(Ctx m (accV m) K ∗ Grp c m 1 3 ∗ R) ⊢ Q ⟨(k0_pay66 (qV m c 1 (by decide)) mask1 (kbM.view.readAt (Elt F) (Rect.unit (s := S8x1024x128) ![3, 0, 0] S1x512x128.size inb_S8x1024x128_S1x512x128_3_0_0).toLoadRect (kbV m c))), (k0_pay67 (qV m c 1 (by decide)) mask1 (kbM.view.readAt (Elt F) (Rect.unit (s := S8x1024x128) ![3, 0, 0] S1x512x128.size inb_S8x1024x128_S1x512x128_3_0_0).toLoadRect (kbV m c))), (k0_pay68 (vbM.view.readAt (Elt F) (Rect.unit (s := S8x1024x128) ![3, 0, 0] S1x512x128.size inb_S8x1024x128_S1x512x128_3_0_0).toLoadRect (vbV m c)))⟩) :
    iprop(Ctx m (accV m) K ∗ Grp c m 1 2 ∗ R) ⊢ Wp c (atArgs k0_part22 (qV m c 1 (by decide)) mask1 (k0_pay63 (qV m c 1 (by decide))) ((kbM.view.readAt (Elt F) (Rect.unit (s := S8x1024x128) ![2, 0, 0] S1x512x128.size inb_S8x1024x128_S1x512x128_2_0_0).toLoadRect (kbV m c)))) Q := by
  rw [k0_part22_eq_skeleton]; unfold k0_part22_skel
  simp -zeta only [atArgs, Prog.lift, Prog.bind_op, Prog.bind_ret, Prog.pure_eq_ret]
  refine g_v ?_
  refine g_any fun _ => ?_
  refine g_store 2 (by decide) rfl (head_1_2 _ _ _ (by decide)) ?_
  refine g_k ?_
  refine g_v ?_
  exact ret_step c (hk)

/-- Head 3 of group 1, as its pieces compute it. -/
theorem head_1_3 (q : FVec F S256x1024 .bf16) (a b : Vec F S1x512x128 .bf16) (h : 3 < 8) :
    k0_pay69 (k0_pay66 q mask1 a) (k0_pay67 q mask1 a) (k0_pay68 b) = k0_pay64 mask1 (qCols 3 h q) a b := rfl
/-- Head 4 of group 1, as its pieces compute it. -/
theorem head_1_4 (q : FVec F S256x1024 .bf16) (a b : Vec F S1x512x128 .bf16) (h : 4 < 8) :
    k0_pay70 q mask1 a b = k0_pay64 mask1 (qCols 4 h q) a b := rfl
/-- Part 23 of the body. -/
theorem part23 {Q : (FVec F S256x512 .f32) → sProp (MT nD τ sig Unit (Elt F) ℕ UU ℕ)}
    (hk : iprop(Ctx m (accV m) K ∗ Grp c m 1 5 ∗ R) ⊢ Q ((k0_pay71 (qV m c 1 (by decide)) (kbM.view.readAt (Elt F) (Rect.unit (s := S8x1024x128) ![5, 0, 0] S1x512x128.size inb_S8x1024x128_S1x512x128_5_0_0).toLoadRect (kbV m c))))) :
    iprop(Ctx m (accV m) K ∗ Grp c m 1 3 ∗ R) ⊢ Wp c (atArgs k0_part23 (qV m c 1 (by decide)) mask1 (k0_pay66 (qV m c 1 (by decide)) mask1 (kbM.view.readAt (Elt F) (Rect.unit (s := S8x1024x128) ![3, 0, 0] S1x512x128.size inb_S8x1024x128_S1x512x128_3_0_0).toLoadRect (kbV m c))) (k0_pay67 (qV m c 1 (by decide)) mask1 (kbM.view.readAt (Elt F) (Rect.unit (s := S8x1024x128) ![3, 0, 0] S1x512x128.size inb_S8x1024x128_S1x512x128_3_0_0).toLoadRect (kbV m c))) (k0_pay68 (vbM.view.readAt (Elt F) (Rect.unit (s := S8x1024x128) ![3, 0, 0] S1x512x128.size inb_S8x1024x128_S1x512x128_3_0_0).toLoadRect (vbV m c)))) Q := by
  rw [k0_part23_eq_skeleton]; unfold k0_part23_skel
  simp -zeta only [atArgs, Prog.lift, Prog.bind_op, Prog.bind_ret, Prog.pure_eq_ret]
  refine g_any fun _ => ?_
  refine g_store 3 (by decide) rfl (head_1_3 _ _ _ (by decide)) ?_
  refine g_k ?_
  refine g_v ?_
  refine g_any fun _ => ?_
  refine g_store 4 (by decide) rfl (head_1_4 _ _ _ (by decide)) ?_
  refine g_k ?_
  exact ret_step c (hk)

/-- Head 5 of group 1, as its pieces compute it. -/
theorem head_1_5 (q : FVec F S256x1024 .bf16) (a b : Vec F S1x512x128 .bf16) (h : 5 < 8) :
    k0_pay72 mask1 ((k0_pay71 q a)) b = k0_pay64 mask1 (qCols 5 h q) a b := rfl
/-- Part 24 of the body. -/
theorem part24 {Q : (FVec F S256x128 .bf16) → sProp (MT nD τ sig Unit (Elt F) ℕ UU ℕ)}
    (hk : iprop(Ctx m (accV m) K ∗ Grp c m 1 6 ∗ R) ⊢ Q ((k0_pay73 (qV m c 1 (by decide)) mask1 (kbM.view.readAt (Elt F) (Rect.unit (s := S8x1024x128) ![6, 0, 0] S1x512x128.size inb_S8x1024x128_S1x512x128_6_0_0).toLoadRect (kbV m c)) (vbM.view.readAt (Elt F) (Rect.unit (s := S8x1024x128) ![6, 0, 0] S1x512x128.size inb_S8x1024x128_S1x512x128_6_0_0).toLoadRect (vbV m c))))) :
    iprop(Ctx m (accV m) K ∗ Grp c m 1 5 ∗ R) ⊢ Wp c (atArgs k0_part24 (qV m c 1 (by decide)) mask1 ((k0_pay71 (qV m c 1 (by decide)) (kbM.view.readAt (Elt F) (Rect.unit (s := S8x1024x128) ![5, 0, 0] S1x512x128.size inb_S8x1024x128_S1x512x128_5_0_0).toLoadRect (kbV m c))))) Q := by
  rw [k0_part24_eq_skeleton]; unfold k0_part24_skel
  simp -zeta only [atArgs, Prog.lift, Prog.bind_op, Prog.bind_ret, Prog.pure_eq_ret]
  refine g_v ?_
  refine g_any fun _ => ?_
  refine g_store 5 (by decide) rfl (head_1_5 _ _ _ (by decide)) ?_
  refine g_k ?_
  refine g_v ?_
  exact ret_step c (hk)

end Cert.KernelIdeal.Ring

end
-- ==== Proof.KernelIdeal.Send1.lean ====
/-
# The second group is sent

The projection of the second group and its reduce-scatter copies.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Head 6 of group 1, as its pieces compute it. -/
theorem head_1_6 (q : FVec F S256x1024 .bf16) (a b : Vec F S1x512x128 .bf16) (h : 6 < 8) :
    k0_pay74 ((k0_pay73 q mask1 a b)) = k0_pay64 mask1 (qCols 6 h q) a b := rfl
/-- Head 7 of group 1, as its pieces compute it. -/
theorem head_1_7 (q : FVec F S256x1024 .bf16) (a b : Vec F S1x512x128 .bf16) (h : 7 < 8) :
    k0_pay75 q mask1 a b = k0_pay64 mask1 (qCols 7 h q) a b := rfl
/-- Part 25 of the body. -/
theorem part25 {Q : (BitVec 1) → sProp (MT nD τ sig Unit (Elt F) ℕ UU ℕ)}
    (hk : ∀ (v797 : BitVec 1), iprop(Ctx m (accV m) K ∗ (RSt (accV m) c 8 ∗ accs (accV m) c 8 16) ∗ Grp c m 1 8 ∗ R) ⊢ Q v797) :
    iprop(Ctx m (accV m) K ∗ Grp c m 1 6 ∗ RSt (accV m) c 8 ∗ Any c acM1 ∗ R) ⊢ Wp c (atArgs k0_part25 (idw c) (qV m c 1 (by decide)) mask1 ((k0_pay73 (qV m c 1 (by decide)) mask1 (kbM.view.readAt (Elt F) (Rect.unit (s := S8x1024x128) ![6, 0, 0] S1x512x128.size inb_S8x1024x128_S1x512x128_6_0_0).toLoadRect (kbV m c)) (vbM.view.readAt (Elt F) (Rect.unit (s := S8x1024x128) ![6, 0, 0] S1x512x128.size inb_S8x1024x128_S1x512x128_6_0_0).toLoadRect (vbV m c))))) Q := by
  rw [k0_part25_eq_skeleton]; unfold k0_part25_skel
  simp -zeta only [atArgs, Prog.lift, Prog.bind_op, Prog.bind_ret, Prog.pure_eq_ret]
  refine g_any fun _ => ?_
  refine g_store 6 (by decide) rfl (head_1_6 _ _ _ (by decide)) ?_
  refine g_k ?_
  refine g_v ?_
  refine g_any fun _ => ?_
  refine g_store 7 (by decide) rfl (head_1_7 _ _ _ (by decide)) ?_
  refine g_ctx ?_
  refine g_o ?_
  have hb : accs (accV m) c 8 16 = Pt c acM1 (accV m c 1) := acc_blocks1
  refine acc_step (M := acM1) (w := accV m c 1) (fun f => ?_) hb ?_
  · exact fill_whole (b := cc0_scratch8) zero2 f _
  exact ret_step c (hk _)

/-- Part 26 of the body. -/
theorem part26 {v797 : BitVec 1} {Q : (BitVec 32) → sProp (MT nD τ sig Unit (Elt F) ℕ UU ℕ)}
    (hk : ∀ (v825 : BitVec 32), iprop(Ctx m (accV m) K ∗ (RMid (accV m) c 12 ∗ accs (accV m) c 13 16) ∗ R) ⊢ Q v825) :
    iprop(Ctx m (accV m) K ∗ (RSt (accV m) c 8 ∗ accs (accV m) c 8 16) ∗ R) ⊢ Wp c (atArgs k0_part26 c (idw c) v797) Q := by
  rw [k0_part26_eq_skeleton]; unfold k0_part26_skel
  simp -zeta only [atArgs, Prog.lift, Prog.bind_op, Prog.bind_ret, Prog.pure_eq_ret]
  extract_lets
  refine rs_send 8 (by decide) (by decide) (by unfold k0_cond17; exact condNe_iff c 8 (by decide)) (fun h R' hn hk => ?_) ?_
  · refine rs_op isAcc1 8 (by decide) rfl hn (eq_dv k0_dev40_eq) (sem_at 6 _ rfl _ _) (sem_at 38 _ (k0_off27_eq c) _ _) (k0_off28_eq c) rfl hk
  refine rs_self 8 (by decide) (by unfold k0_cond18; exact condEq_iff c 8 (by decide)) (fun h R' he hk => ?_) ?_
  · refine rs_copy isAcc1 8 (by decide) rfl he rfl (k0_off29_eq c) rfl hk
  refine rs_send 9 (by decide) (by decide) (by unfold k0_cond19; exact condNe_iff c 9 (by decide)) (fun h R' hn hk => ?_) ?_
  · refine rs_op isAcc1 9 (by decide) rfl hn (eq_dv k0_dev41_eq) (sem_at 6 _ rfl _ _) (sem_at 38 _ (k0_off30_eq c) _ _) (k0_off31_eq c) rfl hk
  refine rs_self 9 (by decide) (by unfold k0_cond20; exact condEq_iff c 9 (by decide)) (fun h R' he hk => ?_) ?_
  · refine rs_copy isAcc1 9 (by decide) rfl he rfl (k0_off32_eq c) rfl hk
  refine rs_send 10 (by decide) (by decide) (by unfold k0_cond21; exact condNe_iff c 10 (by decide)) (fun h R' hn hk => ?_) ?_
  · refine rs_op isAcc1 10 (by decide) rfl hn (eq_dv k0_dev42_eq) (sem_at 6 _ rfl _ _) (sem_at 38 _ (k0_off33_eq c) _ _) (k0_off34_eq c) rfl hk
  refine rs_self 10 (by decide) (by unfold k0_cond22; exact condEq_iff c 10 (by decide)) (fun h R' he hk => ?_) ?_
  · refine rs_copy isAcc1 10 (by decide) rfl he rfl (k0_off35_eq c) rfl hk
  refine rs_send 11 (by decide) (by decide) (by unfold k0_cond23; exact condNe_iff c 11 (by decide)) (fun h R' hn hk => ?_) ?_
  · refine rs_op isAcc1 11 (by decide) rfl hn (eq_dv k0_dev43_eq) (sem_at 6 _ rfl _ _) (sem_at 38 _ (k0_off36_eq c) _ _) (k0_off37_eq c) rfl hk
  refine rs_self 11 (by decide) (by unfold k0_cond24; exact condEq_iff c 11 (by decide)) (fun h R' he hk => ?_) ?_
  · refine rs_copy isAcc1 11 (by decide) rfl he rfl (k0_off38_eq c) rfl hk
  refine rs_send 12 (by decide) (by decide) (by unfold k0_cond25; exact condNe_iff c 12 (by decide)) (fun h R' hn hk => ?_) ?_
  · refine rs_op isAcc1 12 (by decide) rfl hn (eq_dv k0_dev44_eq) (sem_at 6 _ rfl _ _) (sem_at 38 _ (k0_off39_eq c) _ _) (k0_off40_eq c) rfl hk
  exact ret_step c (hk _)

end Cert.KernelIdeal.Ring

end
-- ==== Proof.KernelIdeal.Group2.lean ====
/-
# The third group of rows

Heads of the third 256 rows.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Part 27 of the body. -/
theorem part27 {v825 : BitVec 32} {Q : (Σ' (v848 : FVec F S256x1024 .bf16) (v851 : IVec S256x768 32) (c64_i32_603 : BitVec 32) (v853 : IVec S256x768 32), IVec S256x768 32) → sProp (MT nD τ sig Unit (Elt F) ℕ UU ℕ)}
    (hk : iprop(Ctx m (accV m) K ∗ Grp c m 2 0 ∗ RSt (accV m) c 16 ∗ R) ⊢ Q ⟨(qV m c 2 (by decide)), k0_pay86, 64#32, k0_pay87, k0_pay88⟩) :
    iprop(Ctx m (accV m) K ∗ (RMid (accV m) c 12 ∗ accs (accV m) c 13 16) ∗ Grp c m 1 8 ∗ R) ⊢ Wp c (atArgs k0_part27 c (idw c) v825) Q := by
  rw [k0_part27_eq_skeleton]; unfold k0_part27_skel
  simp -zeta only [atArgs, Prog.lift, Prog.bind_op, Prog.bind_ret, Prog.pure_eq_ret]
  extract_lets
  refine rs_self 12 (by decide) (by unfold k0_cond26; exact condEq_iff c 12 (by decide)) (fun h R' he hk => ?_) ?_
  · refine rs_copy isAcc1 12 (by decide) rfl he rfl (k0_off41_eq c) rfl hk
  refine rs_send 13 (by decide) (by decide) (by unfold k0_cond27; exact condNe_iff c 13 (by decide)) (fun h R' hn hk => ?_) ?_
  · refine rs_op isAcc1 13 (by decide) rfl hn (eq_dv k0_dev45_eq) (sem_at 6 _ rfl _ _) (sem_at 38 _ (k0_off42_eq c) _ _) (k0_off43_eq c) rfl hk
  refine rs_self 13 (by decide) (by unfold k0_cond28; exact condEq_iff c 13 (by decide)) (fun h R' he hk => ?_) ?_
  · refine rs_copy isAcc1 13 (by decide) rfl he rfl (k0_off44_eq c) rfl hk
  refine rs_send 14 (by decide) (by decide) (by unfold k0_cond29; exact condNe_iff c 14 (by decide)) (fun h R' hn hk => ?_) ?_
  · refine rs_op isAcc1 14 (by decide) rfl hn (eq_dv k0_dev46_eq) (sem_at 6 _ rfl _ _) (sem_at 38 _ (k0_off45_eq c) _ _) (k0_off46_eq c) rfl hk
  refine rs_self 14 (by decide) (by unfold k0_cond30; exact condEq_iff c 14 (by decide)) (fun h R' he hk => ?_) ?_
  · refine rs_copy isAcc1 14 (by decide) rfl he rfl (k0_off47_eq c) rfl hk
  refine rs_send 15 (by decide) (by decide) (by unfold k0_cond31; exact condNe_iff c 15 (by decide)) (fun h R' hn hk => ?_) ?_
  · refine rs_op isAcc1 15 (by decide) rfl hn (eq_dv k0_dev47_eq) (sem_at 6 _ rfl _ _) (sem_at 38 _ (k0_off48_eq c) _ _) (k0_off49_eq c) rfl hk
  refine rs_self 15 (by decide) (by unfold k0_cond32; exact condEq_iff c 15 (by decide)) (fun h R' he hk => ?_) ?_
  · refine rs_copy isAcc1 15 (by decide) rfl he rfl (k0_off50_eq c) rfl hk
  refine acc_none ?_
  refine weaken (g_next (g' := 2)) ?_
  refine g_x ?_
  refine g_q ?_
  exact ret_step c (hk)

/-- Part 28 of the body. -/
theorem part28 {Q : (Σ' (v901 : IVec S256x768 1), FVec F S256x128 .bf16) → sProp (MT nD τ sig Unit (Elt F) ℕ UU ℕ)}
    (hk : iprop(Ctx m (accV m) K ∗ Grp c m 2 0 ∗ R) ⊢ Q ⟨mask2, (k0_pay90 (qV m c 2 (by decide)))⟩) :
    iprop(Ctx m (accV m) K ∗ Grp c m 2 0 ∗ R) ⊢ Wp c (atArgs k0_part28 (qV m c 2 (by decide)) k0_pay86 (64#32) k0_pay87 k0_pay88) Q := by
  rw [k0_part28_eq_skeleton]; unfold k0_part28_skel
  simp -zeta only [atArgs, Prog.lift, Prog.bind_op, Prog.bind_ret, Prog.pure_eq_ret]
  exact ret_step c (hk)

/-- Head 0 of group 2, as its pieces compute it. -/
theorem head_2_0 (q : FVec F S256x1024 .bf16) (a b : Vec F S1x768x128 .bf16) (h : 0 < 8) :
    k0_pay91 mask2 (k0_pay90 q) a b = k0_pay91 mask2 (qCols 0 h q) a b := rfl
/-- Part 29 of the body. -/
theorem part29 {Q : (Σ' (v937 : FVec F S256x1 .f32), FVec F S256x768 .bf16) → sProp (MT nD τ sig Unit (Elt F) ℕ UU ℕ)}
    (hk : iprop(Ctx m (accV m) K ∗ Grp c m 2 1 ∗ R) ⊢ Q ⟨(k0_pay93 (qV m c 2 (by decide)) mask2 (kbM.view.readAt (Elt F) (Rect.unit (s := S8x1024x128) ![1, 0, 0] S1x768x128.size inb_S8x1024x128_S1x768x128_1_0_0).toLoadRect (kbV m c))), (k0_pay94 (qV m c 2 (by decide)) mask2 (kbM.view.readAt (Elt F) (Rect.unit (s := S8x1024x128) ![1, 0, 0] S1x768x128.size inb_S8x1024x128_S1x768x128_1_0_0).toLoadRect (kbV m c)))⟩) :
    iprop(Ctx m (accV m) K ∗ Grp c m 2 0 ∗ R) ⊢ Wp c (atArgs k0_part29 (qV m c 2 (by decide)) mask2 (k0_pay90 (qV m c 2 (by decide)))) Q := by
  rw [k0_part29_eq_skeleton]; unfold k0_part29_skel
  simp -zeta only [atArgs, Prog.lift, Prog.bind_op, Prog.bind_ret, Prog.pure_eq_ret]
  refine g_k ?_
  refine g_v ?_
  refine g_any fun _ => ?_
  refine g_store 0 (by decide) rfl (head_2_0 _ _ _ (by decide)) ?_
  refine g_k ?_
  exact ret_step c (hk)

/-- Head 1 of group 2, as its pieces compute it. -/
theorem head_2_1 (q : FVec F S256x1024 .bf16) (a b : Vec F S1x768x128 .bf16) (h : 1 < 8) :
    k0_pay95 (k0_pay93 q mask2 a) (k0_pay94 q mask2 a) b = k0_pay91 mask2 (qCols 1 h q) a b := rfl
/-- Head 2 of group 2, as its pieces compute it. -/
theorem head_2_2 (q : FVec F S256x1024 .bf16) (a b : Vec F S1x768x128 .bf16) (h : 2 < 8) :
    k0_pay96 q mask2 a b = k0_pay91 mask2 (qCols 2 h q) a b := rfl
/-- Part 30 of the body. -/
theorem part30 {Q : (Σ' (v971 : FVec F S256x128 .bf16) (v973 : FVec F S768x128 .bf16), FVec F S256x768 .f32) → sProp (MT nD τ sig Unit (Elt F) ℕ UU ℕ)}
    (hk : iprop(Ctx m (accV m) K ∗ Grp c m 2 3 ∗ R) ⊢ Q ⟨(k0_pay97 (qV m c 2 (by decide))), (k0_pay98 (kbM.view.readAt (Elt F) (Rect.unit (s := S8x1024x128) ![3, 0, 0] S1x768x128.size inb_S8x1024x128_S1x768x128_3_0_0).toLoadRect (kbV m c))), ((constant S256x768 .f32 0x00000000#32))⟩) :
    iprop(Ctx m (accV m) K ∗ Grp c m 2 1 ∗ R) ⊢ Wp c (atArgs k0_part30 (qV m c 2 (by decide)) mask2 (k0_pay93 (qV m c 2 (by decide)) mask2 (kbM.view.readAt (Elt F) (Rect.unit (s := S8x1024x128) ![1, 0, 0] S1x768x128.size inb_S8x1024x128_S1x768x128_1_0_0).toLoadRect (kbV m c))) (k0_pay94 (qV m c 2 (by decide)) mask2 (kbM.view.readAt (Elt F) (Rect.unit (s := S8x1024x128) ![1, 0, 0] S1x768x128.size inb_S8x1024x128_S1x768x128_1_0_0).toLoadRect (kbV m c)))) Q := by
  rw [k0_part30_eq_skeleton]; unfold k0_part30_skel
  simp -zeta only [atArgs, Prog.lift, Prog.bind_op, Prog.bind_ret, Prog.pure_eq_ret]
  refine g_v ?_
  refine g_any fun _ => ?_
  refine g_store 1 (by decide) rfl (head_2_1 _ _ _ (by decide)) ?_
  refine g_k ?_
  refine g_v ?_
  refine g_any fun _ => ?_
  refine g_store 2 (by decide) rfl (head_2_2 _ _ _ (by decide)) ?_
  refine g_k ?_
  exact ret_step c (hk)

/-- Head 3 of group 2, as its pieces compute it. -/
theorem head_2_3 (q : FVec F S256x1024 .bf16) (a b : Vec F S1x768x128 .bf16) (h : 3 < 8) :
    k0_pay99 mask2 (k0_pay97 q) (k0_pay98 a) ((constant S256x768 .f32 0x00000000#32)) b = k0_pay91 mask2 (qCols 3 h q) a b := rfl
/-- Part 31 of the body. -/
theorem part31 {Q : (Σ' (v1006 : FVec F S256x1 .f32), FVec F S256x128 .f32) → sProp (MT nD τ sig Unit (Elt F) ℕ UU ℕ)}
    (hk : iprop(Ctx m (accV m) K ∗ Grp c m 2 4 ∗ R) ⊢ Q ⟨(k0_pay101 (qV m c 2 (by decide)) mask2 (kbM.view.readAt (Elt F) (Rect.unit (s := S8x1024x128) ![4, 0, 0] S1x768x128.size inb_S8x1024x128_S1x768x128_4_0_0).toLoadRect (kbV m c))), (k0_pay102 (qV m c 2 (by decide)) mask2 (kbM.view.readAt (Elt F) (Rect.unit (s := S8x1024x128) ![4, 0, 0] S1x768x128.size inb_S8x1024x128_S1x768x128_4_0_0).toLoadRect (kbV m c)) (vbM.view.readAt (Elt F) (Rect.unit (s := S8x1024x128) ![4, 0, 0] S1x768x128.size inb_S8x1024x128_S1x768x128_4_0_0).toLoadRect (vbV m c)))⟩) :
    iprop(Ctx m (accV m) K ∗ Grp c m 2 3 ∗ R) ⊢ Wp c (atArgs k0_part31 (qV m c 2 (by decide)) mask2 (k0_pay97 (qV m c 2 (by decide))) (k0_pay98 (kbM.view.readAt (Elt F) (Rect.unit (s := S8x1024x128) ![3, 0, 0] S1x768x128.size inb_S8x1024x128_S1x768x128_3_0_0).toLoadRect (kbV m c))) ((constant S256x768 .f32 0x00000000#32))) Q := by
  rw [k0_part31_eq_skeleton]; unfold k0_part31_skel
  simp -zeta only [atArgs, Prog.lift, Prog.bind_op, Prog.bind_ret, Prog.pure_eq_ret]
  refine g_v ?_
  refine g_any fun _ => ?_
  refine g_store 3 (by decide) rfl (head_2_3 _ _ _ (by decide)) ?_
  refine g_k ?_
  refine g_v ?_
  exact ret_step c (hk)

/-- Head 4 of group 2, as its pieces compute it. -/
theorem head_2_4 (q : FVec F S256x1024 .bf16) (a b : Vec F S1x768x128 .bf16) (h : 4 < 8) :
    k0_pay103 (k0_pay101 q mask2 a) (k0_pay102 q mask2 a b) = k0_pay91 mask2 (qCols 4 h q) a b := rfl
/-- Head 5 of group 2, as its pieces compute it. -/
theorem head_2_5 (q : FVec F S256x1024 .bf16) (a b : Vec F S1x768x128 .bf16) (h : 5 < 8) :
    k0_pay104 q mask2 a b = k0_pay91 mask2 (qCols 5 h q) a b := rfl
/-- Part 32 of the body. -/
theorem part32 {Q : (Σ' (v1045 : FVec F S256x768 .f32), FVec F S256x768 .f32) → sProp (MT nD τ sig Unit (Elt F) ℕ UU ℕ)}
    (hk : iprop(Ctx m (accV m) K ∗ Grp c m 2 6 ∗ R) ⊢ Q ⟨(k0_pay105 (qV m c 2 (by decide)) (kbM.view.readAt (Elt F) (Rect.unit (s := S8x1024x128) ![6, 0, 0] S1x768x128.size inb_S8x1024x128_S1x768x128_6_0_0).toLoadRect (kbV m c))), (k0_pay106 (F := F))⟩) :
    iprop(Ctx m (accV m) K ∗ Grp c m 2 4 ∗ R) ⊢ Wp c (atArgs k0_part32 (qV m c 2 (by decide)) mask2 (k0_pay101 (qV m c 2 (by decide)) mask2 (kbM.view.readAt (Elt F) (Rect.unit (s := S8x1024x128) ![4, 0, 0] S1x768x128.size inb_S8x1024x128_S1x768x128_4_0_0).toLoadRect (kbV m c))) (k0_pay102 (qV m c 2 (by decide)) mask2 (kbM.view.readAt (Elt F) (Rect.unit (s := S8x1024x128) ![4, 0, 0] S1x768x128.size inb_S8x1024x128_S1x768x128_4_0_0).toLoadRect (kbV m c)) (vbM.view.readAt (Elt F) (Rect.unit (s := S8x1024x128) ![4, 0, 0] S1x768x128.size inb_S8x1024x128_S1x768x128_4_0_0).toLoadRect (vbV m c)))) Q := by
  rw [k0_part32_eq_skeleton]; unfold k0_part32_skel
  simp -zeta only [atArgs, Prog.lift, Prog.bind_op, Prog.bind_ret, Prog.pure_eq_ret]
  refine g_any fun _ => ?_
  refine g_store 4 (by decide) rfl (head_2_4 _ _ _ (by decide)) ?_
  refine g_k ?_
  refine g_v ?_
  refine g_any fun _ => ?_
  refine g_store 5 (by decide) rfl (head_2_5 _ _ _ (by decide)) ?_
  refine g_k ?_
  exact ret_step c (hk)

/-- Head 6 of group 2, as its pieces compute it. -/
theorem head_2_6 (q : FVec F S256x1024 .bf16) (a b : Vec F S1x768x128 .bf16) (h : 6 < 8) :
    k0_pay107 mask2 (k0_pay105 q a) (k0_pay106 (F := F)) b = k0_pay91 mask2 (qCols 6 h q) a b := rfl
/-- Part 33 of the body. -/
theorem part33 {Q : (Σ' (v1082 : FVec F S256x128 .bf16), Vec F S256x128 .bf16) → sProp (MT nD τ sig Unit (Elt F) ℕ UU ℕ)}
    (hk : ∀ (v1083 : Vec F S256x128 .bf16), iprop(Ctx m (accV m) K ∗ Grp c m 2 7 ∗ R) ⊢ Q ⟨(k0_pay108 (qV m c 2 (by decide)) mask2 (kbM.view.readAt (Elt F) (Rect.unit (s := S8x1024x128) ![7, 0, 0] S1x768x128.size inb_S8x1024x128_S1x768x128_7_0_0).toLoadRect (kbV m c)) (vbM.view.readAt (Elt F) (Rect.unit (s := S8x1024x128) ![7, 0, 0] S1x768x128.size inb_S8x1024x128_S1x768x128_7_0_0).toLoadRect (vbV m c))), v1083⟩) :
    iprop(Ctx m (accV m) K ∗ Grp c m 2 6 ∗ R) ⊢ Wp c (atArgs k0_part33 (qV m c 2 (by decide)) mask2 (k0_pay105 (qV m c 2 (by decide)) (kbM.view.readAt (Elt F) (Rect.unit (s := S8x1024x128) ![6, 0, 0] S1x768x128.size inb_S8x1024x128_S1x768x128_6_0_0).toLoadRect (kbV m c))) (k0_pay106 (F := F))) Q := by
  rw [k0_part33_eq_skeleton]; unfold k0_part33_skel
  simp -zeta only [atArgs, Prog.lift, Prog.bind_op, Prog.bind_ret, Prog.pure_eq_ret]
  refine g_v ?_
  refine g_any fun _ => ?_
  refine g_store 6 (by decide) rfl (head_2_6 _ _ _ (by decide)) ?_
  refine g_k ?_
  refine g_v ?_
  refine g_any fun _ => ?_
  exact ret_step c (hk _)

end Cert.KernelIdeal.Ring

end
-- ==== Proof.KernelIdeal.Send2.lean ====
/-
# The third group is sent

The projection of the third group and its reduce-scatter copies.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Head 7 of group 2, as its pieces compute it. -/
theorem head_2_7 (q : FVec F S256x1024 .bf16) (a b : Vec F S1x768x128 .bf16) (h : 7 < 8) :
    k0_pay109 (k0_pay108 q mask2 a b) = k0_pay91 mask2 (qCols 7 h q) a b := rfl
/-- Part 34 of the body. -/
theorem part34 {v1083 : Vec F S256x128 .bf16} {Q : (BitVec 32) → sProp (MT nD τ sig Unit (Elt F) ℕ UU ℕ)}
    (hk : ∀ (v1112 : BitVec 32), iprop(Ctx m (accV m) K ∗ (RSt (accV m) c 19 ∗ accs (accV m) c 19 24) ∗ Grp c m 2 8 ∗ R) ⊢ Q v1112) :
    iprop(Ctx m (accV m) K ∗ Grp c m 2 7 ∗ RSt (accV m) c 16 ∗ Any c acM2 ∗ R) ⊢ Wp c (atArgs k0_part34 c (idw c) (k0_pay108 (qV m c 2 (by decide)) mask2 (kbM.view.readAt (Elt F) (Rect.unit (s := S8x1024x128) ![7, 0, 0] S1x768x128.size inb_S8x1024x128_S1x768x128_7_0_0).toLoadRect (kbV m c)) (vbM.view.readAt (Elt F) (Rect.unit (s := S8x1024x128) ![7, 0, 0] S1x768x128.size inb_S8x1024x128_S1x768x128_7_0_0).toLoadRect (vbV m c))) v1083) Q := by
  rw [k0_part34_eq_skeleton]; unfold k0_part34_skel
  simp -zeta only [atArgs, Prog.lift, Prog.bind_op, Prog.bind_ret, Prog.pure_eq_ret]
  refine g_store 7 (by decide) rfl (head_2_7 _ _ _ (by decide)) ?_
  refine g_ctx ?_
  refine g_o ?_
  have hb : accs (accV m) c 16 24 = Pt c acM2 (accV m c 2) := acc_blocks2
  refine acc_step (M := acM2) (w := accV m c 2) (fun f => ?_) hb ?_
  · exact fill_whole (b := cc0_scratch9) zero2 f _
  extract_lets
  refine rs_send 16 (by decide) (by decide) (by unfold k0_cond33; exact condNe_iff c 16 (by decide)) (fun h R' hn hk => ?_) ?_
  · refine rs_op isAcc2 16 (by decide) rfl hn (eq_dv k0_dev48_eq) (sem_at 6 _ rfl _ _) (sem_at 38 _ (k0_off51_eq c) _ _) (k0_off52_eq c) rfl hk
  refine rs_self 16 (by decide) (by unfold k0_cond34; exact condEq_iff c 16 (by decide)) (fun h R' he hk => ?_) ?_
  · refine rs_copy isAcc2 16 (by decide) rfl he rfl (k0_off53_eq c) rfl hk
  refine rs_send 17 (by decide) (by decide) (by unfold k0_cond35; exact condNe_iff c 17 (by decide)) (fun h R' hn hk => ?_) ?_
  · refine rs_op isAcc2 17 (by decide) rfl hn (eq_dv k0_dev49_eq) (sem_at 6 _ rfl _ _) (sem_at 38 _ (k0_off54_eq c) _ _) (k0_off55_eq c) rfl hk
  refine rs_self 17 (by decide) (by unfold k0_cond36; exact condEq_iff c 17 (by decide)) (fun h R' he hk => ?_) ?_
  · refine rs_copy isAcc2 17 (by decide) rfl he rfl (k0_off56_eq c) rfl hk
  refine rs_send 18 (by decide) (by decide) (by unfold k0_cond37; exact condNe_iff c 18 (by decide)) (fun h R' hn hk => ?_) ?_
  · refine rs_op isAcc2 18 (by decide) rfl hn (eq_dv k0_dev50_eq) (sem_at 6 _ rfl _ _) (sem_at 38 _ (k0_off57_eq c) _ _) (k0_off58_eq c) rfl hk
  refine rs_self 18 (by decide) (by unfold k0_cond38; exact condEq_iff c 18 (by decide)) (fun h R' he hk => ?_) ?_
  · refine rs_copy isAcc2 18 (by decide) rfl he rfl (k0_off59_eq c) rfl hk
  exact ret_step c (hk _)

/-- Part 35 of the body. -/
theorem part35 {v1112 : BitVec 32} {Q : (Σ' (v1139 : BitVec 32), BitVec 32) → sProp (MT nD τ sig Unit (Elt F) ℕ UU ℕ)}
    (hk : ∀ (v1139 : BitVec 32) (c0_i32_775 : BitVec 32), iprop(Ctx m (accV m) K ∗ (RMid (accV m) c 23 ∗ accs (accV m) c 24 24) ∗ R) ⊢ Q ⟨v1139, c0_i32_775⟩) :
    iprop(Ctx m (accV m) K ∗ (RSt (accV m) c 19 ∗ accs (accV m) c 19 24) ∗ R) ⊢ Wp c (atArgs k0_part35 c (idw c) v1112) Q := by
  rw [k0_part35_eq_skeleton]; unfold k0_part35_skel
  simp -zeta only [atArgs, Prog.lift, Prog.bind_op, Prog.bind_ret, Prog.pure_eq_ret]
  extract_lets
  refine rs_send 19 (by decide) (by decide) (by unfold k0_cond39; exact condNe_iff c 19 (by decide)) (fun h R' hn hk => ?_) ?_
  · refine rs_op isAcc2 19 (by decide) rfl hn (eq_dv k0_dev51_eq) (sem_at 6 _ rfl _ _) (sem_at 38 _ (k0_off60_eq c) _ _) (k0_off61_eq c) rfl hk
  refine rs_self 19 (by decide) (by unfold k0_cond40; exact condEq_iff c 19 (by decide)) (fun h R' he hk => ?_) ?_
  · refine rs_copy isAcc2 19 (by decide) rfl he rfl (k0_off62_eq c) rfl hk
  refine rs_send 20 (by decide) (by decide) (by unfold k0_cond41; exact condNe_iff c 20 (by decide)) (fun h R' hn hk => ?_) ?_
  · refine rs_op isAcc2 20 (by decide) rfl hn (eq_dv k0_dev52_eq) (sem_at 6 _ rfl _ _) (sem_at 38 _ (k0_off63_eq c) _ _) (k0_off64_eq c) rfl hk
  refine rs_self 20 (by decide) (by unfold k0_cond42; exact condEq_iff c 20 (by decide)) (fun h R' he hk => ?_) ?_
  · refine rs_copy isAcc2 20 (by decide) rfl he rfl (k0_off65_eq c) rfl hk
  refine rs_send 21 (by decide) (by decide) (by unfold k0_cond43; exact condNe_iff c 21 (by decide)) (fun h R' hn hk => ?_) ?_
  · refine rs_op isAcc2 21 (by decide) rfl hn (eq_dv k0_dev53_eq) (sem_at 6 _ rfl _ _) (sem_at 38 _ (k0_off66_eq c) _ _) (k0_off67_eq c) rfl hk
  refine rs_self 21 (by decide) (by unfold k0_cond44; exact condEq_iff c 21 (by decide)) (fun h R' he hk => ?_) ?_
  · refine rs_copy isAcc2 21 (by decide) rfl he rfl (k0_off68_eq c) rfl hk
  refine rs_send 22 (by decide) (by decide) (by unfold k0_cond45; exact condNe_iff c 22 (by decide)) (fun h R' hn hk => ?_) ?_
  · refine rs_op isAcc2 22 (by decide) rfl hn (eq_dv k0_dev54_eq) (sem_at 6 _ rfl _ _) (sem_at 38 _ (k0_off69_eq c) _ _) (k0_off70_eq c) rfl hk
  refine rs_self 22 (by decide) (by unfold k0_cond46; exact condEq_iff c 22 (by decide)) (fun h R' he hk => ?_) ?_
  · refine rs_copy isAcc2 22 (by decide) rfl he rfl (k0_off71_eq c) rfl hk
  refine rs_send 23 (by decide) (by decide) (by unfold k0_cond47; exact condNe_iff c 23 (by decide)) (fun h R' hn hk => ?_) ?_
  · refine rs_op isAcc2 23 (by decide) rfl hn (eq_dv k0_dev55_eq) (sem_at 6 _ rfl _ _) (sem_at 38 _ (k0_off72_eq c) _ _) (k0_off73_eq c) rfl hk
  exact ret_step c (hk _ _)

end Cert.KernelIdeal.Ring

end
-- ==== Proof.KernelIdeal.Group3.lean ====
/-
# The fourth group of rows

Heads of the last 256 rows.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Part 36 of the body. -/
theorem part36 {v1139 : BitVec 32} {c0_i32_775 : BitVec 32} {Q : (Σ' (v1144 : FVec F S256x1024 .bf16) (v1171 : IVec S256x1024 32) (v1172 : IVec S256x1024 32) (c64_i32_788 : BitVec 32) (v1174 : IVec S256x1024 32) (v1181 : IVec S256x1024 32), BitVec 32) → sProp (MT nD τ sig Unit (Elt F) ℕ UU ℕ)}
    (hk : iprop(Ctx m (accV m) K ∗ Grp c m 3 0 ∗ RSt (accV m) c 24 ∗ R) ⊢ Q ⟨(qV m c 3 (by decide)), k0_pay120, ((iota .tc S256x1024 32 [1] iota_S256x1024_d1_w32)), 64#32, k0_pay121, k0_pay122, 0#32⟩) :
    iprop(Ctx m (accV m) K ∗ (RMid (accV m) c 23 ∗ accs (accV m) c 24 24) ∗ Grp c m 2 8 ∗ R) ⊢ Wp c (atArgs k0_part36 c (idw c) v1139 c0_i32_775) Q := by
  rw [k0_part36_eq_skeleton]; unfold k0_part36_skel
  simp -zeta only [atArgs, Prog.lift, Prog.bind_op, Prog.bind_ret, Prog.pure_eq_ret]
  extract_lets
  refine rs_self 23 (by decide) (by unfold k0_cond48; exact condEq_iff c 23 (by decide)) (fun h R' he hk => ?_) ?_
  · refine rs_copy isAcc2 23 (by decide) rfl he rfl (k0_off74_eq c) rfl hk
  refine acc_none ?_
  refine weaken (g_next (g' := 3)) ?_
  refine g_x ?_
  refine g_q ?_
  exact ret_step c (hk)

/-- Head 0 of group 3, as its pieces compute it. -/
theorem head_3_0 (q : FVec F S256x1024 .bf16) (a b : Vec F S1x1024x128 .bf16) (h : 0 < 8) :
    k0_pay124 q k0_pay120 ((iota .tc S256x1024 32 [1] iota_S256x1024_d1_w32)) 64#32 k0_pay121 k0_pay122 0#32 a b = k0_pay126 mask3 (qCols 0 h q) a b := rfl
/-- Part 37 of the body. -/
theorem part37 {Q : (Σ' (v1197 : IVec S256x1024 1), FVec F S256x128 .bf16) → sProp (MT nD τ sig Unit (Elt F) ℕ UU ℕ)}
    (hk : iprop(Ctx m (accV m) K ∗ Grp c m 3 1 ∗ R) ⊢ Q ⟨mask3, (k0_pay125 (qV m c 3 (by decide)))⟩) :
    iprop(Ctx m (accV m) K ∗ Grp c m 3 0 ∗ R) ⊢ Wp c (atArgs k0_part37 (qV m c 3 (by decide)) k0_pay120 ((iota .tc S256x1024 32 [1] iota_S256x1024_d1_w32)) (64#32) k0_pay121 k0_pay122 (0#32)) Q := by
  rw [k0_part37_eq_skeleton]; unfold k0_part37_skel
  simp -zeta only [atArgs, Prog.lift, Prog.bind_op, Prog.bind_ret, Prog.pure_eq_ret]
  refine g_k ?_
  refine g_v ?_
  refine g_any fun _ => ?_
  refine g_store 0 (by decide) rfl (head_3_0 _ _ _ (by decide)) ?_
  exact ret_step c (hk)

/-- Head 1 of group 3, as its pieces compute it. -/
theorem head_3_1 (q : FVec F S256x1024 .bf16) (a b : Vec F S1x1024x128 .bf16) (h : 1 < 8) :
    k0_pay126 mask3 (k0_pay125 q) a b = k0_pay126 mask3 (qCols 1 h q) a b := rfl
/-- Part 38 of the body. -/
theorem part38 {Q : (Σ' (v1256 : FVec F S256x1 .f32), FVec F S256x1024 .bf16) → sProp (MT nD τ sig Unit (Elt F) ℕ UU ℕ)}
    (hk : iprop(Ctx m (accV m) K ∗ Grp c m 3 2 ∗ R) ⊢ Q ⟨(k0_pay128 (qV m c 3 (by decide)) mask3 (kbM.view.readAt (Elt F) (Rect.unit (s := S8x1024x128) ![2, 0, 0] S1x1024x128.size inb_S8x1024x128_S1x1024x128_2_0_0).toLoadRect (kbV m c))), (k0_pay129 (qV m c 3 (by decide)) mask3 (kbM.view.readAt (Elt F) (Rect.unit (s := S8x1024x128) ![2, 0, 0] S1x1024x128.size inb_S8x1024x128_S1x1024x128_2_0_0).toLoadRect (kbV m c)))⟩) :
    iprop(Ctx m (accV m) K ∗ Grp c m 3 1 ∗ R) ⊢ Wp c (atArgs k0_part38 (qV m c 3 (by decide)) mask3 (k0_pay125 (qV m c 3 (by decide)))) Q := by
  rw [k0_part38_eq_skeleton]; unfold k0_part38_skel
  simp -zeta only [atArgs, Prog.lift, Prog.bind_op, Prog.bind_ret, Prog.pure_eq_ret]
  refine g_k ?_
  refine g_v ?_
  refine g_any fun _ => ?_
  refine g_store 1 (by decide) rfl (head_3_1 _ _ _ (by decide)) ?_
  refine g_k ?_
  exact ret_step c (hk)

/-- Head 2 of group 3, as its pieces compute it. -/
theorem head_3_2 (q : FVec F S256x1024 .bf16) (a b : Vec F S1x1024x128 .bf16) (h : 2 < 8) :
    k0_pay130 (k0_pay128 q mask3 a) (k0_pay129 q mask3 a) b = k0_pay126 mask3 (qCols 2 h q) a b := rfl
/-- Head 3 of group 3, as its pieces compute it. -/
theorem head_3_3 (q : FVec F S256x1024 .bf16) (a b : Vec F S1x1024x128 .bf16) (h : 3 < 8) :
    k0_pay131 q mask3 a b = k0_pay126 mask3 (qCols 3 h q) a b := rfl
/-- Part 39 of the body. -/
theorem part39 {Q : (Σ' (v1293 : FVec F S256x1024 .f32), F .f32) → sProp (MT nD τ sig Unit (Elt F) ℕ UU ℕ)}
    (hk : iprop(Ctx m (accV m) K ∗ Grp c m 3 4 ∗ R) ⊢ Q ⟨(k0_pay132 (qV m c 3 (by decide)) (kbM.view.readAt (Elt F) (Rect.unit (s := S8x1024x128) ![4, 0, 0] S1x1024x128.size inb_S8x1024x128_S1x1024x128_4_0_0).toLoadRect (kbV m c))), ((Scalar.ofBits .f32 0x3DB504F3#32))⟩) :
    iprop(Ctx m (accV m) K ∗ Grp c m 3 2 ∗ R) ⊢ Wp c (atArgs k0_part39 (qV m c 3 (by decide)) mask3 (k0_pay128 (qV m c 3 (by decide)) mask3 (kbM.view.readAt (Elt F) (Rect.unit (s := S8x1024x128) ![2, 0, 0] S1x1024x128.size inb_S8x1024x128_S1x1024x128_2_0_0).toLoadRect (kbV m c))) (k0_pay129 (qV m c 3 (by decide)) mask3 (kbM.view.readAt (Elt F) (Rect.unit (s := S8x1024x128) ![2, 0, 0] S1x1024x128.size inb_S8x1024x128_S1x1024x128_2_0_0).toLoadRect (kbV m c)))) Q := by
  rw [k0_part39_eq_skeleton]; unfold k0_part39_skel
  simp -zeta only [atArgs, Prog.lift, Prog.bind_op, Prog.bind_ret, Prog.pure_eq_ret]
  refine g_v ?_
  refine g_any fun _ => ?_
  refine g_store 2 (by decide) rfl (head_3_2 _ _ _ (by decide)) ?_
  refine g_k ?_
  refine g_v ?_
  refine g_any fun _ => ?_
  refine g_store 3 (by decide) rfl (head_3_3 _ _ _ (by decide)) ?_
  refine g_k ?_
  exact ret_step c (hk)

/-- Head 4 of group 3, as its pieces compute it. -/
theorem head_3_4 (q : FVec F S256x1024 .bf16) (a b : Vec F S1x1024x128 .bf16) (h : 4 < 8) :
    k0_pay133 mask3 (k0_pay132 q a) ((Scalar.ofBits .f32 0x3DB504F3#32)) b = k0_pay126 mask3 (qCols 4 h q) a b := rfl
/-- Part 40 of the body. -/
theorem part40 {Q : (FVec F S256x128 .f32) → sProp (MT nD τ sig Unit (Elt F) ℕ UU ℕ)}
    (hk : iprop(Ctx m (accV m) K ∗ Grp c m 3 5 ∗ R) ⊢ Q ((k0_pay134 (qV m c 3 (by decide)) mask3 (kbM.view.readAt (Elt F) (Rect.unit (s := S8x1024x128) ![5, 0, 0] S1x1024x128.size inb_S8x1024x128_S1x1024x128_5_0_0).toLoadRect (kbV m c)) (vbM.view.readAt (Elt F) (Rect.unit (s := S8x1024x128) ![5, 0, 0] S1x1024x128.size inb_S8x1024x128_S1x1024x128_5_0_0).toLoadRect (vbV m c))))) :
    iprop(Ctx m (accV m) K ∗ Grp c m 3 4 ∗ R) ⊢ Wp c (atArgs k0_part40 (qV m c 3 (by decide)) mask3 (k0_pay132 (qV m c 3 (by decide)) (kbM.view.readAt (Elt F) (Rect.unit (s := S8x1024x128) ![4, 0, 0] S1x1024x128.size inb_S8x1024x128_S1x1024x128_4_0_0).toLoadRect (kbV m c))) ((Scalar.ofBits .f32 0x3DB504F3#32))) Q := by
  rw [k0_part40_eq_skeleton]; unfold k0_part40_skel
  simp -zeta only [atArgs, Prog.lift, Prog.bind_op, Prog.bind_ret, Prog.pure_eq_ret]
  refine g_v ?_
  refine g_any fun _ => ?_
  refine g_store 4 (by decide) rfl (head_3_4 _ _ _ (by decide)) ?_
  refine g_k ?_
  refine g_v ?_
  exact ret_step c (hk)

/-- Head 5 of group 3, as its pieces compute it. -/
theorem head_3_5 (q : FVec F S256x1024 .bf16) (a b : Vec F S1x1024x128 .bf16) (h : 5 < 8) :
    k0_pay135 ((k0_pay134 q mask3 a b)) = k0_pay126 mask3 (qCols 5 h q) a b := rfl
/-- Head 6 of group 3, as its pieces compute it. -/
theorem head_3_6 (q : FVec F S256x1024 .bf16) (a b : Vec F S1x1024x128 .bf16) (h : 6 < 8) :
    k0_pay136 q mask3 a b = k0_pay126 mask3 (qCols 6 h q) a b := rfl
/-- Part 41 of the body. -/
theorem part41 {Q : (FVec F S256x1024 .f32) → sProp (MT nD τ sig Unit (Elt F) ℕ UU ℕ)}
    (hk : iprop(Ctx m (accV m) K ∗ Grp c m 3 7 ∗ R) ⊢ Q ((k0_pay137 (qV m c 3 (by decide)) mask3 (kbM.view.readAt (Elt F) (Rect.unit (s := S8x1024x128) ![7, 0, 0] S1x1024x128.size inb_S8x1024x128_S1x1024x128_7_0_0).toLoadRect (kbV m c))))) :
    iprop(Ctx m (accV m) K ∗ Grp c m 3 5 ∗ R) ⊢ Wp c (atArgs k0_part41 (qV m c 3 (by decide)) mask3 ((k0_pay134 (qV m c 3 (by decide)) mask3 (kbM.view.readAt (Elt F) (Rect.unit (s := S8x1024x128) ![5, 0, 0] S1x1024x128.size inb_S8x1024x128_S1x1024x128_5_0_0).toLoadRect (kbV m c)) (vbM.view.readAt (Elt F) (Rect.unit (s := S8x1024x128) ![5, 0, 0] S1x1024x128.size inb_S8x1024x128_S1x1024x128_5_0_0).toLoadRect (vbV m c))))) Q := by
  rw [k0_part41_eq_skeleton]; unfold k0_part41_skel
  simp -zeta only [atArgs, Prog.lift, Prog.bind_op, Prog.bind_ret, Prog.pure_eq_ret]
  refine g_any fun _ => ?_
  refine g_store 5 (by decide) rfl (head_3_5 _ _ _ (by decide)) ?_
  refine g_k ?_
  refine g_v ?_
  refine g_any fun _ => ?_
  refine g_store 6 (by decide) rfl (head_3_6 _ _ _ (by decide)) ?_
  refine g_k ?_
  exact ret_step c (hk)

end Cert.KernelIdeal.Ring

end
-- ==== Proof.KernelIdeal.Send3.lean ====
/-
# The fourth group is sent

The projection of the last group and its reduce-scatter copies.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Head 7 of group 3, as its pieces compute it. -/
theorem head_3_7 (q : FVec F S256x1024 .bf16) (a b : Vec F S1x1024x128 .bf16) (h : 7 < 8) :
    k0_pay138 ((k0_pay137 q mask3 a)) b = k0_pay126 mask3 (qCols 7 h q) a b := rfl
/-- Part 42 of the body. -/
theorem part42 {Q : (BitVec 1) → sProp (MT nD τ sig Unit (Elt F) ℕ UU ℕ)}
    (hk : ∀ (v1398 : BitVec 1), iprop(Ctx m (accV m) K ∗ (RMid (accV m) c 25 ∗ accs (accV m) c 26 32) ∗ Grp c m 3 8 ∗ R) ⊢ Q v1398) :
    iprop(Ctx m (accV m) K ∗ Grp c m 3 7 ∗ RSt (accV m) c 24 ∗ Any c acM3 ∗ R) ⊢ Wp c (atArgs k0_part42 c (idw c) ((k0_pay137 (qV m c 3 (by decide)) mask3 (kbM.view.readAt (Elt F) (Rect.unit (s := S8x1024x128) ![7, 0, 0] S1x1024x128.size inb_S8x1024x128_S1x1024x128_7_0_0).toLoadRect (kbV m c))))) Q := by
  rw [k0_part42_eq_skeleton]; unfold k0_part42_skel
  simp -zeta only [atArgs, Prog.lift, Prog.bind_op, Prog.bind_ret, Prog.pure_eq_ret]
  refine g_v ?_
  refine g_any fun _ => ?_
  refine g_store 7 (by decide) rfl (head_3_7 _ _ _ (by decide)) ?_
  refine g_ctx ?_
  refine g_o ?_
  have hb : accs (accV m) c 24 32 = Pt c acM3 (accV m c 3) := acc_blocks3
  refine acc_step (M := acM3) (w := accV m c 3) (fun f => ?_) hb ?_
  · exact fill_whole (b := cc0_scratch10) zero2 f _
  extract_lets
  refine rs_send 24 (by decide) (by decide) (by unfold k0_cond49; exact condNe_iff c 24 (by decide)) (fun h R' hn hk => ?_) ?_
  · refine rs_op isAcc3 24 (by decide) rfl hn (eq_dv k0_dev56_eq) (sem_at 6 _ rfl _ _) (sem_at 38 _ (k0_off75_eq c) _ _) (k0_off76_eq c) rfl hk
  refine rs_self 24 (by decide) (by unfold k0_cond50; exact condEq_iff c 24 (by decide)) (fun h R' he hk => ?_) ?_
  · refine rs_copy isAcc3 24 (by decide) rfl he rfl (k0_off77_eq c) rfl hk
  refine rs_send 25 (by decide) (by decide) (by unfold k0_cond51; exact condNe_iff c 25 (by decide)) (fun h R' hn hk => ?_) ?_
  · refine rs_op isAcc3 25 (by decide) rfl hn (eq_dv k0_dev57_eq) (sem_at 6 _ rfl _ _) (sem_at 38 _ (k0_off78_eq c) _ _) (k0_off79_eq c) rfl hk
  exact ret_step c (hk _)

/-- Part 43 of the body. -/
theorem part43 {v1398 : BitVec 1} {Q : (BitVec 32) → sProp (MT nD τ sig Unit (Elt F) ℕ UU ℕ)}
    (hk : ∀ (v1426 : BitVec 32), iprop(Ctx m (accV m) K ∗ (RSt (accV m) c 30 ∗ accs (accV m) c 30 32) ∗ R) ⊢ Q v1426) :
    iprop(Ctx m (accV m) K ∗ (RMid (accV m) c 25 ∗ accs (accV m) c 26 32) ∗ R) ⊢ Wp c (atArgs k0_part43 c (idw c) v1398) Q := by
  rw [k0_part43_eq_skeleton]; unfold k0_part43_skel
  simp -zeta only [atArgs, Prog.lift, Prog.bind_op, Prog.bind_ret, Prog.pure_eq_ret]
  extract_lets
  refine rs_self 25 (by decide) (by unfold k0_cond52; exact condEq_iff c 25 (by decide)) (fun h R' he hk => ?_) ?_
  · refine rs_copy isAcc3 25 (by decide) rfl he rfl (k0_off80_eq c) rfl hk
  refine rs_send 26 (by decide) (by decide) (by unfold k0_cond53; exact condNe_iff c 26 (by decide)) (fun h R' hn hk => ?_) ?_
  · refine rs_op isAcc3 26 (by decide) rfl hn (eq_dv k0_dev58_eq) (sem_at 6 _ rfl _ _) (sem_at 38 _ (k0_off81_eq c) _ _) (k0_off82_eq c) rfl hk
  refine rs_self 26 (by decide) (by unfold k0_cond54; exact condEq_iff c 26 (by decide)) (fun h R' he hk => ?_) ?_
  · refine rs_copy isAcc3 26 (by decide) rfl he rfl (k0_off83_eq c) rfl hk
  refine rs_send 27 (by decide) (by decide) (by unfold k0_cond55; exact condNe_iff c 27 (by decide)) (fun h R' hn hk => ?_) ?_
  · refine rs_op isAcc3 27 (by decide) rfl hn (eq_dv k0_dev59_eq) (sem_at 6 _ rfl _ _) (sem_at 38 _ (k0_off84_eq c) _ _) (k0_off85_eq c) rfl hk
  refine rs_self 27 (by decide) (by unfold k0_cond56; exact condEq_iff c 27 (by decide)) (fun h R' he hk => ?_) ?_
  · refine rs_copy isAcc3 27 (by decide) rfl he rfl (k0_off86_eq c) rfl hk
  refine rs_send 28 (by decide) (by decide) (by unfold k0_cond57; exact condNe_iff c 28 (by decide)) (fun h R' hn hk => ?_) ?_
  · refine rs_op isAcc3 28 (by decide) rfl hn (eq_dv k0_dev60_eq) (sem_at 6 _ rfl _ _) (sem_at 38 _ (k0_off87_eq c) _ _) (k0_off88_eq c) rfl hk
  refine rs_self 28 (by decide) (by unfold k0_cond58; exact condEq_iff c 28 (by decide)) (fun h R' he hk => ?_) ?_
  · refine rs_copy isAcc3 28 (by decide) rfl he rfl (k0_off89_eq c) rfl hk
  refine rs_send 29 (by decide) (by decide) (by unfold k0_cond59; exact condNe_iff c 29 (by decide)) (fun h R' hn hk => ?_) ?_
  · refine rs_op isAcc3 29 (by decide) rfl hn (eq_dv k0_dev61_eq) (sem_at 6 _ rfl _ _) (sem_at 38 _ (k0_off90_eq c) _ _) (k0_off91_eq c) rfl hk
  refine rs_self 29 (by decide) (by unfold k0_cond60; exact condEq_iff c 29 (by decide)) (fun h R' he hk => ?_) ?_
  · refine rs_copy isAcc3 29 (by decide) rfl he rfl (k0_off92_eq c) rfl hk
  exact ret_step c (hk _)

/-- Part 44 of the body. -/
theorem part44 {v1426 : BitVec 32} {Q : (Σ' (v1447 : BitVec 32), BitVec 32) → sProp (MT nD τ sig Unit (Elt F) ℕ UU ℕ)}
    (hk : iprop(Ctx m (accV m) K ∗ Waits c (Oag c 1) (rvTodo (accV m) c) (rvDone (accV m) c) 0 3 ∗ (bigSep (Finset.Ico 0 32) (sdTodo (accV m) c) ∗ Grp c m 3 8) ∗ R) ⊢ Q ⟨((Scalar.extui (Scalar.cmpi .ne (idw c) 3#32))), 0#32⟩) :
    iprop(Ctx m (accV m) K ∗ (RSt (accV m) c 30 ∗ accs (accV m) c 30 32) ∗ Grp c m 3 8 ∗ (RecvTok c ∗ SendPos c) ∗ R) ⊢ Wp c (atArgs k0_part44 c (idw c) v1426) Q := by
  rw [k0_part44_eq_skeleton]; unfold k0_part44_skel
  simp -zeta only [atArgs, Prog.lift, Prog.bind_op, Prog.bind_ret, Prog.pure_eq_ret]
  extract_lets
  refine rs_send 30 (by decide) (by decide) (by unfold k0_cond61; exact condNe_iff c 30 (by decide)) (fun h R' hn hk => ?_) ?_
  · refine rs_op isAcc3 30 (by decide) rfl hn (eq_dv k0_dev62_eq) (sem_at 6 _ rfl _ _) (sem_at 38 _ (k0_off93_eq c) _ _) (k0_off94_eq c) rfl hk
  refine rs_self 30 (by decide) (by unfold k0_cond62; exact condEq_iff c 30 (by decide)) (fun h R' he hk => ?_) ?_
  · refine rs_copy isAcc3 30 (by decide) rfl he rfl (k0_off95_eq c) rfl hk
  refine rs_send 31 (by decide) (by decide) (by unfold k0_cond63; exact condNe_iff c 31 (by decide)) (fun h R' hn hk => ?_) ?_
  · refine rs_op isAcc3 31 (by decide) rfl hn (eq_dv k0_dev63_eq) (sem_at 6 _ rfl _ _) (sem_at 38 _ (k0_off96_eq c) _ _) (k0_off97_eq c) rfl hk
  refine rs_self 31 (by decide) (by unfold k0_cond64; exact condEq_iff c 31 (by decide)) (fun h R' he hk => ?_) ?_
  · refine rs_copy isAcc3 31 (by decide) rfl he rfl (k0_off98_eq c) rfl hk
  refine acc_none ?_
  refine to_recv ?_
  refine rv_if 0 (by decide) (condNe_iff c 0 (by decide)) (fun h R' hn hk => ?_) ?_
  · exact rv_wait 0 (by decide) hn (sem_at 38 _ rfl _ _) rfl hk
  refine rv_if 1 (by decide) (condNe_iff c 1 (by decide)) (fun h R' hn hk => ?_) ?_
  · exact rv_wait 1 (by decide) hn (sem_at 38 _ rfl _ _) rfl hk
  refine rv_if 2 (by decide) (condNe_iff c 2 (by decide)) (fun h R' hn hk => ?_) ?_
  · exact rv_wait 2 (by decide) hn (sem_at 38 _ rfl _ _) rfl hk
  exact ret_step c (hk)

end Cert.KernelIdeal.Ring

end
-- ==== Proof.KernelIdeal.Receive.lean ====
/-
# The sum of the received blocks

The waits for the blocks of the reduce-scatter, and their sum.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Part 45 of the body. -/
theorem part45 {Q : (Σ' (v1465 : BitVec 32), BitVec 32) → sProp (MT nD τ sig Unit (Elt F) ℕ UU ℕ)}
    (hk : iprop(Ctx m (accV m) K ∗ Waits c (Oag c 1) (rvTodo (accV m) c) (rvDone (accV m) c) 0 9 ∗ R) ⊢ Q ⟨((Scalar.extui (Scalar.cmpi .ne (idw c) 9#32))), 0#32⟩) :
    iprop(Ctx m (accV m) K ∗ Waits c (Oag c 1) (rvTodo (accV m) c) (rvDone (accV m) c) 0 3 ∗ R) ⊢ Wp c (atArgs k0_part45 (idw c) ((Scalar.extui (Scalar.cmpi .ne (idw c) 3#32))) (0#32)) Q := by
  rw [k0_part45_eq_skeleton]; unfold k0_part45_skel
  simp -zeta only [atArgs, Prog.lift, Prog.bind_op, Prog.bind_ret, Prog.pure_eq_ret]
  extract_lets
  refine rv_if 3 (by decide) (condNe_iff c 3 (by decide)) (fun h R' hn hk => ?_) ?_
  · exact rv_wait 3 (by decide) hn (sem_at 38 _ rfl _ _) rfl hk
  refine rv_if 4 (by decide) (condNe_iff c 4 (by decide)) (fun h R' hn hk => ?_) ?_
  · exact rv_wait 4 (by decide) hn (sem_at 38 _ rfl _ _) rfl hk
  refine rv_if 5 (by decide) (condNe_iff c 5 (by decide)) (fun h R' hn hk => ?_) ?_
  · exact rv_wait 5 (by decide) hn (sem_at 38 _ rfl _ _) rfl hk
  refine rv_if 6 (by decide) (condNe_iff c 6 (by decide)) (fun h R' hn hk => ?_) ?_
  · exact rv_wait 6 (by decide) hn (sem_at 38 _ rfl _ _) rfl hk
  refine rv_if 7 (by decide) (condNe_iff c 7 (by decide)) (fun h R' hn hk => ?_) ?_
  · exact rv_wait 7 (by decide) hn (sem_at 38 _ rfl _ _) rfl hk
  refine rv_if 8 (by decide) (condNe_iff c 8 (by decide)) (fun h R' hn hk => ?_) ?_
  · exact rv_wait 8 (by decide) hn (sem_at 38 _ rfl _ _) rfl hk
  exact ret_step c (hk)

/-- Part 46 of the body. -/
theorem part46 {Q : (Σ' (v1483 : BitVec 32), BitVec 32) → sProp (MT nD τ sig Unit (Elt F) ℕ UU ℕ)}
    (hk : iprop(Ctx m (accV m) K ∗ Waits c (Oag c 1) (rvTodo (accV m) c) (rvDone (accV m) c) 0 15 ∗ R) ⊢ Q ⟨((Scalar.extui (Scalar.cmpi .ne (idw c) 15#32))), 0#32⟩) :
    iprop(Ctx m (accV m) K ∗ Waits c (Oag c 1) (rvTodo (accV m) c) (rvDone (accV m) c) 0 9 ∗ R) ⊢ Wp c (atArgs k0_part46 (idw c) ((Scalar.extui (Scalar.cmpi .ne (idw c) 9#32))) (0#32)) Q := by
  rw [k0_part46_eq_skeleton]; unfold k0_part46_skel
  simp -zeta only [atArgs, Prog.lift, Prog.bind_op, Prog.bind_ret, Prog.pure_eq_ret]
  extract_lets
  refine rv_if 9 (by decide) (condNe_iff c 9 (by decide)) (fun h R' hn hk => ?_) ?_
  · exact rv_wait 9 (by decide) hn (sem_at 38 _ rfl _ _) rfl hk
  refine rv_if 10 (by decide) (condNe_iff c 10 (by decide)) (fun h R' hn hk => ?_) ?_
  · exact rv_wait 10 (by decide) hn (sem_at 38 _ rfl _ _) rfl hk
  refine rv_if 11 (by decide) (condNe_iff c 11 (by decide)) (fun h R' hn hk => ?_) ?_
  · exact rv_wait 11 (by decide) hn (sem_at 38 _ rfl _ _) rfl hk
  refine rv_if 12 (by decide) (condNe_iff c 12 (by decide)) (fun h R' hn hk => ?_) ?_
  · exact rv_wait 12 (by decide) hn (sem_at 38 _ rfl _ _) rfl hk
  refine rv_if 13 (by decide) (condNe_iff c 13 (by decide)) (fun h R' hn hk => ?_) ?_
  · exact rv_wait 13 (by decide) hn (sem_at 38 _ rfl _ _) rfl hk
  refine rv_if 14 (by decide) (condNe_iff c 14 (by decide)) (fun h R' hn hk => ?_) ?_
  · exact rv_wait 14 (by decide) hn (sem_at 38 _ rfl _ _) rfl hk
  exact ret_step c (hk)

/-- Part 47 of the body. -/
theorem part47 {Q : (Σ' (v1501 : BitVec 32), BitVec 32) → sProp (MT nD τ sig Unit (Elt F) ℕ UU ℕ)}
    (hk : iprop(Ctx m (accV m) K ∗ Waits c (Oag c 1) (rvTodo (accV m) c) (rvDone (accV m) c) 0 21 ∗ R) ⊢ Q ⟨((Scalar.extui (Scalar.cmpi .ne (idw c) 21#32))), 0#32⟩) :
    iprop(Ctx m (accV m) K ∗ Waits c (Oag c 1) (rvTodo (accV m) c) (rvDone (accV m) c) 0 15 ∗ R) ⊢ Wp c (atArgs k0_part47 (idw c) ((Scalar.extui (Scalar.cmpi .ne (idw c) 15#32))) (0#32)) Q := by
  rw [k0_part47_eq_skeleton]; unfold k0_part47_skel
  simp -zeta only [atArgs, Prog.lift, Prog.bind_op, Prog.bind_ret, Prog.pure_eq_ret]
  extract_lets
  refine rv_if 15 (by decide) (condNe_iff c 15 (by decide)) (fun h R' hn hk => ?_) ?_
  · exact rv_wait 15 (by decide) hn (sem_at 38 _ rfl _ _) rfl hk
  refine rv_if 16 (by decide) (condNe_iff c 16 (by decide)) (fun h R' hn hk => ?_) ?_
  · exact rv_wait 16 (by decide) hn (sem_at 38 _ rfl _ _) rfl hk
  refine rv_if 17 (by decide) (condNe_iff c 17 (by decide)) (fun h R' hn hk => ?_) ?_
  · exact rv_wait 17 (by decide) hn (sem_at 38 _ rfl _ _) rfl hk
  refine rv_if 18 (by decide) (condNe_iff c 18 (by decide)) (fun h R' hn hk => ?_) ?_
  · exact rv_wait 18 (by decide) hn (sem_at 38 _ rfl _ _) rfl hk
  refine rv_if 19 (by decide) (condNe_iff c 19 (by decide)) (fun h R' hn hk => ?_) ?_
  · exact rv_wait 19 (by decide) hn (sem_at 38 _ rfl _ _) rfl hk
  refine rv_if 20 (by decide) (condNe_iff c 20 (by decide)) (fun h R' hn hk => ?_) ?_
  · exact rv_wait 20 (by decide) hn (sem_at 38 _ rfl _ _) rfl hk
  exact ret_step c (hk)

/-- Part 48 of the body. -/
theorem part48 {Q : (Σ' (v1519 : BitVec 32), BitVec 32) → sProp (MT nD τ sig Unit (Elt F) ℕ UU ℕ)}
    (hk : iprop(Ctx m (accV m) K ∗ Waits c (Oag c 1) (rvTodo (accV m) c) (rvDone (accV m) c) 0 27 ∗ R) ⊢ Q ⟨((Scalar.extui (Scalar.cmpi .ne (idw c) 27#32))), 0#32⟩) :
    iprop(Ctx m (accV m) K ∗ Waits c (Oag c 1) (rvTodo (accV m) c) (rvDone (accV m) c) 0 21 ∗ R) ⊢ Wp c (atArgs k0_part48 (idw c) ((Scalar.extui (Scalar.cmpi .ne (idw c) 21#32))) (0#32)) Q := by
  rw [k0_part48_eq_skeleton]; unfold k0_part48_skel
  simp -zeta only [atArgs, Prog.lift, Prog.bind_op, Prog.bind_ret, Prog.pure_eq_ret]
  extract_lets
  refine rv_if 21 (by decide) (condNe_iff c 21 (by decide)) (fun h R' hn hk => ?_) ?_
  · exact rv_wait 21 (by decide) hn (sem_at 38 _ rfl _ _) rfl hk
  refine rv_if 22 (by decide) (condNe_iff c 22 (by decide)) (fun h R' hn hk => ?_) ?_
  · exact rv_wait 22 (by decide) hn (sem_at 38 _ rfl _ _) rfl hk
  refine rv_if 23 (by decide) (condNe_iff c 23 (by decide)) (fun h R' hn hk => ?_) ?_
  · exact rv_wait 23 (by decide) hn (sem_at 38 _ rfl _ _) rfl hk
  refine rv_if 24 (by decide) (condNe_iff c 24 (by decide)) (fun h R' hn hk => ?_) ?_
  · exact rv_wait 24 (by decide) hn (sem_at 38 _ rfl _ _) rfl hk
  refine rv_if 25 (by decide) (condNe_iff c 25 (by decide)) (fun h R' hn hk => ?_) ?_
  · exact rv_wait 25 (by decide) hn (sem_at 38 _ rfl _ _) rfl hk
  refine rv_if 26 (by decide) (condNe_iff c 26 (by decide)) (fun h R' hn hk => ?_) ?_
  · exact rv_wait 26 (by decide) hn (sem_at 38 _ rfl _ _) rfl hk
  exact ret_step c (hk)

/-- Part 49 of the body. -/
theorem part49 {Q : (BitVec 32) → sProp (MT nD τ sig Unit (Elt F) ℕ UU ℕ)}
    (hk : ∀ (v1541 : BitVec 32), iprop(Ctx m (accV m) K ∗ Ow c (Oag c 1) ∗ rowsPt c c fullShare (outV (accV m)) ∗ (Pt c (Memref.whole cc0_scratch12 : Memref sig .tc _ _ _) (rsV (accV m) c) ∗ RvSems c) ∗ R) ⊢ Q v1541) :
    iprop(Ctx m (accV m) K ∗ Waits c (Oag c 1) (rvTodo (accV m) c) (rvDone (accV m) c) 0 27 ∗ MyRows c ∗ R) ⊢ Wp c (atArgs k0_part49 c (idw c) ((Scalar.extui (Scalar.cmpi .ne (idw c) 27#32))) (0#32)) Q := by
  rw [k0_part49_eq_skeleton]; unfold k0_part49_skel
  simp -zeta only [atArgs, Prog.lift, Prog.bind_op, Prog.bind_ret, Prog.pure_eq_ret]
  extract_lets
  refine rv_if 27 (by decide) (condNe_iff c 27 (by decide)) (fun h R' hn hk => ?_) ?_
  · exact rv_wait 27 (by decide) hn (sem_at 38 _ rfl _ _) rfl hk
  refine rv_if 28 (by decide) (condNe_iff c 28 (by decide)) (fun h R' hn hk => ?_) ?_
  · exact rv_wait 28 (by decide) hn (sem_at 38 _ rfl _ _) rfl hk
  refine rv_if 29 (by decide) (condNe_iff c 29 (by decide)) (fun h R' hn hk => ?_) ?_
  · exact rv_wait 29 (by decide) hn (sem_at 38 _ rfl _ _) rfl hk
  refine rv_if 30 (by decide) (condNe_iff c 30 (by decide)) (fun h R' hn hk => ?_) ?_
  · exact rv_wait 30 (by decide) hn (sem_at 38 _ rfl _ _) rfl hk
  refine rv_if 31 (by decide) (condNe_iff c 31 (by decide)) (fun h R' hn hk => ?_) ?_
  · exact rv_wait 31 (by decide) hn (sem_at 38 _ rfl _ _) rfl hk
  refine swap ?_
  refine swap ?_
  refine sum_step (k0_off99_eq c) ?_
  exact ret_step c (hk _)

end Cert.KernelIdeal.Ring

end
-- ==== Proof.KernelIdeal.Broadcast.lean ====
/-
# The broadcasts

Each device sends its rows of the result to the others.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Part 50 of the body. -/
theorem part50 {v1541 : BitVec 32} {Q : PUnit → sProp (MT nD τ sig Unit (Elt F) ℕ UU ℕ)}
    (hk : iprop(Ctx m (accV m) K ∗ AgSt (accV m) c 3 ∗ R) ⊢ Q ⟨⟩) :
    iprop(Ctx m (accV m) K ∗ AgSt (accV m) c 1 ∗ R) ⊢ Wp c (atArgs k0_part50 c (idw c) v1541) Q := by
  rw [k0_part50_eq_skeleton]; unfold k0_part50_skel
  simp -zeta only [atArgs, Prog.lift, Prog.bind_op, Prog.bind_ret, Prog.pure_eq_ret]
  refine ag_send 1 (by decide) (by decide) (eq_dv (k0_dev64_eq c)) (sem_at 70 _ rfl _ _) (sem_at 102 _ rfl _ _) (k0_off100_eq c) ?_
  refine ag_send 2 (by decide) (by decide) (eq_dv (k0_dev65_eq c)) (sem_at 70 _ rfl _ _) (sem_at 102 _ rfl _ _) (k0_off100_eq c) ?_
  exact ret_step c (hk)

/-- Part 51 of the body. -/
theorem part51 {Q : (BitVec 32) → sProp (MT nD τ sig Unit (Elt F) ℕ UU ℕ)}
    (hk : ∀ (v1601 : BitVec 32), iprop(Ctx m (accV m) K ∗ AgSt (accV m) c 6 ∗ R) ⊢ Q v1601) :
    iprop(Ctx m (accV m) K ∗ AgSt (accV m) c 3 ∗ R) ⊢ Wp c (atArgs k0_part51 c (idw c)) Q := by
  rw [k0_part51_eq_skeleton]; unfold k0_part51_skel
  simp -zeta only [atArgs, Prog.lift, Prog.bind_op, Prog.bind_ret, Prog.pure_eq_ret]
  refine ag_send 3 (by decide) (by decide) (eq_dv (k0_dev66_eq c)) (sem_at 70 _ rfl _ _) (sem_at 102 _ rfl _ _) (k0_off100_eq c) ?_
  refine ag_send 4 (by decide) (by decide) (eq_dv (k0_dev67_eq c)) (sem_at 70 _ rfl _ _) (sem_at 102 _ rfl _ _) (k0_off100_eq c) ?_
  refine ag_send 5 (by decide) (by decide) (eq_dv (k0_dev68_eq c)) (sem_at 70 _ rfl _ _) (sem_at 102 _ rfl _ _) (k0_off100_eq c) ?_
  exact ret_step c (hk _)

/-- Part 52 of the body. -/
theorem part52 {v1601 : BitVec 32} {Q : PUnit → sProp (MT nD τ sig Unit (Elt F) ℕ UU ℕ)}
    (hk : iprop(Ctx m (accV m) K ∗ AgSt (accV m) c 9 ∗ R) ⊢ Q ⟨⟩) :
    iprop(Ctx m (accV m) K ∗ AgSt (accV m) c 6 ∗ R) ⊢ Wp c (atArgs k0_part52 c (idw c) v1601) Q := by
  rw [k0_part52_eq_skeleton]; unfold k0_part52_skel
  simp -zeta only [atArgs, Prog.lift, Prog.bind_op, Prog.bind_ret, Prog.pure_eq_ret]
  refine ag_send 6 (by decide) (by decide) (eq_dv (k0_dev69_eq c)) (sem_at 70 _ rfl _ _) (sem_at 102 _ rfl _ _) (k0_off100_eq c) ?_
  refine ag_send 7 (by decide) (by decide) (eq_dv (k0_dev70_eq c)) (sem_at 70 _ rfl _ _) (sem_at 102 _ rfl _ _) (k0_off100_eq c) ?_
  refine ag_send 8 (by decide) (by decide) (eq_dv (k0_dev71_eq c)) (sem_at 70 _ rfl _ _) (sem_at 102 _ rfl _ _) (k0_off100_eq c) ?_
  exact ret_step c (hk)

/-- Part 53 of the body. -/
theorem part53 {Q : PUnit → sProp (MT nD τ sig Unit (Elt F) ℕ UU ℕ)}
    (hk : iprop(Ctx m (accV m) K ∗ AgSt (accV m) c 11 ∗ R) ⊢ Q ⟨⟩) :
    iprop(Ctx m (accV m) K ∗ AgSt (accV m) c 9 ∗ R) ⊢ Wp c (atArgs k0_part53 c (idw c)) Q := by
  rw [k0_part53_eq_skeleton]; unfold k0_part53_skel
  simp -zeta only [atArgs, Prog.lift, Prog.bind_op, Prog.bind_ret, Prog.pure_eq_ret]
  refine ag_send 9 (by decide) (by decide) (eq_dv (k0_dev72_eq c)) (sem_at 70 _ rfl _ _) (sem_at 102 _ rfl _ _) (k0_off100_eq c) ?_
  refine ag_send 10 (by decide) (by decide) (eq_dv (k0_dev73_eq c)) (sem_at 70 _ rfl _ _) (sem_at 102 _ rfl _ _) (k0_off100_eq c) ?_
  exact ret_step c (hk)

/-- Part 54 of the body. -/
theorem part54 {Q : (Σ' (v1697 : BitVec 32), BitVec 32) → sProp (MT nD τ sig Unit (Elt F) ℕ UU ℕ)}
    (hk : ∀ (v1697 : BitVec 32) (c32_i32_1284 : BitVec 32), iprop(Ctx m (accV m) K ∗ AgSt (accV m) c 14 ∗ R) ⊢ Q ⟨v1697, c32_i32_1284⟩) :
    iprop(Ctx m (accV m) K ∗ AgSt (accV m) c 11 ∗ R) ⊢ Wp c (atArgs k0_part54 c (idw c)) Q := by
  rw [k0_part54_eq_skeleton]; unfold k0_part54_skel
  simp -zeta only [atArgs, Prog.lift, Prog.bind_op, Prog.bind_ret, Prog.pure_eq_ret]
  refine ag_send 11 (by decide) (by decide) (eq_dv (k0_dev74_eq c)) (sem_at 70 _ rfl _ _) (sem_at 102 _ rfl _ _) (k0_off100_eq c) ?_
  refine ag_send 12 (by decide) (by decide) (eq_dv (k0_dev75_eq c)) (sem_at 70 _ rfl _ _) (sem_at 102 _ rfl _ _) (k0_off100_eq c) ?_
  refine ag_send 13 (by decide) (by decide) (eq_dv (k0_dev76_eq c)) (sem_at 70 _ rfl _ _) (sem_at 102 _ rfl _ _) (k0_off100_eq c) ?_
  exact ret_step c (hk _ _)

/-- Part 55 of the body. -/
theorem part55 {v1697 : BitVec 32} {c32_i32_1284 : BitVec 32} {Q : PUnit → sProp (MT nD τ sig Unit (Elt F) ℕ UU ℕ)}
    (hk : iprop(Ctx m (accV m) K ∗ AgSt (accV m) c 16 ∗ R) ⊢ Q ⟨⟩) :
    iprop(Ctx m (accV m) K ∗ AgSt (accV m) c 14 ∗ R) ⊢ Wp c (atArgs k0_part55 c (idw c) v1697 c32_i32_1284) Q := by
  rw [k0_part55_eq_skeleton]; unfold k0_part55_skel
  simp -zeta only [atArgs, Prog.lift, Prog.bind_op, Prog.bind_ret, Prog.pure_eq_ret]
  refine ag_send 14 (by decide) (by decide) (eq_dv (k0_dev77_eq c)) (sem_at 70 _ rfl _ _) (sem_at 102 _ rfl _ _) (k0_off100_eq c) ?_
  refine ag_send 15 (by decide) (by decide) (eq_dv (k0_dev78_eq c)) (sem_at 70 _ rfl _ _) (sem_at 102 _ rfl _ _) (k0_off100_eq c) ?_
  exact ret_step c (hk)

/-- Part 56 of the body. -/
theorem part56 {Q : (BitVec 32) → sProp (MT nD τ sig Unit (Elt F) ℕ UU ℕ)}
    (hk : ∀ (v1757 : BitVec 32), iprop(Ctx m (accV m) K ∗ AgSt (accV m) c 19 ∗ R) ⊢ Q v1757) :
    iprop(Ctx m (accV m) K ∗ AgSt (accV m) c 16 ∗ R) ⊢ Wp c (atArgs k0_part56 c (idw c)) Q := by
  rw [k0_part56_eq_skeleton]; unfold k0_part56_skel
  simp -zeta only [atArgs, Prog.lift, Prog.bind_op, Prog.bind_ret, Prog.pure_eq_ret]
  refine ag_send 16 (by decide) (by decide) (eq_dv (k0_dev79_eq c)) (sem_at 70 _ rfl _ _) (sem_at 102 _ rfl _ _) (k0_off100_eq c) ?_
  refine ag_send 17 (by decide) (by decide) (eq_dv (k0_dev80_eq c)) (sem_at 70 _ rfl _ _) (sem_at 102 _ rfl _ _) (k0_off100_eq c) ?_
  refine ag_send 18 (by decide) (by decide) (eq_dv (k0_dev81_eq c)) (sem_at 70 _ rfl _ _) (sem_at 102 _ rfl _ _) (k0_off100_eq c) ?_
  exact ret_step c (hk _)

/-- Part 57 of the body. -/
theorem part57 {v1757 : BitVec 32} {Q : (BitVec 32) → sProp (MT nD τ sig Unit (Elt F) ℕ UU ℕ)}
    (hk : ∀ (c22_i32_1362 : BitVec 32), iprop(Ctx m (accV m) K ∗ AgSt (accV m) c 22 ∗ R) ⊢ Q c22_i32_1362) :
    iprop(Ctx m (accV m) K ∗ AgSt (accV m) c 19 ∗ R) ⊢ Wp c (atArgs k0_part57 c (idw c) v1757) Q := by
  rw [k0_part57_eq_skeleton]; unfold k0_part57_skel
  simp -zeta only [atArgs, Prog.lift, Prog.bind_op, Prog.bind_ret, Prog.pure_eq_ret]
  refine ag_send 19 (by decide) (by decide) (eq_dv (k0_dev82_eq c)) (sem_at 70 _ rfl _ _) (sem_at 102 _ rfl _ _) (k0_off100_eq c) ?_
  refine ag_send 20 (by decide) (by decide) (eq_dv (k0_dev83_eq c)) (sem_at 70 _ rfl _ _) (sem_at 102 _ rfl _ _) (k0_off100_eq c) ?_
  refine ag_send 21 (by decide) (by decide) (eq_dv (k0_dev84_eq c)) (sem_at 70 _ rfl _ _) (sem_at 102 _ rfl _ _) (k0_off100_eq c) ?_
  exact ret_step c (hk _)

/-- Part 58 of the body. -/
theorem part58 {c22_i32_1362 : BitVec 32} {Q : PUnit → sProp (MT nD τ sig Unit (Elt F) ℕ UU ℕ)}
    (hk : iprop(Ctx m (accV m) K ∗ AgSt (accV m) c 24 ∗ R) ⊢ Q ⟨⟩) :
    iprop(Ctx m (accV m) K ∗ AgSt (accV m) c 22 ∗ R) ⊢ Wp c (atArgs k0_part58 c (idw c) c22_i32_1362) Q := by
  rw [k0_part58_eq_skeleton]; unfold k0_part58_skel
  simp -zeta only [atArgs, Prog.lift, Prog.bind_op, Prog.bind_ret, Prog.pure_eq_ret]
  refine ag_send 22 (by decide) (by decide) (eq_dv (k0_dev85_eq c)) (sem_at 70 _ rfl _ _) (sem_at 102 _ rfl _ _) (k0_off100_eq c) ?_
  refine ag_send 23 (by decide) (by decide) (eq_dv (k0_dev86_eq c)) (sem_at 70 _ rfl _ _) (sem_at 102 _ rfl _ _) (k0_off100_eq c) ?_
  exact ret_step c (hk)

/-- Part 59 of the body. -/
theorem part59 {Q : (BitVec 32) → sProp (MT nD τ sig Unit (Elt F) ℕ UU ℕ)}
    (hk : ∀ (v1853 : BitVec 32), iprop(Ctx m (accV m) K ∗ AgSt (accV m) c 27 ∗ R) ⊢ Q v1853) :
    iprop(Ctx m (accV m) K ∗ AgSt (accV m) c 24 ∗ R) ⊢ Wp c (atArgs k0_part59 c (idw c)) Q := by
  rw [k0_part59_eq_skeleton]; unfold k0_part59_skel
  simp -zeta only [atArgs, Prog.lift, Prog.bind_op, Prog.bind_ret, Prog.pure_eq_ret]
  refine ag_send 24 (by decide) (by decide) (eq_dv (k0_dev87_eq c)) (sem_at 70 _ rfl _ _) (sem_at 102 _ rfl _ _) (k0_off100_eq c) ?_
  refine ag_send 25 (by decide) (by decide) (eq_dv (k0_dev88_eq c)) (sem_at 70 _ rfl _ _) (sem_at 102 _ rfl _ _) (k0_off100_eq c) ?_
  refine ag_send 26 (by decide) (by decide) (eq_dv (k0_dev89_eq c)) (sem_at 70 _ rfl _ _) (sem_at 102 _ rfl _ _) (k0_off100_eq c) ?_
  exact ret_step c (hk _)

/-- Part 60 of the body. -/
theorem part60 {v1853 : BitVec 32} {Q : PUnit → sProp (MT nD τ sig Unit (Elt F) ℕ UU ℕ)}
    (hk : iprop(Ctx m (accV m) K ∗ AgSt (accV m) c 29 ∗ R) ⊢ Q ⟨⟩) :
    iprop(Ctx m (accV m) K ∗ AgSt (accV m) c 27 ∗ R) ⊢ Wp c (atArgs k0_part60 c (idw c) v1853) Q := by
  rw [k0_part60_eq_skeleton]; unfold k0_part60_skel
  simp -zeta only [atArgs, Prog.lift, Prog.bind_op, Prog.bind_ret, Prog.pure_eq_ret]
  refine ag_send 27 (by decide) (by decide) (eq_dv (k0_dev90_eq c)) (sem_at 70 _ rfl _ _) (sem_at 102 _ rfl _ _) (k0_off100_eq c) ?_
  refine ag_send 28 (by decide) (by decide) (eq_dv (k0_dev91_eq c)) (sem_at 70 _ rfl _ _) (sem_at 102 _ rfl _ _) (k0_off100_eq c) ?_
  exact ret_step c (hk)

/-- Part 61 of the body. -/
theorem part61 {Q : (BitVec 32) → sProp (MT nD τ sig Unit (Elt F) ℕ UU ℕ)}
    (hk : ∀ (c1_i32_1468 : BitVec 32), iprop(Ctx m (accV m) K ∗ AgSt (accV m) c 32 ∗ R) ⊢ Q c1_i32_1468) :
    iprop(Ctx m (accV m) K ∗ AgSt (accV m) c 29 ∗ R) ⊢ Wp c (atArgs k0_part61 c (idw c)) Q := by
  rw [k0_part61_eq_skeleton]; unfold k0_part61_skel
  simp -zeta only [atArgs, Prog.lift, Prog.bind_op, Prog.bind_ret, Prog.pure_eq_ret]
  refine ag_send 29 (by decide) (by decide) (eq_dv (k0_dev92_eq c)) (sem_at 70 _ rfl _ _) (sem_at 102 _ rfl _ _) (k0_off100_eq c) ?_
  refine ag_send 30 (by decide) (by decide) (eq_dv (k0_dev93_eq c)) (sem_at 70 _ rfl _ _) (sem_at 102 _ rfl _ _) (k0_off100_eq c) ?_
  refine ag_send 31 (by decide) (by decide) (eq_dv (k0_dev94_eq c)) (sem_at 70 _ rfl _ _) (sem_at 102 _ rfl _ _) (k0_off100_eq c) ?_
  exact ret_step c (hk _)

end Cert.KernelIdeal.Ring

end
-- ==== Proof.KernelIdeal.Gather.lean ====
/-
# The waits for the rows

The waits for the rows of the other devices.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Part 62 of the body. -/
theorem part62 {c1_i32_1468 : BitVec 32} {Q : PUnit → sProp (MT nD τ sig Unit (Elt F) ℕ UU ℕ)}
    (hk : iprop(Ctx m (accV m) K ∗ Waits c 0 (arTodo c) (arDone (accV m) c) 1 4 ∗ R) ⊢ Q ⟨⟩) :
    iprop(Ctx m (accV m) K ∗ Waits c 0 (arTodo c) (arDone (accV m) c) 1 1 ∗ R) ⊢ Wp c (atArgs k0_part62 c (idw c) c1_i32_1468) Q := by
  rw [k0_part62_eq_skeleton]; unfold k0_part62_skel
  simp -zeta only [atArgs, Prog.lift, Prog.bind_op, Prog.bind_ret, Prog.pure_eq_ret]
  refine ar_wait 1 (by decide) (by decide) (sem_at 102 _ rfl _ _) rfl ?_
  refine ar_wait 2 (by decide) (by decide) (sem_at 102 _ rfl _ _) rfl ?_
  refine ar_wait 3 (by decide) (by decide) (sem_at 102 _ rfl _ _) rfl ?_
  exact ret_step c (hk)

/-- Part 63 of the body. -/
theorem part63 {Q : (Σ' (v1973 : BitVec 32), BitVec 32) → sProp (MT nD τ sig Unit (Elt F) ℕ UU ℕ)}
    (hk : ∀ (v1973 : BitVec 32) (c32_i32_1524 : BitVec 32), iprop(Ctx m (accV m) K ∗ Waits c 0 (arTodo c) (arDone (accV m) c) 1 7 ∗ R) ⊢ Q ⟨v1973, c32_i32_1524⟩) :
    iprop(Ctx m (accV m) K ∗ Waits c 0 (arTodo c) (arDone (accV m) c) 1 4 ∗ R) ⊢ Wp c (atArgs k0_part63 c (idw c)) Q := by
  rw [k0_part63_eq_skeleton]; unfold k0_part63_skel
  simp -zeta only [atArgs, Prog.lift, Prog.bind_op, Prog.bind_ret, Prog.pure_eq_ret]
  refine ar_wait 4 (by decide) (by decide) (sem_at 102 _ rfl _ _) rfl ?_
  refine ar_wait 5 (by decide) (by decide) (sem_at 102 _ rfl _ _) rfl ?_
  refine ar_wait 6 (by decide) (by decide) (sem_at 102 _ rfl _ _) rfl ?_
  exact ret_step c (hk _ _)

/-- Part 64 of the body. -/
theorem part64 {v1973 : BitVec 32} {c32_i32_1524 : BitVec 32} {Q : (BitVec 32) → sProp (MT nD τ sig Unit (Elt F) ℕ UU ℕ)}
    (hk : ∀ (v2002 : BitVec 32), iprop(Ctx m (accV m) K ∗ Waits c 0 (arTodo c) (arDone (accV m) c) 1 10 ∗ R) ⊢ Q v2002) :
    iprop(Ctx m (accV m) K ∗ Waits c 0 (arTodo c) (arDone (accV m) c) 1 7 ∗ R) ⊢ Wp c (atArgs k0_part64 c (idw c) v1973 c32_i32_1524) Q := by
  rw [k0_part64_eq_skeleton]; unfold k0_part64_skel
  simp -zeta only [atArgs, Prog.lift, Prog.bind_op, Prog.bind_ret, Prog.pure_eq_ret]
  refine ar_wait 7 (by decide) (by decide) (sem_at 102 _ rfl _ _) rfl ?_
  refine ar_wait 8 (by decide) (by decide) (sem_at 102 _ rfl _ _) rfl ?_
  refine ar_wait 9 (by decide) (by decide) (sem_at 102 _ rfl _ _) rfl ?_
  exact ret_step c (hk _)

/-- Part 65 of the body. -/
theorem part65 {v2002 : BitVec 32} {Q : PUnit → sProp (MT nD τ sig Unit (Elt F) ℕ UU ℕ)}
    (hk : iprop(Ctx m (accV m) K ∗ Waits c 0 (arTodo c) (arDone (accV m) c) 1 12 ∗ R) ⊢ Q ⟨⟩) :
    iprop(Ctx m (accV m) K ∗ Waits c 0 (arTodo c) (arDone (accV m) c) 1 10 ∗ R) ⊢ Wp c (atArgs k0_part65 c (idw c) v2002) Q := by
  rw [k0_part65_eq_skeleton]; unfold k0_part65_skel
  simp -zeta only [atArgs, Prog.lift, Prog.bind_op, Prog.bind_ret, Prog.pure_eq_ret]
  refine ar_wait 10 (by decide) (by decide) (sem_at 102 _ rfl _ _) rfl ?_
  refine ar_wait 11 (by decide) (by decide) (sem_at 102 _ rfl _ _) rfl ?_
  exact ret_step c (hk)

/-- Part 66 of the body. -/
theorem part66 {Q : PUnit → sProp (MT nD τ sig Unit (Elt F) ℕ UU ℕ)}
    (hk : iprop(Ctx m (accV m) K ∗ Waits c 0 (arTodo c) (arDone (accV m) c) 1 15 ∗ R) ⊢ Q ⟨⟩) :
    iprop(Ctx m (accV m) K ∗ Waits c 0 (arTodo c) (arDone (accV m) c) 1 12 ∗ R) ⊢ Wp c (atArgs k0_part66 c (idw c)) Q := by
  rw [k0_part66_eq_skeleton]; unfold k0_part66_skel
  simp -zeta only [atArgs, Prog.lift, Prog.bind_op, Prog.bind_ret, Prog.pure_eq_ret]
  refine ar_wait 12 (by decide) (by decide) (sem_at 102 _ rfl _ _) rfl ?_
  refine ar_wait 13 (by decide) (by decide) (sem_at 102 _ rfl _ _) rfl ?_
  refine ar_wait 14 (by decide) (by decide) (sem_at 102 _ rfl _ _) rfl ?_
  exact ret_step c (hk)

/-- Part 67 of the body. -/
theorem part67 {Q : PUnit → sProp (MT nD τ sig Unit (Elt F) ℕ UU ℕ)}
    (hk : iprop(Ctx m (accV m) K ∗ Waits c 0 (arTodo c) (arDone (accV m) c) 1 18 ∗ R) ⊢ Q ⟨⟩) :
    iprop(Ctx m (accV m) K ∗ Waits c 0 (arTodo c) (arDone (accV m) c) 1 15 ∗ R) ⊢ Wp c (atArgs k0_part67 c (idw c)) Q := by
  rw [k0_part67_eq_skeleton]; unfold k0_part67_skel
  simp -zeta only [atArgs, Prog.lift, Prog.bind_op, Prog.bind_ret, Prog.pure_eq_ret]
  refine ar_wait 15 (by decide) (by decide) (sem_at 102 _ rfl _ _) rfl ?_
  refine ar_wait 16 (by decide) (by decide) (sem_at 102 _ rfl _ _) rfl ?_
  refine ar_wait 17 (by decide) (by decide) (sem_at 102 _ rfl _ _) rfl ?_
  exact ret_step c (hk)

/-- Part 68 of the body. -/
theorem part68 {Q : (BitVec 32) → sProp (MT nD τ sig Unit (Elt F) ℕ UU ℕ)}
    (hk : ∀ (c1_i32_1668 : BitVec 32), iprop(Ctx m (accV m) K ∗ Waits c 0 (arTodo c) (arDone (accV m) c) 1 21 ∗ R) ⊢ Q c1_i32_1668) :
    iprop(Ctx m (accV m) K ∗ Waits c 0 (arTodo c) (arDone (accV m) c) 1 18 ∗ R) ⊢ Wp c (atArgs k0_part68 c (idw c)) Q := by
  rw [k0_part68_eq_skeleton]; unfold k0_part68_skel
  simp -zeta only [atArgs, Prog.lift, Prog.bind_op, Prog.bind_ret, Prog.pure_eq_ret]
  refine ar_wait 18 (by decide) (by decide) (sem_at 102 _ rfl _ _) rfl ?_
  refine ar_wait 19 (by decide) (by decide) (sem_at 102 _ rfl _ _) rfl ?_
  refine ar_wait 20 (by decide) (by decide) (sem_at 102 _ rfl _ _) rfl ?_
  exact ret_step c (hk _)

/-- Part 69 of the body. -/
theorem part69 {c1_i32_1668 : BitVec 32} {Q : PUnit → sProp (MT nD τ sig Unit (Elt F) ℕ UU ℕ)}
    (hk : iprop(Ctx m (accV m) K ∗ Waits c 0 (arTodo c) (arDone (accV m) c) 1 24 ∗ R) ⊢ Q ⟨⟩) :
    iprop(Ctx m (accV m) K ∗ Waits c 0 (arTodo c) (arDone (accV m) c) 1 21 ∗ R) ⊢ Wp c (atArgs k0_part69 c (idw c) c1_i32_1668) Q := by
  rw [k0_part69_eq_skeleton]; unfold k0_part69_skel
  simp -zeta only [atArgs, Prog.lift, Prog.bind_op, Prog.bind_ret, Prog.pure_eq_ret]
  refine ar_wait 21 (by decide) (by decide) (sem_at 102 _ rfl _ _) rfl ?_
  refine ar_wait 22 (by decide) (by decide) (sem_at 102 _ rfl _ _) rfl ?_
  refine ar_wait 23 (by decide) (by decide) (sem_at 102 _ rfl _ _) rfl ?_
  exact ret_step c (hk)

/-- Part 70 of the body. -/
theorem part70 {Q : (Σ' (v2173 : BitVec 32), BitVec 32) → sProp (MT nD τ sig Unit (Elt F) ℕ UU ℕ)}
    (hk : ∀ (v2173 : BitVec 32) (c32_i32_1724 : BitVec 32), iprop(Ctx m (accV m) K ∗ Waits c 0 (arTodo c) (arDone (accV m) c) 1 27 ∗ R) ⊢ Q ⟨v2173, c32_i32_1724⟩) :
    iprop(Ctx m (accV m) K ∗ Waits c 0 (arTodo c) (arDone (accV m) c) 1 24 ∗ R) ⊢ Wp c (atArgs k0_part70 c (idw c)) Q := by
  rw [k0_part70_eq_skeleton]; unfold k0_part70_skel
  simp -zeta only [atArgs, Prog.lift, Prog.bind_op, Prog.bind_ret, Prog.pure_eq_ret]
  refine ar_wait 24 (by decide) (by decide) (sem_at 102 _ rfl _ _) rfl ?_
  refine ar_wait 25 (by decide) (by decide) (sem_at 102 _ rfl _ _) rfl ?_
  refine ar_wait 26 (by decide) (by decide) (sem_at 102 _ rfl _ _) rfl ?_
  exact ret_step c (hk _ _)

/-- Part 71 of the body. -/
theorem part71 {v2173 : BitVec 32} {c32_i32_1724 : BitVec 32} {Q : (BitVec 32) → sProp (MT nD τ sig Unit (Elt F) ℕ UU ℕ)}
    (hk : ∀ (v2202 : BitVec 32), iprop(Ctx m (accV m) K ∗ Waits c 0 (arTodo c) (arDone (accV m) c) 1 30 ∗ R) ⊢ Q v2202) :
    iprop(Ctx m (accV m) K ∗ Waits c 0 (arTodo c) (arDone (accV m) c) 1 27 ∗ R) ⊢ Wp c (atArgs k0_part71 c (idw c) v2173 c32_i32_1724) Q := by
  rw [k0_part71_eq_skeleton]; unfold k0_part71_skel
  simp -zeta only [atArgs, Prog.lift, Prog.bind_op, Prog.bind_ret, Prog.pure_eq_ret]
  refine ar_wait 27 (by decide) (by decide) (sem_at 102 _ rfl _ _) rfl ?_
  refine ar_wait 28 (by decide) (by decide) (sem_at 102 _ rfl _ _) rfl ?_
  refine ar_wait 29 (by decide) (by decide) (sem_at 102 _ rfl _ _) rfl ?_
  exact ret_step c (hk _)

/-- Part 72 of the body. -/
theorem part72 {v2202 : BitVec 32} {Q : PUnit → sProp (MT nD τ sig Unit (Elt F) ℕ UU ℕ)}
    (hk : iprop(Ctx m (accV m) K ∗ Waits c 0 (sdTodo (accV m) c) (sdDone (accV m) c) 0 2 ∗ bigSep (Finset.Ico 1 32) (arDone (accV m) c) ∗ R) ⊢ Q ⟨⟩) :
    iprop(Ctx m (accV m) K ∗ Waits c 0 (arTodo c) (arDone (accV m) c) 1 30 ∗ bigSep (Finset.Ico 0 32) (sdTodo (accV m) c) ∗ R) ⊢ Wp c (atArgs k0_part72 c (idw c) v2202) Q := by
  rw [k0_part72_eq_skeleton]; unfold k0_part72_skel
  simp -zeta only [atArgs, Prog.lift, Prog.bind_op, Prog.bind_ret, Prog.pure_eq_ret]
  refine ar_wait 30 (by decide) (by decide) (sem_at 102 _ rfl _ _) rfl ?_
  refine ar_wait 31 (by decide) (by decide) (sem_at 102 _ rfl _ _) rfl ?_
  refine to_waits (todo' := sdTodo (accV m) c) (done' := sdDone (accV m) c) ?_
  extract_lets
  refine sd_if 0 (by decide) (by unfold k0_cond97; exact condNe_iff c 0 (by decide)) (fun h R' hn hk => ?_) ?_
  · exact sd_wait 0 (by decide) hn (sem_at 6 _ rfl _ _) rfl hk
  refine sd_if 1 (by decide) (by unfold k0_cond98; exact condNe_iff c 1 (by decide)) (fun h R' hn hk => ?_) ?_
  · exact sd_wait 1 (by decide) hn (sem_at 6 _ rfl _ _) rfl hk
  exact ret_step c (hk)

end Cert.KernelIdeal.Ring

end
-- ==== Proof.KernelIdeal.Drain.lean ====
/-
# The last waits

The waits for the copies to have left.
-/
module

public import proofs.«01_k».proof.Proof.KernelIdeal.Waits

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- Part 73 of the body. -/
theorem part73 {Q : (BitVec 32) → sProp (MT nD τ sig Unit (Elt F) ℕ UU ℕ)}
    (hk : ∀ (v2256 : BitVec 32), iprop(Ctx m (accV m) K ∗ Waits c 0 (sdTodo (accV m) c) (sdDone (accV m) c) 0 11 ∗ R) ⊢ Q v2256) :
    iprop(Ctx m (accV m) K ∗ Waits c 0 (sdTodo (accV m) c) (sdDone (accV m) c) 0 2 ∗ R) ⊢ Wp c (atArgs k0_part73 c (idw c)) Q := by
  rw [k0_part73_eq_skeleton]; unfold k0_part73_skel
  simp -zeta only [atArgs, Prog.lift, Prog.bind_op, Prog.bind_ret, Prog.pure_eq_ret]
  extract_lets
  refine sd_if 2 (by decide) (by unfold k0_cond99; exact condNe_iff c 2 (by decide)) (fun h R' hn hk => ?_) ?_
  · exact sd_wait 2 (by decide) hn (sem_at 6 _ rfl _ _) rfl hk
  refine sd_if 3 (by decide) (by unfold k0_cond100; exact condNe_iff c 3 (by decide)) (fun h R' hn hk => ?_) ?_
  · exact sd_wait 3 (by decide) hn (sem_at 6 _ rfl _ _) rfl hk
  refine sd_if 4 (by decide) (by unfold k0_cond101; exact condNe_iff c 4 (by decide)) (fun h R' hn hk => ?_) ?_
  · exact sd_wait 4 (by decide) hn (sem_at 6 _ rfl _ _) rfl hk
  refine sd_if 5 (by decide) (by unfold k0_cond102; exact condNe_iff c 5 (by decide)) (fun h R' hn hk => ?_) ?_
  · exact sd_wait 5 (by decide) hn (sem_at 6 _ rfl _ _) rfl hk
  refine sd_if 6 (by decide) (by unfold k0_cond103; exact condNe_iff c 6 (by decide)) (fun h R' hn hk => ?_) ?_
  · exact sd_wait 6 (by decide) hn (sem_at 6 _ rfl _ _) rfl hk
  refine sd_if 7 (by decide) (by unfold k0_cond104; exact condNe_iff c 7 (by decide)) (fun h R' hn hk => ?_) ?_
  · exact sd_wait 7 (by decide) hn (sem_at 6 _ rfl _ _) rfl hk
  refine sd_if 8 (by decide) (by unfold k0_cond105; exact condNe_iff c 8 (by decide)) (fun h R' hn hk => ?_) ?_
  · exact sd_wait 8 (by decide) hn (sem_at 6 _ rfl _ _) rfl hk
  refine sd_if 9 (by decide) (by unfold k0_cond106; exact condNe_iff c 9 (by decide)) (fun h R' hn hk => ?_) ?_
  · exact sd_wait 9 (by decide) hn (sem_at 6 _ rfl _ _) rfl hk
  refine sd_if 10 (by decide) (by unfold k0_cond107; exact condNe_iff c 10 (by decide)) (fun h R' hn hk => ?_) ?_
  · exact sd_wait 10 (by decide) hn (sem_at 6 _ rfl _ _) rfl hk
  exact ret_step c (hk _)

/-- Part 74 of the body. -/
theorem part74 {v2256 : BitVec 32} {Q : PUnit → sProp (MT nD τ sig Unit (Elt F) ℕ UU ℕ)}
    (hk : iprop(Ctx m (accV m) K ∗ Waits c 0 (sdTodo (accV m) c) (sdDone (accV m) c) 0 20 ∗ R) ⊢ Q ⟨⟩) :
    iprop(Ctx m (accV m) K ∗ Waits c 0 (sdTodo (accV m) c) (sdDone (accV m) c) 0 11 ∗ R) ⊢ Wp c (atArgs k0_part74 c (idw c) v2256) Q := by
  rw [k0_part74_eq_skeleton]; unfold k0_part74_skel
  simp -zeta only [atArgs, Prog.lift, Prog.bind_op, Prog.bind_ret, Prog.pure_eq_ret]
  extract_lets
  refine sd_if 11 (by decide) (by unfold k0_cond108; exact condNe_iff c 11 (by decide)) (fun h R' hn hk => ?_) ?_
  · exact sd_wait 11 (by decide) hn (sem_at 6 _ rfl _ _) rfl hk
  refine sd_if 12 (by decide) (by unfold k0_cond109; exact condNe_iff c 12 (by decide)) (fun h R' hn hk => ?_) ?_
  · exact sd_wait 12 (by decide) hn (sem_at 6 _ rfl _ _) rfl hk
  refine sd_if 13 (by decide) (by unfold k0_cond110; exact condNe_iff c 13 (by decide)) (fun h R' hn hk => ?_) ?_
  · exact sd_wait 13 (by decide) hn (sem_at 6 _ rfl _ _) rfl hk
  refine sd_if 14 (by decide) (by unfold k0_cond111; exact condNe_iff c 14 (by decide)) (fun h R' hn hk => ?_) ?_
  · exact sd_wait 14 (by decide) hn (sem_at 6 _ rfl _ _) rfl hk
  refine sd_if 15 (by decide) (by unfold k0_cond112; exact condNe_iff c 15 (by decide)) (fun h R' hn hk => ?_) ?_
  · exact sd_wait 15 (by decide) hn (sem_at 6 _ rfl _ _) rfl hk
  refine sd_if 16 (by decide) (by unfold k0_cond113; exact condNe_iff c 16 (by decide)) (fun h R' hn hk => ?_) ?_
  · exact sd_wait 16 (by decide) hn (sem_at 6 _ rfl _ _) rfl hk
  refine sd_if 17 (by decide) (by unfold k0_cond114; exact condNe_iff c 17 (by decide)) (fun h R' hn hk => ?_) ?_
  · exact sd_wait 17 (by decide) hn (sem_at 6 _ rfl _ _) rfl hk
  refine sd_if 18 (by decide) (by unfold k0_cond115; exact condNe_iff c 18 (by decide)) (fun h R' hn hk => ?_) ?_
  · exact sd_wait 18 (by decide) hn (sem_at 6 _ rfl _ _) rfl hk
  refine sd_if 19 (by decide) (by unfold k0_cond116; exact condNe_iff c 19 (by decide)) (fun h R' hn hk => ?_) ?_
  · exact sd_wait 19 (by decide) hn (sem_at 6 _ rfl _ _) rfl hk
  exact ret_step c (hk)

/-- Part 75 of the body. -/
theorem part75 {Q : (BitVec 32) → sProp (MT nD τ sig Unit (Elt F) ℕ UU ℕ)}
    (hk : ∀ (v2307 : BitVec 32), iprop(Ctx m (accV m) K ∗ Waits c 0 (sdTodo (accV m) c) (sdDone (accV m) c) 0 28 ∗ R) ⊢ Q v2307) :
    iprop(Ctx m (accV m) K ∗ Waits c 0 (sdTodo (accV m) c) (sdDone (accV m) c) 0 20 ∗ R) ⊢ Wp c (atArgs k0_part75 c (idw c)) Q := by
  rw [k0_part75_eq_skeleton]; unfold k0_part75_skel
  simp -zeta only [atArgs, Prog.lift, Prog.bind_op, Prog.bind_ret, Prog.pure_eq_ret]
  extract_lets
  refine sd_if 20 (by decide) (by unfold k0_cond117; exact condNe_iff c 20 (by decide)) (fun h R' hn hk => ?_) ?_
  · exact sd_wait 20 (by decide) hn (sem_at 6 _ rfl _ _) rfl hk
  refine sd_if 21 (by decide) (by unfold k0_cond118; exact condNe_iff c 21 (by decide)) (fun h R' hn hk => ?_) ?_
  · exact sd_wait 21 (by decide) hn (sem_at 6 _ rfl _ _) rfl hk
  refine sd_if 22 (by decide) (by unfold k0_cond119; exact condNe_iff c 22 (by decide)) (fun h R' hn hk => ?_) ?_
  · exact sd_wait 22 (by decide) hn (sem_at 6 _ rfl _ _) rfl hk
  refine sd_if 23 (by decide) (by unfold k0_cond120; exact condNe_iff c 23 (by decide)) (fun h R' hn hk => ?_) ?_
  · exact sd_wait 23 (by decide) hn (sem_at 6 _ rfl _ _) rfl hk
  refine sd_if 24 (by decide) (by unfold k0_cond121; exact condNe_iff c 24 (by decide)) (fun h R' hn hk => ?_) ?_
  · exact sd_wait 24 (by decide) hn (sem_at 6 _ rfl _ _) rfl hk
  refine sd_if 25 (by decide) (by unfold k0_cond122; exact condNe_iff c 25 (by decide)) (fun h R' hn hk => ?_) ?_
  · exact sd_wait 25 (by decide) hn (sem_at 6 _ rfl _ _) rfl hk
  refine sd_if 26 (by decide) (by unfold k0_cond123; exact condNe_iff c 26 (by decide)) (fun h R' hn hk => ?_) ?_
  · exact sd_wait 26 (by decide) hn (sem_at 6 _ rfl _ _) rfl hk
  refine sd_if 27 (by decide) (by unfold k0_cond124; exact condNe_iff c 27 (by decide)) (fun h R' hn hk => ?_) ?_
  · exact sd_wait 27 (by decide) hn (sem_at 6 _ rfl _ _) rfl hk
  exact ret_step c (hk _)

/-- Part 76 of the body. -/
theorem part76 {v2307 : BitVec 32} {Q : PUnit → sProp (MT nD τ sig Unit (Elt F) ℕ UU ℕ)}
    (hk : iprop(Ctx m (accV m) K ∗ Waits c 0 (asTodo c) (asDone (accV m) c) 1 4 ∗ bigSep (Finset.Ico 0 32) (sdDone (accV m) c) ∗ R) ⊢ Q ⟨⟩) :
    iprop(Ctx m (accV m) K ∗ Waits c 0 (sdTodo (accV m) c) (sdDone (accV m) c) 0 28 ∗ bigSep (Finset.Ico 1 32) (asTodo c) ∗ R) ⊢ Wp c (atArgs k0_part76 c (idw c) v2307) Q := by
  rw [k0_part76_eq_skeleton]; unfold k0_part76_skel
  simp -zeta only [atArgs, Prog.lift, Prog.bind_op, Prog.bind_ret, Prog.pure_eq_ret]
  extract_lets
  refine sd_if 28 (by decide) (by unfold k0_cond125; exact condNe_iff c 28 (by decide)) (fun h R' hn hk => ?_) ?_
  · exact sd_wait 28 (by decide) hn (sem_at 6 _ rfl _ _) rfl hk
  refine sd_if 29 (by decide) (by unfold k0_cond126; exact condNe_iff c 29 (by decide)) (fun h R' hn hk => ?_) ?_
  · exact sd_wait 29 (by decide) hn (sem_at 6 _ rfl _ _) rfl hk
  refine sd_if 30 (by decide) (by unfold k0_cond127; exact condNe_iff c 30 (by decide)) (fun h R' hn hk => ?_) ?_
  · exact sd_wait 30 (by decide) hn (sem_at 6 _ rfl _ _) rfl hk
  refine sd_if 31 (by decide) (by unfold k0_cond128; exact condNe_iff c 31 (by decide)) (fun h R' hn hk => ?_) ?_
  · exact sd_wait 31 (by decide) hn (sem_at 6 _ rfl _ _) rfl hk
  refine to_waits (todo' := asTodo c) (done' := asDone (accV m) c) ?_
  refine as_wait 1 (by decide) (by decide) (sem_at 70 _ rfl _ _) rfl ?_
  refine as_wait 2 (by decide) (by decide) (sem_at 70 _ rfl _ _) rfl ?_
  refine as_wait 3 (by decide) (by decide) (sem_at 70 _ rfl _ _) rfl ?_
  exact ret_step c (hk)

/-- Part 77 of the body. -/
theorem part77 {Q : PUnit → sProp (MT nD τ sig Unit (Elt F) ℕ UU ℕ)}
    (hk : iprop(Ctx m (accV m) K ∗ Waits c 0 (asTodo c) (asDone (accV m) c) 1 10 ∗ R) ⊢ Q ⟨⟩) :
    iprop(Ctx m (accV m) K ∗ Waits c 0 (asTodo c) (asDone (accV m) c) 1 4 ∗ R) ⊢ Wp c (atArgs k0_part77 c) Q := by
  rw [k0_part77_eq_skeleton]; unfold k0_part77_skel
  simp -zeta only [atArgs, Prog.lift, Prog.bind_op, Prog.bind_ret, Prog.pure_eq_ret]
  refine as_wait 4 (by decide) (by decide) (sem_at 70 _ rfl _ _) rfl ?_
  refine as_wait 5 (by decide) (by decide) (sem_at 70 _ rfl _ _) rfl ?_
  refine as_wait 6 (by decide) (by decide) (sem_at 70 _ rfl _ _) rfl ?_
  refine as_wait 7 (by decide) (by decide) (sem_at 70 _ rfl _ _) rfl ?_
  refine as_wait 8 (by decide) (by decide) (sem_at 70 _ rfl _ _) rfl ?_
  refine as_wait 9 (by decide) (by decide) (sem_at 70 _ rfl _ _) rfl ?_
  exact ret_step c (hk)

/-- Part 78 of the body. -/
theorem part78 {Q : PUnit → sProp (MT nD τ sig Unit (Elt F) ℕ UU ℕ)}
    (hk : iprop(Ctx m (accV m) K ∗ Waits c 0 (asTodo c) (asDone (accV m) c) 1 16 ∗ R) ⊢ Q ⟨⟩) :
    iprop(Ctx m (accV m) K ∗ Waits c 0 (asTodo c) (asDone (accV m) c) 1 10 ∗ R) ⊢ Wp c (atArgs k0_part78 c) Q := by
  rw [k0_part78_eq_skeleton]; unfold k0_part78_skel
  simp -zeta only [atArgs, Prog.lift, Prog.bind_op, Prog.bind_ret, Prog.pure_eq_ret]
  refine as_wait 10 (by decide) (by decide) (sem_at 70 _ rfl _ _) rfl ?_
  refine as_wait 11 (by decide) (by decide) (sem_at 70 _ rfl _ _) rfl ?_
  refine as_wait 12 (by decide) (by decide) (sem_at 70 _ rfl _ _) rfl ?_
  refine as_wait 13 (by decide) (by decide) (sem_at 70 _ rfl _ _) rfl ?_
  refine as_wait 14 (by decide) (by decide) (sem_at 70 _ rfl _ _) rfl ?_
  refine as_wait 15 (by decide) (by decide) (sem_at 70 _ rfl _ _) rfl ?_
  exact ret_step c (hk)

/-- Part 79 of the body. -/
theorem part79 {Q : PUnit → sProp (MT nD τ sig Unit (Elt F) ℕ UU ℕ)}
    (hk : iprop(Ctx m (accV m) K ∗ Waits c 0 (asTodo c) (asDone (accV m) c) 1 22 ∗ R) ⊢ Q ⟨⟩) :
    iprop(Ctx m (accV m) K ∗ Waits c 0 (asTodo c) (asDone (accV m) c) 1 16 ∗ R) ⊢ Wp c (atArgs k0_part79 c) Q := by
  rw [k0_part79_eq_skeleton]; unfold k0_part79_skel
  simp -zeta only [atArgs, Prog.lift, Prog.bind_op, Prog.bind_ret, Prog.pure_eq_ret]
  refine as_wait 16 (by decide) (by decide) (sem_at 70 _ rfl _ _) rfl ?_
  refine as_wait 17 (by decide) (by decide) (sem_at 70 _ rfl _ _) rfl ?_
  refine as_wait 18 (by decide) (by decide) (sem_at 70 _ rfl _ _) rfl ?_
  refine as_wait 19 (by decide) (by decide) (sem_at 70 _ rfl _ _) rfl ?_
  refine as_wait 20 (by decide) (by decide) (sem_at 70 _ rfl _ _) rfl ?_
  refine as_wait 21 (by decide) (by decide) (sem_at 70 _ rfl _ _) rfl ?_
  exact ret_step c (hk)

/-- Part 80 of the body. -/
theorem part80 {Q : PUnit → sProp (MT nD τ sig Unit (Elt F) ℕ UU ℕ)}
    (hk : iprop(Ctx m (accV m) K ∗ Waits c 0 (asTodo c) (asDone (accV m) c) 1 28 ∗ R) ⊢ Q ⟨⟩) :
    iprop(Ctx m (accV m) K ∗ Waits c 0 (asTodo c) (asDone (accV m) c) 1 22 ∗ R) ⊢ Wp c (atArgs k0_part80 c) Q := by
  rw [k0_part80_eq_skeleton]; unfold k0_part80_skel
  simp -zeta only [atArgs, Prog.lift, Prog.bind_op, Prog.bind_ret, Prog.pure_eq_ret]
  refine as_wait 22 (by decide) (by decide) (sem_at 70 _ rfl _ _) rfl ?_
  refine as_wait 23 (by decide) (by decide) (sem_at 70 _ rfl _ _) rfl ?_
  refine as_wait 24 (by decide) (by decide) (sem_at 70 _ rfl _ _) rfl ?_
  refine as_wait 25 (by decide) (by decide) (sem_at 70 _ rfl _ _) rfl ?_
  refine as_wait 26 (by decide) (by decide) (sem_at 70 _ rfl _ _) rfl ?_
  refine as_wait 27 (by decide) (by decide) (sem_at 70 _ rfl _ _) rfl ?_
  exact ret_step c (hk)

end Cert.KernelIdeal.Ring

end
-- ==== Proof.KernelIdeal.Body.lean ====
/-
# The body

The body's parts one after the other: from what a device owns at the start to what it owns at the end.
-/
module

public import proofs.«01_k».proof.Proof.KernelIdeal.Start
public import proofs.«01_k».proof.Proof.KernelIdeal.Group0
public import proofs.«01_k».proof.Proof.KernelIdeal.Send0
public import proofs.«01_k».proof.Proof.KernelIdeal.Group1
public import proofs.«01_k».proof.Proof.KernelIdeal.Send1
public import proofs.«01_k».proof.Proof.KernelIdeal.Group2
public import proofs.«01_k».proof.Proof.KernelIdeal.Send2
public import proofs.«01_k».proof.Proof.KernelIdeal.Group3
public import proofs.«01_k».proof.Proof.KernelIdeal.Send3
public import proofs.«01_k».proof.Proof.KernelIdeal.Receive
public import proofs.«01_k».proof.Proof.KernelIdeal.Broadcast
public import proofs.«01_k».proof.Proof.KernelIdeal.Gather
public import proofs.«01_k».proof.Proof.KernelIdeal.Drain

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-- What the body starts from. -/
def Start (m : (ℓ : Loc nD τ sig) → Buf (Elt F) ℓ) (c : Dev nD) : sProp 𝕄 := iprop(BarSt c 1 ∗ BarW c ∗ WQ0 m c ∗ WO0 m c ∗ XP0 m c ∗ KPre m c 0 ∗ VPre m c 0 ∗ Any c gqbM ∗ Any c gobM ∗ Any c cxM ∗ RsIn c ∗ Any c acM0 ∗ Any c acM1 ∗ Any c acM2 ∗ Any c acM3 ∗ (RecvTok c ∗ SendPos c) ∗ MyRows c ∗ AgTok c ∗ AgrTok c ∗ AgsPos c)
/-- What the body leaves. -/
def Finish (m : (ℓ : Loc nD τ sig) → Buf (Elt F) ℓ) (c : Dev nD) : sProp 𝕄 := iprop(Waits c 0 (asTodo c) (asDone (accV m) c) 1 32 ∗ bigSep (Finset.Ico 0 32) (sdDone (accV m) c) ∗ bigSep (Finset.Ico 1 32) (arDone (accV m) c) ∗ Grp c m 3 8 ∗ rowsPt c c (Transfers.shareDrop fullShare 31) (outV (accV m)) ∗ (Pt c (Memref.whole cc0_scratch12 : Memref sig .tc _ _ _) (rsV (accV m) c) ∗ RvSems c) ∗ semVal (barCell c) 0 ∗ InPt m c ∗ WO2 m c ∗ WQ2 m c)

/-- The first sixty parts. -/
theorem part81 {Q : (Σ' (d0 : Dev nD), BitVec 32) → sProp (MT nD τ sig Unit (Elt F) ℕ UU ℕ)}
    (hk : iprop(Ctx m (accV m) K ∗ AgSt (accV m) c 29 ∗ rowsPt c c (Transfers.shareDrop fullShare 31) (outV (accV m)) ∗ (Pt c (Memref.whole cc0_scratch12 : Memref sig .tc _ _ _) (rsV (accV m) c) ∗ RvSems c) ∗ (bigSep (Finset.Ico 0 32) (sdTodo (accV m) c) ∗ Grp c m 3 8) ∗ semVal (barCell c) 0 ∗ InPt m c ∗ WO2 m c ∗ WQ2 m c ∗ AgrTok c ∗ AgsPos c ∗ R) ⊢ Q ⟨c, idw c⟩) :
    iprop(Ctx m (accV m) K ∗ BarSt c 1 ∗ BarW c ∗ WQ0 m c ∗ WO0 m c ∗ XP0 m c ∗ KPre m c 0 ∗ VPre m c 0 ∗ Any c gqbM ∗ Any c gobM ∗ Any c cxM ∗ RsIn c ∗ Any c acM0 ∗ Any c acM1 ∗ Any c acM2 ∗ Any c acM3 ∗ (RecvTok c ∗ SendPos c) ∗ MyRows c ∗ AgTok c ∗ AgrTok c ∗ AgsPos c ∗ R) ⊢ Wp c (atArgs k0_part81) Q := by
  rw [k0_part81_eq_skeleton]; unfold k0_part81_skel
  refine wp_part c (part1 (fun _ _ => ?_))
  refine wp_part c (part2 (fun _ _ => ?_))
  refine wp_part c (part3 (fun _ _ => ?_))
  refine wp_part c (part4 (fun _ _ => ?_))
  refine wp_part c (part5 (fun _ _ => ?_))
  refine wp_part c (part6 (?_))
  refine pull7 ?_
  refine wp_part c (part7 (?_))
  refine wp_part c (part8 (?_))
  refine wp_part c (part9 (?_))
  refine pull9 ?_
  refine pull9 ?_
  refine pull6 ?_
  refine pull7 ?_
  refine pull8 ?_
  refine pull7 ?_
  refine pull7 ?_
  refine wp_part c (part10 (?_))
  refine pull10 ?_
  refine pull5 ?_
  refine pull9 ?_
  refine pull8 ?_
  refine pull9 ?_
  refine pull6 ?_
  refine wp_part c (part11 (?_))
  refine pull7 ?_
  refine pull7 ?_
  refine pull6 ?_
  refine pull4 ?_
  refine pull4 ?_
  refine pull4 ?_
  refine pull4 ?_
  refine to_rs ?_
  refine pull12 ?_
  refine pull12 ?_
  refine pull12 ?_
  refine pull12 ?_
  refine pull12 ?_
  refine pull6 ?_
  refine pull9 ?_
  refine wp_part c (part12 (?_))
  refine wp_part c (part13 (?_))
  refine wp_part c (part14 (?_))
  refine wp_part c (part15 (?_))
  refine wp_part c (part16 (?_))
  refine wp_part c (part17 (fun _ => ?_))
  refine wp_part c (part18 (fun _ => ?_))
  refine wp_part c (part19 (?_))
  refine wp_part c (part20 (?_))
  refine wp_part c (part21 (?_))
  refine wp_part c (part22 (?_))
  refine wp_part c (part23 (?_))
  refine wp_part c (part24 (?_))
  refine wp_part c (part25 (fun _ => ?_))
  refine wp_part c (part26 (fun _ => ?_))
  refine wp_part c (part27 (?_))
  refine wp_part c (part28 (?_))
  refine wp_part c (part29 (?_))
  refine wp_part c (part30 (?_))
  refine wp_part c (part31 (?_))
  refine wp_part c (part32 (?_))
  refine wp_part c (part33 (fun _ => ?_))
  refine wp_part c (part34 (fun _ => ?_))
  refine wp_part c (part35 (fun _ _ => ?_))
  refine wp_part c (part36 (?_))
  refine wp_part c (part37 (?_))
  refine wp_part c (part38 (?_))
  refine wp_part c (part39 (?_))
  refine wp_part c (part40 (?_))
  refine wp_part c (part41 (?_))
  refine wp_part c (part42 (fun _ => ?_))
  refine wp_part c (part43 (fun _ => ?_))
  refine wp_part c (part44 (?_))
  refine swap ?_
  refine swap ?_
  refine wp_part c (part45 (?_))
  refine wp_part c (part46 (?_))
  refine wp_part c (part47 (?_))
  refine wp_part c (part48 (?_))
  refine pull8 ?_
  refine swap ?_
  refine wp_part c (part49 (fun _ => ?_))
  refine pull10 ?_
  refine pull6 ?_
  refine pull4 ?_
  refine pull4 ?_
  refine to_ag ?_
  refine wp_part c (part50 (?_))
  refine wp_part c (part51 (fun _ => ?_))
  refine wp_part c (part52 (?_))
  refine wp_part c (part53 (?_))
  refine wp_part c (part54 (fun _ _ => ?_))
  refine wp_part c (part55 (?_))
  refine wp_part c (part56 (fun _ => ?_))
  refine wp_part c (part57 (fun _ => ?_))
  refine wp_part c (part58 (?_))
  refine wp_part c (part59 (fun _ => ?_))
  refine wp_part c (part60 (?_))
  exact ret_step c hk

/-- The body, at any device. -/
theorem body_run {Q : PUnit → sProp (MT nD τ sig Unit (Elt F) ℕ UU ℕ)}
    (hk : iprop(Ctx m (accV m) K ∗ Waits c 0 (asTodo c) (asDone (accV m) c) 1 32 ∗ bigSep (Finset.Ico 0 32) (sdDone (accV m) c) ∗ bigSep (Finset.Ico 1 32) (arDone (accV m) c) ∗ Grp c m 3 8 ∗ rowsPt c c (Transfers.shareDrop fullShare 31) (outV (accV m)) ∗ (Pt c (Memref.whole cc0_scratch12 : Memref sig .tc _ _ _) (rsV (accV m) c) ∗ RvSems c) ∗ semVal (barCell c) 0 ∗ InPt m c ∗ WO2 m c ∗ WQ2 m c ∗ R) ⊢ Q ⟨⟩) :
    iprop(Ctx m (accV m) K ∗ BarSt c 1 ∗ BarW c ∗ WQ0 m c ∗ WO0 m c ∗ XP0 m c ∗ KPre m c 0 ∗ VPre m c 0 ∗ Any c gqbM ∗ Any c gobM ∗ Any c cxM ∗ RsIn c ∗ Any c acM0 ∗ Any c acM1 ∗ Any c acM2 ∗ Any c acM3 ∗ (RecvTok c ∗ SendPos c) ∗ MyRows c ∗ AgTok c ∗ AgrTok c ∗ AgsPos c ∗ R) ⊢ Wp c (atArgs cc0_body) Q := by
  rw [cc0_body_eq_skeleton]; unfold cc0_body_skel
  refine wp_part c (part81 ?_)
  refine wp_part c (part61 (fun _ => ?_))
  refine pull10 ?_
  refine pull10 ?_
  refine pull3 ?_
  refine to_ar ?_
  refine pull5 ?_
  refine split ?_
  refine pull3 ?_
  refine wp_part c (part62 (?_))
  refine wp_part c (part63 (fun _ _ => ?_))
  refine wp_part c (part64 (fun _ => ?_))
  refine wp_part c (part65 (?_))
  refine wp_part c (part66 (?_))
  refine wp_part c (part67 (?_))
  refine wp_part c (part68 (fun _ => ?_))
  refine wp_part c (part69 (?_))
  refine wp_part c (part70 (fun _ _ => ?_))
  refine wp_part c (part71 (fun _ => ?_))
  refine wp_part c (part72 (?_))
  refine pull4 ?_
  refine swap ?_
  refine wp_part c (part73 (fun _ => ?_))
  refine wp_part c (part74 (?_))
  refine wp_part c (part75 (fun _ => ?_))
  refine wp_part c (part76 (?_))
  refine wp_part c (part77 (?_))
  refine wp_part c (part78 (?_))
  refine wp_part c (part79 (?_))
  refine wp_part c (part80 (?_))
  simp -zeta only [Prog.lift, Prog.bind_op, Prog.bind_ret, Prog.pure_eq_ret]
  refine as_wait 28 (by decide) (by decide) (sem_at 70 _ rfl _ _) rfl ?_
  refine as_wait 29 (by decide) (by decide) (sem_at 70 _ rfl _ _) rfl ?_
  refine as_wait 30 (by decide) (by decide) (sem_at 70 _ rfl _ _) rfl ?_
  refine as_wait 31 (by decide) (by decide) (sem_at 70 _ rfl _ _) rfl ?_
  exact ret_step c hk

end Cert.KernelIdeal.Ring

end
-- ==== Proof.KernelIdeal.Launch.lean ====
/-
# From the launch to the body and back

What the launch deals to a device is what the body takes, and what the body leaves is what the launch
takes back.
-/
module

public import proofs.«01_k».proof.Proof.KernelIdeal.Credits
public import proofs.«01_k».proof.Proof.KernelIdeal.Body

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

/-! ## What the body takes -/

variable (m c) in
/-- What the body takes. -/
def Starts : sProp 𝕄 := iprop(BarSt c 1 ∗ BarW c ∗ WQ0 m c ∗ WO0 m c ∗ XP0 m c ∗ KPre m c 0 ∗ VPre m c 0 ∗ Any c gqbM ∗ Any c gobM ∗ Any c cxM ∗ RsIn c ∗ Any c acM0 ∗ Any c acM1 ∗ Any c acM2 ∗ Any c acM3 ∗ (RecvTok c ∗ SendPos c) ∗ MyRows c ∗ AgTok c ∗ AgrTok c ∗ AgsPos c)
variable (m c) in
/-- What the body leaves. -/
def Finishes : sProp 𝕄 := iprop(Waits c 0 (asTodo c) (asDone (accV m) c) 1 32 ∗ bigSep (Finset.Ico 0 32) (sdDone (accV m) c) ∗ bigSep (Finset.Ico 1 32) (arDone (accV m) c) ∗ Grp c m 3 8 ∗ rowsPt c c (Transfers.shareDrop fullShare 31) (outV (accV m)) ∗ (Pt c (Memref.whole cc0_scratch12 : Memref sig .tc _ _ _) (rsV (accV m) c) ∗ RvSems c) ∗ semVal (barCell c) 0 ∗ InPt m c ∗ WO2 m c ∗ WQ2 m c)

/-- A buffer of the device, whole, at some contents. -/
abbrev Buf0 (c : Dev nD) (b : Ref sig .tc) : sProp 𝕄 := iprop(∃ f : Buf (Elt F) ((c : Thread nD τ).loc b), ((c : Thread nD τ).loc b) ↦{fullShare} f)

theorem some_of {β : Type} {Φ : β → sProp (MT nD τ sig Unit (Elt F) ℕ UU ℕ)} {x : β} : Φ x ⊢ (iprop(∃ y, Φ y) : sProp (MT nD τ sig Unit (Elt F) ℕ UU ℕ)) := by
  iintro H; iexists x; iexact H

theorem slots_deal : Buf0 c cc0_scratch12 ⊢ (iprop((∃ f, slotPt (F := F) c c f) ∗ bigSep (Finset.Ico 1 32) fun k => iprop(∃ f, slotPt (F := F) c (dv (c.val + k)) f)) : sProp 𝕄) := by
  iintro ⟨%f, H⟩
  have h1 : (iprop(((c : Thread nD τ).loc cc0_scratch12) ↦{fullShare} f) : sProp 𝕄) ⊢ iprop(slotPt c c f ∗ bigSep (Finset.Ico 1 32) fun k => slotPt c (dv (c.val + k)) f) := by
    refine (Entails.of_eq (slots_join (c := c) f).symm).trans ?_
    rw [← univ_dv (Φ := fun d => slotPt c d f), bigSep_erase (Finset.mem_univ c), erase_rot c (Φ := fun d => slotPt c d f)]
    exact keep_all
  have h2 : (bigSep (Finset.Ico 1 32) fun k => (slotPt c (dv (c.val + k)) f : sProp 𝕄)) ⊢ bigSep (Finset.Ico 1 32) fun k => iprop(∃ f, slotPt (F := F) c (dv (c.val + k)) f) :=
    bigSep_mono fun k _ => some_of
  ihave H' := h1 $$ H
  icases H' with ⟨H1, H2⟩
  isplitl [H1]
  · iexists f; iexact H1
  · iapply h2; iexact H2

theorem rows_deal : Buf0 c cc0_stg3_0 ⊢ (iprop(MyRows c ∗ bigSep (Finset.Ico 1 32) fun k => iprop(∃ f, rowsPt (F := F) c (dv (c.val + k)) fullShare f)) : sProp 𝕄) := by
  unfold MyRows
  iintro ⟨%f, H⟩
  have h1 : (iprop(((c : Thread nD τ).loc cc0_stg3_0) ↦{fullShare} f) : sProp 𝕄) ⊢ iprop(rowsPt c c fullShare f ∗ bigSep (Finset.Ico 1 32) fun k => rowsPt c (dv (c.val + k)) fullShare f) := by
    refine (Entails.of_eq (rows_join (c := c) f).symm).trans ?_
    rw [bigSep_erase (Finset.mem_univ c), erase_rot c (Φ := fun d => rowsPt c d fullShare f)]
    exact keep_all
  have h2 : (bigSep (Finset.Ico 1 32) fun k => (rowsPt c (dv (c.val + k)) fullShare f : sProp 𝕄)) ⊢ bigSep (Finset.Ico 1 32) fun k => iprop(∃ f, rowsPt (F := F) c (dv (c.val + k)) fullShare f) :=
    bigSep_mono fun k _ => some_of
  ihave H' := h1 $$ H
  icases H' with ⟨H1, H2⟩
  isplitl [H1]
  · iexists f; iexact H1
  · iapply h2; iexact H2

theorem bar_start : iprop(Ow c (O₀ c) ∗ BarTok c ∗ (bigSep (Finset.Ico 1 32) fun k => iprop(∃ f, slotPt (F := F) c (dv (c.val + k)) f))
    ∗ bigSep (Finset.Ico 1 32) fun k => iprop(∃ f, rowsPt (F := F) c (dv (c.val + k)) fullShare f)) ⊢ (BarSt c 1 : sProp 𝕄) := by
  unfold BarSt BarTok
  refine sep_mono_right ?_
  rw [← bigSep_sep', ← bigSep_sep']
  refine bigSep_mono fun k _ => ?_
  unfold barTodo barPay
  exact keep_all

theorem recv_start : iprop(RecvCred c ∗ RecvPos c) ⊢ (RecvTok c : sProp 𝕄) := by
  unfold RecvCred RecvPos RecvTok
  rw [← bigSep_sep']
  refine bigSep_mono fun s _ => ?_
  by_cases h : s = c.val
  · rw [if_pos h, if_pos h, if_pos h]; exact drop_all
  · rw [if_neg h, if_neg h, if_neg h]; exact keep_all
theorem agr_start : iprop(AgrCred c ∗ AgrPos c) ⊢ (AgrTok c : sProp 𝕄) := by
  unfold AgrCred AgrPos AgrTok
  rw [← bigSep_sep']

theorem k_start : iprop(Pt c kM (kIn m c) ∗ Buf0 c cc0_scratch5) ⊢ (KPre m c 0 : sProp 𝕄) := by
  unfold KPre KbSt
  refine sep_mono_right ?_
  iintro ⟨%f, H⟩
  iexists f
  isplitl [H]; · iexact H
  ipureintro; exact fun i h => absurd h (Nat.not_lt_zero _)
theorem v_start : iprop(Pt c vM (vIn m c) ∗ Buf0 c cc0_scratch6) ⊢ (VPre m c 0 : sProp 𝕄) := by
  unfold VPre VbSt
  refine sep_mono_right ?_
  iintro ⟨%f, H⟩
  iexists f
  isplitl [H]; · iexact H
  ipureintro; exact fun i h => absurd h (Nat.not_lt_zero _)

variable (m c) in
/-- The part of the first weight array that the device doesn't copy. -/
def RestQ : sProp 𝕄 := ((c : Thread nD τ).loc main_arg1) ↦[Finset.univ \ (wqSrc c).view.set]{fullShare} (m ((c : Thread nD τ).loc main_arg1))
variable (m c) in
/-- The part of the second weight array that the device doesn't copy. -/
def RestO : sProp 𝕄 := ((c : Thread nD τ).loc main_arg4) ↦[Finset.univ \ (woSrc c).view.set]{fullShare} (m ((c : Thread nD τ).loc main_arg4))

variable (m c) in
def ArgQ : sProp 𝕄 := ((c : Thread nD τ).loc main_arg1) ↦{fullShare} (m ((c : Thread nD τ).loc main_arg1))
variable (m c) in
def ArgO : sProp 𝕄 := ((c : Thread nD τ).loc main_arg4) ↦{fullShare} (m ((c : Thread nD τ).loc main_arg4))

theorem argQ_split : (ArgQ m c : sProp 𝕄) ⊣⊢ iprop((((wqSrc c).view.loc (c : Thread nD τ)) ↦[(wqSrc c).view.set]{fullShare} (m ((c : Thread nD τ).loc main_arg1))) ∗ RestQ m c) :=
  pointsTo_split_subset (Finset.subset_univ _)
theorem argO_split : (ArgO m c : sProp 𝕄) ⊣⊢ iprop((((woSrc c).view.loc (c : Thread nD τ)) ↦[(woSrc c).view.set]{fullShare} (m ((c : Thread nD τ).loc main_arg4))) ∗ RestO m c) :=
  pointsTo_split_subset (Finset.subset_univ _)

variable (m c) in
/-- The device's staging buffers and its own buffers, as the body finds them. -/
def Bufs : sProp 𝕄 := iprop((Pt c xM (xIn m c) ∗ Pt c kM (kIn m c) ∗ Pt c vM (vIn m c) ∗ Buf0 c cc0_stg3_0)
  ∗ Buf0 c cc0_scratch0 ∗ Buf0 c cc0_scratch1 ∗ Buf0 c cc0_scratch2 ∗ Buf0 c cc0_scratch3 ∗ Buf0 c cc0_scratch4 ∗ Buf0 c cc0_scratch5 ∗ Buf0 c cc0_scratch6
  ∗ Buf0 c cc0_scratch7 ∗ Buf0 c cc0_scratch8 ∗ Buf0 c cc0_scratch9 ∗ Buf0 c cc0_scratch10 ∗ Buf0 c cc0_scratch11 ∗ Buf0 c cc0_scratch12)

variable (c) in
/-- The launch's credit, as dealt to the cells. -/
def Creds : sProp 𝕄 := iprop(cred (tallyAt (barCell c) () 31) ∗ RecvCred c ∗ AgrCred c)

theorem starts_intro : iprop(Ow c (O₀ c) ∗ linear c ∗ Creds c ∗ (ArgQ m c ∗ ArgO m c) ∗ Bufs m c) ⊢ (iprop(Starts m c ∗ UnPos c ∗ RestQ m c ∗ RestO m c) : sProp 𝕄) := by
  unfold linear AllPos payToks Creds Bufs
  iintro ⟨HO, ⟨⟨pB, ⟨p4, p5⟩, pU, pS, pR, pA, pG⟩, tB, ⟨t4, t5⟩, tR, tA⟩, ⟨cB, cR, cA⟩, ⟨aQ, aO⟩, ⟨sx, sk, sv, so⟩, b0, b1, b2, b3, b4, b5, b6, b7, b8, b9, b10, b11, b12⟩
  ihave aQ := (argQ_split (m := m) (c := c)).1 $$ aQ
  icases aQ with ⟨aQ, rQ⟩
  ihave aO := (argO_split (m := m) (c := c)).1 $$ aO
  icases aO with ⟨aO, rO⟩
  ihave so := (rows_deal (F := F) (c := c)) $$ so
  icases so with ⟨mr, so⟩
  ihave b12 := (slots_deal (F := F) (c := c)) $$ b12
  icases b12 with ⟨ms, b12⟩
  isplitr [pU rQ rO]
  · unfold Starts
    isplitl [HO tB so b12]
    · iapply (bar_start (F := F) (c := c))
      isplitl [HO]; · iexact HO
      isplitl [tB]; · iexact tB
      isplitl [b12]; · iexact b12
      iexact so
    isplitl [cB pB]
    · unfold BarW; isplitl [cB]; · iexact cB
      iexact pB
    isplitl [b0 aQ t4 p4]
    · unfold WQ0
      isplitl [b0]; · iexact b0
      isplitl [aQ]; · iexact aQ
      isplitl [t4]; · iexact t4
      iexact p4
    isplitl [b1 aO t5 p5]
    · unfold WO0
      isplitl [b1]; · iexact b1
      isplitl [aO]; · iexact aO
      isplitl [t5]; · iexact t5
      iexact p5
    isplitl [sx b4]
    · unfold XP0; isplitl [sx]; · iexact sx
      iexact b4
    isplitl [sk b5]
    · iapply (k_start (m := m) (c := c)); isplitl [sk]; · iexact sk
      iexact b5
    isplitl [sv b6]
    · iapply (v_start (m := m) (c := c)); isplitl [sv]; · iexact sv
      iexact b6
    isplitl [b2]; · unfold Any; iexact b2
    isplitl [b3]; · unfold Any; iexact b3
    isplitl [b11]; · unfold Any; iexact b11
    isplitl [ms tR]
    · unfold RsIn; isplitl [ms]; · iexact ms
      iexact tR
    isplitl [b7]; · unfold Any; iexact b7
    isplitl [b8]; · unfold Any; iexact b8
    isplitl [b9]; · unfold Any; iexact b9
    isplitl [b10]; · unfold Any; iexact b10
    isplitl [cR pR pS]
    · isplitl [cR pR]
      · iapply (recv_start (F := F) (c := c)); isplitl [cR]; · iexact cR
        iexact pR
      iexact pS
    isplitl [mr]; · iexact mr
    isplitl [tA]; · iexact tA
    isplitl [cA pG]
    · iapply (agr_start (F := F) (c := c)); isplitl [cA]; · iexact cA
      iexact pG
    iexact pA
  · isplitl [pU]; · iexact pU
    isplitl [rQ]; · iexact rQ
    iexact rO

/-! ## The cells that no copy uses -/

/-- The counters of `c`'s cells that no copy uses. -/
def UnSem (c : Dev nD) : sProp 𝕄 := iprop(semVal (cellN c (6 + c.val)) 0 ∗ semVal (cellN c (38 + c.val)) 0
  ∗ semVal (cellN c (70 + 0)) 0 ∗ semVal (cellN c (102 + 0)) 0)

theorem close_one {n : ℕ} (h4 : 4 ≤ n) (hn : n < 134) (hu : ¬ dmaUsed c n) : iprop(Ctx m A K ∗ atPos ER (cellN c n) 0 ∅ 0) ⊢ (iprop(|={Set.univ}=> semVal (cellN c n) 0) : sProp 𝕄) :=
  (sep_mono_left (inv_dma m A K c h4 hn)).trans (Rounds.cell_close ER (sched m A) (Set.mem_univ (Kd K c n)) (fun h => h) (R := 0) (duties_unused m A c hn hu))

theorem close_unused : iprop(Ctx m A K ∗ UnPos c) ⊢ (iprop(|={Set.univ}=> UnSem c) : sProp 𝕄) := by
  have hc : c.val < 32 := c.isLt
  unfold UnPos UnSem
  iintro ⟨#HC, H1, H2, H3, H4⟩
  imod (close_one (K := K) (m := m) (A := A) (c := c) (n := 6 + c.val) (by omega) (by omega) (by unfold dmaUsed; omega)) $$ [H1] with H1
  · isplitr; · iexact HC
    iexact H1
  imod (close_one (K := K) (m := m) (A := A) (c := c) (n := 38 + c.val) (by omega) (by omega) (by unfold dmaUsed; omega)) $$ [H2] with H2
  · isplitr; · iexact HC
    iexact H2
  imod (close_one (K := K) (m := m) (A := A) (c := c) (n := 70 + 0) (by omega) (by omega) (by unfold dmaUsed; omega)) $$ [H3] with H3
  · isplitr; · iexact HC
    iexact H3
  imod (close_one (K := K) (m := m) (A := A) (c := c) (n := 102 + 0) (by omega) (by omega) (by unfold dmaUsed; omega)) $$ [H4] with H4
  · isplitr; · iexact HC
    iexact H4
  imodintro
  isplitl [H1]; · iexact H1
  isplitl [H2]; · iexact H2
  isplitl [H3]; · iexact H3
  iexact H4

/-! ## What the body leaves -/

theorem own_end : iprop((semVal (cellN c 4) 0 ∗ semVal (cellN c 5) 0) ∗ UnSem c ∗ SdSems c ∗ RvSems c ∗ AsSems c ∗ ArSems c)
    ⊢ (Pipeline.ownSems0 (Ix := Unit) (Name := ℕ) (U := UU) (Lvl := ℕ) (Val := Elt F) (τ := τ) osem c : sProp 𝕄) := by
  have hc : c.val < 32 := c.isLt
  unfold Pipeline.ownSems0
  rw [own_split (F := F) (fun o : Own => semVal ((c : Thread nD τ), osem o) 0) (fun n => semVal (cellN c n) 0) (fun _ => rfl),
    ico_if c.val hc (fun j => semVal (cellN c (6 + j)) 0), ico_if c.val hc (fun j => semVal (cellN c (38 + j)) 0),
    ico_zero (fun j => semVal (cellN c (70 + j)) 0), ico_zero (fun j => semVal (cellN c (102 + j)) 0)]
  unfold UnSem SdSems RvSems AsSems ArSems
  iintro ⟨Hw, ⟨H6, H38, H70, H102⟩, H6s, H38s, H70s, H102s⟩
  isplitl [Hw]; · iexact Hw
  isplitl [H6 H6s]
  · isplitl [H6]; · iexact H6
    iexact H6s
  isplitl [H38 H38s]
  · isplitl [H38]; · iexact H38
    iexact H38s
  isplitl [H70 H70s]
  · isplitl [H70]; · iexact H70
    iexact H70s
  isplitl [H102]; · iexact H102
  iexact H102s

variable (m c) in
/-- The device's buffers and counters after the body. -/
def Ends : sProp 𝕄 := iprop(((unscopedSems0 c ∗ ArgQ m c ∗ ArgO m c) ∗ Pipeline.ownSems0 (Ix := Unit) (Name := ℕ) (U := UU) (Lvl := ℕ) (Val := Elt F) (τ := τ) osem c
  ∗ Pipeline.scopedRest (Ix := Unit) (Name := ℕ) (U := UU) (Lvl := ℕ) (Val := Elt F) spec0 c) ∗ Ow c 0 ∗ Pt c xM (xIn m c) ∗ Pt c kM (kIn m c) ∗ Pt c vM (vIn m c) ∗ Pt c oM (outV (accV m)))

theorem finishes_elim : iprop(Finishes m c ∗ UnSem c ∗ RestQ m c ∗ RestO m c) ⊢ (Ends m c : sProp 𝕄) := by
  unfold Finishes Ends
  rw [sd_end, accs_end, unscopedSems0_eq, scopedRest0_eq]
  unfold Grp CxSt InPt WO2 WQ2
  iintro ⟨⟨HW, ⟨⟨a0, a1, a2, a3⟩, sS⟩, HA, ⟨xb, gq, kb, vb, go, ⟨%f, cx, -⟩⟩, mr, ⟨rb, sR⟩, sB, ⟨sx, sk, sv⟩, ⟨wo, s5, aO⟩, ⟨wq, s4, aQ⟩⟩, uS, rQ, rO⟩
  ihave HW := waits_end $$ HW
  icases HW with ⟨HO, HD⟩
  ihave Ho := (out_end (A := accV m) (c := c)) $$ [HA HD mr]
  · isplitl [HA]; · iexact HA
    isplitl [HD]; · iexact HD
    iexact mr
  icases Ho with ⟨so, sAr, sAs⟩
  isplitr [HO sx sk sv so]
  · isplitl [sB aQ rQ aO rO]
    · isplitl [sB]; · iexact sB
      isplitl [aQ rQ]
      · iapply (argQ_split (m := m) (c := c)).2; isplitl [aQ]; · iexact aQ
        iexact rQ
      · iapply (argO_split (m := m) (c := c)).2; isplitl [aO]; · iexact aO
        iexact rO
    isplitl [s4 s5 uS sS sR sAr sAs]
    · iapply (own_end (F := F) (c := c))
      isplitl [s4 s5]
      · isplitl [s4]; · iexact s4
        iexact s5
      isplitl [uS]; · iexact uS
      isplitl [sS]; · iexact sS
      isplitl [sR]; · iexact sR
      isplitl [sAs]; · iexact sAs
      iexact sAr
    isplitl [wq]; · iexists _; iexact wq
    isplitl [wo]; · iexists _; iexact wo
    isplitl [gq]; · iexists _; iexact gq
    isplitl [go]; · iexists _; iexact go
    isplitl [xb]; · iexists _; iexact xb
    isplitl [kb]; · iexists _; iexact kb
    isplitl [vb]; · iexists _; iexact vb
    isplitl [a0]; · iexists _; iexact a0
    isplitl [a1]; · iexists _; iexact a1
    isplitl [a2]; · iexists _; iexact a2
    isplitl [a3]; · iexists _; iexact a3
    isplitl [cx]; · iexists _; iexact cx
    iexists _; iexact rb
  · isplitl [HO]; · iexact HO
    isplitl [sx]; · iexact sx
    isplitl [sk]; · iexact sk
    isplitl [sv]; · iexact sv
    iexact so

theorem run_chain {Y0 Y1 Y2 Y3 Y4 Y5 Y6 Y7 Y8 Y9 R' U : sProp (MT nD τ sig Unit (Elt F) ℕ UU ℕ)} (h : iprop((Y0 ∗ Y1 ∗ Y2 ∗ Y3 ∗ Y4 ∗ Y5 ∗ Y6 ∗ Y7 ∗ Y8 ∗ Y9) ∗ R') ⊢ U) (C : sProp (MT nD τ sig Unit (Elt F) ℕ UU ℕ)) : iprop(C ∗ Y0 ∗ Y1 ∗ Y2 ∗ Y3 ∗ Y4 ∗ Y5 ∗ Y6 ∗ Y7 ∗ Y8 ∗ Y9 ∗ R') ⊢ U := by
  iintro ⟨-, y0, y1, y2, y3, y4, y5, y6, y7, y8, y9, HR⟩
  iapply h
  isplitr [HR]
  · isplitl [y0]; · iexact y0
    isplitl [y1]; · iexact y1
    isplitl [y2]; · iexact y2
    isplitl [y3]; · iexact y3
    isplitl [y4]; · iexact y4
    isplitl [y5]; · iexact y5
    isplitl [y6]; · iexact y6
    isplitl [y7]; · iexact y7
    isplitl [y8]; · iexact y8
    iexact y9
  iexact HR

/-- The body, from what the launch deals to what it must leave. -/
theorem body_full : iprop((∃ K, Ctx m (accV m) K ∗ linear c) ∗ Creds c ∗ (ArgQ m c ∗ ArgO m c) ∗ Bufs m c ∗ Ow c (O₀ c)) ⊢ Wp c (atArgs cc0_body) (fun _ => Ends m c) := by
  have hs := starts_intro (m := m) (c := c)
  iintro ⟨⟨%K, #HC, Hl⟩, Hc, Ha, Hb, HO⟩
  ihave H := hs $$ [HO Hl Hc Ha Hb]
  · isplitl [HO]; · iexact HO
    isplitl [Hl]; · iexact Hl
    isplitl [Hc]; · iexact Hc
    isplitl [Ha]; · iexact Ha
    iexact Hb
  icases H with ⟨HS, HU, HR⟩
  imod (close_unused (K := K) (m := m) (A := accV m) (c := c)) $$ [HU] with HU
  · isplitr; · iexact HC
    iexact HU
  have hb := body_run (m := m) (K := K) (c := c) (R := iprop(UnSem c ∗ RestQ m c ∗ RestO m c)) (Q := fun _ => Ends m c)
    (run_chain (finishes_elim (m := m) (c := c)) (Ctx m (accV m) K))
  iapply hb
  isplitr; · iexact HC
  unfold Starts
  icases HS with ⟨z0, z1, z2, z3, z4, z5, z6, z7, z8, z9, z10, z11, z12, z13, z14, z15, z16, z17, z18, z19⟩
  isplitl [z0]; · iexact z0
  isplitl [z1]; · iexact z1
  isplitl [z2]; · iexact z2
  isplitl [z3]; · iexact z3
  isplitl [z4]; · iexact z4
  isplitl [z5]; · iexact z5
  isplitl [z6]; · iexact z6
  isplitl [z7]; · iexact z7
  isplitl [z8]; · iexact z8
  isplitl [z9]; · iexact z9
  isplitl [z10]; · iexact z10
  isplitl [z11]; · iexact z11
  isplitl [z12]; · iexact z12
  isplitl [z13]; · iexact z13
  isplitl [z14]; · iexact z14
  isplitl [z15]; · iexact z15
  isplitl [z16]; · iexact z16
  isplitl [z17]; · iexact z17
  isplitl [z18]; · iexact z18
  isplitl [z19]; · iexact z19
  isplitl [HU]; · iexact HU
  iexact HR

end Cert.KernelIdeal.Ring

end
-- ==== Proof.KernelIdeal.Run.lean ====
/-
# The run

The kernel on its 32 devices, from launch to end.
-/
module

public import proofs.«01_k».proof.Proof.KernelIdeal.Launch

@[expose] public section

set_option maxRecDepth 8000
set_option maxHeartbeats 4000000

noncomputable section

namespace Cert.KernelIdeal.Ring

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {A : Dev nD → ℕ → S256x1024.Idx → Elt F .bf16}
variable {K : Dev nD × Ck → ℕ} {c : Dev nD}
variable {R : sProp (MT nD τ sig Unit (Elt F) ℕ UU ℕ)}
variable {α : Type} {Q : α → sProp (MT nD τ sig Unit (Elt F) ℕ UU ℕ)} {k : PUnit → Prog (TpuEff nD τ sig (Elt F) Λ₀ .tc) α}

section

variable (m : (ℓ : Loc nD τ sig) → Buf (Elt F) ℓ) (ρ : Dev nD → PrngReg)

/-! ## The proof data -/

/-- What device `c`'s body starts from. -/
def start (c : Dev nD) : sProp 𝕄 := iprop((∃ K, Ctx m (accV m) K ∗ linear c) ∗ Creds c ∗ (ArgQ m c ∗ ArgO m c))
def Φ₀ (c : Dev nD) : sProp 𝕄 := iprop(start m c ∗ Pipeline.scopedRest (Ix := Unit) (Name := ℕ) (U := UU) (Lvl := ℕ) (Val := Elt F) spec0 c)
/-- What it ends with, the staging buffers apart. -/
def Φ₁ (c : Dev nD) : sProp 𝕄 := iprop((unscopedSems0 c ∗ ArgQ m c ∗ ArgO m c) ∗ Pipeline.ownSems0 (Ix := Unit) (Name := ℕ) (U := UU) (Lvl := ℕ) (Val := Elt F) (τ := τ) osem c
  ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := V m c (Pipeline.arrRef spec0 w)
  after w _ := match w with
    | ⟨0, _⟩ => xIn m c
    | ⟨1, _⟩ => kIn m c
    | ⟨2, _⟩ => vIn m c
    | ⟨3, _⟩ => outV (accV m)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp (MT nD τ sig Unit (Elt F) ℕ UU ℕ)) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of the device at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before 0 t0_0 d = xIn m c := by
  unfold Dat.before; rw [if_pos (fetch0_0 t0_0)]; rfl
theorem before_1 (c : Dev nD) (d) : (dats m 0 c).before 1 t0_0 d = kIn m c := by
  unfold Dat.before; rw [if_pos (fetch0_1 t0_0)]; rfl
theorem before_2 (c : Dev nD) (d) : (dats m 0 c).before 2 t0_0 d = vIn m c := by
  unfold Dat.before; rw [if_pos (fetch0_2 t0_0)]; rfl

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 (xIn m c) ∗ stg c cc0_stg1_0 (kIn m c) ∗ stg c cc0_stg2_0 (vIn m c)
    ∗ stg c cc0_stg3_0 (outV (accV m)))

theorem pre_elim (c : Dev nD) : bodyPre m c ⊢ iprop((∃ K, Ctx m (accV m) K ∗ linear c) ∗ Creds c ∗ (ArgQ m c ∗ ArgO m c) ∗ Bufs m c ∗ Ow c (O₀ c)) := by
  unfold bodyPre Φ₀ start Bufs Ow Dat.owesAt Pipeline.owesWithin
  rw [show (dats m 0 c).owed t0_0.castSucc = O₀ c from rfl, scopedRest0_eq]
  simp only [before_0, before_1, before_2]
  iintro ⟨⟨⟨Hg, Hc, Ha⟩, Hr⟩, ⟨%W, -, HO⟩, ⟨%d0, %f0, %h0, sx⟩, ⟨%d1, %f1, %h1, sk⟩, ⟨%d2, %f2, %h2, sv⟩, ⟨%d3, %f3, %h3, so⟩⟩
  subst h0 h1 h2
  isplitl [Hg]; · iexact Hg
  isplitl [Hc]; · iexact Hc
  isplitl [Ha]; · iexact Ha
  isplitl [sx sk sv so Hr]
  · isplitl [sx sk sv so]
    · isplitl [sx]; · iexact sx
      isplitl [sk]; · iexact sk
      isplitl [sv]; · iexact sv
      iexists _; iexact so
    iexact Hr
  iexists W; iexact HO

theorem post_intro (c : Dev nD) : Ends m c ⊢ bodyPost m c := by
  unfold Ends bodyPost Φ₁ Ow Dat.owesAt Pipeline.owesWithin
  rw [show (dats m 0 c).owed t0_0.succ = 0 from rfl]
  iintro ⟨HE, ⟨%W, HO⟩, sx, sk, sv, so⟩
  isplitl [HE]; · iexact HE
  isplitl [HO]
  · iexists W
    isplitr; · ipureintro; exact fun _ _ => Or.inl trivial
    iexact HO
  isplitl [sx]
  · iexists _; isplitr; · (ipureintro; rfl)
    iexact sx
  isplitl [sk]
  · iexists _; isplitr; · (ipureintro; rfl)
    iexact sk
  isplitl [sv]
  · iexists _; isplitr; · (ipureintro; rfl)
    iexact sv
  iexists _; isplitr; · (ipureintro; rfl)
  iexact so

theorem wp_to {p : Prog (TpuEff nD τ sig (Elt F) Λ₀ .tc) PUnit} {X Y : sProp (MT nD τ sig Unit (Elt F) ℕ UU ℕ)} (h : X ⊢ Y) : Wp c p (fun _ => X) ⊢ Wp c p (fun _ => Y) :=
  Idealize.SL.Sem.wp_mono _ _ _ (hQ := fun _ => h)

theorem body_post (c : Dev nD) : bodyPre m c ⊢ Wp c (atArgs cc0_body) (fun _ => bodyPost m c) :=
  ((pre_elim m c).trans (body_full (m := m) (c := c))).trans (wp_to (post_intro m c))

/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact body_post m c

/-! ## The launch's side conditions -/

theorem scoped_dma : ∀ s : DmaSem sig, (SemLoc.dma s : SemLoc sig).isScoped .tc = true := by decide
theorem stage_sem : ∀ (w : Fin cfg0.W) (s), ((cfg0.win w).sem s).val < 4 := by decide
theorem stage_lv (c : Dev nD) (w : Fin cfg0.W) (s) : lv ((c : Thread nD τ), .dma ((cfg0.win w).sem s)) () = 0 :=
  if_pos (Nat.lt_of_lt_of_le (stage_sem w s) (by decide))

theorem ownSemFacts : Pipeline.OwnSemFacts cfg0.spec osem where
  isScoped := fun o => scoped_dma _
  inj := fun o o' h => ownN_inj (dS_inj (ownN_lt o) (ownN_lt o') (SemLoc.dma.inj h))
  disj := fun o w s h => by
    have h1 := congrArg Fin.val (SemLoc.dma.inj h)
    rw [dS_val (ownN_lt o)] at h1
    have h2 := ownN_ge o
    have h3 : ((cfg0.spec w).sem s).val < 4 := stage_sem w s
    have h1 : ownN o = ((cfg0.spec w).sem s).val := h1
    omega

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m (accV m) c)
      ⊢ |={Set.univ}=> iprop(start m c ∗ emp) := by
  have hr : (Pipeline.unscopedRestP (Ix := Unit) (Name := ℕ) (U := UU) (Lvl := ℕ) Pipeline.Prefetch.none cfg0.spec c (fun b => m ((c : Thread nD τ).loc b)) : sProp (MT nD τ sig Unit (Elt F) ℕ UU ℕ)) ⊢ iprop(ArgQ m c ∗ ArgO m c) := by
    rw [Pipeline.unscopedRestP_none]
    exact Entails.of_eq (unscopedRest0_eq c _)
  iintro ⟨Hu, #Hlev, Hcr, -, HG⟩
  ihave Hc := (creds (F := F) c) $$ Hcr
  ihave Ha := hr $$ Hu
  imodintro
  unfold start G' Ctx
  icases HG with ⟨%K, #HR, Hl⟩
  isplitl
  · isplitl [Hl]
    · iexists K
      isplitr
      · isplitr; · iexact HR
        iexact Hlev
      iexact Hl
    isplitl [Hc]; · unfold Creds; iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ ArgQ m c ∗ ArgO m c) ∗ Pipeline.ownSems0 osem c ∗ Pipeline.scopedRest cfg0.spec c) := by
  rw [show (dats m 0 c).Φ (Fin.last cfg0.N) = Φ₁ m c from rfl]
  unfold Φ₁
  exact keep_all

theorem above_start (c : Dev nD) : Above 0 (O₀ c) :=
  (above_bar c 1).add (((above_rs c 0).mono (by decide)).add ((above_ag c 1).mono (by decide)))

theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  refine mayWait_of (n := 0) c (.dma q) (Nat.le_of_eq hq) ?_
  rcases hO with h | h <;> subst h
  · exact above_start c
  · exact Above.zero 0

theorem waits (c : Dev nD) : (levAts L lv : sProp 𝕄) ⊢ Pipeline.cellsWaits cfgs (dats m) () 0 c :=
  Pipeline.cellsWaits_intro cfgs (dats m) () 0 c fun w s t =>
    mayWait_stage c _ (stage_lv c w _) _ (by
      rcases t with ⟨_ | _, ht⟩
      · exact Or.inl rfl
      · exact Or.inr rfl)

/-! ## The run -/

theorem args_read (c : Dev nD) (s' : Phys nD τ sig (Elt F)) : iprop((ArgQ m c ∗ ArgO m c) ∗ SI s')
    ⊢ (iprop(⌜s'.mem.mem ((c : Thread nD τ).loc main_arg1) = m ((c : Thread nD τ).loc main_arg1)
        ∧ s'.mem.mem ((c : Thread nD τ).loc main_arg4) = m ((c : Thread nD τ).loc main_arg4)⌝ ∗ SI s') : sProp 𝕄) := by
  have h := pointsTo_read_all (Ix := Unit) (Name := ℕ) (U := UU) (Lvl := ℕ) (Finset.univ : Finset (Fin 2))
    (fun i => ((c : Thread nD τ)).loc (if i = 0 then main_arg1 else main_arg4)) (fun i => m (((c : Thread nD τ)).loc (if i = 0 then main_arg1 else main_arg4))) s'
  rw [bigSep_univ_eq_bigSepL (I := Fin 2) [0, 1] (by decide) (by decide)] at h
  unfold ArgQ ArgO
  have h2 : (iprop(⌜∀ i ∈ (Finset.univ : Finset (Fin 2)), s'.mem.mem (((c : Thread nD τ)).loc (if i = 0 then main_arg1 else main_arg4)) = m (((c : Thread nD τ)).loc (if i = 0 then main_arg1 else main_arg4))⌝ ∗ SI s') : sProp (MT nD τ sig Unit (Elt F) ℕ UU ℕ))
      ⊢ iprop(⌜s'.mem.mem ((c : Thread nD τ).loc main_arg1) = m ((c : Thread nD τ).loc main_arg1)
        ∧ s'.mem.mem ((c : Thread nD τ).loc main_arg4) = m ((c : Thread nD τ).loc main_arg4)⌝ ∗ SI s') :=
    sep_mono_left (BI.pure_mono fun hh => ⟨hh 0 (Finset.mem_univ _), hh 1 (Finset.mem_univ _)⟩)
  exact h.trans h2

/-- What the run leaves: each window's array at the contents the body left, the two weight arrays unchanged, every counter zero. -/
def RunPost (r : PUnit × MemSt nD τ sig (Elt F)) : Prop :=
  (∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)
    ∧ r.2.mem ((c : Thread nD τ).loc main_arg4) = m ((c : Thread nD τ).loc main_arg4))
  ∧ r.2.sem = fun _ => 0

set_option maxRecDepth 8000 in
/-- From any memory with zero counters every execution on the 32 devices terminates as `RunPost` says. -/
theorem run_main : θ_run defs (onTc (τ := τ) (main (F := F))) ⟨m, fun _ => 0, ρ⟩ (RunPost m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m (accV m)) (G' := G' m (accV m)) (u₀ := u₀)
    (hu₀ := by
      unfold u₀
      iintro Hu
      ihave H := (ownU_pair _ _) $$ Hu
      icases H with ⟨HP, HX⟩
      imod (fund_ring (m := m) (A := accV m)) $$ HX with HG
      imodintro
      isplitl [HP] <;> iassumption)
    (hglob := glob)
    (hA := fun _ _ => rfl) (hpf := fun _ k => k.elim0)
    (X := start m) (Y := fun c => iprop(unscopedSems0 c ∗ ArgQ m c ∗ ArgO m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1) ∧ s.mem ((c : Thread nD τ).loc main_arg4) = m ((c : Thread nD τ).loc main_arg4))
    (hY := fun c s' => by
      iintro ⟨⟨Hu, Ha⟩, -, HSI⟩
      ihave %h1 := (tcUnscoped_read c s') $$ [Hu HSI]
      · isplitl [Hu] <;> iassumption
      ihave H := (args_read m c s') $$ [Ha HSI]
      · isplitl [Ha] <;> iassumption
      icases H with ⟨%h2, HSI⟩
      imodintro
      isplitr; · ipureintro; exact ⟨h1, h2⟩
      iexact HSI)
    (hQ := fun _ h hs => ⟨fun c => ⟨fun w => (h c).1 w, (h c).2.2.2⟩, sem_eq_zero hs fun c => (h c).2.2.1⟩)

/-- The arguments end unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 0).trans ((dats m 0 c).arrAt_in 0 rfl _), (h.1 c).2.1,
      ((h.1 c).1 1).trans ((dats m 0 c).arrAt_in 1 rfl _), ((h.1 c).1 2).trans ((dats m 0 c).arrAt_in 2 rfl _), (h.1 c).2.2⟩, h.2⟩) (run_main m ρ)

end

end Cert.KernelIdeal.Ring

end
-- ==== Proof.Value.Softmax.lean ====
/-
# Two spellings of one softmax

A row of scores, some of them masked by -infinity. The kernel sums exponentials over the columns that a row group can see and
divides last; the reference shifts by the maximum, divides each weight, and sums over all columns. Over finite scores the two agree.
-/
module

public import Idealize.ShloMosaic.PureOps.Ideal
public import Idealize.ShloMosaic.PureOps.Ideal.Laws
public import Mathlib.Algebra.BigOperators.Fin

@[expose] public section

noncomputable section

namespace Cert.Value

open Idealize.ShloMosaic

/-- Row `R` sees column `j` when `j`'s block of 64 does not come after `R`'s. -/
def sees (R : Fin 1024) (j : ℕ) : Prop := j / 64 ≤ R.val / 64
instance (R : Fin 1024) (j : ℕ) : Decidable (sees R j) := inferInstanceAs (Decidable (_ ≤ _))

/-- The sum of finite values is the sum of the numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A masked score. -/
def masked (p : Prop) [Decidable p] (s : EReal) : EReal := if p then s else ⊥
/-- Its exponential, as a number. -/
def weight (p : Prop) [Decidable p] (s : ℝ) : ℝ := if p then Real.exp s else 0

theorem weight_nonneg (p : Prop) [Decidable p] (s : ℝ) : 0 ≤ weight p s := by
  unfold weight; split
  · exact (Real.exp_pos s).le
  · exact le_rfl

theorem exp_masked (p : Prop) [Decidable p] (s : ℝ) : Ideal.exp (masked p s) = (weight p s : EReal) := by
  unfold masked weight; split <;> simp

/-- The shift by a finite maximum is a factor. -/
theorem exp_masked_sub (p : Prop) [Decidable p] (s μ : ℝ) :
    Ideal.exp (masked p s - (μ : EReal)) = ((weight p s * Real.exp (-μ) : ℝ) : EReal) := by
  unfold masked weight; split
  · rw [← EReal.coe_sub, Ideal.exp_coe, sub_eq_add_neg, Real.exp_add]
  · simp

/-- The maximum from -infinity on of masked finite scores, one of which is seen, is finite. -/
theorem max_finite {n : ℕ} (p : Fin n → Prop) [∀ j, Decidable (p j)] (s : Fin n → ℝ) (j₀ : Fin n) (h₀ : p j₀) :
    ∃ μ : ℝ, (Finset.univ : Finset (Fin n)).fold max ⊥ (fun j => masked (p j) (s j)) = (μ : EReal) := by
  have key : ∀ S : Finset (Fin n), (S.fold max ⊥ (fun j => masked (p j) (s j)) = (⊥ : EReal) ∨ ∃ μ : ℝ, S.fold max ⊥ (fun j => masked (p j) (s j)) = (μ : EReal)) := by
    intro S
    induction S using Finset.induction_on with
    | empty => left; rfl
    | insert a S ha ih =>
      rw [Finset.fold_insert ha]
      unfold masked at ih ⊢
      by_cases hp : p a
      · rw [if_pos hp]
        rcases ih with h | ⟨μ, h⟩
        · rw [h]; right; exact ⟨s a, max_eq_left bot_le⟩
        · rw [h]; right; exact ⟨max (s a) μ, (EReal.coe_strictMono.monotone.map_max).symm⟩
      · rw [if_neg hp]
        rw [max_eq_right bot_le]; exact ih
  rcases key Finset.univ with h | h
  · exfalso
    have : masked (p j₀) (s j₀) ≤ (Finset.univ : Finset (Fin n)).fold max ⊥ (fun j => masked (p j) (s j)) :=
      (Finset.le_fold_max _).mpr (Or.inr ⟨j₀, Finset.mem_univ _, le_rfl⟩)
    rw [h] at this
    unfold masked at this
    rw [if_pos h₀] at this
    exact absurd (le_bot_iff.mp this) (EReal.coe_ne_bot _)
  · exact h

/-- A sum over all columns of what vanishes from column `n` on. -/
theorem sum_seen {N n : ℕ} (h : n ≤ N) (f : Fin N → EReal) (hf : ∀ j : Fin N, n ≤ j.val → f j = 0) :
    ∑ j : Fin n, f (j.castLE h) = ∑ j : Fin N, f j := by
  obtain ⟨k, rfl⟩ := Nat.exists_eq_add_of_le h
  rw [Fin.sum_univ_add, Finset.sum_eq_zero (s := (Finset.univ : Finset (Fin k))) (fun j _ => hf _ (by simp)), add_zero]
  rfl

/-- A nonnegative number is a factor of a sum, of infinite values as well. -/
theorem sum_mul_pos {ι : Type} {S : Finset ι} {c : ℝ} (hc : 0 ≤ c) {f : ι → EReal} : (∑ i ∈ S, f i) * (c : EReal) = ∑ i ∈ S, f i * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- **One row of attention**: what the kernel leaves for a row, over the `n` columns that its group can see, is what the reference
    leaves, over all `N`. -/
theorem row_eq {N n : ℕ} (h : n ≤ N) (p : Fin N → Prop) [∀ j, Decidable (p j)] (s : Fin N → ℝ) (v : Fin N → EReal) (j₀ : Fin N) (h₀ : p j₀)
    (hn : ∀ j, p j → j.val < n) {M : EReal} (hM : M = (Finset.univ : Finset (Fin N)).fold max ⊥ (fun j => masked (p j) (s j))) :
    (∑ j : Fin n, Ideal.exp (masked (p (j.castLE h)) (s (j.castLE h))) * v (j.castLE h))
        * Ideal.div 1 (∑ j : Fin n, Ideal.exp (masked (p (j.castLE h)) (s (j.castLE h))))
      = ∑ j : Fin N, v j * Ideal.div (Ideal.exp (masked (p j) (s j) - M)) (∑ k : Fin N, Ideal.exp (masked (p k) (s k) - M)) := by
  obtain ⟨μ, hμ⟩ := max_finite p s j₀ h₀
  rw [hμ] at hM; subst hM
  have hz : ∀ j : Fin N, n ≤ j.val → weight (p j) (s j) = 0 := fun j hj => if_neg fun hp => absurd (hn j hp) (by omega)
  have hL : 0 < ∑ j : Fin N, weight (p j) (s j) :=
    Finset.sum_pos' (fun j _ => weight_nonneg _ _) ⟨j₀, Finset.mem_univ _, by unfold weight; rw [if_pos h₀]; exact Real.exp_pos _⟩
  have he : (0 : ℝ) < Real.exp (-μ) := Real.exp_pos _
  simp only [exp_masked, exp_masked_sub]
  rw [sum_seen h (fun j => (weight (p j) (s j) : EReal)) (fun j hj => by rw [hz j hj]; rfl),
    sum_seen h (fun j => (weight (p j) (s j) : EReal) * v j) (fun j hj => by rw [hz j hj]; exact zero_mul _)]
  simp only [← coe_sum]
  rw [← Finset.sum_mul, Ideal.div_coe hL.ne']
  simp only [Ideal.div_coe (mul_pos hL he).ne']
  rw [one_mul, sum_mul_pos (one_div_nonneg.mpr hL.le)]
  refine Finset.sum_congr rfl fun j _ => ?_
  rw [mul_comm (weight (p j) (s j) : EReal) (v j), mul_assoc, ← EReal.coe_mul]
  congr 2
  field_simp

end Cert.Value

end
-- ==== Proof.Value.Tile.lean ====
/-
# What the kernel's payloads compute, read at an index
-/
module

public import proofs.«01_k».proof.Proof.KernelIdeal.Values
public import Idealize.ShloMosaic.Lib.Pointwise
public import Idealize.ShloMosaic.PureOps.Ideal
public import proofs.«01_k».proof.Proof.Value.Softmax

@[expose] public section

set_option maxRecDepth 8000

noncomputable section

namespace Cert.Value

open Cert.KernelIdeal Cert.KernelIdeal.Gen Cert.KernelIdeal.Ring
open Idealize.ShloMosaic

/-- The score scale's word, as a value. -/
abbrev scl : EReal := Ideal.ofBits .f32 0x3DB504F3#32

/-- One entry of a head: weights of the visible columns times values, times the reciprocal of the weights' sum. -/
def rowVal {n : ℕ} (msk : Fin n → BitVec 1) (s v : Fin n → EReal) : EReal :=
  (∑ j : Fin n, Ideal.exp (Scalar.select (msk j) (s j * scl) ⊥) * v j)
    * Ideal.div 1 (∑ j : Fin n, Ideal.exp (Scalar.select (msk j) (s j * scl) ⊥))

theorem mask_named : (Named.named (F := Ideal) κ "mask" 0xCE6E6B28#32 : Ideal .f32) = (⊥ : EReal) :=
  IdealRules.named_const.ideal_named_scalar κ "mask" (φ := .f32) 0xCE6E6B28#32 ⊥ (by rfl)

theorem pay30_at (msk : IVec S256x256 1) (q : FVec Ideal S256x128 .bf16) (k v : FVec Ideal S1x256x128 .bf16) (r : Fin 256) (d : Fin 128) :
    k0_pay30 msk q k v (ix2 r d)
      = rowVal (fun j => msk (ix2 r j)) (fun j => ∑ e : Fin 128, q (ix2 r e) * k (ix3 0 j e)) (fun j => v (ix3 0 j d)) := by
  unfold rowVal scl
  pointwise [k0_pay30, mask_named]

theorem pay64_at (msk : IVec S256x512 1) (q : FVec Ideal S256x128 .bf16) (k v : FVec Ideal S1x512x128 .bf16) (r : Fin 256) (d : Fin 128) :
    k0_pay64 msk q k v (ix2 r d)
      = rowVal (fun j => msk (ix2 r j)) (fun j => ∑ e : Fin 128, q (ix2 r e) * k (ix3 0 j e)) (fun j => v (ix3 0 j d)) := by
  unfold rowVal scl
  pointwise [k0_pay64, mask_named]

theorem pay91_at (msk : IVec S256x768 1) (q : FVec Ideal S256x128 .bf16) (k v : FVec Ideal S1x768x128 .bf16) (r : Fin 256) (d : Fin 128) :
    k0_pay91 msk q k v (ix2 r d)
      = rowVal (fun j => msk (ix2 r j)) (fun j => ∑ e : Fin 128, q (ix2 r e) * k (ix3 0 j e)) (fun j => v (ix3 0 j d)) := by
  unfold rowVal scl
  pointwise [k0_pay91, mask_named]

theorem pay126_at (msk : IVec S256x1024 1) (q : FVec Ideal S256x128 .bf16) (k v : FVec Ideal S1x1024x128 .bf16) (r : Fin 256) (d : Fin 128) :
    k0_pay126 msk q k v (ix2 r d)
      = rowVal (fun j => msk (ix2 r j)) (fun j => ∑ e : Fin 128, q (ix2 r e) * k (ix3 0 j e)) (fun j => v (ix3 0 j d)) := by
  unfold rowVal scl
  pointwise [k0_pay126, mask_named]

theorem pay43_at (x : FVec Ideal S256x1024 .bf16) (w : FVec Ideal S1024x1024 .bf16) (r : Fin 256) (d : Fin 1024) :
    k0_pay43 x w (ix2 r d) = ∑ k : Fin 1024, x (ix2 r k) * w (ix2 k d) := by
  pointwise [k0_pay43]
theorem pay23_at (x : FVec Ideal S256x1024 .bf16) (w : FVec Ideal S1024x1024 .bf16) (r : Fin 256) (d : Fin 1024) :
    k0_pay23 x w (ix2 r d) = ∑ k : Fin 1024, x (ix2 r k) * w (ix2 k d) := by
  pointwise [k0_pay23]
theorem pay148_at (x : FVec Ideal S32x32x1024 .bf16) (r : Fin 32) (d : Fin 1024) :
    k0_pay148 x (ix2 r d) = ∑ s : Fin 32, x (ix3 s r d) := by
  pointwise [k0_pay148]
theorem pay1_at (x : FVec Ideal S1x1024x1024 .f32) (r : Fin 1024) (d : Fin 1024) : k0_pay1 (F := Ideal) x (ix2 r d) = (show EReal from x (ix3 0 r d)) := by
  pointwise [k0_pay1]
theorem pay2_at (x : FVec Ideal S1x1024x1x128 .f32) (r : Fin 1024) (d : Fin 128) : k0_pay2 (F := Ideal) x (ix3 0 r d) = (show EReal from x (ix4 0 r 0 d)) := by
  pointwise [k0_pay2]
theorem pay3_at (x : FVec Ideal S1x1024x1x128 .f32) (r : Fin 1024) (d : Fin 128) : k0_pay3 (F := Ideal) x (ix3 0 r d) = (show EReal from x (ix4 0 r 0 d)) := by
  pointwise [k0_pay3]
theorem pay20_eq (x : FVec Ideal S1024x1024 .f32) (r d : Fin 1024) : k0_pay20 (F := Ideal) x (ix2 r d) = (show EReal from x (ix2 r d)) := by
  pointwise [k0_pay20]
theorem pay22_eq (x : FVec Ideal S1024x1024 .f32) (r d : Fin 1024) : k0_pay22 (F := Ideal) (k0_pay21 x) (ix2 r d) = (show EReal from x (ix2 r d)) := by
  pointwise [k0_pay22, k0_pay21]

end Cert.Value

end
-- ==== Proof.Value.Mask.lean ====
/-
# Which columns a row sees
-/
module

public import proofs.«01_k».proof.Proof.Value.Tile

@[expose] public section

set_option maxRecDepth 8000

noncomputable section

namespace Cert.Value

open Cert.KernelIdeal Cert.KernelIdeal.Gen Cert.KernelIdeal.Ring
open Idealize.ShloMosaic

/-- The kernel's floor quotient of a word by 64. -/
def fdiv (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

set_option maxRecDepth 100000 in
theorem fdiv_word (n : Fin 1024) : fdiv (BitVec.ofNat 32 n.val) = BitVec.ofNat 32 (n.val / 64) := by
  revert n; decide +kernel
theorem sle_word (a b : Fin 16) : IntOp.cmpi CmpIPredicate.sle (BitVec.ofNat 32 a.val) (BitVec.ofNat 32 b.val) = if a.val ≤ b.val then 1#1 else 0#1 := by
  revert a b; decide +kernel

/-- The printed comparison of two block numbers. -/
theorem sees_word {j r : ℕ} (hj : j < 1024) (hr : r < 1024) :
    IntOp.cmpi CmpIPredicate.sle (fdiv (BitVec.ofNat 32 j)) (fdiv (BitVec.ofNat 32 r)) = if j / 64 ≤ r / 64 then 1#1 else 0#1 := by
  rw [fdiv_word ⟨j, hj⟩, fdiv_word ⟨r, hr⟩]
  exact sle_word ⟨j / 64, by omega⟩ ⟨r / 64, by omega⟩

theorem add_word (a r : ℕ) : IntOp.addi (BitVec.ofNat 32 a) (BitVec.ofNat 32 r) = BitVec.ofNat 32 (a + r) := (BitVec.ofNat_add a r).symm

theorem mask0_at (r j : Fin 256) : mask0 (ix2 r j) = if j.val / 64 ≤ (0 + r.val) / 64 then 1#1 else 0#1 := by
  refine Eq.trans ?_ (sees_word (j := j.val) (r := 0 + r.val) (by omega) (by omega))
  rw [← add_word]
  unfold fdiv
  pointwise [mask0, k0_pay27, k0_pay24, k0_pay25, k0_pay26]
theorem mask1_at (r : Fin 256) (j : Fin 512) : mask1 (ix2 r j) = if j.val / 64 ≤ (256 + r.val) / 64 then 1#1 else 0#1 := by
  refine Eq.trans ?_ (sees_word (j := j.val) (r := 256 + r.val) (by omega) (by omega))
  rw [← add_word]
  unfold fdiv
  pointwise [mask1, k0_pay58, k0_pay54, k0_pay55, k0_pay56, k0_pay57, k0_pay53]
theorem mask2_at (r : Fin 256) (j : Fin 768) : mask2 (ix2 r j) = if j.val / 64 ≤ (512 + r.val) / 64 then 1#1 else 0#1 := by
  refine Eq.trans ?_ (sees_word (j := j.val) (r := 512 + r.val) (by omega) (by omega))
  rw [← add_word]
  unfold fdiv
  pointwise [mask2, k0_pay89, k0_pay86, k0_pay87, k0_pay88]
theorem mask3_at (r : Fin 256) (j : Fin 1024) : mask3 (ix2 r j) = if j.val / 64 ≤ (768 + r.val) / 64 then 1#1 else 0#1 := by
  refine Eq.trans ?_ (sees_word (j := j.val) (r := 768 + r.val) (by omega) (by omega))
  rw [← add_word]
  unfold fdiv
  pointwise [mask3, k0_pay123, k0_pay120, k0_pay121, k0_pay122]

end Cert.Value

end
-- ==== Proof.Value.Device.lean ====
/-
# What a device's buffers hold, in terms of its arguments
-/
module

public import proofs.«01_k».proof.Proof.Value.Mask

@[expose] public section

set_option maxRecDepth 8000

noncomputable section

namespace Cert.Value

open Cert.KernelIdeal Cert.KernelIdeal.Gen Cert.KernelIdeal.Ring
open Idealize.ShloMosaic
open Idealize.ShloMosaic.TcCoe

variable (m : (ℓ : Loc nD τ sig) → Buf (Elt Ideal) ℓ) (c : Dev nD)

theorem xIn_eq (i : S1x1024x1024.Idx) : xIn m c i = m ((c : Thread nD τ).loc main_arg0) i :=
  congrArg (m ((c : Thread nD τ).loc main_arg0))
    (funext fun a => Fin.ext ((win0 0).rect_emb_val_of_index_zero t0_0 a (by fin_cases a <;> rfl) i))
theorem kIn_eq (i : S1x1024x8x128.Idx) : kIn m c i = m ((c : Thread nD τ).loc main_arg2) i :=
  congrArg (m ((c : Thread nD τ).loc main_arg2))
    (funext fun a => Fin.ext ((win0 1).rect_emb_val_of_index_zero t0_0 a (by fin_cases a <;> rfl) i))
theorem vIn_eq (i : S1x1024x8x128.Idx) : vIn m c i = m ((c : Thread nD τ).loc main_arg3) i :=
  congrArg (m ((c : Thread nD τ).loc main_arg3))
    (funext fun a => Fin.ext ((win0 2).rect_emb_val_of_index_zero t0_0 a (by fin_cases a <;> rfl) i))

theorem off1_at : k0_off1 c = ![0, 1024 * c.val] := by
  revert c; decide +kernel
theorem off2_at : k0_off2 c = ![1024 * c.val, 0] := by
  revert c; decide +kernel

/-- A load at unit stride from a whole buffer. -/
theorem load_at {b : Ref sig .tc} (off size : Fin b.ty.shape.rank → ℕ) (inb) (f : b.ty.Contents (Elt Ideal))
    (i : (Rect.unit (s := b.ty.shape) off size inb).shape.Idx) (k : b.ty.Idx) (hk : ∀ a, (k a).val = off a + (i a).val) :
    (View.whole b).readAt (Elt Ideal) (Rect.unit (s := b.ty.shape) off size inb).toLoadRect f i = f k := by
  refine congrArg f (funext fun a => Fin.ext ?_)
  rw [hk]
  show off a + 1 * (i a).val = _
  rw [Nat.one_mul]

theorem xb_at (r e : Fin 1024) : xbV m c (ix2 r e) = (show EReal from m ((c : Thread nD τ).loc main_arg0) (ix3 0 r e)) := by
  unfold xbV
  rw [pay1_at]
  refine Eq.trans ?_ (xIn_eq m c _)
  exact load_at (b := cc0_stg0_0) ![0, 0, 0] S1x1024x1024.size _ (xIn m c) (ix3 0 r e) (ix3 0 r e) (fun a => match a with
    | ⟨0, _⟩ => (Nat.zero_add _).symm
    | ⟨1, _⟩ => (Nat.zero_add _).symm
    | ⟨2, _⟩ => (Nat.zero_add _).symm)

theorem kb_at (h : Fin 8) (j : Fin 1024) (d : Fin 128) :
    kbV m c (ix3 h j d) = (show EReal from m ((c : Thread nD τ).loc main_arg2) (ix4 0 j h d)) := by
  show kHead m c h.val h.isLt (ix3 0 j d) = _
  unfold kHead
  rw [pay2_at]
  refine Eq.trans ?_ (kIn_eq m c _)
  exact load_at (b := cc0_stg1_0) ![0, 0, h.val, 0] S1x1024x1x128.size _ (kIn m c) (ix4 0 j 0 d) (ix4 0 j h d) (fun a => match a with
    | ⟨0, _⟩ => (Nat.zero_add _).symm
    | ⟨1, _⟩ => (Nat.zero_add _).symm
    | ⟨2, _⟩ => rfl
    | ⟨3, _⟩ => (Nat.zero_add _).symm)

theorem vb_at (h : Fin 8) (j : Fin 1024) (d : Fin 128) :
    vbV m c (ix3 h j d) = (show EReal from m ((c : Thread nD τ).loc main_arg3) (ix4 0 j h d)) := by
  show vHead m c h.val h.isLt (ix3 0 j d) = _
  unfold vHead
  rw [pay3_at]
  refine Eq.trans ?_ (vIn_eq m c _)
  exact load_at (b := cc0_stg2_0) ![0, 0, h.val, 0] S1x1024x1x128.size _ (vIn m c) (ix4 0 j 0 d) (ix4 0 j h d) (fun a => match a with
    | ⟨0, _⟩ => (Nat.zero_add _).symm
    | ⟨1, _⟩ => (Nat.zero_add _).symm
    | ⟨2, _⟩ => rfl
    | ⟨3, _⟩ => (Nat.zero_add _).symm)

/-- Column `k` of device `c`'s block of columns. -/
def col (c : Dev nD) (k : Fin 1024) : Fin 32768 := ⟨1024 * c.val + k.val, by have : c.val < 32 := c.isLt; omega⟩

theorem gqb_at (e k : Fin 1024) : gqbV m c (ix2 e k) = (show EReal from m ((c : Thread nD τ).loc main_arg1) (ix2 e (col c k))) := by
  unfold gqbV
  rw [pay20_eq]
  refine (load_at (b := cc0_scratch0) ![0, 0] S1024x1024.size _ (wqL m c) (ix2 e k) (ix2 e k) (fun a => match a with
    | ⟨0, _⟩ => (Nat.zero_add _).symm
    | ⟨1, _⟩ => (Nat.zero_add _).symm)).trans ?_
  refine congrArg (m ((c : Thread nD τ).loc main_arg1)) (funext fun a => Fin.ext ?_)
  have h := off1_at c
  match a with
  | ⟨0, _⟩ =>
    show k0_off1 c 0 + 1 * e.val = e.val
    rw [h]; show 0 + 1 * _ = _; omega
  | ⟨1, _⟩ =>
    show k0_off1 c 1 + 1 * k.val = 1024 * c.val + k.val
    rw [h]; show 1024 * c.val + 1 * _ = _; omega

theorem gob_at (k e : Fin 1024) : gobV m c (ix2 k e) = (show EReal from m ((c : Thread nD τ).loc main_arg4) (ix2 (col c k) e)) := by
  unfold gobV
  rw [pay22_eq]
  refine (load_at (b := cc0_scratch1) ![0, 0] S1024x1024.size _ (woL m c) (ix2 k e) (ix2 k e) (fun a => match a with
    | ⟨0, _⟩ => (Nat.zero_add _).symm
    | ⟨1, _⟩ => (Nat.zero_add _).symm)).trans ?_
  refine congrArg (m ((c : Thread nD τ).loc main_arg4)) (funext fun a => Fin.ext ?_)
  have h := off2_at c
  match a with
  | ⟨0, _⟩ =>
    show k0_off2 c 0 + 1 * k.val = 1024 * c.val + k.val
    rw [h]; show 1024 * c.val + 1 * _ = _; omega
  | ⟨1, _⟩ =>
    show k0_off2 c 1 + 1 * e.val = e.val
    rw [h]; show 0 + 1 * _ = _; omega

/-- Row `r` of group `g`. -/
def row (g : ℕ) (hg : g < 4) (r : Fin 256) : Fin 1024 := ⟨256 * g + r.val, by omega⟩

/-- One entry of the queries of device `c`: row `R` of `x` with column `k` of the device's block of the first weight. -/
def qAt (R k : Fin 1024) : EReal :=
  ∑ e : Fin 1024, (show EReal from m ((c : Thread nD τ).loc main_arg0) (ix3 0 R e)) * (show EReal from m ((c : Thread nD τ).loc main_arg1) (ix2 e (col c k)))

theorem qV_at (g : ℕ) (hg : g < 4) (r : Fin 256) (k : Fin 1024) : qV m c g hg (ix2 r k) = qAt m c (row g hg r) k := by
  unfold qV
  rw [pay23_at]
  refine Finset.sum_congr rfl fun e _ => congrArg₂ (HMul.hMul (α := EReal) (β := EReal)) ?_ ?_
  · exact (load_at (b := cc0_scratch2) ![256 * g, 0] S256x1024.size _ (xbV m c) (ix2 r e) (ix2 (row g hg r) e) (fun a => match a with
      | ⟨0, _⟩ => rfl
      | ⟨1, _⟩ => (Nat.zero_add _).symm)).trans (xb_at m c _ _)
  · exact (load_at (b := cc0_scratch3) ![0, 0] S1024x1024.size _ (gqbV m c) (ix2 e k) (ix2 e k) (fun a => match a with
      | ⟨0, _⟩ => (Nat.zero_add _).symm
      | ⟨1, _⟩ => (Nat.zero_add _).symm)).trans (gqb_at m c _ _)

end Cert.Value

end
-- ==== Proof.Value.Heads.lean ====
/-
# What a device computes, in terms of the arguments
-/
module

public import proofs.«01_k».proof.Proof.Value.Device

@[expose] public section

set_option maxRecDepth 8000

noncomputable section

namespace Cert.Value

open Cert.KernelIdeal Cert.KernelIdeal.Gen Cert.KernelIdeal.Ring
open Idealize.ShloMosaic
open Idealize.ShloMosaic.TcCoe

variable (m : (ℓ : Loc nD τ sig) → Buf (Elt Ideal) ℓ) (c : Dev nD)

/-- Column `e` of head `h`. -/
def hcol (h : Fin 8) (e : Fin 128) : Fin 1024 := ⟨128 * h.val + e.val, by omega⟩

/-- The unscaled score of row `R` against column `j` in head `h` of device `c`. -/
def scoreAt (R : Fin 1024) (h : Fin 8) (j : Fin 1024) : EReal :=
  ∑ e : Fin 128, qAt m c R (hcol h e) * (show EReal from m ((c : Thread nD τ).loc main_arg2) (ix4 0 j h e))

/-- Entry `d` of head `h` of device `c` for row `R`, from the first `n` columns. -/
def headAt (n : ℕ) (hn : n ≤ 1024) (R : Fin 1024) (h : Fin 8) (d : Fin 128) : EReal :=
  rowVal (n := n) (fun j => if sees R j.val then 1#1 else 0#1) (fun j => scoreAt m c R h (j.castLE hn))
    (fun j => (show EReal from m ((c : Thread nD τ).loc main_arg3) (ix4 0 (j.castLE hn) h d)))

theorem qCols_at (h : Fin 8) (q : FVec Ideal S256x1024 .bf16) (r : Fin 256) (e : Fin 128) :
    qCols h.val h.isLt q (ix2 r e) = q (ix2 r (hcol h e)) := by
  refine congrArg q (funext fun a => Fin.ext ?_)
  match a with
  | ⟨0, _⟩ => exact Nat.zero_add _
  | ⟨1, _⟩ => rfl

/-- The masked row depends only on the masks, scores and values. -/
theorem rowVal_congr {n : ℕ} {a b : Fin n → BitVec 1} {s t v w : Fin n → EReal} (h₁ : ∀ j, a j = b j) (h₂ : ∀ j, s j = t j) (h₃ : ∀ j, v j = w j) :
    rowVal a s v = rowVal b t w := by
  rw [funext h₁, funext h₂, funext h₃]

theorem score_at (g : ℕ) (hg : g < 4) (h : Fin 8) (n : ℕ) (hn : n ≤ 1024)
    (inb) (r : Fin 256) (j : Fin n) :
    (∑ e : Fin 128, (show EReal from qCols h.val h.isLt (qV m c g hg) (ix2 r e))
      * (show EReal from (kbM.view.readAt (Elt Ideal) (Rect.unit (s := S8x1024x128) ![h.val, 0, 0] ![1, n, 128] inb).toLoadRect (kbV m c)) (ix3 0 j e)))
      = scoreAt m c (row g hg r) h (j.castLE hn) := by
  refine Finset.sum_congr rfl fun e _ => congrArg₂ (HMul.hMul (α := EReal) (β := EReal)) ?_ ?_
  · exact (qCols_at h _ r e).trans (qV_at m c g hg r _)
  · exact (load_at (b := kbM.view.ref) ![h.val, 0, 0] ![1, n, 128] inb (kbV m c) (ix3 0 j e) (ix3 h (j.castLE hn) e) (fun a => match a with
      | ⟨0, _⟩ => rfl
      | ⟨1, _⟩ => (Nat.zero_add _).symm
      | ⟨2, _⟩ => (Nat.zero_add _).symm)).trans (kb_at m c _ _ _)

theorem value_at (h : Fin 8) (n : ℕ) (hn : n ≤ 1024) (inb) (j : Fin n) (d : Fin 128) :
    (show EReal from (vbM.view.readAt (Elt Ideal) (Rect.unit (s := S8x1024x128) ![h.val, 0, 0] ![1, n, 128] inb).toLoadRect (vbV m c)) (ix3 0 j d))
      = (show EReal from m ((c : Thread nD τ).loc main_arg3) (ix4 0 (j.castLE hn) h d)) :=
  (load_at (b := vbM.view.ref) ![h.val, 0, 0] ![1, n, 128] inb (vbV m c) (ix3 0 j d) (ix3 h (j.castLE hn) d) (fun a => match a with
      | ⟨0, _⟩ => rfl
      | ⟨1, _⟩ => (Nat.zero_add _).symm
      | ⟨2, _⟩ => (Nat.zero_add _).symm)).trans (vb_at m c _ _ _)

/-- A head's entry, whichever the group: group `g` looks at the first `256·(g + 1)` columns. -/
theorem head_at (g : ℕ) (hg : g < 4) (h : Fin 8) (r : Fin 256) (d : Fin 128) :
    headV m c g h.val h.isLt (ix2 r d) = headAt m c (256 * (g + 1)) (by omega) (row g hg r) h d := by
  match g with
  | 0 => exact (pay30_at _ _ _ _ r d).trans (rowVal_congr (mask0_at r) (score_at m c 0 hg h 256 _ _ r) (value_at m c h 256 _ _ · d))
  | 1 => exact (pay64_at _ _ _ _ r d).trans (rowVal_congr (mask1_at r) (score_at m c 1 hg h 512 _ _ r) (value_at m c h 512 _ _ · d))
  | 2 => exact (pay91_at _ _ _ _ r d).trans (rowVal_congr (mask2_at r) (score_at m c 2 hg h 768 _ _ r) (value_at m c h 768 _ _ · d))
  | 3 => exact (pay126_at _ _ _ _ r d).trans (rowVal_congr (mask3_at r) (score_at m c 3 hg h 1024 _ _ r) (value_at m c h 1024 _ _ · d))

/-- The head and the entry in it that column `k` is. -/
def hd (k : Fin 1024) : Fin 8 := ⟨k.val / 128, by omega⟩
def en (k : Fin 1024) : Fin 128 := ⟨k.val % 128, by omega⟩

theorem ctx_at (g : ℕ) (hg : g < 4) (r : Fin 256) (k : Fin 1024) :
    ctxV m c g (ix2 r k) = headAt m c (256 * (g + 1)) (by omega) (row g hg r) (hd k) (en k) :=
  head_at m c g hg (hd k) r (en k)

/-- What device `c` adds to entry `(R, e)` of the result. -/
def accAt (n : ℕ) (hn : n ≤ 1024) (R e : Fin 1024) : EReal :=
  ∑ k : Fin 1024, headAt m c n hn R (hd k) (en k) * (show EReal from m ((c : Thread nD τ).loc main_arg4) (ix2 (col c k) e))

theorem acc_at (g : ℕ) (hg : g < 4) (r : Fin 256) (e : Fin 1024) :
    accV m c g (ix2 r e) = accAt m c (256 * (g + 1)) (by omega) (row g hg r) e := by
  unfold accV
  rw [pay43_at]
  refine Finset.sum_congr rfl fun k _ => congrArg₂ (HMul.hMul (α := EReal) (β := EReal)) ?_ ?_
  · exact (load_at (b := cxM.view.ref) ![0, 0] S256x1024.size _ (ctxV m c g) (ix2 r k) (ix2 r k) (fun a => match a with
      | ⟨0, _⟩ => (Nat.zero_add _).symm
      | ⟨1, _⟩ => (Nat.zero_add _).symm)).trans (ctx_at m c g hg _ _)
  · exact (load_at (b := gobM.view.ref) ![0, 0] S1024x1024.size _ (gobV m c) (ix2 k e) (ix2 k e) (fun a => match a with
      | ⟨0, _⟩ => (Nat.zero_add _).symm
      | ⟨1, _⟩ => (Nat.zero_add _).symm)).trans (gob_at m c _ _)

/-- The result's entry `(R, e)`: what the 32 devices add to it, each from the columns that `R`'s group looks at. -/
theorem out_at (R e : Fin 1024) :
    outV (accV m) (ix2 R e) = ∑ s : Dev nD, accAt m s (256 * (R.val / 256 + 1)) (by omega) R e := by
  show redV (accV m) (dv (R.val / 32)) (ix2 (⟨R.val % 32, Nat.mod_lt _ (by decide)⟩ : Fin 32) e) = _
  unfold redV
  rw [pay148_at]
  refine Finset.sum_congr rfl fun s _ => ?_
  have hR := R.isLt
  have hd : (dv (R.val / 32)).val = R.val / 32 := by rw [dv_val]; omega
  have hg : (dv (R.val / 32)).val / 8 = R.val / 256 := by rw [hd]; omega
  have hi : (accRect (dv (R.val / 32)).val).emb (ix2 (⟨R.val % 32, Nat.mod_lt _ (by decide)⟩ : Fin 32) e)
      = ix2 (⟨R.val % 256, Nat.mod_lt _ (by decide)⟩ : Fin 256) e := by
    refine funext fun a => Fin.ext ?_
    match a with
    | ⟨0, _⟩ => show 32 * ((dv (R.val / 32)).val % 8) + 1 * (R.val % 32) = R.val % 256; rw [hd]; omega
    | ⟨1, _⟩ => show 0 + 1 * e.val = e.val; omega
  show accV m s ((dv (R.val / 32)).val / 8) ((accRect (dv (R.val / 32)).val).emb (ix2 (⟨R.val % 32, Nat.mod_lt _ (by decide)⟩ : Fin 32) e)) = _
  rw [hi, hg, acc_at m s (R.val / 256) (by omega)]
  congr 1
  exact Fin.ext (by show 256 * (R.val / 256) + R.val % 256 = R.val; omega)

end Cert.Value

end
-- ==== Proof.Value.Finite.lean ====
/-
# What the precondition says: the inputs of the scores are numbers
-/
module

public import proofs.«01_k».proof.Pre_finite_KernelIdeal
public import proofs.«01_k».proof.Pre_finite_ReferenceIdeal
public import Idealize.ShloMosaic.Lib.ReduceAll
public import Idealize.ShloMosaic.Lib.Pointwise
public import Idealize.ShloMosaic.PureOps.Ideal
public import proofs.«01_k».proof.Proof.Value.Softmax

@[expose] public section

set_option maxRecDepth 8000

noncomputable section

namespace Cert.Value

open Idealize.ShloMosaic

/-- The side conditions of the predicate over one device's arrays. -/
instance factsK : Cert.Pre_finite_KernelIdeal.Facts where
  bcast_S_S1x1024x1024 := by decide
  reducesTo_S1x1024x1024_S_d0_1_2 := by decide
  h_S_ := by decide
  bcast_S_S1024x32768 := by decide
  reducesTo_S1024x32768_S_d0_1 := by decide
  bcast_S_S1x1024x8x128 := by decide
  reducesTo_S1x1024x8x128_S_d0_1_2_3 := by decide

/-- The side conditions of the predicate over the whole arrays. -/
instance factsR : Cert.Pre_finite_ReferenceIdeal.Facts where
  bcast_S_S1x1024x1024 := by decide
  reducesTo_S1x1024x1024_S_d0_1_2 := by decide
  h_S_ := by decide
  bcast_S_S1024x32768 := by decide
  reducesTo_S1024x32768_S_d0_1 := by decide
  bcast_S_S1x1024x256x128 := by decide
  reducesTo_S1x1024x256x128_S_d0_1_2_3 := by decide

/-- A number, as opposed to an infinity. -/
def IsNum (v : EReal) : Prop := ∃ r : ℝ, v = (r : EReal)

theorem IsNum.mul {v w : EReal} : IsNum v → IsNum w → IsNum (v * w)
  | ⟨a, ha⟩, ⟨b, hb⟩ => ⟨a * b, by rw [ha, hb, EReal.coe_mul]⟩
theorem IsNum.sum {ι : Type} {S : Finset ι} {f : ι → EReal} (h : ∀ i, IsNum (f i)) : IsNum (∑ i ∈ S, f i) := by
  choose r hr using h
  exact ⟨∑ i ∈ S, r i, by rw [coe_sum]; exact Finset.sum_congr rfl fun i _ => hr i⟩

theorem posInf : Ideal.ofBits .f32 0x7F800000#32 = (⊤ : EReal) := by simp [Ideal.ofBits, Ideal.ieee]

/-- What lies below infinity in absolute value is a number. -/
theorem isNum_of_abs {v : EReal} (h : Ideal.cmp .olt (max v (-v)) (⊤ : EReal) = 1#1) : IsNum v := by
  induction v using EReal.rec with
  | bot => simp [Ideal.cmp] at h
  | coe r => exact ⟨r, rfl⟩
  | top => simp [Ideal.cmp] at h

open Cert.Pre_finite_KernelIdeal in
/-- Under the precondition the entries of `x`, of the first weight and of the keys are numbers. -/
theorem finite_nums (x : FVec Ideal S1x1024x1024 .f32) (wq : FVec Ideal S1024x32768 .f32) (k v : FVec Ideal S1x1024x8x128 .f32) (wo : FVec Ideal S32768x1024 .f32)
    (h : fn (F := Ideal) x wq k v wo = fun _ => 1#1) :
    (∀ i, IsNum (x i)) ∧ (∀ i, IsNum (wq i)) ∧ (∀ i, IsNum (k i)) := by
  have h0 := congrFun h ix0
  obtain ⟨h1, hk⟩ := IntOp.andi_eq_one.1 h0
  obtain ⟨hx, hw⟩ := IntOp.andi_eq_one.1 h1
  haveI : Subsingleton S_.Idx := ⟨fun a b => funext fun i => i.elim0⟩
  refine ⟨fun i => ?_, fun i => ?_, fun i => ?_⟩
  · have e := Host.reduce_andi_all _ _ _ _ _ hx i
    refine isNum_of_abs ?_
    rw [← posInf]; exact e
  · have e := Host.reduce_andi_all _ _ _ _ _ hw i
    refine isNum_of_abs ?_
    rw [← posInf]; exact e
  · have e := Host.reduce_andi_all _ _ _ _ _ hk i
    refine isNum_of_abs ?_
    rw [← posInf]; exact e

end Cert.Value

end
-- ==== Proof.Value.Ref.lean ====
/-
# What the reference computes, read at an index
-/
module

public import proofs.«01_k».proof.Proof.Gen.ReferenceIdeal.Run
public import proofs.«01_k».proof.Proof.Value.Softmax
public import Idealize.ShloMosaic.Lib.Pointwise
public import Idealize.ShloMosaic.PureOps.Ideal

@[expose] public section

set_option maxRecDepth 8192

noncomputable section

namespace Cert.Value

open Cert.ReferenceIdeal Cert.ReferenceIdeal.Gen Cert.ReferenceIdeal.Value
open Idealize.ShloMosaic
open Idealize.ShloMosaic.TcCoe

/-- The block of 64 that an index lies in. -/
def fdivR : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))

/-- The mask. -/
def maskR : IVec S1024x1024 1 :=
  cmpi .sle (broadcastInDim S1024x1024 ![0, 1] bcast_S1x1024_S1024x1024_0_1 (broadcastInDim S1x1024 ![1] bcast_S1024_S1x1024_1 fdivR)) (broadcastInDim S1024x1024 ![0, 1] bcast_S1024x1_S1024x1024_0_1 (broadcastInDim S1024x1 ![0] bcast_S1024_S1024x1_0 fdivR))

/-- The queries. -/
def qR (x : FVec Ideal S1x1024x1024 .f32) (wq : FVec Ideal S1024x32768 .f32) : FVec Ideal S1x1024x256x128 .f32 :=
  shapeCast _ (Host.dotGeneral dot_S1x1024x1024_S1024x32768_S1x1024x32768_2_0_01_1_n_n none x wq) shapeCasts_S1x1024x32768_S1x1024x256x128

/-- The masked scores. -/
def scoreR (x : FVec Ideal S1x1024x1024 .f32) (wq : FVec Ideal S1024x32768 .f32) (k : FVec Ideal S1x1024x256x128 .f32) : FVec Ideal S1x256x1024x1024 .f32 :=
  select (broadcastInDim S1x256x1024x1024 ![0, 1, 2, 3] bcast_S1x1x1024x1024_S1x256x1024x1024_0_1_2_3 (broadcastInDim S1x1x1024x1024 ![2, 3] bcast_S1024x1024_S1x1x1024x1024_2_3 maskR)) (mulf (Host.dotGeneral dot_S1x1024x256x128_S1x1024x256x128_S1x256x1024x1024_3_3_1_1_02_02 none (qR x wq) k) (broadcastInDim S1x256x1024x1024 ![] bcast_S_S1x256x1024x1024 (constant S_ .f32 0x3DB504F3#32))) (broadcastInDim S1x256x1024x1024 ![] bcast_S_S1x256x1024x1024 (id (constant S_ .f32 0xFF800000#32)))

/-- A row's maximum. -/
def maxR (x : FVec Ideal S1x1024x1024 .f32) (wq : FVec Ideal S1024x32768 .f32) (k : FVec Ideal S1x1024x256x128 .f32) : FVec Ideal S1x256x1024 .f32 :=
  Host.reduce FloatOps.maximumf (scoreR x wq k) (constant S_ .f32 0xFF800000#32) reducesTo_S1x256x1024x1024_S1x256x1024_d3 h_S_

/-- The exponentials of the scores less the maximum. -/
def expR (x : FVec Ideal S1x1024x1024 .f32) (wq : FVec Ideal S1024x32768 .f32) (k : FVec Ideal S1x1024x256x128 .f32) : FVec Ideal S1x256x1024x1024 .f32 :=
  Host.exp (subf (scoreR x wq k) (broadcastInDim S1x256x1024x1024 ![0, 1, 2, 3] bcast_S1x256x1024x1_S1x256x1024x1024_0_1_2_3 (broadcastInDim S1x256x1024x1 ![0, 1, 2] bcast_S1x256x1024_S1x256x1024x1_0_1_2 (maxR x wq k))))

/-- Whether a row sees a column at all. -/
def keepR : IVec S1024 1 :=
  Host.reduce IntOp.ori maskR (constantI S_ 1 0#1) reducesTo_S1024x1024_S1024_d1 h_S_

/-- A row's sum of exponentials. -/
def sumR (x : FVec Ideal S1x1024x1024 .f32) (wq : FVec Ideal S1024x32768 .f32) (k : FVec Ideal S1x1024x256x128 .f32) : FVec Ideal S1x256x1024x1 .f32 :=
  select (broadcastInDim S1x256x1024x1 ![0, 1, 2, 3] bcast_S1x1x1024x1_S1x256x1024x1_0_1_2_3 (broadcastInDim S1x1x1024x1 ![2] bcast_S1024_S1x1x1024x1_2 keepR)) (broadcastInDim S1x256x1024x1 ![0, 1, 2] bcast_S1x256x1024_S1x256x1024x1_0_1_2 (Host.reduceAdd (expR x wq k) (constant S_ .f32 0x00000000#32) reducesTo_S1x256x1024x1024_S1x256x1024_d3 h_S_)) (broadcastInDim S1x256x1024x1 ![] bcast_S_S1x256x1024x1 (id (constant S_ .f32 0x3F800000#32)))

/-- The weights. -/
def weightR (x : FVec Ideal S1x1024x1024 .f32) (wq : FVec Ideal S1024x32768 .f32) (k : FVec Ideal S1x1024x256x128 .f32) : FVec Ideal S1x256x1024x1024 .f32 :=
  select (broadcastInDim S1x256x1024x1024 ![0, 1, 2, 3] bcast_S1x1x1024x1_S1x256x1024x1024_0_1_2_3 (broadcastInDim S1x1x1024x1 ![2] bcast_S1024_S1x1x1024x1_2 keepR)) (Host.divf (expR x wq k) (broadcastInDim S1x256x1024x1024 ![0, 1, 2, 3] bcast_S1x256x1024x1_S1x256x1024x1024_0_1_2_3 (sumR x wq k))) (broadcastInDim S1x256x1024x1024 ![] bcast_S_S1x256x1024x1024 (id (constant S_ .f32 0x00000000#32)))

/-- The heads side by side. -/
def ctxR (x : FVec Ideal S1x1024x1024 .f32) (wq : FVec Ideal S1024x32768 .f32) (k : FVec Ideal S1x1024x256x128 .f32) (v : FVec Ideal S1x1024x256x128 .f32) : FVec Ideal S1x1024x32768 .f32 :=
  shapeCast _ (transpose S1x1024x256x128 [0, 3, 1, 2] (Host.dotGeneral dot_S1x1024x256x128_S1x256x1024x1024_S1x256x128x1024_1_3_3_2_02_01 none v (weightR x wq k)) transposes_S1x256x128x1024_S1x1024x256x128_0_3_1_2) shapeCasts_S1x1024x256x128_S1x1024x32768

/-- The result. -/
def outR (x : FVec Ideal S1x1024x1024 .f32) (wq : FVec Ideal S1024x32768 .f32) (k : FVec Ideal S1x1024x256x128 .f32) (v : FVec Ideal S1x1024x256x128 .f32) (wo : FVec Ideal S32768x1024 .f32) : FVec Ideal S1024x1024 .bf16 :=
  truncf .bf16 (shapeCast _ (Host.dotGeneral dot_S1x1024x32768_S32768x1024_S1x1024x1024_2_0_01_1_n_n none (ctxR x wq k v) wo) shapeCasts_S1x1024x1024_S1024x1024) bitsLt_bf16_f32

variable (x : FVec Ideal S1x1024x1024 .f32) (wq : FVec Ideal S1024x32768 .f32) (k v : FVec Ideal S1x1024x256x128 .f32) (wo : FVec Ideal S32768x1024 .f32)

theorem res_eq (m : (ℓ : Loc nD τ sig) → Buf (Elt Ideal) ℓ) (c : Dev nD) :
    res_main_v35 m c = outR (m ((c : Thread nD τ).loc main_arg0)) (m ((c : Thread nD τ).loc main_arg1)) (m ((c : Thread nD τ).loc main_arg2))
      (m ((c : Thread nD τ).loc main_arg3)) (m ((c : Thread nD τ).loc main_arg4)) := rfl

/-- The floor quotient by 64, as the reference spells it. -/
def fdivW (w : BitVec 32) : BitVec 32 :=
  Scalar.select
    (IntOp.andi
      (IntOp.cmpi CmpIPredicate.ne (if w = 0 then (0 : BitVec 32) else if w.msb = true then -1 else 1)
        (if (64#32 : BitVec 32) = 0 then (0 : BitVec 32) else if (64#32 : BitVec 32).msb = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

set_option maxRecDepth 100000 in
theorem fdivW_word (n : Fin 1024) : fdivW (BitVec.ofNat 32 n.val) = BitVec.ofNat 32 (n.val / 64) := by
  revert n; decide +kernel
theorem sleW (a b : Fin 16) : IntOp.cmpi CmpIPredicate.sle (BitVec.ofNat 32 a.val) (BitVec.ofNat 32 b.val) = if a.val ≤ b.val then 1#1 else 0#1 := by
  revert a b; decide +kernel

theorem fdivR_at (r : Fin 1024) : fdivR (ix1 r) = BitVec.ofNat 32 (r.val / 64) := by
  refine Eq.trans ?_ (fdivW_word r)
  pointwise [fdivR]
  rfl
/-- The mask at row `r`, column `j`. -/
theorem maskR_at (r j : Fin 1024) : maskR (ix2 r j) = if sees r j.val then 1#1 else 0#1 := by
  refine Eq.trans ?_ (sleW ⟨j.val / 64, by omega⟩ ⟨r.val / 64, by omega⟩)
  rw [← fdivR_at, ← fdivR_at]
  pointwise [maskR]

theorem fold_ori {n : ℕ} (f : Fin n → BitVec 1) (j₀ : Fin n) (h : f j₀ = 1#1) : Finset.fold IntOp.ori (0#1) f Finset.univ = 1#1 := by
  rw [← Finset.insert_erase (Finset.mem_univ j₀)]
  refine (Finset.fold_insert (op := IntOp.ori) (Finset.notMem_erase _ _)).trans ?_
  rw [h]
  generalize Finset.fold IntOp.ori (0#1) f (Finset.univ.erase j₀) = w
  revert w; decide
/-- Every row sees column 0. -/
theorem keepR_at (r : Fin 1024) : keepR (ix1 r) = 1#1 := by
  pointwise [keepR]
  exact fold_ori (fun j => maskR (ix2 r j)) 0 ((maskR_at r 0).trans (if_pos (Nat.zero_le _)))

theorem negInf : Ideal.ofBits .f32 0xFF800000#32 = (⊥ : EReal) := by simp [Ideal.ofBits, Ideal.ieee]

/-- The queries. -/
def qRef (R : Fin 1024) (n : Fin 32768) : EReal := ∑ e : Fin 1024, (show EReal from x (ix3 0 R e)) * (show EReal from wq (ix2 e n))
/-- Entry `d` of head `H`, among all columns. -/
def hcolR (H : Fin 256) (d : Fin 128) : Fin 32768 := ⟨H.val * 128 + d.val, by omega⟩
/-- The unscaled score of row `R` against column `j` in head `H`. -/
def scoreRef (R : Fin 1024) (H : Fin 256) (j : Fin 1024) : EReal :=
  ∑ e : Fin 128, qRef x wq R (hcolR H e) * (show EReal from k (ix4 0 j H e))

theorem qR_at (R : Fin 1024) (H : Fin 256) (e : Fin 128) : qR x wq (ix4 0 R H e) = qRef x wq R (hcolR H e) := by
  unfold qRef hcolR
  pointwise [qR]
theorem select_one (a b : EReal) : Scalar.select 1#1 a b = a := rfl
theorem select_masked (p : Prop) [Decidable p] (s : EReal) : Scalar.select (if p then 1#1 else 0#1) s ⊥ = masked p s := by
  unfold masked; split <;> rfl
theorem scoreR_at (H : Fin 256) (r j : Fin 1024) :
    scoreR x wq k (ix4 0 H r j) = masked (sees r j.val) (scoreRef x wq k r H j * Ideal.ofBits .f32 0x3DB504F3#32) := by
  unfold scoreRef
  rw [← select_masked, ← maskR_at]
  simp only [← qR_at]
  rw [← negInf]
  pointwise [scoreR]
  rfl
theorem maxR_at (H : Fin 256) (r : Fin 1024) :
    maxR x wq k (ix3 0 H r) = (Finset.univ : Finset (Fin 1024)).fold max ⊥ (fun j => scoreR x wq k (ix4 0 H r j)) := by
  rw [← negInf]
  pointwise [maxR]
theorem expR_at (H : Fin 256) (r j : Fin 1024) :
    expR x wq k (ix4 0 H r j) = Ideal.exp (scoreR x wq k (ix4 0 H r j) - maxR x wq k (ix3 0 H r)) := by
  pointwise [expR]
theorem sumR_at (H : Fin 256) (r : Fin 1024) : sumR x wq k (ix4 0 H r 0) = ∑ j : Fin 1024, (show EReal from expR x wq k (ix4 0 H r j)) := by
  pointwise [sumR]
  rw [keepR_at]; exact select_one _ _
theorem weightR_at (H : Fin 256) (r j : Fin 1024) :
    weightR x wq k (ix4 0 H r j) = Ideal.div (expR x wq k (ix4 0 H r j)) (sumR x wq k (ix4 0 H r 0)) := by
  pointwise [weightR]
  rw [keepR_at]; exact select_one _ _

/-- Entry `d` of head `H` for row `R`, as the reference computes it. -/
def headRef (R : Fin 1024) (H : Fin 256) (d : Fin 128) : EReal :=
  let sc := fun j : Fin 1024 => masked (sees R j.val) (scoreRef x wq k R H j * Ideal.ofBits .f32 0x3DB504F3#32)
  let M := (Finset.univ : Finset (Fin 1024)).fold max ⊥ sc
  ∑ j : Fin 1024, (show EReal from v (ix4 0 j H d)) * Ideal.div (Ideal.exp (sc j - M)) (∑ i : Fin 1024, Ideal.exp (sc i - M))

theorem ctxR_at (r : Fin 1024) (n : Fin 32768) :
    ctxR x wq k v (ix3 0 r n) = headRef x wq k v r ⟨n.val / 128, by omega⟩ ⟨n.val % 128, by omega⟩ := by
  have h : ctxR x wq k v (ix3 0 r n) = ∑ j : Fin 1024, (show EReal from v (ix4 0 j ⟨n.val / 128, by omega⟩ ⟨n.val % 128, by omega⟩))
      * (show EReal from weightR x wq k (ix4 0 ⟨n.val / 128, by omega⟩ r j)) := by
    pointwise [ctxR]
  rw [h]
  simp only [weightR_at, sumR_at, expR_at, maxR_at, scoreR_at]
  rfl

/-- **The reference**: the heads of all 256, through the last weight. -/
theorem outR_at (r d : Fin 1024) :
    outR x wq k v wo (ix2 r d) = ∑ n : Fin 32768, headRef x wq k v r ⟨n.val / 128, by omega⟩ ⟨n.val % 128, by omega⟩ * (show EReal from wo (ix2 n d)) := by
  simp only [← ctxR_at]
  pointwise [outR]

end Cert.Value

end
-- ==== Proof.Value.Equation.lean ====
/-
# The kernel's result is the reference's
-/
module

public import proofs.«01_k».proof.Proof.Value.Heads
public import proofs.«01_k».proof.Proof.Value.Finite
public import proofs.«01_k».proof.Proof.Value.Ref
public import Idealize.ShloMosaic.Lib.Layout

@[expose] public section

set_option maxRecDepth 8000

noncomputable section

namespace Cert.Value

open Cert.KernelIdeal Cert.KernelIdeal.Gen Cert.KernelIdeal.Ring
open Idealize.ShloMosaic
open Idealize.ShloMosaic.TcCoe

/-- The score scale is a number. -/
theorem scl_num : IsNum scl := by
  unfold scl
  simp only [Ideal.ofBits, Ideal.ieee]
  split
  all_goals first | exact ⟨_, rfl⟩ | (exfalso; revert ‹_›; decide)

/-- A sum over the 32768 columns, device by device. -/
theorem sum_cols (f : Fin 32768 → EReal) : ∑ n : Fin 32768, f n = ∑ s : Dev nD, ∑ k : Fin 1024, f (col s k) := by
  rw [← (finProdFinEquiv (m := 32) (n := 1024)).sum_comp f, Fintype.sum_prod_type]
  refine Finset.sum_congr rfl fun s _ => Finset.sum_congr rfl fun k _ => congrArg f (Fin.ext ?_)
  show k.val + 1024 * s.val = 1024 * s.val + k.val
  omega

variable (m : (ℓ : Loc nD τ sig) → Buf (Elt Ideal) ℓ)
  (x : FVec Ideal S1x1024x1024 .f32) (wq : FVec Ideal S1024x32768 .f32) (k v : FVec Ideal ⟨4, ![1, 1024, 256, 128]⟩ .f32) (wo : FVec Ideal S32768x1024 .f32)

/-- The devices' arguments are their parts of the whole arrays. -/
structure Parts : Prop where
  hx : ∀ c : Dev nD, m ((c : Thread nD τ).loc main_arg0) = x
  hq : ∀ c : Dev nD, m ((c : Thread nD τ).loc main_arg1) = wq
  hk : ∀ c : Dev nD, m ((c : Thread nD τ).loc main_arg2) = Layout.block ⟨4, ![1, 1024, 8, 128]⟩ ⟨4, ![1, 1024, 256, 128]⟩ 2 32 c k
  hv : ∀ c : Dev nD, m ((c : Thread nD τ).loc main_arg3) = Layout.block ⟨4, ![1, 1024, 8, 128]⟩ ⟨4, ![1, 1024, 256, 128]⟩ 2 32 c v
  ho : ∀ c : Dev nD, m ((c : Thread nD τ).loc main_arg4) = wo
/-- The entries that make the scores are numbers. -/
structure Nums : Prop where
  hx : ∀ (c : Dev nD) i, IsNum (m ((c : Thread nD τ).loc main_arg0) i)
  hq : ∀ (c : Dev nD) i, IsNum (m ((c : Thread nD τ).loc main_arg1) i)
  hk : ∀ (c : Dev nD) i, IsNum (m ((c : Thread nD τ).loc main_arg2) i)

variable {m x wq k v wo}

/-- Head `h` of device `c` among all heads. -/
def ghead (c : Dev nD) (h : Fin 8) : Fin 256 := ⟨8 * c.val + h.val, by have : c.val < 32 := c.isLt; omega⟩

theorem block_at (c : Dev nD) (w : FVec Ideal ⟨4, ![1, 1024, 256, 128]⟩ .f32) (j : Fin 1024) (h : Fin 8) (e : Fin 128) :
    Layout.block ⟨4, ![1, 1024, 8, 128]⟩ ⟨4, ![1, 1024, 256, 128]⟩ 2 32 c w (by decide) (ix4 0 j h e) = w (ix4 0 j (ghead c h) e) := by
  rw [Layout.block_apply]
  refine congrArg w (funext fun a => Fin.ext ?_)
  rw [Layout.Tiles.idx_val]
  match a with
  | ⟨0, _⟩ => rfl
  | ⟨1, _⟩ => rfl
  | ⟨2, _⟩ => show c.val * 8 + h.val = 8 * c.val + h.val; omega
  | ⟨3, _⟩ => rfl

theorem col_hcol (c : Dev nD) (h : Fin 8) (e : Fin 128) : col c (hcol h e) = hcolR (ghead c h) e :=
  Fin.ext (by show 1024 * c.val + (128 * h.val + e.val) = (8 * c.val + h.val) * 128 + e.val; omega)

theorem score_eq (P : Parts m x wq k v wo) (c : Dev nD) (R : Fin 1024) (h : Fin 8) (j : Fin 1024) :
    scoreAt m c R h j = scoreRef x wq k R (ghead c h) j := by
  unfold scoreAt scoreRef
  refine Finset.sum_congr rfl fun e _ => ?_
  rw [P.hk c, block_at]
  congr 1
  unfold qAt qRef
  rw [P.hx c, P.hq c, col_hcol]

theorem score_num (N : Nums m) (c : Dev nD) (R : Fin 1024) (h : Fin 8) (j : Fin 1024) : IsNum (scoreAt m c R h j * scl) :=
  (IsNum.sum fun e => (IsNum.sum fun i => (N.hx c _).mul (N.hq c _)).mul (N.hk c _)).mul scl_num

/-- One entry of one head: the kernel's, over the columns its group looks at, is the reference's. -/
theorem head_eq (P : Parts m x wq k v wo) (N : Nums m) (c : Dev nD) (R : Fin 1024) (h : Fin 8) (d : Fin 128) :
    headAt m c (256 * (R.val / 256 + 1)) (by omega) R h d = headRef x wq k v R (ghead c h) d := by
  choose t ht using score_num N c R h
  unfold headAt rowVal headRef
  simp only [select_masked, ← score_eq P]
  simp only [ht]
  rw [P.hv c]
  simp only [block_at]
  exact row_eq (N := 1024) (n := 256 * (R.val / 256 + 1)) (by omega) (fun j => sees R j.val) t (fun j => v (ix4 0 j (ghead c h) d)) 0 (Nat.zero_le _)
    (fun j hj => by have : j.val / 64 ≤ R.val / 64 := hj; omega) rfl

/-- The results agree at every entry. -/
theorem out_eq_at (P : Parts m x wq k v wo) (N : Nums m) (R e : Fin 1024) : outV (accV m) (ix2 R e) = outR x wq k v wo (ix2 R e) := by
  refine (out_at m R e).trans (Eq.trans ?_ (outR_at x wq k v wo R e).symm)
  rw [sum_cols]
  refine Finset.sum_congr rfl fun s _ => Finset.sum_congr rfl fun q _ => ?_
  have hs : s.val < 32 := s.isLt
  have h1 : (⟨(col s q).val / 128, by omega⟩ : Fin 256) = ghead s (hd q) :=
    Fin.ext (by show (1024 * s.val + q.val) / 128 = 8 * s.val + q.val / 128; omega)
  have h2 : (⟨(col s q).val % 128, by omega⟩ : Fin 128) = en q :=
    Fin.ext (by show (1024 * s.val + q.val) % 128 = q.val % 128; omega)
  rw [h1, h2, head_eq P N, P.ho s]

/-- **The results agree.** -/
theorem out_eq (P : Parts m x wq k v wo) (N : Nums m) : outV (accV m) = outR x wq k v wo := by
  funext i
  have hi : i = ix2 (n0 := 1024) (n1 := 1024) (i 0) (i 1) := funext fun a => match a with
    | ⟨0, _⟩ => rfl
    | ⟨1, _⟩ => rfl
  rw [hi]
  exact out_eq_at P N (i 0) (i 1)

end Cert.Value

end
-- ==== Proof.Value.Out.lean ====
/-
# What the result array ends holding
-/
module

public import proofs.«01_k».proof.Proof.KernelIdeal.Run
public import Idealize.ShloMosaic.Lib.Pipeline.Value

@[expose] public section

set_option maxRecDepth 8000

noncomputable section

namespace Cert.Value

open Cert.KernelIdeal Cert.KernelIdeal.Gen Cert.KernelIdeal.Ring
open Idealize.ShloMosaic
open Idealize.ShloMosaic.TcCoe Idealize.SL.Sem

variable (m : (ℓ : Loc nD τ sig) → Buf (Elt Ideal) ℓ) (c : Dev nD)

/-- The one grid point's block of the result is the whole array. -/
theorem outBlock_emb (i : S1024x1024.Idx) : ((win0 3).blk t0_0).view.emb i = i :=
  funext fun a => Fin.ext ((win0 3).rect_emb_val_of_index_zero t0_0 a (by fin_cases a <;> rfl) i)

theorem arrAt_out : (dats m 0 c).arrAt 3 cfg0.N = outV (accV m) := by
  funext i
  refine (dats m 0 c).arrAt_apply_of_mem 3 (outV (accV m)) (fun t _ => ?_) cfg0.N t0_0 i t0_0.isLt (by rfl) ?_
  · fin_cases t
    funext j
    exact congrArg (outV (accV m)) (outBlock_emb j).symm
  · exact Finset.mem_map.mpr ⟨i, Finset.mem_univ _, outBlock_emb i⟩

/-- The kernel's run, with what the result ends holding. -/
theorem run_out (ρ : Dev nD → PrngReg) : θ_run defs (onTc (τ := τ) (main (F := Ideal))) ⟨m, fun _ => 0, ρ⟩ (fun r => ∀ c : Dev nD,
      r.2.mem ((c.tc : Thread nD τ).loc main_v1) = outV (accV m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 3).trans (arrAt_out m c),
    ((h.1 c).1 0).trans ((dats m 0 c).arrAt_in 0 rfl _), (h.1 c).2.1,
    ((h.1 c).1 1).trans ((dats m 0 c).arrAt_in 1 rfl _), ((h.1 c).1 2).trans ((dats m 0 c).arrAt_in 2 rfl _), (h.1 c).2.2⟩) (run_main m ρ)

end Cert.Value

end
-- ==== Proof.lean ====
/-
# The claims of this certificate

Three frames (the kernel, its idealization, the reference), the one rewrite between the kernel and its idealization, and the equality of
the idealized kernel with the idealized reference. The two kernels' runs are in Proof/Kernel/ and Proof/KernelIdeal/, which end in
`run_frame`; the reference's run is generated. What the two compute, and that it is the same, is in Proof/Value/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equation
public import proofs.«01_k».proof.Proof.Value.Out
public import Idealize.ShloMosaic.Adequacy
public import Idealize.ShloMosaic.Init

@[expose] public section

noncomputable section

namespace Cert.Proof

open Idealize.ShloMosaic Idealize.SL.Sem

/-- The printed kernel runs on every memory: no fault, no deadlock, arguments unchanged, every counter at zero. -/
theorem frame_kernel : Cert.quiescent_Kernel (hKernel := Cert.Kernel.Gen.facts) := fun m ρ _ => Cert.Kernel.Ring.run_frame m ρ

/-- The same of the idealized kernel. -/
theorem frame_kernelIdeal : Cert.quiescent_KernelIdeal (hKernelIdeal := Cert.KernelIdeal.Gen.facts) :=
  fun m ρ _ => Cert.KernelIdeal.Ring.run_frame m ρ

/-- The reference is a straight line of host operations; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one rewrite that idealizes the kernel gives the mask's constant its named value. -/
theorem preserves_kernel : Cert.preserves_Kernel_KernelIdeal := IdealRules.named_const.statement _ _ _ _ _ (by rfl)

/-- **The idealized kernel computes the reference.** Where `x`, the first weight and the keys hold numbers, every device ends with
    the reference's result. -/
theorem algebraic_kernel : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Value.factsK) := by
  intro m g m' g' hpre hargs
  have hn := fun c => Cert.Value.finite_nums _ _ _ _ _ (hpre c)
  have hout : Cert.KernelIdeal.Ring.outV (Cert.KernelIdeal.Ring.accV m) = Cert.ReferenceIdeal.Value.res_main_v35 m' 0 :=
    (Cert.Value.out_eq ⟨fun c => (hargs c).1, fun c => (hargs c).2.1, fun c => (hargs c).2.2.1, fun c => (hargs c).2.2.2.1, fun c => (hargs c).2.2.2.2⟩
      ⟨fun c => (hn c).1, fun c => (hn c).2.1, fun c => (hn c).2.2⟩).trans (Cert.Value.res_eq m' 0).symm
  exact ⟨Cert.ReferenceIdeal.Value.res_main_v35 m' 0,
    (θ_run Cert.KernelIdeal.defs _ _).mono (fun _ h c => ⟨(h c).1.trans hout, (h c).2⟩) (Cert.Value.run_out m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.Value.factsK, Cert.Value.factsR, frame_kernel,
    frame_kernelIdeal, fun m ρ _ => frame_kernelIdeal m ρ trivial, frame_reference, fun m ρ _ => frame_reference m ρ trivial,
    preserves_kernel, algebraic_kernel⟩

end Cert.Proof

end
